-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).2.2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).2.2.2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).2.2.2.2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))).2.2.2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).2.2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).2.2.2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).2.2.2.2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))).2.2.2.2.2 = (fun _ => 1#1)

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxRefIdeal (m : (ℓ : Loc Cert.QDxRefIdeal.nD Cert.QDxRefIdeal.τ Cert.QDxRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxRefIdeal (m : (ℓ : Loc Cert.PoolDxRefIdeal.nD Cert.PoolDxRefIdeal.τ Cert.PoolDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4)
      ∧ r.2.mem ((c.tc : Thread Cert.Act.nD Cert.Act.τ).loc Cert.Act.main_arg5) = m ((c.tc : Thread Cert.Act.nD Cert.Act.τ).loc Cert.Act.main_arg5))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v3)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v3) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v9)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v9) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v2) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v7)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v7) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v13) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)
      ∧ m' ((c.tc : Thread Cert.ActRefIdeal.nD Cert.ActRefIdeal.τ).loc Cert.ActRefIdeal.main_arg5) = m ((c.tc : Thread Cert.ActIdeal.nD Cert.ActIdeal.τ).loc Cert.ActIdeal.main_arg5)) →
    ∃ (v0 : (c : Dev Cert.ActIdeal.nD) → Buf (Elt Ideal) ((c.tc : Thread Cert.ActIdeal.nD Cert.ActIdeal.τ).loc Cert.ActIdeal.main_v31_0)) (v1 : (c : Dev Cert.ActIdeal.nD) → Buf (Elt Ideal) ((c.tc : Thread Cert.ActIdeal.nD Cert.ActIdeal.τ).loc Cert.ActIdeal.main_v32)) (v2 : (c : Dev Cert.ActIdeal.nD) → Buf (Elt Ideal) ((c.tc : Thread Cert.ActIdeal.nD Cert.ActIdeal.τ).loc Cert.ActIdeal.main_v34)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v31_0) = v0 c
          ∧ r.2.mem ((c.tc : Thread Cert.ActIdeal.nD Cert.ActIdeal.τ).loc Cert.ActIdeal.main_v32) = v1 c
          ∧ r.2.mem ((c.tc : Thread Cert.ActIdeal.nD Cert.ActIdeal.τ).loc Cert.ActIdeal.main_v34) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
          ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v72) = v0 c
          ∧ r.2.mem ((c.tc : Thread Cert.ActRefIdeal.nD Cert.ActRefIdeal.τ).loc Cert.ActRefIdeal.main_v64) = v1 c
          ∧ r.2.mem ((c.tc : Thread Cert.ActRefIdeal.nD Cert.ActRefIdeal.τ).loc Cert.ActRefIdeal.main_v55) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4)
          ∧ r.2.mem ((c.tc : Thread Cert.ActRefIdeal.nD Cert.ActRefIdeal.τ).loc Cert.ActRefIdeal.main_arg5) = m' ((c.tc : Thread Cert.ActRefIdeal.nD Cert.ActRefIdeal.τ).loc Cert.ActRefIdeal.main_arg5))

def preserves_QDx_QDxIdeal : Prop :=
  True

def algebraic_QDxIdeal_QDxRefIdeal [hQDxIdeal : Cert.QDxIdeal.Facts] [hQDxRefIdeal : Cert.QDxRefIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v5)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v5) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v2) = v0 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v3)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v3) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v13) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v5)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v5) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v3)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v3) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v13) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v3)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v3) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_PoolDx_PoolDxIdeal : Prop :=
  True

def algebraic_PoolDxIdeal_PoolDxRefIdeal [hPoolDxIdeal : Cert.PoolDxIdeal.Facts] [hPoolDxRefIdeal : Cert.PoolDxRefIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v4)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v4) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v2) = v0 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v4)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v4) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hAct : Cert.Act.Facts) (hActIdeal : Cert.ActIdeal.Facts) (hActRefIdeal : Cert.ActRefIdeal.Facts) (hQDx : Cert.QDx.Facts) (hQDxIdeal : Cert.QDxIdeal.Facts) (hQDxRefIdeal : Cert.QDxRefIdeal.Facts) (hQDw : Cert.QDw.Facts) (hQDwIdeal : Cert.QDwIdeal.Facts) (hQDwRefIdeal : Cert.QDwRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hProjDw : Cert.ProjDw.Facts) (hProjDwIdeal : Cert.ProjDwIdeal.Facts) (hProjDwRefIdeal : Cert.ProjDwRefIdeal.Facts) (hPoolDx : Cert.PoolDx.Facts) (hPoolDxIdeal : Cert.PoolDxIdeal.Facts) (hPoolDxRefIdeal : Cert.PoolDxRefIdeal.Facts) (hOutDx : Cert.OutDx.Facts) (hOutDxIdeal : Cert.OutDxIdeal.Facts) (hOutDxRefIdeal : Cert.OutDxRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_QDx (hQDx := hQDx)
    ∧ quiescent_QDxIdeal (hQDxIdeal := hQDxIdeal)
    ∧ quiescent_QDxRefIdeal (hQDxRefIdeal := hQDxRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_PoolDx (hPoolDx := hPoolDx)
    ∧ quiescent_PoolDxIdeal (hPoolDxIdeal := hPoolDxIdeal)
    ∧ quiescent_PoolDxRefIdeal (hPoolDxRefIdeal := hPoolDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Act_ActIdeal
    ∧ algebraic_ActIdeal_ActRefIdeal_pre_finite_act (hActIdeal := hActIdeal) (hActRefIdeal := hActRefIdeal) (hPre_finite_act := hPre_finite_act)
    ∧ preserves_QDx_QDxIdeal
    ∧ algebraic_QDxIdeal_QDxRefIdeal (hQDxIdeal := hQDxIdeal) (hQDxRefIdeal := hQDxRefIdeal)
    ∧ preserves_QDw_QDwIdeal
    ∧ algebraic_QDwIdeal_QDwRefIdeal (hQDwIdeal := hQDwIdeal) (hQDwRefIdeal := hQDwRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_ProjDw_ProjDwIdeal
    ∧ algebraic_ProjDwIdeal_ProjDwRefIdeal (hProjDwIdeal := hProjDwIdeal) (hProjDwRefIdeal := hProjDwRefIdeal)
    ∧ preserves_PoolDx_PoolDxIdeal
    ∧ algebraic_PoolDxIdeal_PoolDxRefIdeal (hPoolDxIdeal := hPoolDxIdeal) (hPoolDxRefIdeal := hPoolDxRefIdeal)
    ∧ preserves_OutDx_OutDxIdeal
    ∧ algebraic_OutDxIdeal_OutDxRefIdeal (hOutDxIdeal := hOutDxIdeal) (hOutDxRefIdeal := hOutDxRefIdeal)
-- ==== Pre_finite.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4096x1024 .f32) (main_arg1 : FVec F S4x256x256 .f32) (main_arg2 : FVec F S1024 .f32) (main_arg3 : FVec F S4096x1024 .f32) : IVec S4096x1024 1 × IVec S4x256x256 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4x256x256 .f32 := Host.absf main_arg1
  let main_cst_0 : FVec F S_ .f32 := constant S_ .f32 0x7F800000#32
  let main_v4 : FVec F S4x256x256 .f32 := broadcastInDim S4x256x256 ![] bcast_S_S4x256x256 main_cst_0
  let main_v5 : IVec S4x256x256 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_act.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S3x2816 .f32) (main_arg3 : FVec F S2816 .f32) (main_arg4 : FVec F S2816x1024 .f32) (main_arg5 : FVec F S4096x1024 .f32) : IVec S4096x2816 1 × IVec S4096x2816 1 × IVec S3x2816 1 × IVec S2816 1 × IVec S2816x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S3x2816 .f32 := Host.absf main_arg2
  let main_cst_1 : FVec F S_ .f32 := constant S_ .f32 0x7F800000#32
  let main_v7 : FVec F S3x2816 .f32 := broadcastInDim S3x2816 ![] bcast_S_S3x2816 main_cst_1
  let main_v8 : IVec S3x2816 1 := cmpf .olt main_v6 main_v7
  let main_v9 : FVec F S2816 .f32 := Host.absf main_arg3
  let main_cst_2 : FVec F S_ .f32 := constant S_ .f32 0x7F800000#32
  let main_v10 : FVec F S2816 .f32 := broadcastInDim S2816 ![] bcast_S_S2816 main_cst_2
  let main_v11 : IVec S2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x1024 : Shape := ⟨2, ![4096, 1024]⟩
abbrev S4x256x256 : Shape := ⟨3, ![4, 256, 256]⟩
abbrev S1024 : Shape := ⟨1, ![1024]⟩
abbrev S4x4x64x256 : Shape := ⟨4, ![4, 4, 64, 256]⟩
abbrev S1x1024 : Shape := ⟨2, ![1, 1024]⟩
abbrev S16x1024 : Shape := ⟨2, ![16, 1024]⟩
abbrev S256x1024 : Shape := ⟨2, ![256, 1024]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S4x1x64x256 : Shape := ⟨4, ![4, 1, 64, 256]⟩
abbrev S4x64x256 : Shape := ⟨3, ![4, 64, 256]⟩
abbrev S1x256 : Shape := ⟨2, ![1, 256]⟩
abbrev S8x1024 : Shape := ⟨2, ![8, 1024]⟩
abbrev S7x1024 : Shape := ⟨2, ![7, 1024]⟩
abbrev S272x1 : Shape := ⟨2, ![272, 1]⟩
abbrev S1x256x256 : Shape := ⟨3, ![1, 256, 256]⟩

abbrev nBuf : Space → Nat
  | .hbm => 17
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S4096x1024, .f32⟩
  | .hbm, ⟨4, _⟩ => ⟨S4x4x64x256, .f32⟩
  | .hbm, ⟨5, _⟩ => ⟨S4x4x64x256, .f32⟩
  | .hbm, ⟨6, _⟩ => ⟨S4x4x64x256, .bf16⟩
  | .hbm, ⟨7, _⟩ => ⟨S1x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1x1024, .f32⟩
  | .hbm, ⟨12, _⟩ => ⟨S4096x1024, .bf16⟩
  | .hbm, ⟨13, _⟩ => ⟨S4x256x256, .f32⟩
  | .hbm, ⟨14, _⟩ => ⟨S8x1024, .f32⟩
  | .hbm, ⟨15, _⟩ => ⟨S1x1024, .f32⟩
  | .hbm, ⟨16, _⟩ => ⟨S1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S4x4x64x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S16x1024, .f32⟩
  | .local _ .vmem, ⟨15, _⟩ => ⟨S16x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S4x4x64x256, .bf16⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S4x256x256, .f32⟩
  | .local _ .vmem, ⟨25, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem8_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x4x64x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S4096x1024 : Shape := ⟨2, ![4096, 1024]⟩
abbrev S4x256x256 : Shape := ⟨3, ![4, 256, 256]⟩
abbrev S1024 : Shape := ⟨1, ![1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4098x256 : Shape := ⟨2, ![4098, 256]⟩
abbrev S4096x1 : Shape := ⟨2, ![4096, 1]⟩
abbrev S1x256x256 : Shape := ⟨3, ![1, 256, 256]⟩
abbrev S256x256 : Shape := ⟨2, ![256, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S1x1024 : Shape := ⟨2, ![1, 1024]⟩

abbrev nBuf : Space → Nat
  | .hbm => 224
  | .vmem => 0
  | .smem => 0
  | _ => 0

abbrev hbmTy0_0 (i : Nat) : BufTy := match i % 128 with
  | 0 => ⟨S4096x1024, .f32⟩
  | 1 => ⟨S4x256x256, .f32⟩
  | 2 => ⟨S1024, .f32⟩
  | 3 => ⟨S4096x1024, .f32⟩
  | 4 => ⟨S4096x4x256, .f32⟩
  | 5 => ⟨S_, .f32⟩
  | 6 => ⟨S_, .f32⟩
  | 7 => ⟨S4096x4x256, .f32⟩
  | 8 => ⟨S4096, .i32⟩
  | 9 => ⟨S4096x1x256, .f32⟩
  | 10 => ⟨S4096x256, .f32⟩
  | 11 => ⟨S_, .f32⟩
  | 12 => ⟨S2x256, .f32⟩
  | 13 => ⟨S4098x256, .f32⟩
  | 14 => ⟨S_, .f32⟩
  | 15 => ⟨S2x256, .f32⟩
  | 16 => ⟨S4096x256, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S4096x1, .f32⟩
  | 25 => ⟨S4096x256, .f32⟩
  | 26 => ⟨S4096x256, .f32⟩
  | 27 => ⟨S4096x256, .f32⟩
  | 28 => ⟨S4096x1x256, .f32⟩
  | 29 => ⟨S4096x256, .f32⟩
  | 30 => ⟨S4096x256, .f32⟩
  | 31 => ⟨S1x256x256, .f32⟩
  | 32 => ⟨S256x256, .f32⟩
  | 33 => ⟨S4096x256, .f32⟩
  | 34 => ⟨S4096x1x256, .f32⟩
  | 35 => ⟨S4096x256, .f32⟩
  | 36 => ⟨S_, .f32⟩
  | 37 => ⟨S4x256, .f32⟩
  | 38 => ⟨S4100x256, .f32⟩
  | 39 => ⟨S_, .f32⟩
  | 40 => ⟨S4x256, .f32⟩
  | 41 => ⟨S4096x256, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .f32⟩
  | 49 => ⟨S4096x1, .f32⟩
  | 50 => ⟨S4096x256, .f32⟩
  | 51 => ⟨S4096x256, .f32⟩
  | 52 => ⟨S4096x256, .f32⟩
  | 53 => ⟨S4096x1x256, .f32⟩
  | 54 => ⟨S4096x256, .f32⟩
  | 55 => ⟨S4096x256, .f32⟩
  | 56 => ⟨S1x256x256, .f32⟩
  | 57 => ⟨S256x256, .f32⟩
  | 58 => ⟨S4096x256, .f32⟩
  | 59 => ⟨S4096x1x256, .f32⟩
  | 60 => ⟨S4096x256, .f32⟩
  | 61 => ⟨S_, .f32⟩
  | 62 => ⟨S8x256, .f32⟩
  | 63 => ⟨S4104x256, .f32⟩
  | 64 => ⟨S_, .f32⟩
  | 65 => ⟨S8x256, .f32⟩
  | 66 => ⟨S4096x256, .f32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S4096x1, .f32⟩
  | 75 => ⟨S4096x256, .f32⟩
  | 76 => ⟨S4096x256, .f32⟩
  | 77 => ⟨S4096x256, .f32⟩
  | 78 => ⟨S4096x1x256, .f32⟩
  | 79 => ⟨S4096x256, .f32⟩
  | 80 => ⟨S4096x256, .f32⟩
  | 81 => ⟨S1x256x256, .f32⟩
  | 82 => ⟨S256x256, .f32⟩
  | 83 => ⟨S4096x256, .f32⟩
  | 84 => ⟨S4096x1x256, .f32⟩
  | 85 => ⟨S4096x256, .f32⟩
  | 86 => ⟨S_, .f32⟩
  | 87 => ⟨S16x256, .f32⟩
  | 88 => ⟨S4112x256, .f32⟩
  | 89 => ⟨S_, .f32⟩
  | 90 => ⟨S16x256, .f32⟩
  | 91 => ⟨S4096x256, .f32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .f32⟩
  | 99 => ⟨S4096x1, .f32⟩
  | 100 => ⟨S4096x256, .f32⟩
  | 101 => ⟨S4096x256, .f32⟩
  | 102 => ⟨S4096x256, .f32⟩
  | 103 => ⟨S4096x1x256, .f32⟩
  | 104 => ⟨S4096x256, .f32⟩
  | 105 => ⟨S4096x256, .f32⟩
  | 106 => ⟨S1x256x256, .f32⟩
  | 107 => ⟨S256x256, .f32⟩
  | 108 => ⟨S4096x256, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x256, .f32⟩
  | 122 => ⟨S4096x256, .f32⟩
  | 123 => ⟨S4096x256, .f32⟩
  | 124 => ⟨S4096x256, .f32⟩
  | 125 => ⟨S256x256, .f32⟩
  | 126 => ⟨S256x256, .f32⟩
  | 127 => ⟨S4096x256, .f32⟩
  | _ => ⟨S4096x1024, .f32⟩

abbrev hbmTy0_1 (i : Nat) : BufTy := match i % 128 with
  | 0 => ⟨S1x256x256, .f32⟩
  | 1 => ⟨S_, .f32⟩
  | 2 => ⟨S4x256x256, .f32⟩
  | 3 => ⟨S4096x256, .f32⟩
  | 4 => ⟨S4096x1x256, .f32⟩
  | 5 => ⟨S_, .f32⟩
  | 6 => ⟨S4096x4x256, .f32⟩
  | 7 => ⟨S4096x256, .f32⟩
  | 8 => ⟨S4096x256, .f32⟩
  | 9 => ⟨S4096x256, .f32⟩
  | 10 => ⟨S_, .f32⟩
  | 11 => ⟨S4112x256, .f32⟩
  | 12 => ⟨S16x256, .f32⟩
  | 13 => ⟨S4096x256, .f32⟩
  | 14 => ⟨S4096x256, .f32⟩
  | 15 => ⟨S4096x1x256, .f32⟩
  | 16 => ⟨S_, .f32⟩
  | 17 => ⟨S4096x4x256, .f32⟩
  | 18 => ⟨S256x256, .f32⟩
  | 19 => ⟨S256x256, .f32⟩
  | 20 => ⟨S4096x256, .f32⟩
  | 21 => ⟨S1x256x256, .f32⟩
  | 22 => ⟨S_, .f32⟩
  | 23 => ⟨S4x256x256, .f32⟩
  | 24 => ⟨S4x256x256, .f32⟩
  | 25 => ⟨S4096x256, .f32⟩
  | 26 => ⟨S4096x1x256, .f32⟩
  | 27 => ⟨S_, .f32⟩
  | 28 => ⟨S4096x4x256, .f32⟩
  | 29 => ⟨S4096x4x256, .f32⟩
  | 30 => ⟨S4096x256, .f32⟩
  | 31 => ⟨S4096x256, .f32⟩
  | 32 => ⟨S4096x256, .f32⟩
  | 33 => ⟨S_, .f32⟩
  | 34 => ⟨S4104x256, .f32⟩
  | 35 => ⟨S8x256, .f32⟩
  | 36 => ⟨S4096x256, .f32⟩
  | 37 => ⟨S4096x256, .f32⟩
  | 38 => ⟨S4096x1x256, .f32⟩
  | 39 => ⟨S_, .f32⟩
  | 40 => ⟨S4096x4x256, .f32⟩
  | 41 => ⟨S4096x4x256, .f32⟩
  | 42 => ⟨S256x256, .f32⟩
  | 43 => ⟨S256x256, .f32⟩
  | 44 => ⟨S4096x256, .f32⟩
  | 45 => ⟨S1x256x256, .f32⟩
  | 46 => ⟨S_, .f32⟩
  | 47 => ⟨S4x256x256, .f32⟩
  | 48 => ⟨S4x256x256, .f32⟩
  | 49 => ⟨S4096x256, .f32⟩
  | 50 => ⟨S4096x1x256, .f32⟩
  | 51 => ⟨S_, .f32⟩
  | 52 => ⟨S4096x4x256, .f32⟩
  | 53 => ⟨S4096x4x256, .f32⟩
  | 54 => ⟨S4096x256, .f32⟩
  | 55 => ⟨S4096x256, .f32⟩
  | 56 => ⟨S4096x256, .f32⟩
  | 57 => ⟨S_, .f32⟩
  | 58 => ⟨S4100x256, .f32⟩
  | 59 => ⟨S4x256, .f32⟩
  | 60 => ⟨S4096x256, .f32⟩
  | 61 => ⟨S4096x256, .f32⟩
  | 62 => ⟨S4096x1x256, .f32⟩
  | 63 => ⟨S_, .f32⟩
  | 64 => ⟨S4096x4x256, .f32⟩
  | 65 => ⟨S4096x4x256, .f32⟩
  | 66 => ⟨S256x256, .f32⟩
  | 67 => ⟨S256x256, .f32⟩
  | 68 => ⟨S4096x256, .f32⟩
  | 69 => ⟨S1x256x256, .f32⟩
  | 70 => ⟨S_, .f32⟩
  | 71 => ⟨S4x256x256, .f32⟩
  | 72 => ⟨S4x256x256, .f32⟩
  | 73 => ⟨S4096x256, .f32⟩
  | 74 => ⟨S4096x1x256, .f32⟩
  | 75 => ⟨S_, .f32⟩
  | 76 => ⟨S4096x4x256, .f32⟩
  | 77 => ⟨S4096x4x256, .f32⟩
  | 78 => ⟨S4096x256, .f32⟩
  | 79 => ⟨S4096x256, .f32⟩
  | 80 => ⟨S4096x256, .f32⟩
  | 81 => ⟨S_, .f32⟩
  | 82 => ⟨S4098x256, .f32⟩
  | 83 => ⟨S2x256, .f32⟩
  | 84 => ⟨S4096x256, .f32⟩
  | 85 => ⟨S4096x256, .f32⟩
  | 86 => ⟨S4096x1x256, .f32⟩
  | 87 => ⟨S_, .f32⟩
  | 88 => ⟨S4096x4x256, .f32⟩
  | 89 => ⟨S4096x4x256, .f32⟩
  | 90 => ⟨S_, .f32⟩
  | 91 => ⟨S_, .f32⟩
  | 92 => ⟨S4096x4x256, .f32⟩
  | 93 => ⟨S4096x4x256, .f32⟩
  | 94 => ⟨S4096x1024, .f32⟩
  | 95 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_c_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_16 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_17 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_18 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_19 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_20 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_21 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_22 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_23 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_24 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_25 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_26 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_27 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_28 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_29 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_30 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_31 : Ref sig .tc := ⟨.hbm, 215, rfl⟩
abbrev main_v176 : Ref sig .tc := ⟨.hbm, 216, rfl⟩
abbrev main_v177 : Ref sig .tc := ⟨.hbm, 217, rfl⟩
abbrev main_call1_call0_cst : Ref sig .tc := ⟨.hbm, 218, rfl⟩
abbrev main_call1_call0_v0 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S2048x1408 : Shape := ⟨2, ![2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S1x4096x1024, .bf16⟩
  | .hbm, ⟨5, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4096x1024 : Shape := ⟨2, ![4096, 1024]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 12
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S4096x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S4096x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg2 c2_i32_10
  let c0_i32_11 : BitVec 32 := 0#32
  let v28 : BitVec 1 := Scalar.cmpi .sgt arg2 c0_i32_11
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg2 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg0.toNat, v53.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4096x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg2.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x1408, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1x1024x1408, .bf16⟩
  | .hbm, ⟨13, _⟩ => ⟨S1x1024x1408, .bf16⟩
  | .hbm, ⟨14, _⟩ => ⟨S1x1024x1408, .bf16⟩
  | .hbm, ⟨15, _⟩ => ⟨S1x1024x1408, .bf16⟩
  | .hbm, ⟨16, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Act.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S4096x5632 : Shape := ⟨2, ![4096, 5632]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S1x2816x1024 : Shape := ⟨3, ![1, 2816, 1024]⟩
abbrev S2x4096x2816 : Shape := ⟨3, ![2, 4096, 2816]⟩
abbrev S8x2816 : Shape := ⟨2, ![8, 2816]⟩
abbrev S256x1024 : Shape := ⟨2, ![256, 1024]⟩
abbrev S16x1024 : Shape := ⟨2, ![16, 1024]⟩
abbrev S1x1408x1024 : Shape := ⟨3, ![1, 1408, 1024]⟩
abbrev S256x1408 : Shape := ⟨2, ![256, 1408]⟩
abbrev S16x1408 : Shape := ⟨2, ![16, 1408]⟩
abbrev S3x1408 : Shape := ⟨2, ![3, 1408]⟩
abbrev S2x256x1408 : Shape := ⟨3, ![2, 256, 1408]⟩
abbrev S8x1408 : Shape := ⟨2, ![8, 1408]⟩
abbrev S272x1408 : Shape := ⟨2, ![272, 1408]⟩
abbrev S1408x1024 : Shape := ⟨2, ![1408, 1024]⟩
abbrev S1x1408 : Shape := ⟨2, ![1, 1408]⟩
abbrev S1x256x1408 : Shape := ⟨3, ![1, 256, 1408]⟩
abbrev S1408 : Shape := ⟨1, ![1408]⟩
abbrev S4x1408 : Shape := ⟨2, ![4, 1408]⟩

abbrev nBuf : Space → Nat
  | .hbm => 43
  | .vmem => 22
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S4096x1024, .f32⟩
  | .hbm, ⟨6, _⟩ => ⟨S4096x5632, .f32⟩
  | .hbm, ⟨7, _⟩ => ⟨S4096x5632, .bf16⟩
  | .hbm, ⟨8, _⟩ => ⟨S_, .f32⟩
  | .hbm, ⟨9, _⟩ => ⟨S2x2816, .f32⟩
  | .hbm, ⟨10, _⟩ => ⟨S4098x2816, .f32⟩
  | .hbm, ⟨11, _⟩ => ⟨S4096x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S4096x2816, .f32⟩
  | .hbm, ⟨16, _⟩ => ⟨S4096x2816, .f32⟩
  | .hbm, ⟨17, _⟩ => ⟨S1x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x1024, .bf16⟩
  | .hbm, ⟨36, _⟩ => ⟨S1x2816x1024, .f32⟩
  | .hbm, ⟨37, _⟩ => ⟨S1x2816x1024, .bf16⟩
  | .hbm, ⟨38, _⟩ => ⟨S2x4096x2816, .bf16⟩
  | .hbm, ⟨39, _⟩ => ⟨S8x2816, .f32⟩
  | .hbm, ⟨40, _⟩ => ⟨S3x2816, .f32⟩
  | .hbm, ⟨41, _⟩ => ⟨S1x2816, .f32⟩
  | .hbm, ⟨42, _⟩ => ⟨S2816, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S256x1408, .bf16⟩
  | .local _ .vmem, ⟨7, _⟩ => ⟨S256x1408, .bf16⟩
  | .local _ .vmem, ⟨8, _⟩ => ⟨S16x1408, .bf16⟩
  | .local _ .vmem, ⟨9, _⟩ => ⟨S16x1408, .bf16⟩
  | .local _ .vmem, ⟨10, _⟩ => ⟨S256x1408, .bf16⟩
  | .local _ .vmem, ⟨11, _⟩ => ⟨S256x1408, .bf16⟩
  | .local _ .vmem, ⟨12, _⟩ => ⟨S256x1408, .bf16⟩
  | .local _ .vmem, ⟨13, _⟩ => ⟨S256x1408, .bf16⟩
  | .local _ .vmem, ⟨14, _⟩ => ⟨S16x1408, .bf16⟩
  | .local _ .vmem, ⟨15, _⟩ => ⟨S16x1408, .bf16⟩
  | .local _ .vmem, ⟨16, _⟩ => ⟨S3x1408, .f32⟩
  | .local _ .vmem, ⟨17, _⟩ => ⟨S3x1408, .f32⟩
  | .local _ .vmem, ⟨18, _⟩ => ⟨S2x256x1408, .bf16⟩
  | .local _ .vmem, ⟨19, _⟩ => ⟨S2x256x1408, .bf16⟩
  | .local _ .vmem, ⟨20, _⟩ => ⟨S8x1408, .f32⟩
  | .local _ .vmem, ⟨21, _⟩ => ⟨S8x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c2_i32 : BitVec 32 := 2#32
  let v3 : BitVec 32 := Scalar.addi arg0 c2_i32
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ActRefIdeal.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S1x4096x2816 : Shape := ⟨3, ![1, 4096, 2816]⟩
abbrev S2x4096x2816 : Shape := ⟨3, ![2, 4096, 2816]⟩

abbrev nBuf : Space → Nat
  | .hbm => 110
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S_, .f32⟩
  | .hbm, ⟨10, _⟩ => ⟨S2x2816, .f32⟩
  | .hbm, ⟨11, _⟩ => ⟨S4096x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S4096x2816, .f32⟩
  | .hbm, ⟨16, _⟩ => ⟨S4096x2816, .f32⟩
  | .hbm, ⟨17, _⟩ => ⟨S1x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S2816, .f32⟩
  | .hbm, ⟨59, _⟩ => ⟨S1x2816, .f32⟩
  | .hbm, ⟨60, _⟩ => ⟨S4096x2816, .f32⟩
  | .hbm, ⟨61, _⟩ => ⟨S4096x2816, .f32⟩
  | .hbm, ⟨62, _⟩ => ⟨S_, .f32⟩
  | .hbm, ⟨63, _⟩ => ⟨S2816, .f32⟩
  | .hbm, ⟨64, _⟩ => ⟨S1x2816, .f32⟩
  | .hbm, ⟨65, _⟩ => ⟨S_, .f32⟩
  | .hbm, ⟨66, _⟩ => ⟨S3x2816, .f32⟩
  | .hbm, ⟨67, _⟩ => ⟨S_, .f32⟩
  | .hbm, ⟨68, _⟩ => ⟨S4098x2816, .f32⟩
  | .hbm, ⟨69, _⟩ => ⟨S4096x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S4096x2816, .f32⟩
  | .hbm, ⟨74, _⟩ => ⟨S4096x2816, .f32⟩
  | .hbm, ⟨75, _⟩ => ⟨S_, .f32⟩
  | .hbm, ⟨76, _⟩ => ⟨S2816, .f32⟩
  | .hbm, ⟨77, _⟩ => ⟨S1x2816, .f32⟩
  | .hbm, ⟨78, _⟩ => ⟨S_, .f32⟩
  | .hbm, ⟨79, _⟩ => ⟨S3x2816, .f32⟩
  | .hbm, ⟨80, _⟩ => ⟨S3x2816, .f32⟩
  | .hbm, ⟨81, _⟩ => ⟨S_, .f32⟩
  | .hbm, ⟨82, _⟩ => ⟨S4098x2816, .f32⟩
  | .hbm, ⟨83, _⟩ => ⟨S4098x2816, .f32⟩
  | .hbm, ⟨84, _⟩ => ⟨S_, .f32⟩
  | .hbm, ⟨85, _⟩ => ⟨S2816, .f32⟩
  | .hbm, ⟨86, _⟩ => ⟨S1x2816, .f32⟩
  | .hbm, ⟨87, _⟩ => ⟨S_, .f32⟩
  | .hbm, ⟨88, _⟩ => ⟨S2816, .f32⟩
  | .hbm, ⟨89, _⟩ => ⟨S4096x2816, .f32⟩
  | .hbm, ⟨90, _⟩ => ⟨S_, .f32⟩
  | .hbm, ⟨91, _⟩ => ⟨S2816, .f32⟩
  | .hbm, ⟨92, _⟩ => ⟨S1x2816, .f32⟩
  | .hbm, ⟨93, _⟩ => ⟨S4096x2816, .f32⟩
  | .hbm, ⟨94, _⟩ => ⟨S4096x2816, .f32⟩
  | .hbm, ⟨95, _⟩ => ⟨S_, .f32⟩
  | .hbm, ⟨96, _⟩ => ⟨S2816, .f32⟩
  | .hbm, ⟨97, _⟩ => ⟨S1x2816, .f32⟩
  | .hbm, ⟨98, _⟩ => ⟨S_, .f32⟩
  | .hbm, ⟨99, _⟩ => ⟨S3x2816, .f32⟩
  | .hbm, ⟨100, _⟩ => ⟨S3x2816, .f32⟩
  | .hbm, ⟨101, _⟩ => ⟨S_, .f32⟩
  | .hbm, ⟨102, _⟩ => ⟨S4098x2816, .f32⟩
  | .hbm, ⟨103, _⟩ => ⟨S4098x2816, .f32⟩
  | .hbm, ⟨104, _⟩ => ⟨S2x2816, .f32⟩
  | .hbm, ⟨105, _⟩ => ⟨S4096x2816, .f32⟩
  | .hbm, ⟨106, _⟩ => ⟨S1x4096x2816, .f32⟩
  | .hbm, ⟨107, _⟩ => ⟨S1x4096x2816, .f32⟩
  | .hbm, ⟨108, _⟩ => ⟨S2x4096x2816, .f32⟩
  | .hbm, ⟨109, _⟩ => ⟨S2x4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v26_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v26_1 : Ref sig .tc := ⟨.hbm, 45, rfl⟩
abbrev main_v26_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_v33 : Ref sig .tc := ⟨.hbm, 56, rfl⟩
abbrev main_cst_1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== QDx.lean ====
abbrev S1024x3072 : Shape := ⟨2, ![1024, 3072]⟩
abbrev S4096x3072 : Shape := ⟨2, ![4096, 3072]⟩
abbrev S1x4096x3072 : Shape := ⟨3, ![1, 4096, 3072]⟩
abbrev S1024x4x768 : Shape := ⟨3, ![1024, 4, 768]⟩
abbrev S4x1024x768 : Shape := ⟨3, ![4, 1024, 768]⟩
abbrev S4096x1024 : Shape := ⟨2, ![4096, 1024]⟩
abbrev S1x2048x768 : Shape := ⟨3, ![1, 2048, 768]⟩
abbrev S1x1024x768 : Shape := ⟨3, ![1, 1024, 768]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S4096x3072, .f32⟩
  | .hbm, ⟨2, _⟩ => ⟨S4096x3072, .bf16⟩
  | .hbm, ⟨3, _⟩ => ⟨S1x4096x3072, .bf16⟩
  | .hbm, ⟨4, _⟩ => ⟨S1024x4x768, .f32⟩
  | .hbm, ⟨5, _⟩ => ⟨S4x1024x768, .f32⟩
  | .hbm, ⟨6, _⟩ => ⟨S4x1024x768, .bf16⟩
  | .hbm, ⟨7, _⟩ => ⟨S4096x1024, .f32⟩
  | .local _ .vmem, ⟨0, _⟩ => ⟨S1x2048x768, .bf16⟩
  | .local _ .vmem, ⟨1, _⟩ => ⟨S1x2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDxRefIdeal.lean ====
abbrev S1024x3072 : Shape := ⟨2, ![1024, 3072]⟩
abbrev S4096x3072 : Shape := ⟨2, ![4096, 3072]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S4096x3072, .f32⟩
  | .hbm, ⟨2, _⟩ => ⟨S_, .f32⟩
  | .hbm, ⟨3, _⟩ => ⟨S4096x1024, .f32⟩
  | .hbm, ⟨4, _⟩ => ⟨S4096x3072, .f32⟩
  | .hbm, ⟨5, _⟩ => ⟨S4096x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QDw.lean ====
abbrev S4096x1024 : Shape := ⟨2, ![4096, 1024]⟩
abbrev S4096x3072 : Shape := ⟨2, ![4096, 3072]⟩
abbrev S1x4096x3072 : Shape := ⟨3, ![1, 4096, 3072]⟩
abbrev S4x1024x768 : Shape := ⟨3, ![4, 1024, 768]⟩
abbrev S2048x1024 : Shape := ⟨2, ![2048, 1024]⟩
abbrev S1x2048x768 : Shape := ⟨3, ![1, 2048, 768]⟩
abbrev S1x1024x768 : Shape := ⟨3, ![1, 1024, 768]⟩
abbrev S1024x768 : Shape := ⟨2, ![1024, 768]⟩
abbrev S2048x768 : Shape := ⟨2, ![2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1x4096x3072, .bf16⟩
  | .hbm, ⟨5, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | .hbm, ⟨8, _⟩ => ⟨S1024x768, .bf16⟩
  | .hbm, ⟨9, _⟩ => ⟨S1024x768, .bf16⟩
  | .hbm, ⟨10, _⟩ => ⟨S1024x768, .bf16⟩
  | .hbm, ⟨11, _⟩ => ⟨S1024x768, .bf16⟩
  | .hbm, ⟨12, _⟩ => ⟨S1x1024x768, .bf16⟩
  | .hbm, ⟨13, _⟩ => ⟨S1x1024x768, .bf16⟩
  | .hbm, ⟨14, _⟩ => ⟨S1x1024x768, .bf16⟩
  | .hbm, ⟨15, _⟩ => ⟨S1x1024x768, .bf16⟩
  | .hbm, ⟨16, _⟩ => ⟨S4x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KvDx.lean ====
abbrev S1024x6144 : Shape := ⟨2, ![1024, 6144]⟩
abbrev S4096x6144 : Shape := ⟨2, ![4096, 6144]⟩
abbrev S1x4096x6144 : Shape := ⟨3, ![1, 4096, 6144]⟩
abbrev S1024x4x1536 : Shape := ⟨3, ![1024, 4, 1536]⟩
abbrev S4x1024x1536 : Shape := ⟨3, ![4, 1024, 1536]⟩
abbrev S4096x1024 : Shape := ⟨2, ![4096, 1024]⟩
abbrev S1x2048x768 : Shape := ⟨3, ![1, 2048, 768]⟩
abbrev S1x1024x768 : Shape := ⟨3, ![1, 1024, 768]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S1024x6144, .f32⟩
  | .hbm, ⟨1, _⟩ => ⟨S4096x6144, .f32⟩
  | .hbm, ⟨2, _⟩ => ⟨S4096x6144, .bf16⟩
  | .hbm, ⟨3, _⟩ => ⟨S1x4096x6144, .bf16⟩
  | .hbm, ⟨4, _⟩ => ⟨S1024x4x1536, .f32⟩
  | .hbm, ⟨5, _⟩ => ⟨S4x1024x1536, .f32⟩
  | .hbm, ⟨6, _⟩ => ⟨S4x1024x1536, .bf16⟩
  | .hbm, ⟨7, _⟩ => ⟨S4096x1024, .f32⟩
  | .local _ .vmem, ⟨0, _⟩ => ⟨S1x2048x768, .bf16⟩
  | .local _ .vmem, ⟨1, _⟩ => ⟨S1x2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S1024x6144 : Shape := ⟨2, ![1024, 6144]⟩
abbrev S4096x6144 : Shape := ⟨2, ![4096, 6144]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S4096x6144, .f32⟩
  | .hbm, ⟨2, _⟩ => ⟨S_, .f32⟩
  | .hbm, ⟨3, _⟩ => ⟨S4096x1024, .f32⟩
  | .hbm, ⟨4, _⟩ => ⟨S4096x6144, .f32⟩
  | .hbm, ⟨5, _⟩ => ⟨S4096x1024, .f32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvDw.lean ====
abbrev S4096x1024 : Shape := ⟨2, ![4096, 1024]⟩
abbrev S4096x6144 : Shape := ⟨2, ![4096, 6144]⟩
abbrev S1x4096x6144 : Shape := ⟨3, ![1, 4096, 6144]⟩
abbrev S4x1024x1536 : Shape := ⟨3, ![4, 1024, 1536]⟩
abbrev S2048x1024 : Shape := ⟨2, ![2048, 1024]⟩
abbrev S1x2048x768 : Shape := ⟨3, ![1, 2048, 768]⟩
abbrev S1x1024x768 : Shape := ⟨3, ![1, 1024, 768]⟩
abbrev S1024x768 : Shape := ⟨2, ![1024, 768]⟩
abbrev S2048x768 : Shape := ⟨2, ![2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x6144, .bf16⟩
  | .hbm, ⟨4, _⟩ => ⟨S1x4096x6144, .bf16⟩
  | .hbm, ⟨5, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x1536 : Shape := ⟨2, ![1024, 1536]⟩
abbrev S1x1024x1536 : Shape := ⟨3, ![1, 1024, 1536]⟩
abbrev S4x1024x1536 : Shape := ⟨3, ![4, 1024, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S1024x6144, .bf16⟩
  | .hbm, ⟨8, _⟩ => ⟨S1024x1536, .bf16⟩
  | .hbm, ⟨9, _⟩ => ⟨S1024x1536, .bf16⟩
  | .hbm, ⟨10, _⟩ => ⟨S1024x1536, .bf16⟩
  | .hbm, ⟨11, _⟩ => ⟨S1024x1536, .bf16⟩
  | .hbm, ⟨12, _⟩ => ⟨S1x1024x1536, .bf16⟩
  | .hbm, ⟨13, _⟩ => ⟨S1x1024x1536, .bf16⟩
  | .hbm, ⟨14, _⟩ => ⟨S1x1024x1536, .bf16⟩
  | .hbm, ⟨15, _⟩ => ⟨S1x1024x1536, .bf16⟩
  | .hbm, ⟨16, _⟩ => ⟨S4x1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== ProjDw.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1x4096x1024, .bf16⟩
  | .hbm, ⟨5, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PoolDx.lean ====
abbrev S1024x1024 : Shape := ⟨2, ![1024, 1024]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1x2048x1024 : Shape := ⟨3, ![1, 2048, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1x4096x1024, .bf16⟩
  | .hbm, ⟨4, _⟩ => ⟨S1024x1024, .bf16⟩
  | .hbm, ⟨5, _⟩ => ⟨S1x1024x1024, .bf16⟩
  | .hbm, ⟨6, _⟩ => ⟨S4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDx.lean ====
abbrev S1024x1024 : Shape := ⟨2, ![1024, 1024]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1x2048x1024 : Shape := ⟨3, ![1, 2048, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1x4096x1024, .bf16⟩
  | .hbm, ⟨4, _⟩ => ⟨S1024x1024, .bf16⟩
  | .hbm, ⟨5, _⟩ => ⟨S1x1024x1024, .bf16⟩
  | .hbm, ⟨6, _⟩ => ⟨S4096x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ffn.Base.lean ====
module

public import Idealize.ShloMosaic.Lib.Pointwise
public import Mathlib.Algebra.BigOperators.Fin

@[expose] public section

set_option maxRecDepth 16384

noncomputable section

/-! Arrays read at natural numbers, and sums cut into equal blocks. -/

namespace Ffn

open Idealize.ShloMosaic

/-- A matrix read at two natural numbers: zero outside of it. -/
def mat {a b : ℕ} (A : (⟨2, ![a, b]⟩ : Shape).Idx → EReal) (i j : ℕ) : EReal :=
  if h : i < a ∧ j < b then A (ix2 ⟨i, h.1⟩ ⟨j, h.2⟩) else 0

theorem mat_apply {a b : ℕ} (A : (⟨2, ![a, b]⟩ : Shape).Idx → EReal) (i : Fin a) (j : Fin b) : mat A i.val j.val = A (ix2 i j) := by
  unfold mat
  rw [dif_pos ⟨i.isLt, j.isLt⟩]

theorem mat_of {a b : ℕ} (A : (⟨2, ![a, b]⟩ : Shape).Idx → EReal) (i j : ℕ) (hi : i < a) (hj : j < b) : mat A i j = A (ix2 ⟨i, hi⟩ ⟨j, hj⟩) :=
  mat_apply A ⟨i, hi⟩ ⟨j, hj⟩

/-- A row of a vector read at a natural number: zero outside of it. -/
def vec {a : ℕ} (A : (⟨1, ![a]⟩ : Shape).Idx → EReal) (i : ℕ) : EReal :=
  if h : i < a then A (ix1 ⟨i, h⟩) else 0

theorem vec_apply {a : ℕ} (A : (⟨1, ![a]⟩ : Shape).Idx → EReal) (i : Fin a) : vec A i.val = A (ix1 i) := by
  unfold vec
  rw [dif_pos i.isLt]

/-- A sum over 4096 terms is the sum of its two halves. -/
theorem sum_halves (f : ℕ → EReal) : ∑ k : Fin 4096, f k.val = (∑ k : Fin 2048, f (2048 * 0 + k.val)) + ∑ k : Fin 2048, f (2048 * 1 + k.val) := by
  rw [Fin.sum_univ_eq_sum_range f 4096, Fin.sum_univ_eq_sum_range (fun k => f (2048 * 0 + k)) 2048, Fin.sum_univ_eq_sum_range (fun k => f (2048 * 1 + k)) 2048,
    show 4096 = 2048 + 2048 from rfl, Finset.sum_range_add]
  simp only [Nat.mul_zero, Nat.zero_add, Nat.mul_one]

/-- A sum over 5632 terms is the sum of its four quarters. -/
theorem sum_quarters (f : ℕ → EReal) : ∑ k : Fin 5632, f k.val = (((∑ k : Fin 1408, f (1408 * 0 + k.val)) + ∑ k : Fin 1408, f (1408 * 1 + k.val))
    + ∑ k : Fin 1408, f (1408 * 2 + k.val)) + ∑ k : Fin 1408, f (1408 * 3 + k.val) := by
  rw [Fin.sum_univ_eq_sum_range f 5632, Fin.sum_univ_eq_sum_range (fun k => f (1408 * 0 + k)) 1408, Fin.sum_univ_eq_sum_range (fun k => f (1408 * 1 + k)) 1408,
    Fin.sum_univ_eq_sum_range (fun k => f (1408 * 2 + k)) 1408, Fin.sum_univ_eq_sum_range (fun k => f (1408 * 3 + k)) 1408,
    show 5632 = 1408 + 1408 + 1408 + 1408 from rfl, Finset.sum_range_add, Finset.sum_range_add, Finset.sum_range_add]
  simp only [Nat.mul_zero, Nat.zero_add, Nat.mul_one]

end Ffn

end
-- ==== Proof.Proj.Base.lean ====
module

public import proofs.«01_k».proof.Proof.Ffn.Base

@[expose] public section

set_option maxRecDepth 16384

noncomputable section

/-! A sum cut into equal blocks. -/

namespace Ffn

open Idealize.ShloMosaic

/-- A sum over `n * w` terms is the sum of its `n` blocks of `w` terms. -/
theorem sum_blocks (f : ℕ → EReal) (w n N : ℕ) (hN : N = n * w) :
    ∑ k : Fin N, f k.val = ∑ j ∈ Finset.range n, ∑ k : Fin w, f (w * j + k.val) := by
  subst hN
  rw [Fin.sum_univ_eq_sum_range f]
  induction n with
  | zero => simp
  | succ n ih =>
    rw [Nat.succ_mul, Finset.sum_range_add, ih, Finset.sum_range_succ, Fin.sum_univ_eq_sum_range (fun k => f (w * n + k)), Nat.mul_comm w n]

end Ffn

end
-- ==== Proof.Proj.QDx.lean ====
module

public import proofs.«01_k».proof.Proof.Proj.Base
public import proofs.«01_k».proof.Proof.Gen.QDxIdeal.Value
public import Idealize.ShloMosaic.Lib.Pipeline.ReadBack
public import Idealize.ShloMosaic.Lib.StableHlo.RunRead

@[expose] public section

set_option maxRecDepth 16384

noncomputable section

/-! The gradient of the query projection's input, as the call computes it: four blocks of columns added into an accumulator. -/

namespace Cert.QDxIdeal.Ffn

open Idealize.ShloMosaic Idealize.ShloMosaic.TcCoe Cert.QDxIdeal Cert.QDxIdeal.Gen Cert.QDxIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x2048x768 .bf16) (harg3 : arg3.IsWhole) (arg4 : Memref sig .tc .vmem S1x1024x768 .bf16) (harg4 : arg4.IsWhole)
  (arg5 : Memref sig .tc .vmem S2048x1024 .f32) (harg5 : arg5.IsWhole) (arg6 : Memref sig .tc .vmem S2048x1024 .f32) (harg6 : arg6.IsWhole)
  (x0 : Vec Ideal S1x2048x768 .bf16) (x1 : Vec Ideal S1x1024x768 .bf16) (acc : Vec Ideal S2048x1024 .f32)

/-- What the first of the four points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S2048x1024) hz2, View.readCov_unit_zero (S := S2048x1024) _ hz2, View.ld_unit_zero (S := S1x2048x768) hz3, View.ld_unit_zero (S := S1x1024x768) hz3]

/-- What a middle point leaves in the accumulator. -/
theorem mid_eq (hc0 : ¬cond0_0 i) (hc1 : ¬cond0_1 i) :
    sout0_B_0 (F := Ideal) c i arg3 harg3 arg4 harg4 arg5 harg5 arg6 harg6 hc0 hc1 x0 x1 acc = k0_pay2 acc x0 x1 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x768) hz3, View.ld_unit_zero (S := S1x1024x768) hz3]

/-- What the last of the four points writes to the result. -/
theorem last_eq (hc0 : ¬cond0_0 i) (hc1 : cond0_1 i) :
    out0_C_2 (F := Ideal) c i arg3 harg3 arg4 harg4 arg5 harg5 arg6 harg6 hc0 hc1 x0 x1 acc = k0_pay2 acc x0 x1 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x768) hz3, View.ld_unit_zero (S := S1x1024x768) hz3]

theorem zero_apply (a : Fin 2048) (b : Fin 1024) : (k0_pay1 (F := Ideal)) (ix2 a b) = 0 := by
  pointwise [k0_pay1]

theorem step_apply (a : Fin 2048) (b : Fin 1024) : k0_pay2 acc x0 x1 (ix2 a b) = acc (ix2 a b) + ∑ k : Fin 768, x0 (ix3 0 a k) * x1 (ix3 0 b k) := by
  pointwise [k0_pay2]

end

variable (m : (ℓ : Loc nD τ sig) → Buf (Elt Ideal) ℓ) (c : Dev nD)

/-- The first argument, the weight. -/
def argW : ℕ → ℕ → EReal := mat (m ((c : Thread nD τ).loc main_arg0) : S1024x3072.Idx → EReal)
/-- The second argument, the cotangent. -/
def argC : ℕ → ℕ → EReal := mat (m ((c : Thread nD τ).loc main_arg1) : S4096x3072.Idx → EReal)

/-- The cotangent with a leading axis of length one. -/
abbrev flatOf (A : FVec Ideal S4096x3072 .f32) : FVec Ideal S1x4096x3072 .bf16 :=
  shapeCast S1x4096x3072 (truncf (F := Ideal) .bf16 A bitsLt_bf16_f32 : FVec Ideal S4096x3072 .bf16) shapeCasts_S4096x3072_S1x4096x3072

theorem flatOf_apply (A : FVec Ideal S4096x3072 .f32) (k : Fin 4096) (j : Fin 3072) : flatOf A (ix3 0 k j) = A (ix2 k j) := by
  pointwise [flatOf]

/-- The weight's columns in four blocks. -/
abbrev quartersOf (A : FVec Ideal S1024x3072 .f32) : FVec Ideal S4x1024x768 .bf16 :=
  truncf (F := Ideal) .bf16 (transpose S4x1024x768 [1, 0, 2] (shapeCast S1024x4x768 A shapeCasts_S1024x3072_S1024x4x768 : FVec Ideal S1024x4x768 .f32)
    transposes_S1024x4x768_S4x1024x768_1_0_2 : FVec Ideal S4x1024x768 .f32) bitsLt_bf16_f32

theorem quartersOf_apply (A : FVec Ideal S1024x3072 .f32) (s : Fin 4) (b : Fin 1024) (k : Fin 768) :
    quartersOf A (ix3 s b k) = A (ix2 b ⟨s.val * 768 + k.val, by omega⟩) := by
  pointwise [quartersOf]

theorem host4 : V m c main_v4 = quartersOf (m ((c : Thread nD τ).loc main_arg0) : FVec Ideal S1024x3072 .f32) := by
  unfold quartersOf
  after_reads_simp
  rfl

theorem host1 : V m c main_v1 = flatOf (m ((c : Thread nD τ).loc main_arg1) : FVec Ideal S4096x3072 .f32) := by
  unfold flatOf
  after_reads_simp
  rfl

theorem index_0 : ∀ t : Fin cfg0.N, win0_0.index t 0 = 0 ∧ win0_0.index t 1 = t.val / 4 ∧ win0_0.index t 2 = t.val % 4 :=
  (by decide +kernel : ∀ t : Fin grid0.N, win0_0.index t 0 = 0 ∧ win0_0.index t 1 = t.val / 4 ∧ win0_0.index t 2 = t.val % 4)

theorem index_1 : ∀ t : Fin cfg0.N, win0_1.index t 0 = t.val % 4 / 1 ∧ win0_1.index t 1 = 0 ∧ win0_1.index t 2 = t.val % 4 % 1 :=
  (by decide +kernel : ∀ t : Fin grid0.N, win0_1.index t 0 = t.val % 4 / 1 ∧ win0_1.index t 1 = 0 ∧ win0_1.index t 2 = t.val % 4 % 1)

theorem block_0 (t : Fin cfg0.N) (a : Fin 2048) (k : Fin 768) :
    (iblk m c 0 t : Vec Ideal S1x2048x768 .bf16) (ix3 0 a k) = argC m c (2048 * (t.val / 4) + a.val) (768 * (t.val % 4) + k.val) := by
  have ht : t.val < 2 * 4 := lt_of_lt_of_eq t.isLt N_0
  unfold argC
  rw [mat_of _ _ _ (by omega) (by omega)]
  unfold iblk
  rw [View.read_apply]
  show V m c main_v1 _ = _
  have e : (((cfg0.win 0).blk t).view.emb (ix3 0 a k) : S1x4096x3072.Idx) = ix3 0 ⟨2048 * (t.val / 4) + a.val, by omega⟩ ⟨768 * (t.val % 4) + k.val, by omega⟩ := by
    funext x
    apply Fin.ext
    match x with
    | ⟨0, _⟩ => show win0_0.index t 0 * 1 + 1 * 0 = 0; rw [(index_0 t).1]
    | ⟨1, _⟩ => show win0_0.index t 1 * 2048 + 1 * a.val = 2048 * (t.val / 4) + a.val; rw [(index_0 t).2.1]; omega
    | ⟨2, _⟩ => show win0_0.index t 2 * 768 + 1 * k.val = 768 * (t.val % 4) + k.val; rw [(index_0 t).2.2]; omega
  rw [host1]
  exact (congrArg _ e).trans (flatOf_apply _ _ _)

theorem block_1 (t : Fin cfg0.N) (b : Fin 1024) (k : Fin 768) :
    (iblk m c 1 t : Vec Ideal S1x1024x768 .bf16) (ix3 0 b k) = argW m c b.val (768 * (t.val % 4) + k.val) := by
  have ht : t.val < 2 * 4 := lt_of_lt_of_eq t.isLt N_0
  unfold argW
  rw [mat_of _ _ _ (by omega) (by omega)]
  unfold iblk
  rw [View.read_apply]
  show V m c main_v4 _ = _
  have e : (((cfg0.win 1).blk t).view.emb (ix3 0 b k) : S4x1024x768.Idx) = ix3 ⟨t.val % 4 / 1, by omega⟩ b ⟨768 * (t.val % 4 % 1) + k.val, by omega⟩ := by
    funext x
    apply Fin.ext
    match x with
    | ⟨0, _⟩ => show win0_1.index t 0 * 1 + 1 * 0 = t.val % 4 / 1; rw [(index_1 t).1]; omega
    | ⟨1, _⟩ => show win0_1.index t 1 * 1024 + 1 * b.val = b.val; rw [(index_1 t).2.1]; omega
    | ⟨2, _⟩ => show win0_1.index t 2 * 768 + 1 * k.val = 768 * (t.val % 4 % 1) + k.val; rw [(index_1 t).2.2]; omega
  rw [host4]
  refine (congrArg _ e).trans ((quartersOf_apply _ _ _ _).trans ?_)
  exact congrArg (fun x => (m ((c : Thread nD τ).loc main_arg0) : S1024x3072.Idx → EReal) (ix2 _ x)) (Fin.ext (by dsimp only; omega))

/-- One block of columns' part of the gradient. -/
def part (s i a b : ℕ) : EReal := ∑ k : Fin 768, argC m c (2048 * i + a) (768 * s + k.val) * argW m c b (768 * s + k.val)

/-- The accumulator after the first of a block's four points. -/
theorem acc_first (t : Fin cfg0.N) (h0 : t.val % 4 = 0) (a : Fin 2048) (b : Fin 1024) :
    (outsAt0 m c t.val t.isLt).2 (ix2 a b) = part m c 0 (t.val / 4) a.val b.val := by
  rw [outsAt0_A m c t h0 (by omega)]
  dsimp only
  rw [first_eq, step_apply, zero_apply, zero_add]
  unfold part
  refine Finset.sum_congr rfl fun k _ => ?_
  rw [block_0 m c t a k, block_1 m c t b k, h0]

/-- A middle point adds its block's part. -/
theorem acc_mid (t : Fin cfg0.N) (h0 : ¬t.val % 4 = 0) (h1 : ¬t.val % 4 = 3) (a : Fin 2048) (b : Fin 1024) :
    (outsAt0 m c t.val t.isLt).2 (ix2 a b) = (outsAt0 m c (t.val - 1) (Nat.lt_of_le_of_lt (Nat.sub_le _ _) t.isLt)).2 (ix2 a b) + part m c (t.val % 4) (t.val / 4) a.val b.val := by
  rw [outsAt0_B m c t h0 h1]
  dsimp only
  rw [mid_eq, step_apply]
  congr 1
  unfold part
  refine Finset.sum_congr rfl fun k _ => ?_
  rw [block_0 m c t a k, block_1 m c t b k]

/-- The last point writes what was there and its block's part. -/
theorem out_last (t : Fin cfg0.N) (h1 : t.val % 4 = 3) (a : Fin 2048) (b : Fin 1024) :
    (outsAt0 m c t.val t.isLt).1 (ix2 a b) = (outsAt0 m c (t.val - 1) (Nat.lt_of_le_of_lt (Nat.sub_le _ _) t.isLt)).2 (ix2 a b) + part m c (t.val % 4) (t.val / 4) a.val b.val := by
  rw [outsAt0_C m c t (by omega) h1]
  dsimp only
  rw [last_eq, step_apply]
  congr 1
  unfold part
  refine Finset.sum_congr rfl fun k _ => ?_
  rw [block_0 m c t a k, block_1 m c t b k]

/-- The accumulator after `s + 1` of block `i`'s points, the last excepted: the sum of their parts. -/
theorem acc_at (i : ℕ) (a : Fin 2048) (b : Fin 1024) : ∀ (s : ℕ) (_ : s < 3) (h : 4 * i + s < cfg0.N),
    (outsAt0 m c (4 * i + s) h).2 (ix2 a b) = ∑ j ∈ Finset.range (s + 1), part m c j i a.val b.val
  | 0, _, h => by
    have e := acc_first m c ⟨4 * i + 0, h⟩ (by dsimp only; omega) a b
    dsimp only at e
    rw [e, show (4 * i + 0) / 4 = i by omega, Finset.sum_range_succ, Finset.sum_range_zero, zero_add]
  | s + 1, hs, h => by
    have e := acc_mid m c ⟨4 * i + (s + 1), h⟩ (by dsimp only; omega) (by dsimp only; omega) a b
    dsimp only at e
    rw [show (4 * i + (s + 1)) / 4 = i by omega, show (4 * i + (s + 1)) % 4 = s + 1 by omega] at e
    rw [Finset.sum_range_succ]
    exact e.trans (congrArg (· + _) (acc_at i a b s (by omega) (by omega)))

/-- What the last of block `i`'s points writes. -/
theorem out_all (i : ℕ) (h : 4 * i + 3 < cfg0.N) (a : Fin 2048) (b : Fin 1024) :
    (outsAt0 m c (4 * i + 3) h).1 (ix2 a b) = ∑ j ∈ Finset.range 4, part m c j i a.val b.val := by
  have e := out_last m c ⟨4 * i + 3, h⟩ (by dsimp only; omega) a b
  dsimp only at e
  rw [show (4 * i + 3) / 4 = i by omega, show (4 * i + 3) % 4 = 3 by omega] at e
  rw [Finset.sum_range_succ]
  exact e.trans (congrArg (· + _) (acc_at m c i a b 2 (by omega) (by omega)))

/-- The result: the product over all columns. -/
theorem result (t : Fin 4096) (b : Fin 1024) : (G2 m c : S4096x1024.Idx → EReal) (ix2 t b)
    = ∑ k : Fin 3072, argC m c t.val k.val * argW m c b.val k.val := by
  have hp : pt2Of (ix2 t b) = 4 * (t.val / 2048) + 3 := by
    show 4 * (1 * (t.val / 2048 - 0) + 1 * (b.val / 1024 - 0)) + 3 = _
    rw [Nat.div_eq_of_lt b.isLt]; omega
  have hlt : 4 * (t.val / 2048) + 3 < cfg0.N := by rw [show cfg0.N = 2 * 4 from N_0]; omega
  have hl : loc2Of (ix2 t b) = ix2 ⟨t.val % 2048, Nat.mod_lt _ (by decide)⟩ b := by
    funext x
    apply Fin.ext
    match x with
    | ⟨0, _⟩ => rfl
    | ⟨1, _⟩ => exact Nat.mod_eq_of_lt b.isLt
  unfold G2
  rw [dif_pos (by rw [hp]; exact hlt), hl, ← outsAt0_sweep m c _ (by rw [hp]; exact hlt)]
  have e : ∀ n (hn : n < cfg0.N), n = 4 * (t.val / 2048) + 3 → (outsAt0 m c n hn).1 (ix2 ⟨t.val % 2048, Nat.mod_lt _ (by decide)⟩ b)
      = ∑ j ∈ Finset.range 4, part m c j (t.val / 2048) (t.val % 2048) b.val := by
    intro n hn hne
    subst hne
    exact out_all m c (t.val / 2048) hn ⟨t.val % 2048, Nat.mod_lt _ (by decide)⟩ b
  rw [e _ _ hp, sum_blocks (fun k => argC m c t.val k * argW m c b.val k) 768 4 3072 rfl]
  unfold part
  rw [Nat.div_add_mod]

end Cert.QDxIdeal.Ffn

end
-- ==== Proof.Proj.QDxEquation.lean ====
module

public import proofs.«01_k».proof.Defs
public import proofs.«01_k».proof.Proof.Proj.QDx
public import proofs.«01_k».proof.Proof.Gen.QDxRefIdeal.Run
public import proofs.«01_k».proof.Proof.Gen.QDxRefIdeal.Read
public import Idealize.ShloMosaic.Lib.Quiescent

@[expose] public section

set_option maxRecDepth 16384

noncomputable section

/-! The gradient of the query projection's input: the call's blocked sum and the one product agree. -/

namespace Cert.QDxRefIdeal.Ffn

open Idealize.ShloMosaic Idealize.ShloMosaic.TcCoe Idealize.SL.Sem
open Cert.QDxRefIdeal Cert.QDxRefIdeal.Gen Cert.QDxRefIdeal.Read

theorem value (x0 : FVec Ideal S1024x3072 .f32) (x1 : FVec Ideal S4096x3072 .f32) (t : Fin 4096) (b : Fin 1024) :
    val_main_v2 (F := Ideal) x0 x1 (ix2 t b) = ∑ k : Fin 3072, x1 (ix2 t k) * x0 (ix2 b k) := by
  pointwise [val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v2_eq _ _), (h c).2⟩, sem_eq_zero_of_no_sems (by decide) r.2⟩)
    (Cert.QDxRefIdeal.Value.run m ρ)

end Cert.QDxRefIdeal.Ffn

namespace Cert.Proof

open Idealize.ShloMosaic Idealize.SL.Sem Idealize.ShloMosaic.TcCoe

theorem frame_QDxRef : Cert.quiescent_QDxRefIdeal (hQDxRefIdeal := Cert.QDxRefIdeal.Gen.facts) := fun m ρ _ =>
  (θ_run Cert.QDxRefIdeal.defs _ _).mono (fun _ h => ⟨fun c => (h.1 c).2, h.2⟩) (Cert.QDxRefIdeal.Ffn.run_main m ρ)

/-- Kernel and reference agree. -/
theorem equal_QDx (m : (ℓ : Loc QDxIdeal.nD QDxIdeal.τ QDxIdeal.sig) → Buf (Elt Ideal) ℓ) (c : Dev QDxIdeal.nD) :
    (QDxIdeal.Value.G2 m c : QDxIdeal.S4096x1024.Idx → EReal)
      = QDxRefIdeal.Read.val_main_v2 (F := Ideal) (m ((c.tc : Thread QDxIdeal.nD QDxIdeal.τ).loc QDxIdeal.main_arg0)) (m ((c.tc : Thread QDxIdeal.nD QDxIdeal.τ).loc QDxIdeal.main_arg1)) := by
  funext y
  obtain ⟨t, b, rfl⟩ : ∃ (t : Fin 4096) (b : Fin 1024), y = ix2 t b :=
    ⟨y 0, y 1, funext fun a => match a with | ⟨0, _⟩ => rfl | ⟨1, _⟩ => rfl⟩
  refine (QDxIdeal.Ffn.result m c t b).trans ((QDxRefIdeal.Ffn.value _ _ t b).trans ?_).symm
  refine Finset.sum_congr rfl fun k _ => ?_
  unfold QDxIdeal.Ffn.argW QDxIdeal.Ffn.argC
  rw [_root_.Ffn.mat_apply, _root_.Ffn.mat_apply]

/-- The blocked gradient of the query projection's input and the gradient of the plain product are equal over the extended reals. -/
theorem algebraic_QDx : Cert.algebraic_QDxIdeal_QDxRefIdeal (hQDxIdeal := Cert.QDxIdeal.Gen.facts) (hQDxRefIdeal := Cert.QDxRefIdeal.Gen.facts) :=
  fun m g m' g' _ hargs =>
  ⟨fun c => QDxIdeal.Value.G2 m c, QDxIdeal.Value.run m g,
    (θ_run Cert.QDxRefIdeal.defs _ _).mono (fun r h c => by
      obtain ⟨e0, e1⟩ := hargs c
      obtain ⟨r0, rest⟩ := h.1 c
      refine ⟨r0.trans ?_, rest⟩
      refine Eq.trans ?_ (equal_QDx m c).symm
      rw [e0, e1]) (Cert.QDxRefIdeal.Ffn.run_main m' g')⟩

end Cert.Proof

end
-- ==== Proof.Proj.QDw.lean ====
module

public import proofs.«01_k».proof.Proof.Proj.Base
public import proofs.«01_k».proof.Proof.Gen.QDwIdeal.Value
public import Idealize.ShloMosaic.Lib.Pipeline.ReadBack
public import Idealize.ShloMosaic.Lib.StableHlo.RunRead

@[expose] public section

set_option maxRecDepth 16384

noncomputable section

/-! The gradient of the query projection's weight, as the call computes it: two blocks of rows added into an accumulator. -/

namespace Cert.QDwIdeal.Ffn

open Idealize.ShloMosaic Idealize.ShloMosaic.TcCoe Cert.QDwIdeal Cert.QDwIdeal.Gen Cert.QDwIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S1x2048x768 .bf16) (harg4 : arg4.IsWhole)
  (arg5 : Memref sig .tc .vmem S1x1024x768 .bf16) (harg5 : arg5.IsWhole) (arg6 : Memref sig .tc .vmem S1024x768 .f32) (harg6 : arg6.IsWhole)
  (x0 : Vec Ideal S2048x1024 .bf16) (x1 : Vec Ideal S1x2048x768 .bf16) (acc : Vec Ideal S1024x768 .f32)

/-- What the first of the two points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S1024x768) hz2, View.readCov_unit_zero (S := S1024x768) _ hz2, View.ld_unit_zero (S := S2048x1024) hz2, View.ld_unit_zero (S := S1x2048x768) hz3]

/-- What the last of the two points writes to the result. -/
theorem last_eq (hc0 : ¬cond0_0 i) (hc1 : cond0_1 i) :
    out0_B_2 (F := Ideal) c i arg3 harg3 arg4 harg4 arg5 harg5 arg6 harg6 hc0 hc1 x0 x1 acc = k0_pay3 (k0_pay2 acc x0 x1) := by
  unfold out0_B_2
  rw [View.read_writes_eq_canon _ _ _ (cover0_B_2 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S1x1024x768) hz3, View.readCov_unit_zero (S := S1024x768) _ hz2, View.ld_unit_zero (S := S1024x768) hz2, View.ld_unit_zero (S := S2048x1024) hz2, View.ld_unit_zero (S := S1x2048x768) hz3]

theorem zero_apply (a : Fin 1024) (b : Fin 768) : (k0_pay1 (F := Ideal)) (ix2 a b) = 0 := by
  pointwise [k0_pay1]

theorem step_apply (a : Fin 1024) (b : Fin 768) : k0_pay2 acc x0 x1 (ix2 a b) = acc (ix2 a b) + ∑ k : Fin 2048, x0 (ix2 k a) * x1 (ix3 0 k b) := by
  pointwise [k0_pay2]

theorem cast_apply (a : Fin 1024) (b : Fin 768) : k0_pay3 acc (ix3 0 a b) = acc (ix2 a b) := by
  pointwise [k0_pay3]

end

variable (m : (ℓ : Loc nD τ sig) → Buf (Elt Ideal) ℓ) (c : Dev nD)

/-- The first argument, the projection's input. -/
def argH : ℕ → ℕ → EReal := mat (m ((c : Thread nD τ).loc main_arg0) : S4096x1024.Idx → EReal)
/-- The second argument, the cotangent. -/
def argC : ℕ → ℕ → EReal := mat (m ((c : Thread nD τ).loc main_arg1) : S4096x3072.Idx → EReal)

/-- The cotangent with a leading axis of length one. -/
abbrev flatOf (A : FVec Ideal S4096x3072 .f32) : FVec Ideal S1x4096x3072 .bf16 :=
  shapeCast S1x4096x3072 (truncf (F := Ideal) .bf16 A bitsLt_bf16_f32 : FVec Ideal S4096x3072 .bf16) shapeCasts_S4096x3072_S1x4096x3072

theorem flatOf_apply (A : FVec Ideal S4096x3072 .f32) (k : Fin 4096) (j : Fin 3072) : flatOf A (ix3 0 k j) = A (ix2 k j) := by
  pointwise [flatOf]

theorem host0 : V m c main_v0 = (truncf (F := Ideal) .bf16 (m ((c : Thread nD τ).loc main_arg0) : FVec Ideal S4096x1024 .f32) bitsLt_bf16_f32 : FVec Ideal S4096x1024 .bf16) := by
  after_reads_simp

theorem host2 : V m c main_v2 = flatOf (m ((c : Thread nD τ).loc main_arg1) : FVec Ideal S4096x3072 .f32) := by
  unfold flatOf
  after_reads_simp
  rfl

theorem index_0 : ∀ t : Fin cfg0.N, win0_0.index t 0 = t.val % 2 ∧ win0_0.index t 1 = 0 :=
  (by decide +kernel : ∀ t : Fin grid0.N, win0_0.index t 0 = t.val % 2 ∧ win0_0.index t 1 = 0)

theorem index_1 : ∀ t : Fin cfg0.N, win0_1.index t 0 = 0 ∧ win0_1.index t 1 = t.val % 2 ∧ win0_1.index t 2 = t.val / 2 :=
  (by decide +kernel : ∀ t : Fin grid0.N, win0_1.index t 0 = 0 ∧ win0_1.index t 1 = t.val % 2 ∧ win0_1.index t 2 = t.val / 2)

theorem block_0 (t : Fin cfg0.N) (k : Fin 2048) (a : Fin 1024) :
    (iblk m c 0 t : Vec Ideal S2048x1024 .bf16) (ix2 k a) = argH m c (2048 * (t.val % 2) + k.val) a.val := by
  have ht : t.val < 8 * 1 := lt_of_lt_of_eq t.isLt N_0
  unfold argH
  rw [mat_of _ _ _ (by omega) (by omega)]
  unfold iblk
  rw [View.read_apply]
  show V m c main_v0 _ = _
  rw [host0]
  show (m ((c : Thread nD τ).loc main_arg0) : S4096x1024.Idx → EReal) _ = (m ((c : Thread nD τ).loc main_arg0) : S4096x1024.Idx → EReal) _
  congr 1
  funext x
  apply Fin.ext
  match x with
  | ⟨0, _⟩ => show win0_0.index t 0 * 2048 + 1 * k.val = 2048 * (t.val % 2) + k.val; rw [(index_0 t).1]; omega
  | ⟨1, _⟩ => show win0_0.index t 1 * 1024 + 1 * a.val = a.val; rw [(index_0 t).2]; omega

theorem block_1 (t : Fin cfg0.N) (k : Fin 2048) (b : Fin 768) :
    (iblk m c 1 t : Vec Ideal S1x2048x768 .bf16) (ix3 0 k b) = argC m c (2048 * (t.val % 2) + k.val) (768 * (t.val / 2) + b.val) := by
  have ht : t.val < 8 * 1 := lt_of_lt_of_eq t.isLt N_0
  unfold argC
  rw [mat_of _ _ _ (by omega) (by omega)]
  unfold iblk
  rw [View.read_apply]
  show V m c main_v2 _ = _
  have e : (((cfg0.win 1).blk t).view.emb (ix3 0 k b) : S1x4096x3072.Idx) = ix3 0 ⟨2048 * (t.val % 2) + k.val, by omega⟩ ⟨768 * (t.val / 2) + b.val, by omega⟩ := by
    funext x
    apply Fin.ext
    match x with
    | ⟨0, _⟩ => show win0_1.index t 0 * 1 + 1 * 0 = 0; rw [(index_1 t).1]
    | ⟨1, _⟩ => show win0_1.index t 1 * 2048 + 1 * k.val = 2048 * (t.val % 2) + k.val; rw [(index_1 t).2.1]; omega
    | ⟨2, _⟩ => show win0_1.index t 2 * 768 + 1 * b.val = 768 * (t.val / 2) + b.val; rw [(index_1 t).2.2]; omega
  rw [host2]
  exact (congrArg _ e).trans (flatOf_apply _ _ _)

/-- One block of rows' part of the gradient. -/
def part (h p a b : ℕ) : EReal := ∑ k : Fin 2048, argH m c (2048 * h + k.val) a * argC m c (2048 * h + k.val) (768 * p + b)

/-- The accumulator after the first of a block's two points. -/
theorem acc_first (t : Fin cfg0.N) (h0 : t.val % 2 = 0) (a : Fin 1024) (b : Fin 768) :
    (outsAt0 m c t.val t.isLt).2 (ix2 a b) = part m c 0 (t.val / 2) a.val b.val := by
  rw [outsAt0_A m c t h0 (by omega)]
  dsimp only
  rw [first_eq, step_apply, zero_apply, zero_add]
  unfold part
  refine Finset.sum_congr rfl fun k _ => ?_
  rw [block_0 m c t k a, block_1 m c t k b, h0]

/-- What the last of a block's two points writes. -/
theorem out_last (t : Fin cfg0.N) (h1 : t.val % 2 = 1) (a : Fin 1024) (b : Fin 768) :
    (outsAt0 m c t.val t.isLt).1 (ix3 0 a b) = part m c 0 (t.val / 2) a.val b.val + part m c 1 (t.val / 2) a.val b.val := by
  rw [outsAt0_B m c t (by omega) h1]
  dsimp only
  rw [last_eq, cast_apply, step_apply]
  have e := acc_first m c ⟨t.val - 1, Nat.lt_of_le_of_lt (Nat.sub_le _ _) t.isLt⟩ (by dsimp only; omega) a b
  dsimp only at e
  rw [e, show (t.val - 1) / 2 = t.val / 2 by omega]
  congr 1
  unfold part
  refine Finset.sum_congr rfl fun k _ => ?_
  rw [block_0 m c t k a, block_1 m c t k b, h1]

/-- The result: the product over all rows, its columns in four blocks. -/
theorem result (s : Fin 4) (a : Fin 1024) (b : Fin 768) : (G2 m c : S4x1024x768.Idx → EReal) (ix3 s a b)
    = ∑ k : Fin 4096, argH m c k.val a.val * argC m c k.val (768 * s.val + b.val) := by
  have hp : pt2Of (ix3 s a b) = 2 * (1 * s.val + b.val / 768) + 1 := by
    show 2 * (1 * (s.val / 1 - 0) + 1 * (a.val / 1024 - 0) + 1 * (b.val / 768 - 0)) + 1 = _
    rw [Nat.div_eq_of_lt a.isLt, Nat.div_one]; omega
  have hlt : 2 * (1 * s.val + b.val / 768) + 1 < cfg0.N := by rw [show cfg0.N = 8 * 1 from N_0]; omega
  have hl : loc2Of (ix3 s a b) = ix3 0 a ⟨b.val % 768, Nat.mod_lt _ (by decide)⟩ := by
    funext x
    apply Fin.ext
    match x with
    | ⟨0, _⟩ => exact Nat.mod_one _
    | ⟨1, _⟩ => exact Nat.mod_eq_of_lt a.isLt
    | ⟨2, _⟩ => rfl
  unfold G2
  rw [dif_pos (by rw [hp]; exact hlt), hl, ← outsAt0_sweep m c _ (by rw [hp]; exact hlt)]
  have e : ∀ n (hn : n < cfg0.N), n = 2 * (1 * s.val + b.val / 768) + 1 → (outsAt0 m c n hn).1 (ix3 0 a ⟨b.val % 768, Nat.mod_lt _ (by decide)⟩)
      = part m c 0 (1 * s.val + b.val / 768) a.val (b.val % 768) + part m c 1 (1 * s.val + b.val / 768) a.val (b.val % 768) := by
    intro n hn hne
    have := out_last m c ⟨n, hn⟩ (by dsimp only; omega) a ⟨b.val % 768, Nat.mod_lt _ (by decide)⟩
    dsimp only at this
    rw [this, show n / 2 = 1 * s.val + b.val / 768 by omega]
  rw [e _ _ hp, sum_halves (fun k => argH m c k a.val * argC m c k (768 * s.val + b.val))]
  unfold part
  rw [show 768 * (1 * s.val + b.val / 768) + b.val % 768 = 768 * s.val + b.val by omega]

end Cert.QDwIdeal.Ffn

end
-- ==== Proof.Proj.QDwEquation.lean ====
module

public import proofs.«01_k».proof.Defs
public import proofs.«01_k».proof.Proof.Proj.QDw
public import proofs.«01_k».proof.Proof.Gen.QDwRefIdeal.Run
public import proofs.«01_k».proof.Proof.Gen.QDwRefIdeal.Read
public import Idealize.ShloMosaic.Lib.Quiescent

@[expose] public section

set_option maxRecDepth 16384

noncomputable section

/-! The gradient of the query projection's weight: the call's blocked sum and the one product agree. -/

namespace Cert.QDwRefIdeal.Ffn

open Idealize.ShloMosaic Idealize.ShloMosaic.TcCoe Idealize.SL.Sem
open Cert.QDwRefIdeal Cert.QDwRefIdeal.Gen Cert.QDwRefIdeal.Read

/-- The gradient before its columns are cut into four. -/
theorem whole (x0 : FVec Ideal S4096x1024 .f32) (x1 : FVec Ideal S4096x3072 .f32) (a : Fin 1024) (j : Fin 3072) :
    val_main_v4 (F := Ideal) x0 x1 (ix2 a j) = ∑ k : Fin 4096, x1 (ix2 k j) * x0 (ix2 k a) := by
  pointwise [val_main_v4, val_main_v3, val_main_v2]

theorem cut (x0 : FVec Ideal S4096x1024 .f32) (x1 : FVec Ideal S4096x3072 .f32) (s : Fin 4) (a : Fin 1024) (b : Fin 768) :
    val_main_v13 (F := Ideal) x0 x1 (ix3 s a b) = if _h : s.val < 1 then val_main_v4 (F := Ideal) x0 x1 (ix2 a ⟨b.val, by omega⟩)
      else if _h : s.val - 1 < 1 then val_main_v4 (F := Ideal) x0 x1 (ix2 a ⟨768 + b.val, by omega⟩)
      else if _h : s.val - 1 - 1 < 1 then val_main_v4 (F := Ideal) x0 x1 (ix2 a ⟨1536 + b.val, by omega⟩)
      else val_main_v4 (F := Ideal) x0 x1 (ix2 a ⟨2304 + b.val, by omega⟩) := by
  unfold val_main_v13 val_main_v12 val_main_v11 val_main_v10 val_main_v9 val_main_v8 val_main_v7 val_main_v6 val_main_v5
  generalize val_main_v4 (F := Ideal) x0 x1 = A
  pointwise

theorem value (x0 : FVec Ideal S4096x1024 .f32) (x1 : FVec Ideal S4096x3072 .f32) (s : Fin 4) (a : Fin 1024) (b : Fin 768) :
    val_main_v13 (F := Ideal) x0 x1 (ix3 s a b) = ∑ k : Fin 4096, x1 (ix2 k ⟨768 * s.val + b.val, by omega⟩) * x0 (ix2 k a) := by
  rw [cut, ← whole]
  by_cases h0 : s.val < 1
  · rw [dif_pos h0]; exact congrArg (fun j => val_main_v4 (F := Ideal) x0 x1 (ix2 a j)) (Fin.ext (by dsimp only; omega))
  rw [dif_neg h0]
  by_cases h1 : s.val - 1 < 1
  · rw [dif_pos h1]; exact congrArg (fun j => val_main_v4 (F := Ideal) x0 x1 (ix2 a j)) (Fin.ext (by dsimp only; omega))
  rw [dif_neg h1]
  by_cases h2 : s.val - 1 - 1 < 1
  · rw [dif_pos h2]; exact congrArg (fun j => val_main_v4 (F := Ideal) x0 x1 (ix2 a j)) (Fin.ext (by dsimp only; omega))
  rw [dif_neg h2]
  exact congrArg (fun j => val_main_v4 (F := Ideal) x0 x1 (ix2 a j)) (Fin.ext (by dsimp only; omega))

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v13) = val_main_v13 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v13_eq _ _), (h c).2⟩, sem_eq_zero_of_no_sems (by decide) r.2⟩)
    (Cert.QDwRefIdeal.Value.run m ρ)

end Cert.QDwRefIdeal.Ffn

namespace Cert.Proof

open Idealize.ShloMosaic Idealize.SL.Sem Idealize.ShloMosaic.TcCoe

theorem frame_QDwRef : Cert.quiescent_QDwRefIdeal (hQDwRefIdeal := Cert.QDwRefIdeal.Gen.facts) := fun m ρ _ =>
  (θ_run Cert.QDwRefIdeal.defs _ _).mono (fun _ h => ⟨fun c => (h.1 c).2, h.2⟩) (Cert.QDwRefIdeal.Ffn.run_main m ρ)

/-- Kernel and reference agree. -/
theorem equal_QDw (m : (ℓ : Loc QDwIdeal.nD QDwIdeal.τ QDwIdeal.sig) → Buf (Elt Ideal) ℓ) (c : Dev QDwIdeal.nD) :
    (QDwIdeal.Value.G2 m c : QDwIdeal.S4x1024x768.Idx → EReal)
      = QDwRefIdeal.Read.val_main_v13 (F := Ideal) (m ((c.tc : Thread QDwIdeal.nD QDwIdeal.τ).loc QDwIdeal.main_arg0)) (m ((c.tc : Thread QDwIdeal.nD QDwIdeal.τ).loc QDwIdeal.main_arg1)) := by
  funext y
  obtain ⟨s, a, b, rfl⟩ : ∃ (s : Fin 4) (a : Fin 1024) (b : Fin 768), y = ix3 s a b :=
    ⟨y 0, y 1, y 2, funext fun a => match a with | ⟨0, _⟩ => rfl | ⟨1, _⟩ => rfl | ⟨2, _⟩ => rfl⟩
  refine (QDwIdeal.Ffn.result m c s a b).trans ((QDwRefIdeal.Ffn.value _ _ s a b).trans ?_).symm
  refine Finset.sum_congr rfl fun k _ => ?_
  unfold QDwIdeal.Ffn.argH QDwIdeal.Ffn.argC
  rw [_root_.Ffn.mat_apply, _root_.Ffn.mat_of _ _ _ k.isLt (by omega), mul_comm]

/-- The blocked gradient of the query projection's weight and the gradient of the plain product are equal over the extended reals. -/
theorem algebraic_QDw : Cert.algebraic_QDwIdeal_QDwRefIdeal (hQDwIdeal := Cert.QDwIdeal.Gen.facts) (hQDwRefIdeal := Cert.QDwRefIdeal.Gen.facts) :=
  fun m g m' g' _ hargs =>
  ⟨fun c => QDwIdeal.Value.G2 m c, QDwIdeal.Value.run m g,
    (θ_run Cert.QDwRefIdeal.defs _ _).mono (fun r h c => by
      obtain ⟨e0, e1⟩ := hargs c
      obtain ⟨r0, rest⟩ := h.1 c
      refine ⟨r0.trans ?_, rest⟩
      refine Eq.trans ?_ (equal_QDw m c).symm
      rw [e0, e1]) (Cert.QDwRefIdeal.Ffn.run_main m' g')⟩

end Cert.Proof

end
-- ==== Proof.Proj.KvDx.lean ====
module

public import proofs.«01_k».proof.Proof.Proj.Base
public import proofs.«01_k».proof.Proof.Gen.KvDxIdeal.Value
public import Idealize.ShloMosaic.Lib.Pipeline.ReadBack
public import Idealize.ShloMosaic.Lib.StableHlo.RunRead

@[expose] public section

set_option maxRecDepth 16384

noncomputable section

/-! The gradient of the key and value projection's input, as the call computes it: eight blocks of columns added into an accumulator. -/

namespace Cert.KvDxIdeal.Ffn

open Idealize.ShloMosaic Idealize.ShloMosaic.TcCoe Cert.KvDxIdeal Cert.KvDxIdeal.Gen Cert.KvDxIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x2048x768 .bf16) (harg3 : arg3.IsWhole) (arg4 : Memref sig .tc .vmem S1x1024x768 .bf16) (harg4 : arg4.IsWhole)
  (arg5 : Memref sig .tc .vmem S2048x1024 .f32) (harg5 : arg5.IsWhole) (arg6 : Memref sig .tc .vmem S2048x1024 .f32) (harg6 : arg6.IsWhole)
  (x0 : Vec Ideal S1x2048x768 .bf16) (x1 : Vec Ideal S1x1024x768 .bf16) (acc : Vec Ideal S2048x1024 .f32)

/-- What the first of the eight points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S2048x1024) hz2, View.readCov_unit_zero (S := S2048x1024) _ hz2, View.ld_unit_zero (S := S1x2048x768) hz3, View.ld_unit_zero (S := S1x1024x768) hz3]

/-- What a middle point leaves in the accumulator. -/
theorem mid_eq (hc0 : ¬cond0_0 i) (hc1 : ¬cond0_1 i) :
    sout0_B_0 (F := Ideal) c i arg3 harg3 arg4 harg4 arg5 harg5 arg6 harg6 hc0 hc1 x0 x1 acc = k0_pay2 acc x0 x1 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x768) hz3, View.ld_unit_zero (S := S1x1024x768) hz3]

/-- What the last of the eight points writes to the result. -/
theorem last_eq (hc0 : ¬cond0_0 i) (hc1 : cond0_1 i) :
    out0_C_2 (F := Ideal) c i arg3 harg3 arg4 harg4 arg5 harg5 arg6 harg6 hc0 hc1 x0 x1 acc = k0_pay2 acc x0 x1 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x768) hz3, View.ld_unit_zero (S := S1x1024x768) hz3]

theorem zero_apply (a : Fin 2048) (b : Fin 1024) : (k0_pay1 (F := Ideal)) (ix2 a b) = 0 := by
  pointwise [k0_pay1]

theorem step_apply (a : Fin 2048) (b : Fin 1024) : k0_pay2 acc x0 x1 (ix2 a b) = acc (ix2 a b) + ∑ k : Fin 768, x0 (ix3 0 a k) * x1 (ix3 0 b k) := by
  pointwise [k0_pay2]

end

variable (m : (ℓ : Loc nD τ sig) → Buf (Elt Ideal) ℓ) (c : Dev nD)

/-- The first argument, the weight. -/
def argW : ℕ → ℕ → EReal := mat (m ((c : Thread nD τ).loc main_arg0) : S1024x6144.Idx → EReal)
/-- The second argument, the cotangent. -/
def argC : ℕ → ℕ → EReal := mat (m ((c : Thread nD τ).loc main_arg1) : S4096x6144.Idx → EReal)

/-- The cotangent with a leading axis of length one. -/
abbrev flatOf (A : FVec Ideal S4096x6144 .f32) : FVec Ideal S1x4096x6144 .bf16 :=
  shapeCast S1x4096x6144 (truncf (F := Ideal) .bf16 A bitsLt_bf16_f32 : FVec Ideal S4096x6144 .bf16) shapeCasts_S4096x6144_S1x4096x6144

theorem flatOf_apply (A : FVec Ideal S4096x6144 .f32) (k : Fin 4096) (j : Fin 6144) : flatOf A (ix3 0 k j) = A (ix2 k j) := by
  pointwise [flatOf]

/-- The weight's columns in four blocks. -/
abbrev quartersOf (A : FVec Ideal S1024x6144 .f32) : FVec Ideal S4x1024x1536 .bf16 :=
  truncf (F := Ideal) .bf16 (transpose S4x1024x1536 [1, 0, 2] (shapeCast S1024x4x1536 A shapeCasts_S1024x6144_S1024x4x1536 : FVec Ideal S1024x4x1536 .f32)
    transposes_S1024x4x1536_S4x1024x1536_1_0_2 : FVec Ideal S4x1024x1536 .f32) bitsLt_bf16_f32

theorem quartersOf_apply (A : FVec Ideal S1024x6144 .f32) (s : Fin 4) (b : Fin 1024) (k : Fin 1536) :
    quartersOf A (ix3 s b k) = A (ix2 b ⟨s.val * 1536 + k.val, by omega⟩) := by
  pointwise [quartersOf]

theorem host4 : V m c main_v4 = quartersOf (m ((c : Thread nD τ).loc main_arg0) : FVec Ideal S1024x6144 .f32) := by
  unfold quartersOf
  after_reads_simp
  rfl

theorem host1 : V m c main_v1 = flatOf (m ((c : Thread nD τ).loc main_arg1) : FVec Ideal S4096x6144 .f32) := by
  unfold flatOf
  after_reads_simp
  rfl

theorem index_0 : ∀ t : Fin cfg0.N, win0_0.index t 0 = 0 ∧ win0_0.index t 1 = t.val / 8 ∧ win0_0.index t 2 = t.val % 8 :=
  (by decide +kernel : ∀ t : Fin grid0.N, win0_0.index t 0 = 0 ∧ win0_0.index t 1 = t.val / 8 ∧ win0_0.index t 2 = t.val % 8)

theorem index_1 : ∀ t : Fin cfg0.N, win0_1.index t 0 = t.val % 8 / 2 ∧ win0_1.index t 1 = 0 ∧ win0_1.index t 2 = t.val % 8 % 2 :=
  (by decide +kernel : ∀ t : Fin grid0.N, win0_1.index t 0 = t.val % 8 / 2 ∧ win0_1.index t 1 = 0 ∧ win0_1.index t 2 = t.val % 8 % 2)

theorem block_0 (t : Fin cfg0.N) (a : Fin 2048) (k : Fin 768) :
    (iblk m c 0 t : Vec Ideal S1x2048x768 .bf16) (ix3 0 a k) = argC m c (2048 * (t.val / 8) + a.val) (768 * (t.val % 8) + k.val) := by
  have ht : t.val < 2 * 8 := lt_of_lt_of_eq t.isLt N_0
  unfold argC
  rw [mat_of _ _ _ (by omega) (by omega)]
  unfold iblk
  rw [View.read_apply]
  show V m c main_v1 _ = _
  have e : (((cfg0.win 0).blk t).view.emb (ix3 0 a k) : S1x4096x6144.Idx) = ix3 0 ⟨2048 * (t.val / 8) + a.val, by omega⟩ ⟨768 * (t.val % 8) + k.val, by omega⟩ := by
    funext x
    apply Fin.ext
    match x with
    | ⟨0, _⟩ => show win0_0.index t 0 * 1 + 1 * 0 = 0; rw [(index_0 t).1]
    | ⟨1, _⟩ => show win0_0.index t 1 * 2048 + 1 * a.val = 2048 * (t.val / 8) + a.val; rw [(index_0 t).2.1]; omega
    | ⟨2, _⟩ => show win0_0.index t 2 * 768 + 1 * k.val = 768 * (t.val % 8) + k.val; rw [(index_0 t).2.2]; omega
  rw [host1]
  exact (congrArg _ e).trans (flatOf_apply _ _ _)

theorem block_1 (t : Fin cfg0.N) (b : Fin 1024) (k : Fin 768) :
    (iblk m c 1 t : Vec Ideal S1x1024x768 .bf16) (ix3 0 b k) = argW m c b.val (768 * (t.val % 8) + k.val) := by
  have ht : t.val < 2 * 8 := lt_of_lt_of_eq t.isLt N_0
  unfold argW
  rw [mat_of _ _ _ (by omega) (by omega)]
  unfold iblk
  rw [View.read_apply]
  show V m c main_v4 _ = _
  have e : (((cfg0.win 1).blk t).view.emb (ix3 0 b k) : S4x1024x1536.Idx) = ix3 ⟨t.val % 8 / 2, by omega⟩ b ⟨768 * (t.val % 8 % 2) + k.val, by omega⟩ := by
    funext x
    apply Fin.ext
    match x with
    | ⟨0, _⟩ => show win0_1.index t 0 * 1 + 1 * 0 = t.val % 8 / 2; rw [(index_1 t).1]; omega
    | ⟨1, _⟩ => show win0_1.index t 1 * 1024 + 1 * b.val = b.val; rw [(index_1 t).2.1]; omega
    | ⟨2, _⟩ => show win0_1.index t 2 * 768 + 1 * k.val = 768 * (t.val % 8 % 2) + k.val; rw [(index_1 t).2.2]; omega
  rw [host4]
  refine (congrArg _ e).trans ((quartersOf_apply _ _ _ _).trans ?_)
  exact congrArg (fun x => (m ((c : Thread nD τ).loc main_arg0) : S1024x6144.Idx → EReal) (ix2 _ x)) (Fin.ext (by dsimp only; omega))

/-- One block of columns' part of the gradient. -/
def part (s i a b : ℕ) : EReal := ∑ k : Fin 768, argC m c (2048 * i + a) (768 * s + k.val) * argW m c b (768 * s + k.val)

/-- The accumulator after the first of a block's eight points. -/
theorem acc_first (t : Fin cfg0.N) (h0 : t.val % 8 = 0) (a : Fin 2048) (b : Fin 1024) :
    (outsAt0 m c t.val t.isLt).2 (ix2 a b) = part m c 0 (t.val / 8) a.val b.val := by
  rw [outsAt0_A m c t h0 (by omega)]
  dsimp only
  rw [first_eq, step_apply, zero_apply, zero_add]
  unfold part
  refine Finset.sum_congr rfl fun k _ => ?_
  rw [block_0 m c t a k, block_1 m c t b k, h0]

/-- A middle point adds its block's part. -/
theorem acc_mid (t : Fin cfg0.N) (h0 : ¬t.val % 8 = 0) (h1 : ¬t.val % 8 = 7) (a : Fin 2048) (b : Fin 1024) :
    (outsAt0 m c t.val t.isLt).2 (ix2 a b) = (outsAt0 m c (t.val - 1) (Nat.lt_of_le_of_lt (Nat.sub_le _ _) t.isLt)).2 (ix2 a b) + part m c (t.val % 8) (t.val / 8) a.val b.val := by
  rw [outsAt0_B m c t h0 h1]
  dsimp only
  rw [mid_eq, step_apply]
  congr 1
  unfold part
  refine Finset.sum_congr rfl fun k _ => ?_
  rw [block_0 m c t a k, block_1 m c t b k]

/-- The last point writes what was there and its block's part. -/
theorem out_last (t : Fin cfg0.N) (h1 : t.val % 8 = 7) (a : Fin 2048) (b : Fin 1024) :
    (outsAt0 m c t.val t.isLt).1 (ix2 a b) = (outsAt0 m c (t.val - 1) (Nat.lt_of_le_of_lt (Nat.sub_le _ _) t.isLt)).2 (ix2 a b) + part m c (t.val % 8) (t.val / 8) a.val b.val := by
  rw [outsAt0_C m c t (by omega) h1]
  dsimp only
  rw [last_eq, step_apply]
  congr 1
  unfold part
  refine Finset.sum_congr rfl fun k _ => ?_
  rw [block_0 m c t a k, block_1 m c t b k]

/-- The accumulator after `s + 1` of block `i`'s points, the last excepted: the sum of their parts. -/
theorem acc_at (i : ℕ) (a : Fin 2048) (b : Fin 1024) : ∀ (s : ℕ) (_ : s < 7) (h : 8 * i + s < cfg0.N),
    (outsAt0 m c (8 * i + s) h).2 (ix2 a b) = ∑ j ∈ Finset.range (s + 1), part m c j i a.val b.val
  | 0, _, h => by
    have e := acc_first m c ⟨8 * i + 0, h⟩ (by dsimp only; omega) a b
    dsimp only at e
    rw [e, show (8 * i + 0) / 8 = i by omega, Finset.sum_range_succ, Finset.sum_range_zero, zero_add]
  | s + 1, hs, h => by
    have e := acc_mid m c ⟨8 * i + (s + 1), h⟩ (by dsimp only; omega) (by dsimp only; omega) a b
    dsimp only at e
    rw [show (8 * i + (s + 1)) / 8 = i by omega, show (8 * i + (s + 1)) % 8 = s + 1 by omega] at e
    rw [Finset.sum_range_succ]
    exact e.trans (congrArg (· + _) (acc_at i a b s (by omega) (by omega)))

/-- What the last of block `i`'s points writes. -/
theorem out_all (i : ℕ) (h : 8 * i + 7 < cfg0.N) (a : Fin 2048) (b : Fin 1024) :
    (outsAt0 m c (8 * i + 7) h).1 (ix2 a b) = ∑ j ∈ Finset.range 8, part m c j i a.val b.val := by
  have e := out_last m c ⟨8 * i + 7, h⟩ (by dsimp only; omega) a b
  dsimp only at e
  rw [show (8 * i + 7) / 8 = i by omega, show (8 * i + 7) % 8 = 7 by omega] at e
  rw [Finset.sum_range_succ]
  exact e.trans (congrArg (· + _) (acc_at m c i a b 6 (by omega) (by omega)))

/-- The result: the product over all columns. -/
theorem result (t : Fin 4096) (b : Fin 1024) : (G2 m c : S4096x1024.Idx → EReal) (ix2 t b)
    = ∑ k : Fin 6144, argC m c t.val k.val * argW m c b.val k.val := by
  have hp : pt2Of (ix2 t b) = 8 * (t.val / 2048) + 7 := by
    show 8 * (1 * (t.val / 2048 - 0) + 1 * (b.val / 1024 - 0)) + 7 = _
    rw [Nat.div_eq_of_lt b.isLt]; omega
  have hlt : 8 * (t.val / 2048) + 7 < cfg0.N := by rw [show cfg0.N = 2 * 8 from N_0]; omega
  have hl : loc2Of (ix2 t b) = ix2 ⟨t.val % 2048, Nat.mod_lt _ (by decide)⟩ b := by
    funext x
    apply Fin.ext
    match x with
    | ⟨0, _⟩ => rfl
    | ⟨1, _⟩ => exact Nat.mod_eq_of_lt b.isLt
  unfold G2
  rw [dif_pos (by rw [hp]; exact hlt), hl, ← outsAt0_sweep m c _ (by rw [hp]; exact hlt)]
  have e : ∀ n (hn : n < cfg0.N), n = 8 * (t.val / 2048) + 7 → (outsAt0 m c n hn).1 (ix2 ⟨t.val % 2048, Nat.mod_lt _ (by decide)⟩ b)
      = ∑ j ∈ Finset.range 8, part m c j (t.val / 2048) (t.val % 2048) b.val := by
    intro n hn hne
    subst hne
    exact out_all m c (t.val / 2048) hn ⟨t.val % 2048, Nat.mod_lt _ (by decide)⟩ b
  rw [e _ _ hp, sum_blocks (fun k => argC m c t.val k * argW m c b.val k) 768 8 6144 rfl]
  unfold part
  rw [Nat.div_add_mod]

end Cert.KvDxIdeal.Ffn

end
-- ==== Proof.Proj.KvDxEquation.lean ====
module

public import proofs.«01_k».proof.Defs
public import proofs.«01_k».proof.Proof.Proj.KvDx
public import proofs.«01_k».proof.Proof.Gen.KvDxRefIdeal.Run
public import proofs.«01_k».proof.Proof.Gen.KvDxRefIdeal.Read
public import Idealize.ShloMosaic.Lib.Quiescent

@[expose] public section

set_option maxRecDepth 16384

noncomputable section

/-! The gradient of the key and value projection's input: the call's blocked sum and the one product agree. -/

namespace Cert.KvDxRefIdeal.Ffn

open Idealize.ShloMosaic Idealize.ShloMosaic.TcCoe Idealize.SL.Sem
open Cert.KvDxRefIdeal Cert.KvDxRefIdeal.Gen Cert.KvDxRefIdeal.Read

theorem value (x0 : FVec Ideal S1024x6144 .f32) (x1 : FVec Ideal S4096x6144 .f32) (t : Fin 4096) (b : Fin 1024) :
    val_main_v2 (F := Ideal) x0 x1 (ix2 t b) = ∑ k : Fin 6144, x1 (ix2 t k) * x0 (ix2 b k) := by
  pointwise [val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v2_eq _ _), (h c).2⟩, sem_eq_zero_of_no_sems (by decide) r.2⟩)
    (Cert.KvDxRefIdeal.Value.run m ρ)

end Cert.KvDxRefIdeal.Ffn

namespace Cert.Proof

open Idealize.ShloMosaic Idealize.SL.Sem Idealize.ShloMosaic.TcCoe

theorem frame_KvDxRef : Cert.quiescent_KvDxRefIdeal (hKvDxRefIdeal := Cert.KvDxRefIdeal.Gen.facts) := fun m ρ _ =>
  (θ_run Cert.KvDxRefIdeal.defs _ _).mono (fun _ h => ⟨fun c => (h.1 c).2, h.2⟩) (Cert.KvDxRefIdeal.Ffn.run_main m ρ)

/-- Kernel and reference agree. -/
theorem equal_KvDx (m : (ℓ : Loc KvDxIdeal.nD KvDxIdeal.τ KvDxIdeal.sig) → Buf (Elt Ideal) ℓ) (c : Dev KvDxIdeal.nD) :
    (KvDxIdeal.Value.G2 m c : KvDxIdeal.S4096x1024.Idx → EReal)
      = KvDxRefIdeal.Read.val_main_v2 (F := Ideal) (m ((c.tc : Thread KvDxIdeal.nD KvDxIdeal.τ).loc KvDxIdeal.main_arg0)) (m ((c.tc : Thread KvDxIdeal.nD KvDxIdeal.τ).loc KvDxIdeal.main_arg1)) := by
  funext y
  obtain ⟨t, b, rfl⟩ : ∃ (t : Fin 4096) (b : Fin 1024), y = ix2 t b :=
    ⟨y 0, y 1, funext fun a => match a with | ⟨0, _⟩ => rfl | ⟨1, _⟩ => rfl⟩
  refine (KvDxIdeal.Ffn.result m c t b).trans ((KvDxRefIdeal.Ffn.value _ _ t b).trans ?_).symm
  refine Finset.sum_congr rfl fun k _ => ?_
  unfold KvDxIdeal.Ffn.argW KvDxIdeal.Ffn.argC
  rw [_root_.Ffn.mat_apply, _root_.Ffn.mat_apply]

/-- The blocked gradient of the key and value projection's input and the gradient of the plain product are equal over the extended reals. -/
theorem algebraic_KvDx : Cert.algebraic_KvDxIdeal_KvDxRefIdeal (hKvDxIdeal := Cert.KvDxIdeal.Gen.facts) (hKvDxRefIdeal := Cert.KvDxRefIdeal.Gen.facts) :=
  fun m g m' g' _ hargs =>
  ⟨fun c => KvDxIdeal.Value.G2 m c, KvDxIdeal.Value.run m g,
    (θ_run Cert.KvDxRefIdeal.defs _ _).mono (fun r h c => by
      obtain ⟨e0, e1⟩ := hargs c
      obtain ⟨r0, rest⟩ := h.1 c
      refine ⟨r0.trans ?_, rest⟩
      refine Eq.trans ?_ (equal_KvDx m c).symm
      rw [e0, e1]) (Cert.KvDxRefIdeal.Ffn.run_main m' g')⟩

end Cert.Proof

end
-- ==== Proof.Proj.KvDw.lean ====
module

public import proofs.«01_k».proof.Proof.Proj.Base
public import proofs.«01_k».proof.Proof.Gen.KvDwIdeal.Value
public import Idealize.ShloMosaic.Lib.Pipeline.ReadBack
public import Idealize.ShloMosaic.Lib.StableHlo.RunRead

@[expose] public section

set_option maxRecDepth 16384

noncomputable section

/-! The gradient of the key and value projection's weight, as the call computes it: two blocks of rows added into an accumulator. -/

namespace Cert.KvDwIdeal.Ffn

open Idealize.ShloMosaic Idealize.ShloMosaic.TcCoe Cert.KvDwIdeal Cert.KvDwIdeal.Gen Cert.KvDwIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S1x2048x768 .bf16) (harg4 : arg4.IsWhole)
  (arg5 : Memref sig .tc .vmem S1x1024x768 .bf16) (harg5 : arg5.IsWhole) (arg6 : Memref sig .tc .vmem S1024x768 .f32) (harg6 : arg6.IsWhole)
  (x0 : Vec Ideal S2048x1024 .bf16) (x1 : Vec Ideal S1x2048x768 .bf16) (acc : Vec Ideal S1024x768 .f32)

/-- What the first of the two points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S1024x768) hz2, View.readCov_unit_zero (S := S1024x768) _ hz2, View.ld_unit_zero (S := S2048x1024) hz2, View.ld_unit_zero (S := S1x2048x768) hz3]

/-- What the last of the two points writes to the result. -/
theorem last_eq (hc0 : ¬cond0_0 i) (hc1 : cond0_1 i) :
    out0_B_2 (F := Ideal) c i arg3 harg3 arg4 harg4 arg5 harg5 arg6 harg6 hc0 hc1 x0 x1 acc = k0_pay3 (k0_pay2 acc x0 x1) := by
  unfold out0_B_2
  rw [View.read_writes_eq_canon _ _ _ (cover0_B_2 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S1x1024x768) hz3, View.readCov_unit_zero (S := S1024x768) _ hz2, View.ld_unit_zero (S := S1024x768) hz2, View.ld_unit_zero (S := S2048x1024) hz2, View.ld_unit_zero (S := S1x2048x768) hz3]

theorem zero_apply (a : Fin 1024) (b : Fin 768) : (k0_pay1 (F := Ideal)) (ix2 a b) = 0 := by
  pointwise [k0_pay1]

theorem step_apply (a : Fin 1024) (b : Fin 768) : k0_pay2 acc x0 x1 (ix2 a b) = acc (ix2 a b) + ∑ k : Fin 2048, x0 (ix2 k a) * x1 (ix3 0 k b) := by
  pointwise [k0_pay2]

theorem cast_apply (a : Fin 1024) (b : Fin 768) : k0_pay3 acc (ix3 0 a b) = acc (ix2 a b) := by
  pointwise [k0_pay3]

end

variable (m : (ℓ : Loc nD τ sig) → Buf (Elt Ideal) ℓ) (c : Dev nD)

/-- The first argument, the projection's input. -/
def argH : ℕ → ℕ → EReal := mat (m ((c : Thread nD τ).loc main_arg0) : S4096x1024.Idx → EReal)
/-- The second argument, the cotangent. -/
def argC : ℕ → ℕ → EReal := mat (m ((c : Thread nD τ).loc main_arg1) : S4096x6144.Idx → EReal)

/-- The cotangent with a leading axis of length one. -/
abbrev flatOf (A : FVec Ideal S4096x6144 .f32) : FVec Ideal S1x4096x6144 .bf16 :=
  shapeCast S1x4096x6144 (truncf (F := Ideal) .bf16 A bitsLt_bf16_f32 : FVec Ideal S4096x6144 .bf16) shapeCasts_S4096x6144_S1x4096x6144

theorem flatOf_apply (A : FVec Ideal S4096x6144 .f32) (k : Fin 4096) (j : Fin 6144) : flatOf A (ix3 0 k j) = A (ix2 k j) := by
  pointwise [flatOf]

theorem host0 : V m c main_v0 = (truncf (F := Ideal) .bf16 (m ((c : Thread nD τ).loc main_arg0) : FVec Ideal S4096x1024 .f32) bitsLt_bf16_f32 : FVec Ideal S4096x1024 .bf16) := by
  after_reads_simp

theorem host2 : V m c main_v2 = flatOf (m ((c : Thread nD τ).loc main_arg1) : FVec Ideal S4096x6144 .f32) := by
  unfold flatOf
  after_reads_simp
  rfl

theorem index_0 : ∀ t : Fin cfg0.N, win0_0.index t 0 = t.val % 2 ∧ win0_0.index t 1 = 0 :=
  (by decide +kernel : ∀ t : Fin grid0.N, win0_0.index t 0 = t.val % 2 ∧ win0_0.index t 1 = 0)

theorem index_1 : ∀ t : Fin cfg0.N, win0_1.index t 0 = 0 ∧ win0_1.index t 1 = t.val % 2 ∧ win0_1.index t 2 = t.val / 2 :=
  (by decide +kernel : ∀ t : Fin grid0.N, win0_1.index t 0 = 0 ∧ win0_1.index t 1 = t.val % 2 ∧ win0_1.index t 2 = t.val / 2)

theorem block_0 (t : Fin cfg0.N) (k : Fin 2048) (a : Fin 1024) :
    (iblk m c 0 t : Vec Ideal S2048x1024 .bf16) (ix2 k a) = argH m c (2048 * (t.val % 2) + k.val) a.val := by
  have ht : t.val < 8 * 2 := lt_of_lt_of_eq t.isLt N_0
  unfold argH
  rw [mat_of _ _ _ (by omega) (by omega)]
  unfold iblk
  rw [View.read_apply]
  show V m c main_v0 _ = _
  rw [host0]
  show (m ((c : Thread nD τ).loc main_arg0) : S4096x1024.Idx → EReal) _ = (m ((c : Thread nD τ).loc main_arg0) : S4096x1024.Idx → EReal) _
  congr 1
  funext x
  apply Fin.ext
  match x with
  | ⟨0, _⟩ => show win0_0.index t 0 * 2048 + 1 * k.val = 2048 * (t.val % 2) + k.val; rw [(index_0 t).1]; omega
  | ⟨1, _⟩ => show win0_0.index t 1 * 1024 + 1 * a.val = a.val; rw [(index_0 t).2]; omega

theorem block_1 (t : Fin cfg0.N) (k : Fin 2048) (b : Fin 768) :
    (iblk m c 1 t : Vec Ideal S1x2048x768 .bf16) (ix3 0 k b) = argC m c (2048 * (t.val % 2) + k.val) (768 * (t.val / 2) + b.val) := by
  have ht : t.val < 8 * 2 := lt_of_lt_of_eq t.isLt N_0
  unfold argC
  rw [mat_of _ _ _ (by omega) (by omega)]
  unfold iblk
  rw [View.read_apply]
  show V m c main_v2 _ = _
  have e : (((cfg0.win 1).blk t).view.emb (ix3 0 k b) : S1x4096x6144.Idx) = ix3 0 ⟨2048 * (t.val % 2) + k.val, by omega⟩ ⟨768 * (t.val / 2) + b.val, by omega⟩ := by
    funext x
    apply Fin.ext
    match x with
    | ⟨0, _⟩ => show win0_1.index t 0 * 1 + 1 * 0 = 0; rw [(index_1 t).1]
    | ⟨1, _⟩ => show win0_1.index t 1 * 2048 + 1 * k.val = 2048 * (t.val % 2) + k.val; rw [(index_1 t).2.1]; omega
    | ⟨2, _⟩ => show win0_1.index t 2 * 768 + 1 * b.val = 768 * (t.val / 2) + b.val; rw [(index_1 t).2.2]; omega
  rw [host2]
  exact (congrArg _ e).trans (flatOf_apply _ _ _)

/-- One block of rows' part of the gradient. -/
def part (h p a b : ℕ) : EReal := ∑ k : Fin 2048, argH m c (2048 * h + k.val) a * argC m c (2048 * h + k.val) (768 * p + b)

/-- The accumulator after the first of a block's two points. -/
theorem acc_first (t : Fin cfg0.N) (h0 : t.val % 2 = 0) (a : Fin 1024) (b : Fin 768) :
    (outsAt0 m c t.val t.isLt).2 (ix2 a b) = part m c 0 (t.val / 2) a.val b.val := by
  rw [outsAt0_A m c t h0 (by omega)]
  dsimp only
  rw [first_eq, step_apply, zero_apply, zero_add]
  unfold part
  refine Finset.sum_congr rfl fun k _ => ?_
  rw [block_0 m c t k a, block_1 m c t k b, h0]

/-- What the last of a block's two points writes. -/
theorem out_last (t : Fin cfg0.N) (h1 : t.val % 2 = 1) (a : Fin 1024) (b : Fin 768) :
    (outsAt0 m c t.val t.isLt).1 (ix3 0 a b) = part m c 0 (t.val / 2) a.val b.val + part m c 1 (t.val / 2) a.val b.val := by
  rw [outsAt0_B m c t (by omega) h1]
  dsimp only
  rw [last_eq, cast_apply, step_apply]
  have e := acc_first m c ⟨t.val - 1, Nat.lt_of_le_of_lt (Nat.sub_le _ _) t.isLt⟩ (by dsimp only; omega) a b
  dsimp only at e
  rw [e, show (t.val - 1) / 2 = t.val / 2 by omega]
  congr 1
  unfold part
  refine Finset.sum_congr rfl fun k _ => ?_
  rw [block_0 m c t k a, block_1 m c t k b, h1]

/-- The result: the product over all rows, its columns in four blocks. -/
theorem result (s : Fin 4) (a : Fin 1024) (b : Fin 1536) : (G2 m c : S4x1024x1536.Idx → EReal) (ix3 s a b)
    = ∑ k : Fin 4096, argH m c k.val a.val * argC m c k.val (1536 * s.val + b.val) := by
  have hp : pt2Of (ix3 s a b) = 2 * (2 * s.val + b.val / 768) + 1 := by
    show 2 * (2 * (s.val / 1 - 0) + 2 * (a.val / 1024 - 0) + 1 * (b.val / 768 - 0)) + 1 = _
    rw [Nat.div_eq_of_lt a.isLt, Nat.div_one]; omega
  have hlt : 2 * (2 * s.val + b.val / 768) + 1 < cfg0.N := by rw [show cfg0.N = 8 * 2 from N_0]; omega
  have hl : loc2Of (ix3 s a b) = ix3 0 a ⟨b.val % 768, Nat.mod_lt _ (by decide)⟩ := by
    funext x
    apply Fin.ext
    match x with
    | ⟨0, _⟩ => exact Nat.mod_one _
    | ⟨1, _⟩ => exact Nat.mod_eq_of_lt a.isLt
    | ⟨2, _⟩ => rfl
  unfold G2
  rw [dif_pos (by rw [hp]; exact hlt), hl, ← outsAt0_sweep m c _ (by rw [hp]; exact hlt)]
  have e : ∀ n (hn : n < cfg0.N), n = 2 * (2 * s.val + b.val / 768) + 1 → (outsAt0 m c n hn).1 (ix3 0 a ⟨b.val % 768, Nat.mod_lt _ (by decide)⟩)
      = part m c 0 (2 * s.val + b.val / 768) a.val (b.val % 768) + part m c 1 (2 * s.val + b.val / 768) a.val (b.val % 768) := by
    intro n hn hne
    have := out_last m c ⟨n, hn⟩ (by dsimp only; omega) a ⟨b.val % 768, Nat.mod_lt _ (by decide)⟩
    dsimp only at this
    rw [this, show n / 2 = 2 * s.val + b.val / 768 by omega]
  rw [e _ _ hp, sum_halves (fun k => argH m c k a.val * argC m c k (1536 * s.val + b.val))]
  unfold part
  rw [show 768 * (2 * s.val + b.val / 768) + b.val % 768 = 1536 * s.val + b.val by omega]

end Cert.KvDwIdeal.Ffn

end
-- ==== Proof.Proj.KvDwEquation.lean ====
module

public import proofs.«01_k».proof.Defs
public import proofs.«01_k».proof.Proof.Proj.KvDw
public import proofs.«01_k».proof.Proof.Gen.KvDwRefIdeal.Run
public import proofs.«01_k».proof.Proof.Gen.KvDwRefIdeal.Read
public import Idealize.ShloMosaic.Lib.Quiescent

@[expose] public section

set_option maxRecDepth 16384

noncomputable section

/-! The gradient of the key and value projection's weight: the call's blocked sum and the one product agree. -/

namespace Cert.KvDwRefIdeal.Ffn

open Idealize.ShloMosaic Idealize.ShloMosaic.TcCoe Idealize.SL.Sem
open Cert.KvDwRefIdeal Cert.KvDwRefIdeal.Gen Cert.KvDwRefIdeal.Read

/-- The gradient before its columns are cut into four. -/
theorem whole (x0 : FVec Ideal S4096x1024 .f32) (x1 : FVec Ideal S4096x6144 .f32) (a : Fin 1024) (j : Fin 6144) :
    val_main_v4 (F := Ideal) x0 x1 (ix2 a j) = ∑ k : Fin 4096, x1 (ix2 k j) * x0 (ix2 k a) := by
  pointwise [val_main_v4, val_main_v3, val_main_v2]

theorem cut (x0 : FVec Ideal S4096x1024 .f32) (x1 : FVec Ideal S4096x6144 .f32) (s : Fin 4) (a : Fin 1024) (b : Fin 1536) :
    val_main_v13 (F := Ideal) x0 x1 (ix3 s a b) = if _h : s.val < 1 then val_main_v4 (F := Ideal) x0 x1 (ix2 a ⟨b.val, by omega⟩)
      else if _h : s.val - 1 < 1 then val_main_v4 (F := Ideal) x0 x1 (ix2 a ⟨1536 + b.val, by omega⟩)
      else if _h : s.val - 1 - 1 < 1 then val_main_v4 (F := Ideal) x0 x1 (ix2 a ⟨3072 + b.val, by omega⟩)
      else val_main_v4 (F := Ideal) x0 x1 (ix2 a ⟨4608 + b.val, by omega⟩) := by
  unfold val_main_v13 val_main_v12 val_main_v11 val_main_v10 val_main_v9 val_main_v8 val_main_v7 val_main_v6 val_main_v5
  generalize val_main_v4 (F := Ideal) x0 x1 = A
  pointwise

theorem value (x0 : FVec Ideal S4096x1024 .f32) (x1 : FVec Ideal S4096x6144 .f32) (s : Fin 4) (a : Fin 1024) (b : Fin 1536) :
    val_main_v13 (F := Ideal) x0 x1 (ix3 s a b) = ∑ k : Fin 4096, x1 (ix2 k ⟨1536 * s.val + b.val, by omega⟩) * x0 (ix2 k a) := by
  rw [cut, ← whole]
  by_cases h0 : s.val < 1
  · rw [dif_pos h0]; exact congrArg (fun j => val_main_v4 (F := Ideal) x0 x1 (ix2 a j)) (Fin.ext (by dsimp only; omega))
  rw [dif_neg h0]
  by_cases h1 : s.val - 1 < 1
  · rw [dif_pos h1]; exact congrArg (fun j => val_main_v4 (F := Ideal) x0 x1 (ix2 a j)) (Fin.ext (by dsimp only; omega))
  rw [dif_neg h1]
  by_cases h2 : s.val - 1 - 1 < 1
  · rw [dif_pos h2]; exact congrArg (fun j => val_main_v4 (F := Ideal) x0 x1 (ix2 a j)) (Fin.ext (by dsimp only; omega))
  rw [dif_neg h2]
  exact congrArg (fun j => val_main_v4 (F := Ideal) x0 x1 (ix2 a j)) (Fin.ext (by dsimp only; omega))

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v13) = val_main_v13 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v13_eq _ _), (h c).2⟩, sem_eq_zero_of_no_sems (by decide) r.2⟩)
    (Cert.KvDwRefIdeal.Value.run m ρ)

end Cert.KvDwRefIdeal.Ffn

namespace Cert.Proof

open Idealize.ShloMosaic Idealize.SL.Sem Idealize.ShloMosaic.TcCoe

theorem frame_KvDwRef : Cert.quiescent_KvDwRefIdeal (hKvDwRefIdeal := Cert.KvDwRefIdeal.Gen.facts) := fun m ρ _ =>
  (θ_run Cert.KvDwRefIdeal.defs _ _).mono (fun _ h => ⟨fun c => (h.1 c).2, h.2⟩) (Cert.KvDwRefIdeal.Ffn.run_main m ρ)

/-- Kernel and reference agree. -/
theorem equal_KvDw (m : (ℓ : Loc KvDwIdeal.nD KvDwIdeal.τ KvDwIdeal.sig) → Buf (Elt Ideal) ℓ) (c : Dev KvDwIdeal.nD) :
    (KvDwIdeal.Value.G2 m c : KvDwIdeal.S4x1024x1536.Idx → EReal)
      = KvDwRefIdeal.Read.val_main_v13 (F := Ideal) (m ((c.tc : Thread KvDwIdeal.nD KvDwIdeal.τ).loc KvDwIdeal.main_arg0)) (m ((c.tc : Thread KvDwIdeal.nD KvDwIdeal.τ).loc KvDwIdeal.main_arg1)) := by
  funext y
  obtain ⟨s, a, b, rfl⟩ : ∃ (s : Fin 4) (a : Fin 1024) (b : Fin 1536), y = ix3 s a b :=
    ⟨y 0, y 1, y 2, funext fun a => match a with | ⟨0, _⟩ => rfl | ⟨1, _⟩ => rfl | ⟨2, _⟩ => rfl⟩
  refine (KvDwIdeal.Ffn.result m c s a b).trans ((KvDwRefIdeal.Ffn.value _ _ s a b).trans ?_).symm
  refine Finset.sum_congr rfl fun k _ => ?_
  unfold KvDwIdeal.Ffn.argH KvDwIdeal.Ffn.argC
  rw [_root_.Ffn.mat_apply, _root_.Ffn.mat_of _ _ _ k.isLt (by omega), mul_comm]

/-- The blocked gradient of the key and value projection's weight and the gradient of the plain product are equal over the extended reals. -/
theorem algebraic_KvDw : Cert.algebraic_KvDwIdeal_KvDwRefIdeal (hKvDwIdeal := Cert.KvDwIdeal.Gen.facts) (hKvDwRefIdeal := Cert.KvDwRefIdeal.Gen.facts) :=
  fun m g m' g' _ hargs =>
  ⟨fun c => KvDwIdeal.Value.G2 m c, KvDwIdeal.Value.run m g,
    (θ_run Cert.KvDwRefIdeal.defs _ _).mono (fun r h c => by
      obtain ⟨e0, e1⟩ := hargs c
      obtain ⟨r0, rest⟩ := h.1 c
      refine ⟨r0.trans ?_, rest⟩
      refine Eq.trans ?_ (equal_KvDw m c).symm
      rw [e0, e1]) (Cert.KvDwRefIdeal.Ffn.run_main m' g')⟩

end Cert.Proof

end
-- ==== Proof.Proj.ProjDw.lean ====
module

public import proofs.«01_k».proof.Proof.Proj.Base
public import proofs.«01_k».proof.Proof.Gen.ProjDwIdeal.Value
public import Idealize.ShloMosaic.Lib.Pipeline.ReadBack
public import Idealize.ShloMosaic.Lib.StableHlo.RunRead

@[expose] public section

set_option maxRecDepth 16384

noncomputable section

/-! The gradient of a square projection's weight, as the call computes it: two blocks of rows added into an accumulator. -/

namespace Cert.ProjDwIdeal.Ffn

open Idealize.ShloMosaic Idealize.ShloMosaic.TcCoe Cert.ProjDwIdeal Cert.ProjDwIdeal.Gen Cert.ProjDwIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S1x2048x1024 .bf16) (harg4 : arg4.IsWhole)
  (arg5 : Memref sig .tc .vmem S1x1024x1024 .bf16) (harg5 : arg5.IsWhole) (arg6 : Memref sig .tc .vmem S1024x1024 .f32) (harg6 : arg6.IsWhole)
  (x0 : Vec Ideal S2048x1024 .bf16) (x1 : Vec Ideal S1x2048x1024 .bf16) (acc : Vec Ideal S1024x1024 .f32)

/-- What the first of the two points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S1024x1024) hz2, View.readCov_unit_zero (S := S1024x1024) _ hz2, View.ld_unit_zero (S := S2048x1024) hz2, View.ld_unit_zero (S := S1x2048x1024) hz3]

/-- What the last of the two points writes to the result. -/
theorem last_eq (hc0 : ¬cond0_0 i) (hc1 : cond0_1 i) :
    out0_B_2 (F := Ideal) c i arg3 harg3 arg4 harg4 arg5 harg5 arg6 harg6 hc0 hc1 x0 x1 acc = k0_pay3 (k0_pay2 acc x0 x1) := by
  unfold out0_B_2
  rw [View.read_writes_eq_canon _ _ _ (cover0_B_2 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S1x1024x1024) hz3, View.readCov_unit_zero (S := S1024x1024) _ hz2, View.ld_unit_zero (S := S1024x1024) hz2, View.ld_unit_zero (S := S2048x1024) hz2, View.ld_unit_zero (S := S1x2048x1024) hz3]

theorem zero_apply (a : Fin 1024) (b : Fin 1024) : (k0_pay1 (F := Ideal)) (ix2 a b) = 0 := by
  pointwise [k0_pay1]

theorem step_apply (a : Fin 1024) (b : Fin 1024) : k0_pay2 acc x0 x1 (ix2 a b) = acc (ix2 a b) + ∑ k : Fin 2048, x0 (ix2 k a) * x1 (ix3 0 k b) := by
  pointwise [k0_pay2]

theorem cast_apply (a : Fin 1024) (b : Fin 1024) : k0_pay3 acc (ix3 0 a b) = acc (ix2 a b) := by
  pointwise [k0_pay3]

end

variable (m : (ℓ : Loc nD τ sig) → Buf (Elt Ideal) ℓ) (c : Dev nD)

/-- The first argument, the projection's input. -/
def argG : ℕ → ℕ → EReal := mat (m ((c : Thread nD τ).loc main_arg0) : S4096x1024.Idx → EReal)
/-- The second argument, the cotangent. -/
def argC : ℕ → ℕ → EReal := mat (m ((c : Thread nD τ).loc main_arg1) : S4096x1024.Idx → EReal)

theorem host0 : V m c main_v0 = (truncf (F := Ideal) .bf16 (m ((c : Thread nD τ).loc main_arg0) : FVec Ideal S4096x1024 .f32) bitsLt_bf16_f32 : FVec Ideal S4096x1024 .bf16) := by
  after_reads_simp

theorem host2 : V m c main_v2 = (shapeCast S1x4096x1024 (truncf (F := Ideal) .bf16 (m ((c : Thread nD τ).loc main_arg1) : FVec Ideal S4096x1024 .f32) bitsLt_bf16_f32 : FVec Ideal S4096x1024 .bf16) shapeCasts_S4096x1024_S1x4096x1024 : FVec Ideal S1x4096x1024 .bf16) := by
  after_reads_simp
  rfl

theorem index_0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)

theorem index_1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)

theorem block_0 (t : Fin cfg0.N) (k : Fin 2048) (a : Fin 1024) :
    (iblk m c 0 t : Vec Ideal S2048x1024 .bf16) (ix2 k a) = argG m c (2048 * (t.val % 2) + k.val) (1024 * (t.val / 2) + a.val) := by
  have ht : t.val < 2 := lt_of_lt_of_eq t.isLt N_0
  unfold argG
  rw [mat_of _ _ _ (by omega) (by omega)]
  unfold iblk
  rw [View.read_apply]
  show V m c main_v0 _ = _
  rw [host0]
  show (m ((c : Thread nD τ).loc main_arg0) : S4096x1024.Idx → EReal) _ = (m ((c : Thread nD τ).loc main_arg0) : S4096x1024.Idx → EReal) _
  congr 1
  funext x
  apply Fin.ext
  match x with
  | ⟨0, _⟩ => show win0_0.index t 0 * 2048 + 1 * k.val = 2048 * (t.val % 2) + k.val; rw [(index_0 t).1]; omega
  | ⟨1, _⟩ => show win0_0.index t 1 * 1024 + 1 * a.val = 1024 * (t.val / 2) + a.val; rw [(index_0 t).2]; omega

theorem flat_apply (A : FVec Ideal S4096x1024 .bf16) (k : Fin 4096) (b : Fin 1024) :
    shapeCast S1x4096x1024 A shapeCasts_S4096x1024_S1x4096x1024 (ix3 0 k b) = A (ix2 k b) := by
  pointwise

theorem block_1 (t : Fin cfg0.N) (k : Fin 2048) (b : Fin 1024) :
    (iblk m c 1 t : Vec Ideal S1x2048x1024 .bf16) (ix3 0 k b) = argC m c (2048 * (t.val % 2) + k.val) b.val := by
  have ht : t.val < 2 := lt_of_lt_of_eq t.isLt N_0
  unfold argC
  rw [mat_of _ _ _ (by omega) (by omega)]
  unfold iblk
  rw [View.read_apply]
  show V m c main_v2 _ = _
  have e : (((cfg0.win 1).blk t).view.emb (ix3 0 k b) : S1x4096x1024.Idx) = ix3 0 ⟨2048 * (t.val % 2) + k.val, by omega⟩ b := by
    funext x
    apply Fin.ext
    match x with
    | ⟨0, _⟩ => show win0_1.index t 0 * 1 + 1 * 0 = 0; rw [(index_1 t).1]
    | ⟨1, _⟩ => show win0_1.index t 1 * 2048 + 1 * k.val = 2048 * (t.val % 2) + k.val; rw [(index_1 t).2.1]; omega
    | ⟨2, _⟩ => show win0_1.index t 2 * 1024 + 1 * b.val = b.val; rw [(index_1 t).2.2]; omega
  rw [host2]
  exact (congrArg _ e).trans (flat_apply _ _ _)

/-- One block of rows' part of the gradient. -/
def part (h p a b : ℕ) : EReal := ∑ k : Fin 2048, argG m c (2048 * h + k.val) (1024 * p + a) * argC m c (2048 * h + k.val) b

/-- The accumulator after the first of a block's two points. -/
theorem acc_first (t : Fin cfg0.N) (h0 : t.val % 2 = 0) (a : Fin 1024) (b : Fin 1024) :
    (outsAt0 m c t.val t.isLt).2 (ix2 a b) = part m c 0 (t.val / 2) a.val b.val := by
  rw [outsAt0_A m c t h0 (by omega)]
  dsimp only
  rw [first_eq, step_apply, zero_apply, zero_add]
  unfold part
  refine Finset.sum_congr rfl fun k _ => ?_
  rw [block_0 m c t k a, block_1 m c t k b, h0]

/-- What the last of a block's two points writes. -/
theorem out_last (t : Fin cfg0.N) (h1 : t.val % 2 = 1) (a : Fin 1024) (b : Fin 1024) :
    (outsAt0 m c t.val t.isLt).1 (ix3 0 a b) = part m c 0 (t.val / 2) a.val b.val + part m c 1 (t.val / 2) a.val b.val := by
  rw [outsAt0_B m c t (by omega) h1]
  dsimp only
  rw [last_eq, cast_apply, step_apply]
  have e := acc_first m c ⟨t.val - 1, Nat.lt_of_le_of_lt (Nat.sub_le _ _) t.isLt⟩ (by dsimp only; omega) a b
  dsimp only at e
  rw [e, show (t.val - 1) / 2 = t.val / 2 by omega]
  congr 1
  unfold part
  refine Finset.sum_congr rfl fun k _ => ?_
  rw [block_0 m c t k a, block_1 m c t k b, h1]

/-- The result: the product over all rows. -/
theorem result (f : Fin 1024) (b : Fin 1024) : (G2 m c : S1x1024x1024.Idx → EReal) (ix3 0 f b)
    = ∑ k : Fin 4096, argG m c k.val f.val * argC m c k.val b.val := by
  have hp : pt2Of (ix3 0 f b) = 2 * (f.val / 1024) + 1 := by
    show 2 * (1 * ((0 : ℕ) / 1 - 0) + 1 * (f.val / 1024 - 0) + 1 * (b.val / 1024 - 0)) + 1 = _
    rw [Nat.div_eq_of_lt b.isLt]; omega
  have hlt : 2 * (f.val / 1024) + 1 < cfg0.N := by rw [show cfg0.N = 2 from N_0]; omega
  have hl : loc2Of (ix3 0 f b) = ix3 0 ⟨f.val % 1024, Nat.mod_lt _ (by decide)⟩ b := by
    funext x
    apply Fin.ext
    match x with
    | ⟨0, _⟩ => rfl
    | ⟨1, _⟩ => rfl
    | ⟨2, _⟩ => exact Nat.mod_eq_of_lt b.isLt
  unfold G2
  rw [dif_pos (by rw [hp]; exact hlt), hl, ← outsAt0_sweep m c _ (by rw [hp]; exact hlt)]
  have e : ∀ n (hn : n < cfg0.N), n = 2 * (f.val / 1024) + 1 → (outsAt0 m c n hn).1 (ix3 0 ⟨f.val % 1024, Nat.mod_lt _ (by decide)⟩ b)
      = part m c 0 (f.val / 1024) (f.val % 1024) b.val + part m c 1 (f.val / 1024) (f.val % 1024) b.val := by
    intro n hn hne
    have := out_last m c ⟨n, hn⟩ (by dsimp only; omega) ⟨f.val % 1024, Nat.mod_lt _ (by decide)⟩ b
    dsimp only at this
    rw [this, show n / 2 = f.val / 1024 by omega]
  rw [e _ _ hp, sum_halves (fun k => argG m c k f.val * argC m c k b.val)]
  unfold part
  rw [Nat.div_add_mod]

end Cert.ProjDwIdeal.Ffn

end
-- ==== Proof.Proj.ProjDwEquation.lean ====
module

public import proofs.«01_k».proof.Defs
public import proofs.«01_k».proof.Proof.Proj.ProjDw
public import proofs.«01_k».proof.Proof.Gen.ProjDwRefIdeal.Run
public import proofs.«01_k».proof.Proof.Gen.ProjDwRefIdeal.Read
public import Idealize.ShloMosaic.Lib.Quiescent

@[expose] public section

set_option maxRecDepth 16384

noncomputable section

/-! The gradient of a square projection's weight: the call's blocked sum and the one product agree. -/

namespace Cert.ProjDwRefIdeal.Ffn

open Idealize.ShloMosaic Idealize.ShloMosaic.TcCoe Idealize.SL.Sem
open Cert.ProjDwRefIdeal Cert.ProjDwRefIdeal.Gen Cert.ProjDwRefIdeal.Read

theorem value (x0 : FVec Ideal S4096x1024 .f32) (x1 : FVec Ideal S4096x1024 .f32) (f : Fin 1024) (b : Fin 1024) :
    val_main_v5 (F := Ideal) x0 x1 (ix3 0 f b) = ∑ k : Fin 4096, x1 (ix2 k b) * x0 (ix2 k f) := by
  pointwise [val_main_v5, val_main_v4, val_main_v3, val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v5_eq _ _), (h c).2⟩, sem_eq_zero_of_no_sems (by decide) r.2⟩)
    (Cert.ProjDwRefIdeal.Value.run m ρ)

end Cert.ProjDwRefIdeal.Ffn

namespace Cert.Proof

open Idealize.ShloMosaic Idealize.SL.Sem Idealize.ShloMosaic.TcCoe

theorem frame_ProjDwRef : Cert.quiescent_ProjDwRefIdeal (hProjDwRefIdeal := Cert.ProjDwRefIdeal.Gen.facts) := fun m ρ _ =>
  (θ_run Cert.ProjDwRefIdeal.defs _ _).mono (fun _ h => ⟨fun c => (h.1 c).2, h.2⟩) (Cert.ProjDwRefIdeal.Ffn.run_main m ρ)

/-- Kernel and reference agree. -/
theorem equal_ProjDw (m : (ℓ : Loc ProjDwIdeal.nD ProjDwIdeal.τ ProjDwIdeal.sig) → Buf (Elt Ideal) ℓ) (c : Dev ProjDwIdeal.nD) :
    (ProjDwIdeal.Value.G2 m c : ProjDwIdeal.S1x1024x1024.Idx → EReal)
      = ProjDwRefIdeal.Read.val_main_v5 (F := Ideal) (m ((c.tc : Thread ProjDwIdeal.nD ProjDwIdeal.τ).loc ProjDwIdeal.main_arg0)) (m ((c.tc : Thread ProjDwIdeal.nD ProjDwIdeal.τ).loc ProjDwIdeal.main_arg1)) := by
  funext y
  obtain ⟨f, b, rfl⟩ : ∃ (f : Fin 1024) (b : Fin 1024), y = ix3 0 f b :=
    ⟨y 1, y 2, funext fun a => match a with | ⟨0, _⟩ => Subsingleton.elim (α := Fin 1) _ _ | ⟨1, _⟩ => rfl | ⟨2, _⟩ => rfl⟩
  refine (ProjDwIdeal.Ffn.result m c f b).trans ((ProjDwRefIdeal.Ffn.value _ _ f b).trans ?_).symm
  refine Finset.sum_congr rfl fun k _ => ?_
  unfold ProjDwIdeal.Ffn.argG ProjDwIdeal.Ffn.argC
  rw [_root_.Ffn.mat_apply, _root_.Ffn.mat_apply, mul_comm]

/-- The blocked gradient of a square projection's weight and the gradient of the plain product are equal over the extended reals. -/
theorem algebraic_ProjDw : Cert.algebraic_ProjDwIdeal_ProjDwRefIdeal (hProjDwIdeal := Cert.ProjDwIdeal.Gen.facts) (hProjDwRefIdeal := Cert.ProjDwRefIdeal.Gen.facts) :=
  fun m g m' g' _ hargs =>
  ⟨fun c => ProjDwIdeal.Value.G2 m c, ProjDwIdeal.Value.run m g,
    (θ_run Cert.ProjDwRefIdeal.defs _ _).mono (fun r h c => by
      obtain ⟨e0, e1⟩ := hargs c
      obtain ⟨r0, rest⟩ := h.1 c
      refine ⟨r0.trans ?_, rest⟩
      refine Eq.trans ?_ (equal_ProjDw m c).symm
      rw [e0, e1]) (Cert.ProjDwRefIdeal.Ffn.run_main m' g')⟩

end Cert.Proof

end
-- ==== Proof.Proj.PoolDx.lean ====
module

public import proofs.«01_k».proof.Proof.Proj.Base
public import proofs.«01_k».proof.Proof.Gen.PoolDxIdeal.Value
public import Idealize.ShloMosaic.Lib.Pipeline.ReadBack
public import Idealize.ShloMosaic.Lib.StableHlo.RunRead

@[expose] public section

set_option maxRecDepth 16384

noncomputable section

/-! The gradient of the pooling's projection's input, as the call computes it: one product for each block of the result. -/

namespace Cert.PoolDxIdeal.Ffn

open Idealize.ShloMosaic Idealize.ShloMosaic.TcCoe Cert.PoolDxIdeal Cert.PoolDxIdeal.Gen Cert.PoolDxIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x2048x1024 .bf16) (harg3 : arg3.IsWhole) (arg4 : Memref sig .tc .vmem S1x512x1024 .bf16) (harg4 : arg4.IsWhole)
  (arg5 : Memref sig .tc .vmem S2048x512 .f32) (harg5 : arg5.IsWhole) (arg6 : Memref sig .tc .vmem S2048x512 .f32) (harg6 : arg6.IsWhole)
  (x0 : Vec Ideal S1x2048x1024 .bf16) (x1 : Vec Ideal S1x512x1024 .bf16) (acc : Vec Ideal S2048x512 .f32)

/-- What a point writes to the result. -/
theorem out_eq (hc0 : cond0_0 i) (hc1 : cond0_1 i) :
    out0_A_2 (F := Ideal) c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_unit_zero (S := S2048x512) hz2, View.readCov_cons_toLoadRect, View.ld_unit_zero (S := S1x2048x1024) hz3, View.ld_unit_zero (S := S1x512x1024) hz3]

theorem zero_apply (a : Fin 2048) (b : Fin 512) : (k0_pay1 (F := Ideal)) (ix2 a b) = 0 := by
  pointwise [k0_pay1]

theorem step_apply (a : Fin 2048) (b : Fin 512) : k0_pay2 acc x0 x1 (ix2 a b) = acc (ix2 a b) + ∑ k : Fin 1024, x0 (ix3 0 a k) * x1 (ix3 0 b k) := by
  pointwise [k0_pay2]
end

variable (m : (ℓ : Loc nD τ sig) → Buf (Elt Ideal) ℓ) (c : Dev nD)

/-- The first argument, the weight. -/
def argW : ℕ → ℕ → EReal := mat (m ((c : Thread nD τ).loc main_arg0) : S1024x1024.Idx → EReal)
/-- The second argument, the cotangent. -/
def argC : ℕ → ℕ → EReal := mat (m ((c : Thread nD τ).loc main_arg1) : S4096x1024.Idx → EReal)

/-- The cotangent with a leading axis of length one. -/
abbrev flatOf (A : FVec Ideal S4096x1024 .f32) : FVec Ideal S1x4096x1024 .bf16 :=
  shapeCast S1x4096x1024 (truncf (F := Ideal) .bf16 A bitsLt_bf16_f32 : FVec Ideal S4096x1024 .bf16) shapeCasts_S4096x1024_S1x4096x1024

theorem flatOf_apply (A : FVec Ideal S4096x1024 .f32) (k : Fin 4096) (j : Fin 1024) : flatOf A (ix3 0 k j) = A (ix2 k j) := by
  pointwise [flatOf]

/-- The weight with a leading axis of length one. -/
abbrev weightOf (A : FVec Ideal S1024x1024 .f32) : FVec Ideal S1x1024x1024 .bf16 :=
  shapeCast S1x1024x1024 (truncf (F := Ideal) .bf16 A bitsLt_bf16_f32 : FVec Ideal S1024x1024 .bf16) shapeCasts_S1024x1024_S1x1024x1024

theorem weightOf_apply (A : FVec Ideal S1024x1024 .f32) (k : Fin 1024) (j : Fin 1024) : weightOf A (ix3 0 k j) = A (ix2 k j) := by
  pointwise [weightOf]

theorem host1 : V m c main_v1 = flatOf (m ((c : Thread nD τ).loc main_arg1) : FVec Ideal S4096x1024 .f32) := by
  unfold flatOf
  after_reads_simp
  rfl

theorem host3 : V m c main_v3 = weightOf (m ((c : Thread nD τ).loc main_arg0) : FVec Ideal S1024x1024 .f32) := by
  unfold weightOf
  after_reads_simp
  rfl

theorem index_0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)

theorem index_1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)

theorem index_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem block_0 (t : Fin cfg0.N) (a : Fin 2048) (k : Fin 1024) :
    (iblk m c 0 t : Vec Ideal S1x2048x1024 .bf16) (ix3 0 a k) = argC m c (2048 * (t.val / 2) + a.val) k.val := by
  have ht : t.val < 4 := lt_of_lt_of_eq t.isLt N_0
  unfold argC
  rw [mat_of _ _ _ (by omega) (by omega)]
  unfold iblk
  rw [View.read_apply]
  show V m c main_v1 _ = _
  have e : (((cfg0.win 0).blk t).view.emb (ix3 0 a k) : S1x4096x1024.Idx) = ix3 0 ⟨2048 * (t.val / 2) + a.val, by omega⟩ k := by
    funext x
    apply Fin.ext
    match x with
    | ⟨0, _⟩ => show win0_0.index t 0 * 1 + 1 * 0 = 0; rw [(index_0 t).1]
    | ⟨1, _⟩ => show win0_0.index t 1 * 2048 + 1 * a.val = 2048 * (t.val / 2) + a.val; rw [(index_0 t).2.1]; omega
    | ⟨2, _⟩ => show win0_0.index t 2 * 1024 + 1 * k.val = k.val; rw [(index_0 t).2.2]; omega
  rw [host1]
  exact (congrArg _ e).trans (flatOf_apply _ _ _)

theorem block_1 (t : Fin cfg0.N) (b : Fin 512) (k : Fin 1024) :
    (iblk m c 1 t : Vec Ideal S1x512x1024 .bf16) (ix3 0 b k) = argW m c (512 * (t.val % 2) + b.val) k.val := by
  have ht : t.val < 4 := lt_of_lt_of_eq t.isLt N_0
  unfold argW
  rw [mat_of _ _ _ (by omega) (by omega)]
  unfold iblk
  rw [View.read_apply]
  show V m c main_v3 _ = _
  have e : (((cfg0.win 1).blk t).view.emb (ix3 0 b k) : S1x1024x1024.Idx) = ix3 0 ⟨512 * (t.val % 2) + b.val, by omega⟩ k := by
    funext x
    apply Fin.ext
    match x with
    | ⟨0, _⟩ => show win0_1.index t 0 * 1 + 1 * 0 = 0; rw [(index_1 t).1]
    | ⟨1, _⟩ => show win0_1.index t 1 * 512 + 1 * b.val = 512 * (t.val % 2) + b.val; rw [(index_1 t).2.1]; omega
    | ⟨2, _⟩ => show win0_1.index t 2 * 1024 + 1 * k.val = k.val; rw [(index_1 t).2.2]; omega
  rw [host3]
  exact (congrArg _ e).trans (weightOf_apply _ _ _)

/-- The product's element at row `a` and column `b`. -/
def prod (a b : ℕ) : EReal := ∑ k : Fin 1024, argC m c a k.val * argW m c b k.val

theorem point_apply (t : Fin cfg0.N) (a : Fin 2048) (b : Fin 512) :
    outsAt0 m c t (ix2 a b) = prod m c (2048 * (t.val / 2) + a.val) (512 * (t.val % 2) + b.val) := by
  unfold outsAt0
  rw [out_eq, step_apply, zero_apply, zero_add]
  unfold prod
  refine Finset.sum_congr rfl fun k _ => ?_
  rw [block_0 m c t a k, block_1 m c t b k]

theorem cover_2 (y : S4096x1024.Idx) :
    ∃ t : Fin cfg0.N, (cfg0.win 2).flush t = true ∧ y ∈ ((cfg0.win 2).blk t).view.set := by
  have h0 : (y 0 : Nat) < 4096 := (y 0).isLt
  have h1 : (y 1 : Nat) < 1024 := (y 1).isLt
  have hN : cfg0.N = 4 := N_0
  obtain ⟨t, ht⟩ : ∃ t : Fin cfg0.N, t.val = 2 * ((y 0).val / 2048) + (y 1).val / 512 := ⟨⟨2 * ((y 0).val / 2048) + (y 1).val / 512, by omega⟩, rfl⟩
  refine ⟨t, flush0_2 _, ?_⟩
  show y ∈ ((View.whole main_v4).slice (win0_2.rect t)).set
  rw [View.set_slice_whole, Rect.mem_set_unit]
  intro a
  match a with
  | ⟨0, _⟩ =>
    show win0_2.index t 0 * 2048 ≤ (y 0 : Nat) ∧ (y 0 : Nat) < win0_2.index t 0 * 2048 + 2048
    rw [(index_2 t).1]
    omega
  | ⟨1, _⟩ =>
    show win0_2.index t 1 * 512 ≤ (y 1 : Nat) ∧ (y 1 : Nat) < win0_2.index t 1 * 512 + 512
    rw [(index_2 t).2]
    omega

/-- The result: the product. -/
theorem result : (dats m 0 c).arrAt 2 cfg0.N = (fun y : S4096x1024.Idx => prod m c (y 0).val (y 1).val) := by
  refine (dats m 0 c).arrAt_eq_of_cover 2 (fun y : S4096x1024.Idx => prod m c (y 0).val (y 1).val) (fun t _ => ?_) cover_2
  rw [flushed2]
  funext y
  rw [View.read_apply]
  obtain ⟨a, b, rfl⟩ : ∃ (a : Fin 2048) (b : Fin 512), y = ix2 a b :=
    ⟨y 0, y 1, funext fun x => match x with | ⟨0, _⟩ => rfl | ⟨1, _⟩ => rfl⟩
  refine (point_apply m c t a b).trans ?_
  show prod m c (2048 * (t.val / 2) + a.val) (512 * (t.val % 2) + b.val)
    = prod m c (win0_2.index t 0 * 2048 + 1 * a.val) (win0_2.index t 1 * 512 + 1 * b.val)
  rw [(index_2 t).1, (index_2 t).2, Nat.mul_comm 2048, Nat.mul_comm 512, one_mul, one_mul]

end Cert.PoolDxIdeal.Ffn

end
-- ==== Proof.Proj.PoolDxEquation.lean ====
module

public import proofs.«01_k».proof.Defs
public import proofs.«01_k».proof.Proof.Proj.PoolDx
public import proofs.«01_k».proof.Proof.Gen.PoolDxRefIdeal.Run
public import proofs.«01_k».proof.Proof.Gen.PoolDxRefIdeal.Read
public import Idealize.ShloMosaic.Lib.Quiescent

@[expose] public section

set_option maxRecDepth 16384

noncomputable section

/-! The gradient of the pooling's projection's input: the call's blocks and the one product agree. -/

namespace Cert.PoolDxRefIdeal.Ffn

open Idealize.ShloMosaic Idealize.ShloMosaic.TcCoe Idealize.SL.Sem
open Cert.PoolDxRefIdeal Cert.PoolDxRefIdeal.Gen Cert.PoolDxRefIdeal.Read

theorem value (x0 : FVec Ideal S1024x1024 .f32) (x1 : FVec Ideal S4096x1024 .f32) (t : Fin 4096) (b : Fin 1024) :
    val_main_v2 (F := Ideal) x0 x1 (ix2 t b) = ∑ k : Fin 1024, x1 (ix2 t k) * x0 (ix2 b k) := by
  pointwise [val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v2_eq _ _), (h c).2⟩, sem_eq_zero_of_no_sems (by decide) r.2⟩)
    (Cert.PoolDxRefIdeal.Value.run m ρ)

end Cert.PoolDxRefIdeal.Ffn

namespace Cert.Proof

open Idealize.ShloMosaic Idealize.SL.Sem Idealize.ShloMosaic.TcCoe

theorem frame_PoolDxRef : Cert.quiescent_PoolDxRefIdeal (hPoolDxRefIdeal := Cert.PoolDxRefIdeal.Gen.facts) := fun m ρ _ =>
  (θ_run Cert.PoolDxRefIdeal.defs _ _).mono (fun _ h => ⟨fun c => (h.1 c).2, h.2⟩) (Cert.PoolDxRefIdeal.Ffn.run_main m ρ)

/-- Kernel and reference agree. -/
theorem equal_PoolDx (m : (ℓ : Loc PoolDxIdeal.nD PoolDxIdeal.τ PoolDxIdeal.sig) → Buf (Elt Ideal) ℓ) (c : Dev PoolDxIdeal.nD) :
    ((PoolDxIdeal.Gen.dats m 0 c).arrAt 2 PoolDxIdeal.cfg0.N : PoolDxIdeal.S4096x1024.Idx → EReal)
      = PoolDxRefIdeal.Read.val_main_v2 (F := Ideal) (m ((c.tc : Thread PoolDxIdeal.nD PoolDxIdeal.τ).loc PoolDxIdeal.main_arg0)) (m ((c.tc : Thread PoolDxIdeal.nD PoolDxIdeal.τ).loc PoolDxIdeal.main_arg1)) := by
  funext y
  obtain ⟨t, b, rfl⟩ : ∃ (t : Fin 4096) (b : Fin 1024), y = ix2 t b :=
    ⟨y 0, y 1, funext fun a => match a with | ⟨0, _⟩ => rfl | ⟨1, _⟩ => rfl⟩
  refine (congrFun (PoolDxIdeal.Ffn.result m c) (ix2 t b)).trans ((PoolDxRefIdeal.Ffn.value _ _ t b).trans ?_).symm
  show _ = PoolDxIdeal.Ffn.prod m c t.val b.val
  unfold PoolDxIdeal.Ffn.prod
  refine Finset.sum_congr rfl fun k _ => ?_
  unfold PoolDxIdeal.Ffn.argW PoolDxIdeal.Ffn.argC
  rw [_root_.Ffn.mat_apply, _root_.Ffn.mat_apply]

/-- The gradient of the pooling's projection's input and the gradient of the plain product are equal over the extended reals. -/
theorem algebraic_PoolDx : Cert.algebraic_PoolDxIdeal_PoolDxRefIdeal (hPoolDxIdeal := Cert.PoolDxIdeal.Gen.facts) (hPoolDxRefIdeal := Cert.PoolDxRefIdeal.Gen.facts) :=
  fun m g m' g' _ hargs =>
  ⟨fun c => (PoolDxIdeal.Gen.dats m 0 c).arrAt 2 PoolDxIdeal.cfg0.N, PoolDxIdeal.Value.run_blocks m g,
    (θ_run Cert.PoolDxRefIdeal.defs _ _).mono (fun r h c => by
      obtain ⟨e0, e1⟩ := hargs c
      obtain ⟨r0, rest⟩ := h.1 c
      refine ⟨r0.trans ?_, rest⟩
      refine Eq.trans ?_ (equal_PoolDx m c).symm
      rw [e0, e1]) (Cert.PoolDxRefIdeal.Ffn.run_main m' g')⟩

end Cert.Proof

end
-- ==== Proof.Proj.OutDx.lean ====
module

public import proofs.«01_k».proof.Proof.Proj.Base
public import proofs.«01_k».proof.Proof.Gen.OutDxIdeal.Value
public import Idealize.ShloMosaic.Lib.Pipeline.ReadBack
public import Idealize.ShloMosaic.Lib.StableHlo.RunRead

@[expose] public section

set_option maxRecDepth 16384

noncomputable section

/-! The gradient of the attention's output projection's input, as the call computes it: one product for each block of the result. -/

namespace Cert.OutDxIdeal.Ffn

open Idealize.ShloMosaic Idealize.ShloMosaic.TcCoe Cert.OutDxIdeal Cert.OutDxIdeal.Gen Cert.OutDxIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x2048x1024 .bf16) (harg3 : arg3.IsWhole) (arg4 : Memref sig .tc .vmem S1x512x1024 .bf16) (harg4 : arg4.IsWhole)
  (arg5 : Memref sig .tc .vmem S2048x512 .bf16) (harg5 : arg5.IsWhole) (arg6 : Memref sig .tc .vmem S2048x512 .f32) (harg6 : arg6.IsWhole)
  (x0 : Vec Ideal S1x2048x1024 .bf16) (x1 : Vec Ideal S1x512x1024 .bf16) (acc : Vec Ideal S2048x512 .f32)

/-- What a point writes to the result. -/
theorem out_eq (hc0 : cond0_0 i) (hc1 : cond0_1 i) :
    out0_A_2 (F := Ideal) c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_unit_zero (S := S2048x512) hz2, View.readCov_cons_toLoadRect, View.ld_unit_zero (S := S1x2048x1024) hz3, View.ld_unit_zero (S := S1x512x1024) hz3]

theorem zero_apply (a : Fin 2048) (b : Fin 512) : (k0_pay1 (F := Ideal)) (ix2 a b) = 0 := by
  pointwise [k0_pay1]

theorem step_apply (a : Fin 2048) (b : Fin 512) : k0_pay2 acc x0 x1 (ix2 a b) = acc (ix2 a b) + ∑ k : Fin 1024, x0 (ix3 0 a k) * x1 (ix3 0 b k) := by
  pointwise [k0_pay2]

theorem cast_apply (a : Fin 2048) (b : Fin 512) : k0_pay3 acc (ix2 a b) = acc (ix2 a b) := by
  pointwise [k0_pay3]
end

variable (m : (ℓ : Loc nD τ sig) → Buf (Elt Ideal) ℓ) (c : Dev nD)

/-- The first argument, the weight. -/
def argW : ℕ → ℕ → EReal := mat (m ((c : Thread nD τ).loc main_arg0) : S1024x1024.Idx → EReal)
/-- The second argument, the cotangent. -/
def argC : ℕ → ℕ → EReal := mat (m ((c : Thread nD τ).loc main_arg1) : S4096x1024.Idx → EReal)

/-- The cotangent with a leading axis of length one. -/
abbrev flatOf (A : FVec Ideal S4096x1024 .f32) : FVec Ideal S1x4096x1024 .bf16 :=
  shapeCast S1x4096x1024 (truncf (F := Ideal) .bf16 A bitsLt_bf16_f32 : FVec Ideal S4096x1024 .bf16) shapeCasts_S4096x1024_S1x4096x1024

theorem flatOf_apply (A : FVec Ideal S4096x1024 .f32) (k : Fin 4096) (j : Fin 1024) : flatOf A (ix3 0 k j) = A (ix2 k j) := by
  pointwise [flatOf]

/-- The weight with a leading axis of length one. -/
abbrev weightOf (A : FVec Ideal S1024x1024 .f32) : FVec Ideal S1x1024x1024 .bf16 :=
  shapeCast S1x1024x1024 (truncf (F := Ideal) .bf16 A bitsLt_bf16_f32 : FVec Ideal S1024x1024 .bf16) shapeCasts_S1024x1024_S1x1024x1024

theorem weightOf_apply (A : FVec Ideal S1024x1024 .f32) (k : Fin 1024) (j : Fin 1024) : weightOf A (ix3 0 k j) = A (ix2 k j) := by
  pointwise [weightOf]

theorem host1 : V m c main_v1 = flatOf (m ((c : Thread nD τ).loc main_arg1) : FVec Ideal S4096x1024 .f32) := by
  unfold flatOf
  after_reads_simp
  rfl

theorem host3 : V m c main_v3 = weightOf (m ((c : Thread nD τ).loc main_arg0) : FVec Ideal S1024x1024 .f32) := by
  unfold weightOf
  after_reads_simp
  rfl

theorem index_0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)

theorem index_1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)

theorem index_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem block_0 (t : Fin cfg0.N) (a : Fin 2048) (k : Fin 1024) :
    (iblk m c 0 t : Vec Ideal S1x2048x1024 .bf16) (ix3 0 a k) = argC m c (2048 * (t.val / 2) + a.val) k.val := by
  have ht : t.val < 4 := lt_of_lt_of_eq t.isLt N_0
  unfold argC
  rw [mat_of _ _ _ (by omega) (by omega)]
  unfold iblk
  rw [View.read_apply]
  show V m c main_v1 _ = _
  have e : (((cfg0.win 0).blk t).view.emb (ix3 0 a k) : S1x4096x1024.Idx) = ix3 0 ⟨2048 * (t.val / 2) + a.val, by omega⟩ k := by
    funext x
    apply Fin.ext
    match x with
    | ⟨0, _⟩ => show win0_0.index t 0 * 1 + 1 * 0 = 0; rw [(index_0 t).1]
    | ⟨1, _⟩ => show win0_0.index t 1 * 2048 + 1 * a.val = 2048 * (t.val / 2) + a.val; rw [(index_0 t).2.1]; omega
    | ⟨2, _⟩ => show win0_0.index t 2 * 1024 + 1 * k.val = k.val; rw [(index_0 t).2.2]; omega
  rw [host1]
  exact (congrArg _ e).trans (flatOf_apply _ _ _)

theorem block_1 (t : Fin cfg0.N) (b : Fin 512) (k : Fin 1024) :
    (iblk m c 1 t : Vec Ideal S1x512x1024 .bf16) (ix3 0 b k) = argW m c (512 * (t.val % 2) + b.val) k.val := by
  have ht : t.val < 4 := lt_of_lt_of_eq t.isLt N_0
  unfold argW
  rw [mat_of _ _ _ (by omega) (by omega)]
  unfold iblk
  rw [View.read_apply]
  show V m c main_v3 _ = _
  have e : (((cfg0.win 1).blk t).view.emb (ix3 0 b k) : S1x1024x1024.Idx) = ix3 0 ⟨512 * (t.val % 2) + b.val, by omega⟩ k := by
    funext x
    apply Fin.ext
    match x with
    | ⟨0, _⟩ => show win0_1.index t 0 * 1 + 1 * 0 = 0; rw [(index_1 t).1]
    | ⟨1, _⟩ => show win0_1.index t 1 * 512 + 1 * b.val = 512 * (t.val % 2) + b.val; rw [(index_1 t).2.1]; omega
    | ⟨2, _⟩ => show win0_1.index t 2 * 1024 + 1 * k.val = k.val; rw [(index_1 t).2.2]; omega
  rw [host3]
  exact (congrArg _ e).trans (weightOf_apply _ _ _)

/-- The product's element at row `a` and column `b`. -/
def prod (a b : ℕ) : EReal := ∑ k : Fin 1024, argC m c a k.val * argW m c b k.val

theorem point_apply (t : Fin cfg0.N) (a : Fin 2048) (b : Fin 512) :
    outsAt0 m c t (ix2 a b) = prod m c (2048 * (t.val / 2) + a.val) (512 * (t.val % 2) + b.val) := by
  unfold outsAt0
  rw [out_eq, cast_apply, step_apply, zero_apply, zero_add]
  unfold prod
  refine Finset.sum_congr rfl fun k _ => ?_
  rw [block_0 m c t a k, block_1 m c t b k]

theorem cover_2 (y : S4096x1024.Idx) :
    ∃ t : Fin cfg0.N, (cfg0.win 2).flush t = true ∧ y ∈ ((cfg0.win 2).blk t).view.set := by
  have h0 : (y 0 : Nat) < 4096 := (y 0).isLt
  have h1 : (y 1 : Nat) < 1024 := (y 1).isLt
  have hN : cfg0.N = 4 := N_0
  obtain ⟨t, ht⟩ : ∃ t : Fin cfg0.N, t.val = 2 * ((y 0).val / 2048) + (y 1).val / 512 := ⟨⟨2 * ((y 0).val / 2048) + (y 1).val / 512, by omega⟩, rfl⟩
  refine ⟨t, flush0_2 _, ?_⟩
  show y ∈ ((View.whole main_v4).slice (win0_2.rect t)).set
  rw [View.set_slice_whole, Rect.mem_set_unit]
  intro a
  match a with
  | ⟨0, _⟩ =>
    show win0_2.index t 0 * 2048 ≤ (y 0 : Nat) ∧ (y 0 : Nat) < win0_2.index t 0 * 2048 + 2048
    rw [(index_2 t).1]
    omega
  | ⟨1, _⟩ =>
    show win0_2.index t 1 * 512 ≤ (y 1 : Nat) ∧ (y 1 : Nat) < win0_2.index t 1 * 512 + 512
    rw [(index_2 t).2]
    omega

/-- The result: the product. -/
theorem result : (dats m 0 c).arrAt 2 cfg0.N = (fun y : S4096x1024.Idx => prod m c (y 0).val (y 1).val) := by
  refine (dats m 0 c).arrAt_eq_of_cover 2 (fun y : S4096x1024.Idx => prod m c (y 0).val (y 1).val) (fun t _ => ?_) cover_2
  rw [flushed2]
  funext y
  rw [View.read_apply]
  obtain ⟨a, b, rfl⟩ : ∃ (a : Fin 2048) (b : Fin 512), y = ix2 a b :=
    ⟨y 0, y 1, funext fun x => match x with | ⟨0, _⟩ => rfl | ⟨1, _⟩ => rfl⟩
  refine (point_apply m c t a b).trans ?_
  show prod m c (2048 * (t.val / 2) + a.val) (512 * (t.val % 2) + b.val)
    = prod m c (win0_2.index t 0 * 2048 + 1 * a.val) (win0_2.index t 1 * 512 + 1 * b.val)
  rw [(index_2 t).1, (index_2 t).2, Nat.mul_comm 2048, Nat.mul_comm 512, one_mul, one_mul]

end Cert.OutDxIdeal.Ffn

end
-- ==== Proof.Proj.OutDxEquation.lean ====
module

public import proofs.«01_k».proof.Defs
public import proofs.«01_k».proof.Proof.Proj.OutDx
public import proofs.«01_k».proof.Proof.Gen.OutDxRefIdeal.Run
public import proofs.«01_k».proof.Proof.Gen.OutDxRefIdeal.Read
public import Idealize.ShloMosaic.Lib.Quiescent

@[expose] public section

set_option maxRecDepth 16384

noncomputable section

/-! The gradient of the attention's output projection's input: the call's blocks and the one product agree. -/

namespace Cert.OutDxRefIdeal.Ffn

open Idealize.ShloMosaic Idealize.ShloMosaic.TcCoe Idealize.SL.Sem
open Cert.OutDxRefIdeal Cert.OutDxRefIdeal.Gen Cert.OutDxRefIdeal.Read

theorem value (x0 : FVec Ideal S1024x1024 .f32) (x1 : FVec Ideal S4096x1024 .f32) (t : Fin 4096) (b : Fin 1024) :
    val_main_v3 (F := Ideal) x0 x1 (ix2 t b) = ∑ k : Fin 1024, x1 (ix2 t k) * x0 (ix2 b k) := by
  pointwise [val_main_v3, val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v3_eq _ _), (h c).2⟩, sem_eq_zero_of_no_sems (by decide) r.2⟩)
    (Cert.OutDxRefIdeal.Value.run m ρ)

end Cert.OutDxRefIdeal.Ffn

namespace Cert.Proof

open Idealize.ShloMosaic Idealize.SL.Sem Idealize.ShloMosaic.TcCoe

theorem frame_OutDxRef : Cert.quiescent_OutDxRefIdeal (hOutDxRefIdeal := Cert.OutDxRefIdeal.Gen.facts) := fun m ρ _ =>
  (θ_run Cert.OutDxRefIdeal.defs _ _).mono (fun _ h => ⟨fun c => (h.1 c).2, h.2⟩) (Cert.OutDxRefIdeal.Ffn.run_main m ρ)

/-- Kernel and reference agree. -/
theorem equal_OutDx (m : (ℓ : Loc OutDxIdeal.nD OutDxIdeal.τ OutDxIdeal.sig) → Buf (Elt Ideal) ℓ) (c : Dev OutDxIdeal.nD) :
    ((OutDxIdeal.Gen.dats m 0 c).arrAt 2 OutDxIdeal.cfg0.N : OutDxIdeal.S4096x1024.Idx → EReal)
      = OutDxRefIdeal.Read.val_main_v3 (F := Ideal) (m ((c.tc : Thread OutDxIdeal.nD OutDxIdeal.τ).loc OutDxIdeal.main_arg0)) (m ((c.tc : Thread OutDxIdeal.nD OutDxIdeal.τ).loc OutDxIdeal.main_arg1)) := by
  funext y
  obtain ⟨t, b, rfl⟩ : ∃ (t : Fin 4096) (b : Fin 1024), y = ix2 t b :=
    ⟨y 0, y 1, funext fun a => match a with | ⟨0, _⟩ => rfl | ⟨1, _⟩ => rfl⟩
  refine (congrFun (OutDxIdeal.Ffn.result m c) (ix2 t b)).trans ((OutDxRefIdeal.Ffn.value _ _ t b).trans ?_).symm
  show _ = OutDxIdeal.Ffn.prod m c t.val b.val
  unfold OutDxIdeal.Ffn.prod
  refine Finset.sum_congr rfl fun k _ => ?_
  unfold OutDxIdeal.Ffn.argW OutDxIdeal.Ffn.argC
  rw [_root_.Ffn.mat_apply, _root_.Ffn.mat_apply]

/-- The gradient of the attention's output projection's input and the gradient of the plain product are equal over the extended reals. -/
theorem algebraic_OutDx : Cert.algebraic_OutDxIdeal_OutDxRefIdeal (hOutDxIdeal := Cert.OutDxIdeal.Gen.facts) (hOutDxRefIdeal := Cert.OutDxRefIdeal.Gen.facts) :=
  fun m g m' g' _ hargs =>
  ⟨fun c => (OutDxIdeal.Gen.dats m 0 c).arrAt 2 OutDxIdeal.cfg0.N, OutDxIdeal.Value.run_blocks m g,
    (θ_run Cert.OutDxRefIdeal.defs _ _).mono (fun r h c => by
      obtain ⟨e0, e1⟩ := hargs c
      obtain ⟨r0, rest⟩ := h.1 c
      refine ⟨r0.trans ?_, rest⟩
      refine Eq.trans ?_ (equal_OutDx m c).symm
      rw [e0, e1]) (Cert.OutDxRefIdeal.Ffn.run_main m' g')⟩

end Cert.Proof

end
-- ==== Proof.Ffn.DownDw.lean ====
module

public import proofs.«01_k».proof.Proof.Ffn.Base
public import proofs.«01_k».proof.Proof.Gen.DownDwIdeal.Value
public import Idealize.ShloMosaic.Lib.Pipeline.ReadBack
public import Idealize.ShloMosaic.Lib.StableHlo.RunRead

@[expose] public section

set_option maxRecDepth 16384

noncomputable section

/-! The gradient of the down projection's weight, as the call computes it: two blocks of rows added into an accumulator. -/

namespace Cert.DownDwIdeal.Ffn

open Idealize.ShloMosaic Idealize.ShloMosaic.TcCoe Cert.DownDwIdeal Cert.DownDwIdeal.Gen Cert.DownDwIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S2048x1408 .bf16) (harg3 : arg3.IsWhole) (arg4 : Memref sig .tc .vmem S1x2048x1024 .bf16) (harg4 : arg4.IsWhole)
  (arg5 : Memref sig .tc .vmem S1x1408x1024 .bf16) (harg5 : arg5.IsWhole) (arg6 : Memref sig .tc .vmem S1408x1024 .f32) (harg6 : arg6.IsWhole)
  (x0 : Vec Ideal S2048x1408 .bf16) (x1 : Vec Ideal S1x2048x1024 .bf16) (acc : Vec Ideal S1408x1024 .f32)

/-- What the first of the two points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S1408x1024) hz2, View.readCov_unit_zero (S := S1408x1024) _ hz2, View.ld_unit_zero (S := S2048x1408) hz2, View.ld_unit_zero (S := S1x2048x1024) hz3]

/-- What the last of the two points writes to the result. -/
theorem last_eq (hc0 : ¬cond0_0 i) (hc1 : cond0_1 i) :
    out0_B_2 (F := Ideal) c i arg3 harg3 arg4 harg4 arg5 harg5 arg6 harg6 hc0 hc1 x0 x1 acc = k0_pay3 (k0_pay2 acc x0 x1) := by
  unfold out0_B_2
  rw [View.read_writes_eq_canon _ _ _ (cover0_B_2 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S1x1408x1024) hz3, View.readCov_unit_zero (S := S1408x1024) _ hz2, View.ld_unit_zero (S := S1408x1024) hz2, View.ld_unit_zero (S := S2048x1408) hz2, View.ld_unit_zero (S := S1x2048x1024) hz3]

theorem zero_apply (a : Fin 1408) (b : Fin 1024) : (k0_pay1 (F := Ideal)) (ix2 a b) = 0 := by
  pointwise [k0_pay1]

theorem step_apply (a : Fin 1408) (b : Fin 1024) : k0_pay2 acc x0 x1 (ix2 a b) = acc (ix2 a b) + ∑ k : Fin 2048, x0 (ix2 k a) * x1 (ix3 0 k b) := by
  pointwise [k0_pay2]

theorem cast_apply (a : Fin 1408) (b : Fin 1024) : k0_pay3 acc (ix3 0 a b) = acc (ix2 a b) := by
  pointwise [k0_pay3]

end

variable (m : (ℓ : Loc nD τ sig) → Buf (Elt Ideal) ℓ) (c : Dev nD)

/-- The first argument, `gated`. -/
def argG : ℕ → ℕ → EReal := mat (m ((c : Thread nD τ).loc main_arg0) : S4096x2816.Idx → EReal)
/-- The second argument, the cotangent. -/
def argC : ℕ → ℕ → EReal := mat (m ((c : Thread nD τ).loc main_arg1) : S4096x1024.Idx → EReal)

theorem host0 : V m c main_v0 = (truncf (F := Ideal) .bf16 (m ((c : Thread nD τ).loc main_arg0) : FVec Ideal S4096x2816 .f32) bitsLt_bf16_f32 : FVec Ideal S4096x2816 .bf16) := by
  after_reads_simp

theorem host2 : V m c main_v2 = (shapeCast S1x4096x1024 (truncf (F := Ideal) .bf16 (m ((c : Thread nD τ).loc main_arg1) : FVec Ideal S4096x1024 .f32) bitsLt_bf16_f32 : FVec Ideal S4096x1024 .bf16) shapeCasts_S4096x1024_S1x4096x1024 : FVec Ideal S1x4096x1024 .bf16) := by
  after_reads_simp
  rfl

theorem index_0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)

theorem index_1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)

theorem block_0 (t : Fin cfg0.N) (k : Fin 2048) (a : Fin 1408) :
    (iblk m c 0 t : Vec Ideal S2048x1408 .bf16) (ix2 k a) = argG m c (2048 * (t.val % 2) + k.val) (1408 * (t.val / 2) + a.val) := by
  have ht : t.val < 4 := lt_of_lt_of_eq t.isLt N_0
  unfold argG
  rw [mat_of _ _ _ (by omega) (by omega)]
  unfold iblk
  rw [View.read_apply]
  show V m c main_v0 _ = _
  rw [host0]
  show (m ((c : Thread nD τ).loc main_arg0) : S4096x2816.Idx → EReal) _ = (m ((c : Thread nD τ).loc main_arg0) : S4096x2816.Idx → EReal) _
  congr 1
  funext x
  apply Fin.ext
  match x with
  | ⟨0, _⟩ => show win0_0.index t 0 * 2048 + 1 * k.val = 2048 * (t.val % 2) + k.val; rw [(index_0 t).1]; omega
  | ⟨1, _⟩ => show win0_0.index t 1 * 1408 + 1 * a.val = 1408 * (t.val / 2) + a.val; rw [(index_0 t).2]; omega

theorem flat_apply (A : FVec Ideal S4096x1024 .bf16) (k : Fin 4096) (b : Fin 1024) :
    shapeCast S1x4096x1024 A shapeCasts_S4096x1024_S1x4096x1024 (ix3 0 k b) = A (ix2 k b) := by
  pointwise

theorem block_1 (t : Fin cfg0.N) (k : Fin 2048) (b : Fin 1024) :
    (iblk m c 1 t : Vec Ideal S1x2048x1024 .bf16) (ix3 0 k b) = argC m c (2048 * (t.val % 2) + k.val) b.val := by
  have ht : t.val < 4 := lt_of_lt_of_eq t.isLt N_0
  unfold argC
  rw [mat_of _ _ _ (by omega) (by omega)]
  unfold iblk
  rw [View.read_apply]
  show V m c main_v2 _ = _
  have e : (((cfg0.win 1).blk t).view.emb (ix3 0 k b) : S1x4096x1024.Idx) = ix3 0 ⟨2048 * (t.val % 2) + k.val, by omega⟩ b := by
    funext x
    apply Fin.ext
    match x with
    | ⟨0, _⟩ => show win0_1.index t 0 * 1 + 1 * 0 = 0; rw [(index_1 t).1]
    | ⟨1, _⟩ => show win0_1.index t 1 * 2048 + 1 * k.val = 2048 * (t.val % 2) + k.val; rw [(index_1 t).2.1]; omega
    | ⟨2, _⟩ => show win0_1.index t 2 * 1024 + 1 * b.val = b.val; rw [(index_1 t).2.2]; omega
  rw [host2]
  exact (congrArg _ e).trans (flat_apply _ _ _)

/-- One block of rows' part of the gradient. -/
def part (h p a b : ℕ) : EReal := ∑ k : Fin 2048, argG m c (2048 * h + k.val) (1408 * p + a) * argC m c (2048 * h + k.val) b

/-- The accumulator after the first of a block's two points. -/
theorem acc_first (t : Fin cfg0.N) (h0 : t.val % 2 = 0) (a : Fin 1408) (b : Fin 1024) :
    (outsAt0 m c t.val t.isLt).2 (ix2 a b) = part m c 0 (t.val / 2) a.val b.val := by
  rw [outsAt0_A m c t h0 (by omega)]
  dsimp only
  rw [first_eq, step_apply, zero_apply, zero_add]
  unfold part
  refine Finset.sum_congr rfl fun k _ => ?_
  rw [block_0 m c t k a, block_1 m c t k b, h0]

/-- What the last of a block's two points writes. -/
theorem out_last (t : Fin cfg0.N) (h1 : t.val % 2 = 1) (a : Fin 1408) (b : Fin 1024) :
    (outsAt0 m c t.val t.isLt).1 (ix3 0 a b) = part m c 0 (t.val / 2) a.val b.val + part m c 1 (t.val / 2) a.val b.val := by
  rw [outsAt0_B m c t (by omega) h1]
  dsimp only
  rw [last_eq, cast_apply, step_apply]
  have e := acc_first m c ⟨t.val - 1, Nat.lt_of_le_of_lt (Nat.sub_le _ _) t.isLt⟩ (by dsimp only; omega) a b
  dsimp only at e
  rw [e, show (t.val - 1) / 2 = t.val / 2 by omega]
  congr 1
  unfold part
  refine Finset.sum_congr rfl fun k _ => ?_
  rw [block_0 m c t k a, block_1 m c t k b, h1]

/-- The result: the product over all rows. -/
theorem result (f : Fin 2816) (b : Fin 1024) : (G2 m c : S1x2816x1024.Idx → EReal) (ix3 0 f b)
    = ∑ k : Fin 4096, argG m c k.val f.val * argC m c k.val b.val := by
  have hp : pt2Of (ix3 0 f b) = 2 * (f.val / 1408) + 1 := by
    show 2 * (2 * ((0 : ℕ) / 1 - 0) + 1 * (f.val / 1408 - 0) + 1 * (b.val / 1024 - 0)) + 1 = _
    rw [Nat.div_eq_of_lt b.isLt]; omega
  have hlt : 2 * (f.val / 1408) + 1 < cfg0.N := by rw [show cfg0.N = 4 from N_0]; omega
  have hl : loc2Of (ix3 0 f b) = ix3 0 ⟨f.val % 1408, Nat.mod_lt _ (by decide)⟩ b := by
    funext x
    apply Fin.ext
    match x with
    | ⟨0, _⟩ => rfl
    | ⟨1, _⟩ => rfl
    | ⟨2, _⟩ => exact Nat.mod_eq_of_lt b.isLt
  unfold G2
  rw [dif_pos (by rw [hp]; exact hlt), hl, ← outsAt0_sweep m c _ (by rw [hp]; exact hlt)]
  have e : ∀ n (hn : n < cfg0.N), n = 2 * (f.val / 1408) + 1 → (outsAt0 m c n hn).1 (ix3 0 ⟨f.val % 1408, Nat.mod_lt _ (by decide)⟩ b)
      = part m c 0 (f.val / 1408) (f.val % 1408) b.val + part m c 1 (f.val / 1408) (f.val % 1408) b.val := by
    intro n hn hne
    have := out_last m c ⟨n, hn⟩ (by dsimp only; omega) ⟨f.val % 1408, Nat.mod_lt _ (by decide)⟩ b
    dsimp only at this
    rw [this, show n / 2 = f.val / 1408 by omega]
  rw [e _ _ hp, sum_halves (fun k => argG m c k f.val * argC m c k b.val)]
  unfold part
  rw [Nat.div_add_mod]

end Cert.DownDwIdeal.Ffn

end
-- ==== Proof.Ffn.DownDwEquation.lean ====
module

public import proofs.«01_k».proof.Defs
public import proofs.«01_k».proof.Proof.Ffn.DownDw
public import proofs.«01_k».proof.Proof.Gen.DownDwRefIdeal.Run
public import proofs.«01_k».proof.Proof.Gen.DownDwRefIdeal.Read
public import Idealize.ShloMosaic.Lib.Quiescent

@[expose] public section

set_option maxRecDepth 16384

noncomputable section

/-! The gradient of the down projection's weight: the call's blocked sum and the one product agree. -/

namespace Cert.DownDwRefIdeal.Ffn

open Idealize.ShloMosaic Idealize.ShloMosaic.TcCoe Idealize.SL.Sem
open Cert.DownDwRefIdeal Cert.DownDwRefIdeal.Gen Cert.DownDwRefIdeal.Read

theorem value (x0 : FVec Ideal S4096x2816 .f32) (x1 : FVec Ideal S4096x1024 .f32) (f : Fin 2816) (b : Fin 1024) :
    val_main_v5 (F := Ideal) x0 x1 (ix3 0 f b) = ∑ k : Fin 4096, x1 (ix2 k b) * x0 (ix2 k f) := by
  pointwise [val_main_v5, val_main_v4, val_main_v3, val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v5_eq _ _), (h c).2⟩, sem_eq_zero_of_no_sems (by decide) r.2⟩)
    (Cert.DownDwRefIdeal.Value.run m ρ)

end Cert.DownDwRefIdeal.Ffn

namespace Cert.Proof

open Idealize.ShloMosaic Idealize.SL.Sem Idealize.ShloMosaic.TcCoe

theorem frame_DownDwRef : Cert.quiescent_DownDwRefIdeal (hDownDwRefIdeal := Cert.DownDwRefIdeal.Gen.facts) := fun m ρ _ =>
  (θ_run Cert.DownDwRefIdeal.defs _ _).mono (fun _ h => ⟨fun c => (h.1 c).2, h.2⟩) (Cert.DownDwRefIdeal.Ffn.run_main m ρ)

/-- Kernel and reference agree. -/
theorem equal_DownDw (m : (ℓ : Loc DownDwIdeal.nD DownDwIdeal.τ DownDwIdeal.sig) → Buf (Elt Ideal) ℓ) (c : Dev DownDwIdeal.nD) :
    (DownDwIdeal.Value.G2 m c : DownDwIdeal.S1x2816x1024.Idx → EReal)
      = DownDwRefIdeal.Read.val_main_v5 (F := Ideal) (m ((c.tc : Thread DownDwIdeal.nD DownDwIdeal.τ).loc DownDwIdeal.main_arg0)) (m ((c.tc : Thread DownDwIdeal.nD DownDwIdeal.τ).loc DownDwIdeal.main_arg1)) := by
  funext y
  obtain ⟨f, b, rfl⟩ : ∃ (f : Fin 2816) (b : Fin 1024), y = ix3 0 f b :=
    ⟨y 1, y 2, funext fun a => match a with | ⟨0, _⟩ => Subsingleton.elim (α := Fin 1) _ _ | ⟨1, _⟩ => rfl | ⟨2, _⟩ => rfl⟩
  refine (DownDwIdeal.Ffn.result m c f b).trans ((DownDwRefIdeal.Ffn.value _ _ f b).trans ?_).symm
  refine Finset.sum_congr rfl fun k _ => ?_
  unfold DownDwIdeal.Ffn.argG DownDwIdeal.Ffn.argC
  rw [_root_.Ffn.mat_apply, _root_.Ffn.mat_apply, mul_comm]

/-- The blocked gradient of the down projection's weight and the gradient of the plain product are equal over the extended reals. -/
theorem algebraic_DownDw : Cert.algebraic_DownDwIdeal_DownDwRefIdeal (hDownDwIdeal := Cert.DownDwIdeal.Gen.facts) (hDownDwRefIdeal := Cert.DownDwRefIdeal.Gen.facts) :=
  fun m g m' g' _ hargs =>
  ⟨fun c => DownDwIdeal.Value.G2 m c, DownDwIdeal.Value.run m g,
    (θ_run Cert.DownDwRefIdeal.defs _ _).mono (fun r h c => by
      obtain ⟨e0, e1⟩ := hargs c
      obtain ⟨r0, rest⟩ := h.1 c
      refine ⟨r0.trans ?_, rest⟩
      refine Eq.trans ?_ (equal_DownDw m c).symm
      rw [e0, e1]) (Cert.DownDwRefIdeal.Ffn.run_main m' g')⟩

end Cert.Proof

end
-- ==== Proof.Ffn.UpDx.lean ====
module

public import proofs.«01_k».proof.Proof.Ffn.Base
public import proofs.«01_k».proof.Proof.Gen.UpDxIdeal.Value
public import Idealize.ShloMosaic.Lib.Pipeline.ReadBack
public import Idealize.ShloMosaic.Lib.StableHlo.RunRead

@[expose] public section

set_option maxRecDepth 16384

noncomputable section

/-! The gradient of the up projection's input, as the call computes it: four blocks of columns added into an accumulator. -/

namespace Cert.UpDxIdeal.Ffn

open Idealize.ShloMosaic Idealize.ShloMosaic.TcCoe Cert.UpDxIdeal Cert.UpDxIdeal.Gen Cert.UpDxIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x2048x1408 .bf16) (harg3 : arg3.IsWhole) (arg4 : Memref sig .tc .vmem S1x1024x1408 .bf16) (harg4 : arg4.IsWhole)
  (arg5 : Memref sig .tc .vmem S2048x1024 .f32) (harg5 : arg5.IsWhole) (arg6 : Memref sig .tc .vmem S2048x1024 .f32) (harg6 : arg6.IsWhole)
  (x0 : Vec Ideal S1x2048x1408 .bf16) (x1 : Vec Ideal S1x1024x1408 .bf16) (acc : Vec Ideal S2048x1024 .f32)

/-- What the first of the four points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S2048x1024) hz2, View.readCov_unit_zero (S := S2048x1024) _ hz2, View.ld_unit_zero (S := S1x2048x1408) hz3, View.ld_unit_zero (S := S1x1024x1408) hz3]

/-- What a middle point leaves in the accumulator. -/
theorem mid_eq (hc0 : ¬cond0_0 i) (hc1 : ¬cond0_1 i) :
    sout0_B_0 (F := Ideal) c i arg3 harg3 arg4 harg4 arg5 harg5 arg6 harg6 hc0 hc1 x0 x1 acc = k0_pay2 acc x0 x1 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x1408) hz3, View.ld_unit_zero (S := S1x1024x1408) hz3]

/-- What the last of the four points writes to the result. -/
theorem last_eq (hc0 : ¬cond0_0 i) (hc1 : cond0_1 i) :
    out0_C_2 (F := Ideal) c i arg3 harg3 arg4 harg4 arg5 harg5 arg6 harg6 hc0 hc1 x0 x1 acc = k0_pay2 acc x0 x1 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg5.read_unread, harg6.read_unread, shapeCast_self]
  simp only [View.canon_unit_zero (S := S2048x1024) hz2, View.readCov_unit_zero (S := S2048x1024) _ hz2, View.ld_unit_zero (S := S2048x1024) hz2, View.ld_unit_zero (S := S1x2048x1408) hz3, View.ld_unit_zero (S := S1x1024x1408) hz3]

theorem zero_apply (a : Fin 2048) (b : Fin 1024) : (k0_pay1 (F := Ideal)) (ix2 a b) = 0 := by
  pointwise [k0_pay1]

theorem step_apply (a : Fin 2048) (b : Fin 1024) : k0_pay2 acc x0 x1 (ix2 a b) = acc (ix2 a b) + ∑ k : Fin 1408, x0 (ix3 0 a k) * x1 (ix3 0 b k) := by
  pointwise [k0_pay2]

end

variable (m : (ℓ : Loc nD τ sig) → Buf (Elt Ideal) ℓ) (c : Dev nD)

/-- The first argument, the weight. -/
def argW : ℕ → ℕ → EReal := mat (m ((c : Thread nD τ).loc main_arg0) : S1024x5632.Idx → EReal)
/-- The second argument, the cotangent. -/
def argC : ℕ → ℕ → EReal := mat (m ((c : Thread nD τ).loc main_arg1) : S4096x5632.Idx → EReal)

/-- The cotangent's two halves, one above the other. -/
abbrev halvesOf (A : FVec Ideal S4096x5632 .f32) : FVec Ideal S2x4096x2816 .bf16 :=
  truncf (F := Ideal) .bf16 (concatenate S2x4096x2816 0
    [⟨S1x4096x2816, (broadcastInDim S1x4096x2816 ![1, 2] bcast_S4096x2816_S1x4096x2816_1_2 (extractStridedSlice S4096x2816 ![0, 0] A slices_S4096x5632_S4096x2816_0_0 : FVec Ideal S4096x2816 .f32) : FVec Ideal S1x4096x2816 .f32)⟩,
     ⟨S1x4096x2816, (broadcastInDim S1x4096x2816 ![1, 2] bcast_S4096x2816_S1x4096x2816_1_2 (extractStridedSlice S4096x2816 ![0, 2816] A slices_S4096x5632_S4096x2816_0_2816 : FVec Ideal S4096x2816 .f32) : FVec Ideal S1x4096x2816 .f32)⟩]
    concatenates_S1x4096x2816_S1x4096x2816_S2x4096x2816_d0 : FVec Ideal S2x4096x2816 .f32) bitsLt_bf16_f32

theorem halvesOf_apply' (A : FVec Ideal S4096x5632 .f32) (h : Fin 2) (k : Fin 4096) (j : Fin 2816) :
    halvesOf A (ix3 h k j) = if _h : h.val < 1 then A (ix2 k ⟨j.val, by omega⟩) else A (ix2 k ⟨2816 + j.val, by omega⟩) := by
  pointwise [halvesOf]

theorem halvesOf_apply (A : FVec Ideal S4096x5632 .f32) (h : Fin 2) (k : Fin 4096) (j : Fin 2816) :
    halvesOf A (ix3 h k j) = A (ix2 k ⟨2816 * h.val + j.val, by omega⟩) := by
  rw [halvesOf_apply']
  by_cases h0 : h.val < 1
  · rw [dif_pos h0]; exact congrArg (fun x => A (ix2 k x)) (Fin.ext (by dsimp only; omega))
  · rw [dif_neg h0]; exact congrArg (fun x => A (ix2 k x)) (Fin.ext (by dsimp only; omega))

/-- The weight's columns in four blocks. -/
abbrev quartersOf (A : FVec Ideal S1024x5632 .f32) : FVec Ideal S4x1024x1408 .bf16 :=
  truncf (F := Ideal) .bf16 (transpose S4x1024x1408 [1, 0, 2] (shapeCast S1024x4x1408 A shapeCasts_S1024x5632_S1024x4x1408 : FVec Ideal S1024x4x1408 .f32)
    transposes_S1024x4x1408_S4x1024x1408_1_0_2 : FVec Ideal S4x1024x1408 .f32) bitsLt_bf16_f32

theorem quartersOf_apply (A : FVec Ideal S1024x5632 .f32) (s : Fin 4) (b : Fin 1024) (k : Fin 1408) :
    quartersOf A (ix3 s b k) = A (ix2 b ⟨s.val * 1408 + k.val, by omega⟩) := by
  pointwise [quartersOf]

theorem host2 : V m c main_v2 = quartersOf (m ((c : Thread nD τ).loc main_arg0) : FVec Ideal S1024x5632 .f32) := by
  unfold quartersOf
  after_reads_simp
  rfl

theorem host8 : V m c main_v8 = halvesOf (m ((c : Thread nD τ).loc main_arg1) : FVec Ideal S4096x5632 .f32) := by
  unfold halvesOf
  after_reads_simp
  rfl

theorem index_0 : ∀ t : Fin cfg0.N, win0_0.index t 0 = t.val % 4 / 2 ∧ win0_0.index t 1 = t.val / 4 ∧ win0_0.index t 2 = t.val % 4 % 2 :=
  (by decide +kernel : ∀ t : Fin grid0.N, win0_0.index t 0 = t.val % 4 / 2 ∧ win0_0.index t 1 = t.val / 4 ∧ win0_0.index t 2 = t.val % 4 % 2)

theorem index_1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)

theorem block_0 (t : Fin cfg0.N) (a : Fin 2048) (k : Fin 1408) :
    (iblk m c 0 t : Vec Ideal S1x2048x1408 .bf16) (ix3 0 a k) = argC m c (2048 * (t.val / 4) + a.val) (1408 * (t.val % 4) + k.val) := by
  have ht : t.val < 8 := lt_of_lt_of_eq t.isLt N_0
  unfold argC
  rw [mat_of _ _ _ (by omega) (by omega)]
  unfold iblk
  rw [View.read_apply]
  show V m c main_v8 _ = _
  have e : (((cfg0.win 0).blk t).view.emb (ix3 0 a k) : S2x4096x2816.Idx) = ix3 ⟨t.val % 4 / 2, by omega⟩ ⟨2048 * (t.val / 4) + a.val, by omega⟩ ⟨1408 * (t.val % 4 % 2) + k.val, by omega⟩ := by
    funext x
    apply Fin.ext
    match x with
    | ⟨0, _⟩ => show win0_0.index t 0 * 1 + 1 * 0 = t.val % 4 / 2; rw [(index_0 t).1]; omega
    | ⟨1, _⟩ => show win0_0.index t 1 * 2048 + 1 * a.val = 2048 * (t.val / 4) + a.val; rw [(index_0 t).2.1]; omega
    | ⟨2, _⟩ => show win0_0.index t 2 * 1408 + 1 * k.val = 1408 * (t.val % 4 % 2) + k.val; rw [(index_0 t).2.2]; omega
  rw [host8]
  refine (congrArg _ e).trans ((halvesOf_apply _ _ _ _).trans ?_)
  exact congrArg (fun x => (m ((c : Thread nD τ).loc main_arg1) : S4096x5632.Idx → EReal) (ix2 _ x)) (Fin.ext (by dsimp only; omega))

theorem block_1 (t : Fin cfg0.N) (b : Fin 1024) (k : Fin 1408) :
    (iblk m c 1 t : Vec Ideal S1x1024x1408 .bf16) (ix3 0 b k) = argW m c b.val (1408 * (t.val % 4) + k.val) := by
  have ht : t.val < 8 := lt_of_lt_of_eq t.isLt N_0
  unfold argW
  rw [mat_of _ _ _ (by omega) (by omega)]
  unfold iblk
  rw [View.read_apply]
  show V m c main_v2 _ = _
  have e : (((cfg0.win 1).blk t).view.emb (ix3 0 b k) : S4x1024x1408.Idx) = ix3 ⟨t.val % 4, by omega⟩ b k := by
    funext x
    apply Fin.ext
    match x with
    | ⟨0, _⟩ => show win0_1.index t 0 * 1 + 1 * 0 = t.val % 4; rw [(index_1 t).1]; omega
    | ⟨1, _⟩ => show win0_1.index t 1 * 1024 + 1 * b.val = b.val; rw [(index_1 t).2.1]; omega
    | ⟨2, _⟩ => show win0_1.index t 2 * 1408 + 1 * k.val = k.val; rw [(index_1 t).2.2]; omega
  rw [host2]
  refine (congrArg _ e).trans ((quartersOf_apply _ _ _ _).trans ?_)
  exact congrArg (fun x => (m ((c : Thread nD τ).loc main_arg0) : S1024x5632.Idx → EReal) (ix2 _ x)) (Fin.ext (by dsimp only; omega))

/-- One block of columns' part of the gradient. -/
def part (s i a b : ℕ) : EReal := ∑ k : Fin 1408, argC m c (2048 * i + a) (1408 * s + k.val) * argW m c b (1408 * s + k.val)

/-- The accumulator after the first of a block's four points. -/
theorem acc_first (t : Fin cfg0.N) (h0 : t.val % 4 = 0) (a : Fin 2048) (b : Fin 1024) :
    (outsAt0 m c t.val t.isLt).2 (ix2 a b) = part m c 0 (t.val / 4) a.val b.val := by
  rw [outsAt0_A m c t h0 (by omega)]
  dsimp only
  rw [first_eq, step_apply, zero_apply, zero_add]
  unfold part
  refine Finset.sum_congr rfl fun k _ => ?_
  rw [block_0 m c t a k, block_1 m c t b k, h0]

/-- A middle point adds its block's part. -/
theorem acc_mid (t : Fin cfg0.N) (h0 : ¬t.val % 4 = 0) (h1 : ¬t.val % 4 = 3) (a : Fin 2048) (b : Fin 1024) :
    (outsAt0 m c t.val t.isLt).2 (ix2 a b) = (outsAt0 m c (t.val - 1) (Nat.lt_of_le_of_lt (Nat.sub_le _ _) t.isLt)).2 (ix2 a b) + part m c (t.val % 4) (t.val / 4) a.val b.val := by
  rw [outsAt0_B m c t h0 h1]
  dsimp only
  rw [mid_eq, step_apply]
  congr 1
  unfold part
  refine Finset.sum_congr rfl fun k _ => ?_
  rw [block_0 m c t a k, block_1 m c t b k]

/-- The last point writes what was there and its block's part. -/
theorem out_last (t : Fin cfg0.N) (h1 : t.val % 4 = 3) (a : Fin 2048) (b : Fin 1024) :
    (outsAt0 m c t.val t.isLt).1 (ix2 a b) = (outsAt0 m c (t.val - 1) (Nat.lt_of_le_of_lt (Nat.sub_le _ _) t.isLt)).2 (ix2 a b) + part m c (t.val % 4) (t.val / 4) a.val b.val := by
  rw [outsAt0_C m c t (by omega) h1]
  dsimp only
  rw [last_eq, step_apply]
  congr 1
  unfold part
  refine Finset.sum_congr rfl fun k _ => ?_
  rw [block_0 m c t a k, block_1 m c t b k]

/-- What the four points of block `i` write. -/
theorem out_all (i : ℕ) (hi : i < 2) (h3 : 4 * i + 3 < cfg0.N) (a : Fin 2048) (b : Fin 1024) :
    (outsAt0 m c (4 * i + 3) h3).1 (ix2 a b)
      = ((part m c 0 i a.val b.val + part m c 1 i a.val b.val) + part m c 2 i a.val b.val) + part m c 3 i a.val b.val := by
  have e0 := acc_first m c ⟨4 * i, by omega⟩ (by dsimp only; omega) a b
  have e1 := acc_mid m c ⟨4 * i + 1, by omega⟩ (by dsimp only; omega) (by dsimp only; omega) a b
  have e2 := acc_mid m c ⟨4 * i + 2, by omega⟩ (by dsimp only; omega) (by dsimp only; omega) a b
  have e3 := out_last m c ⟨4 * i + 3, h3⟩ (by dsimp only; omega) a b
  dsimp only at e0 e1 e2 e3
  rw [show 4 * i / 4 = i by omega] at e0
  rw [show (4 * i + 1) / 4 = i by omega, show (4 * i + 1) % 4 = 1 by omega] at e1
  rw [show (4 * i + 2) / 4 = i by omega, show (4 * i + 2) % 4 = 2 by omega] at e2
  rw [show (4 * i + 3) / 4 = i by omega, show (4 * i + 3) % 4 = 3 by omega] at e3
  refine e3.trans (congrArg (· + _) ?_)
  refine e2.trans (congrArg (· + _) ?_)
  refine e1.trans (congrArg (· + _) ?_)
  exact e0

/-- The result: the product over all columns. -/
theorem result (t : Fin 4096) (b : Fin 1024) : (G2 m c : S4096x1024.Idx → EReal) (ix2 t b)
    = ∑ k : Fin 5632, argC m c t.val k.val * argW m c b.val k.val := by
  have hp : pt2Of (ix2 t b) = 4 * (t.val / 2048) + 3 := by
    show 4 * (1 * (t.val / 2048 - 0) + 1 * (b.val / 1024 - 0)) + 3 = _
    rw [Nat.div_eq_of_lt b.isLt]; omega
  have hlt : 4 * (t.val / 2048) + 3 < cfg0.N := by rw [show cfg0.N = 8 from N_0]; omega
  have hl : loc2Of (ix2 t b) = ix2 ⟨t.val % 2048, Nat.mod_lt _ (by decide)⟩ b := by
    funext x
    apply Fin.ext
    match x with
    | ⟨0, _⟩ => rfl
    | ⟨1, _⟩ => exact Nat.mod_eq_of_lt b.isLt
  unfold G2
  rw [dif_pos (by rw [hp]; exact hlt), hl, ← outsAt0_sweep m c _ (by rw [hp]; exact hlt)]
  have e : ∀ n (hn : n < cfg0.N), n = 4 * (t.val / 2048) + 3 → (outsAt0 m c n hn).1 (ix2 ⟨t.val % 2048, Nat.mod_lt _ (by decide)⟩ b)
      = ((part m c 0 (t.val / 2048) (t.val % 2048) b.val + part m c 1 (t.val / 2048) (t.val % 2048) b.val) + part m c 2 (t.val / 2048) (t.val % 2048) b.val)
        + part m c 3 (t.val / 2048) (t.val % 2048) b.val := by
    intro n hn hne
    subst hne
    exact out_all m c (t.val / 2048) (by omega) hn ⟨t.val % 2048, Nat.mod_lt _ (by decide)⟩ b
  rw [e _ _ hp, sum_quarters (fun k => argC m c t.val k * argW m c b.val k)]
  unfold part
  rw [Nat.div_add_mod]

end Cert.UpDxIdeal.Ffn

end
-- ==== Proof.Ffn.UpDxEquation.lean ====
module

public import proofs.«01_k».proof.Defs
public import proofs.«01_k».proof.Proof.Ffn.UpDx
public import proofs.«01_k».proof.Proof.Gen.UpDxRefIdeal.Run
public import proofs.«01_k».proof.Proof.Gen.UpDxRefIdeal.Read
public import Idealize.ShloMosaic.Lib.Quiescent

@[expose] public section

set_option maxRecDepth 16384

noncomputable section

/-! The gradient of the up projection's input: the call's blocked sum and the one product agree. -/

namespace Cert.UpDxRefIdeal.Ffn

open Idealize.ShloMosaic Idealize.ShloMosaic.TcCoe Idealize.SL.Sem
open Cert.UpDxRefIdeal Cert.UpDxRefIdeal.Gen Cert.UpDxRefIdeal.Read

theorem value (x0 : FVec Ideal S1024x5632 .f32) (x1 : FVec Ideal S4096x5632 .f32) (t : Fin 4096) (b : Fin 1024) :
    val_main_v2 (F := Ideal) x0 x1 (ix2 t b) = ∑ k : Fin 5632, x1 (ix2 t k) * x0 (ix2 b k) := by
  pointwise [val_main_v2]

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v2_eq _ _), (h c).2⟩, sem_eq_zero_of_no_sems (by decide) r.2⟩)
    (Cert.UpDxRefIdeal.Value.run m ρ)

end Cert.UpDxRefIdeal.Ffn

namespace Cert.Proof

open Idealize.ShloMosaic Idealize.SL.Sem Idealize.ShloMosaic.TcCoe

theorem frame_UpDxRef : Cert.quiescent_UpDxRefIdeal (hUpDxRefIdeal := Cert.UpDxRefIdeal.Gen.facts) := fun m ρ _ =>
  (θ_run Cert.UpDxRefIdeal.defs _ _).mono (fun _ h => ⟨fun c => (h.1 c).2, h.2⟩) (Cert.UpDxRefIdeal.Ffn.run_main m ρ)

/-- Kernel and reference agree. -/
theorem equal_UpDx (m : (ℓ : Loc UpDxIdeal.nD UpDxIdeal.τ UpDxIdeal.sig) → Buf (Elt Ideal) ℓ) (c : Dev UpDxIdeal.nD) :
    (UpDxIdeal.Value.G2 m c : UpDxIdeal.S4096x1024.Idx → EReal)
      = UpDxRefIdeal.Read.val_main_v2 (F := Ideal) (m ((c.tc : Thread UpDxIdeal.nD UpDxIdeal.τ).loc UpDxIdeal.main_arg0)) (m ((c.tc : Thread UpDxIdeal.nD UpDxIdeal.τ).loc UpDxIdeal.main_arg1)) := by
  funext y
  obtain ⟨t, b, rfl⟩ : ∃ (t : Fin 4096) (b : Fin 1024), y = ix2 t b :=
    ⟨y 0, y 1, funext fun a => match a with | ⟨0, _⟩ => rfl | ⟨1, _⟩ => rfl⟩
  refine (UpDxIdeal.Ffn.result m c t b).trans ((UpDxRefIdeal.Ffn.value _ _ t b).trans ?_).symm
  refine Finset.sum_congr rfl fun k _ => ?_
  unfold UpDxIdeal.Ffn.argW UpDxIdeal.Ffn.argC
  rw [_root_.Ffn.mat_apply, _root_.Ffn.mat_apply]

/-- The blocked gradient of the up projection's input and the gradient of the plain product are equal over the extended reals. -/
theorem algebraic_UpDx : Cert.algebraic_UpDxIdeal_UpDxRefIdeal (hUpDxIdeal := Cert.UpDxIdeal.Gen.facts) (hUpDxRefIdeal := Cert.UpDxRefIdeal.Gen.facts) :=
  fun m g m' g' _ hargs =>
  ⟨fun c => UpDxIdeal.Value.G2 m c, UpDxIdeal.Value.run m g,
    (θ_run Cert.UpDxRefIdeal.defs _ _).mono (fun r h c => by
      obtain ⟨e0, e1⟩ := hargs c
      obtain ⟨r0, rest⟩ := h.1 c
      refine ⟨r0.trans ?_, rest⟩
      refine Eq.trans ?_ (equal_UpDx m c).symm
      rw [e0, e1]) (Cert.UpDxRefIdeal.Ffn.run_main m' g')⟩

end Cert.Proof

end
-- ==== Proof.Ffn.UpDw.lean ====
module

public import proofs.«01_k».proof.Proof.Ffn.Base
public import proofs.«01_k».proof.Proof.Gen.UpDwIdeal.Value
public import Idealize.ShloMosaic.Lib.Pipeline.ReadBack
public import Idealize.ShloMosaic.Lib.StableHlo.RunRead

@[expose] public section

set_option maxRecDepth 16384

noncomputable section

/-! The gradient of the up projection's weight, as the call computes it: two blocks of rows added into an accumulator. -/

namespace Cert.UpDwIdeal.Ffn

open Idealize.ShloMosaic Idealize.ShloMosaic.TcCoe Cert.UpDwIdeal Cert.UpDwIdeal.Gen Cert.UpDwIdeal.Value
open _root_.Ffn

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S2048x1024 .bf16) (harg3 : arg3.IsWhole) (arg4 : Memref sig .tc .vmem S1x2048x1408 .bf16) (harg4 : arg4.IsWhole)
  (arg5 : Memref sig .tc .vmem S1x1024x1408 .bf16) (harg5 : arg5.IsWhole) (arg6 : Memref sig .tc .vmem S1024x1408 .f32) (harg6 : arg6.IsWhole)
  (x0 : Vec Ideal S2048x1024 .bf16) (x1 : Vec Ideal S1x2048x1408 .bf16) (acc : Vec Ideal S1024x1408 .f32)

/-- What the first of the two points leaves in the accumulator. -/
theorem first_eq (hc0 : cond0_0 i) (hc1 : ¬cond0_1 i) :
    sout0_A_0 (F := Ideal) c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, shapeCast_self]
  simp only [View.canon_cons_unit_zero (S := S1024x1408) hz2, View.readCov_unit_zero (S := S1024x1408) _ hz2, View.ld_unit_zero (S := S2048x1024) hz2, View.ld_unit_zero (S := S1x2048x1408) hz3]

/-- What the last of the two points writes to the result. -/
theorem last_eq (hc0 : ¬cond0_0 i) (hc1 : cond0_1 i) :
    out0_B_2 (F := Ideal) c i arg3 harg3 arg4 harg4 arg5 harg5 arg6 harg6 hc0 hc1 x0 x1 acc = k0_pay3 (k0_pay2 acc x0 x1) := by
  unfold out0_B_2
  rw [View.read_writes_eq_canon _ _ _ (cover0_B_2 c i arg3 harg3 arg4 harg4 arg5 harg5 arg6 harg6 hc0 hc1 x0 x1 acc)]
  unfold kernelRun0_B
  dsimp only
  sl_unfold_words
  simp only [View.readAt_eq_ld, harg3.read_unread, harg4.read_unread, harg5.read_unread, harg6.read_unread, shapeCast_self]
  simp only [View.canon_unit_zero (S := S1x1024x1408) hz3, View.readCov_unit_zero (S := S1024x1408) _ hz2, View.ld_unit_zero (S := S1024x1408) hz2, View.ld_unit_zero (S := S2048x1024) hz2, View.ld_unit_zero (S := S1x2048x1408) hz3]

theorem zero_apply (a : Fin 1024) (b : Fin 1408) : (k0_pay1 (F := Ideal)) (ix2 a b) = 0 := by
  pointwise [k0_pay1]

theorem step_apply (a : Fin 1024) (b : Fin 1408) : k0_pay2 acc x0 x1 (ix2 a b) = acc (ix2 a b) + ∑ k : Fin 2048, x0 (ix2 k a) * x1 (ix3 0 k b) := by
  pointwise [k0_pay2]

theorem cast_apply (a : Fin 1024) (b : Fin 1408) : k0_pay3 acc (ix3 0 a b) = acc (ix2 a b) := by
  pointwise [k0_pay3]

end

variable (m : (ℓ : Loc nD τ sig) → Buf (Elt Ideal) ℓ) (c : Dev nD)

/-- The first argument, the projection's input. -/
def argH : ℕ → ℕ → EReal := mat (m ((c : Thread nD τ).loc main_arg0) : S4096x1024.Idx → EReal)
/-- The second argument, the cotangent. -/
def argC : ℕ → ℕ → EReal := mat (m ((c : Thread nD τ).loc main_arg1) : S4096x5632.Idx → EReal)

/-- The cotangent's two halves, one above the other. -/
abbrev halvesOf (A : FVec Ideal S4096x5632 .f32) : FVec Ideal S2x4096x2816 .bf16 :=
  truncf (F := Ideal) .bf16 (concatenate S2x4096x2816 0
    [⟨S1x4096x2816, (broadcastInDim S1x4096x2816 ![1, 2] bcast_S4096x2816_S1x4096x2816_1_2 (extractStridedSlice S4096x2816 ![0, 0] A slices_S4096x5632_S4096x2816_0_0 : FVec Ideal S4096x2816 .f32) : FVec Ideal S1x4096x2816 .f32)⟩,
     ⟨S1x4096x2816, (broadcastInDim S1x4096x2816 ![1, 2] bcast_S4096x2816_S1x4096x2816_1_2 (extractStridedSlice S4096x2816 ![0, 2816] A slices_S4096x5632_S4096x2816_0_2816 : FVec Ideal S4096x2816 .f32) : FVec Ideal S1x4096x2816 .f32)⟩]
    concatenates_S1x4096x2816_S1x4096x2816_S2x4096x2816_d0 : FVec Ideal S2x4096x2816 .f32) bitsLt_bf16_f32

theorem halvesOf_apply' (A : FVec Ideal S4096x5632 .f32) (h : Fin 2) (k : Fin 4096) (j : Fin 2816) :
    halvesOf A (ix3 h k j) = if _h : h.val < 1 then A (ix2 k ⟨j.val, by omega⟩) else A (ix2 k ⟨2816 + j.val, by omega⟩) := by
  pointwise [halvesOf]

theorem halvesOf_apply (A : FVec Ideal S4096x5632 .f32) (h : Fin 2) (k : Fin 4096) (j : Fin 2816) :
    halvesOf A (ix3 h k j) = A (ix2 k ⟨2816 * h.val + j.val, by omega⟩) := by
  rw [halvesOf_apply']
  by_cases h0 : h.val < 1
  · rw [dif_pos h0]; exact congrArg (fun x => A (ix2 k x)) (Fin.ext (by dsimp only; omega))
  · rw [dif_neg h0]; exact congrArg (fun x => A (ix2 k x)) (Fin.ext (by dsimp only; omega))

theorem host0 : V m c main_v0 = (truncf (F := Ideal) .bf16 (m ((c : Thread nD τ).loc main_arg0) : FVec Ideal S4096x1024 .f32) bitsLt_bf16_f32 : FVec Ideal S4096x1024 .bf16) := by
  after_reads_simp

theorem host6 : V m c main_v6 = halvesOf (m ((c : Thread nD τ).loc main_arg1) : FVec Ideal S4096x5632 .f32) := by
  unfold halvesOf
  after_reads_simp
  rfl

theorem index_0 : ∀ t : Fin cfg0.N, win0_0.index t 0 = t.val % 2 ∧ win0_0.index t 1 = 0 :=
  (by decide +kernel : ∀ t : Fin grid0.N, win0_0.index t 0 = t.val % 2 ∧ win0_0.index t 1 = 0)

theorem index_1 : ∀ t : Fin cfg0.N, win0_1.index t 0 = t.val / 2 / 2 ∧ win0_1.index t 1 = t.val % 2 ∧ win0_1.index t 2 = t.val / 2 % 2 :=
  (by decide +kernel : ∀ t : Fin grid0.N, win0_1.index t 0 = t.val / 2 / 2 ∧ win0_1.index t 1 = t.val % 2 ∧ win0_1.index t 2 = t.val / 2 % 2)

theorem block_0 (t : Fin cfg0.N) (k : Fin 2048) (a : Fin 1024) :
    (iblk m c 0 t : Vec Ideal S2048x1024 .bf16) (ix2 k a) = argH m c (2048 * (t.val % 2) + k.val) a.val := by
  have ht : t.val < 8 := lt_of_lt_of_eq t.isLt N_0
  unfold argH
  rw [mat_of _ _ _ (by omega) (by omega)]
  unfold iblk
  rw [View.read_apply]
  show V m c main_v0 _ = _
  rw [host0]
  show (m ((c : Thread nD τ).loc main_arg0) : S4096x1024.Idx → EReal) _ = (m ((c : Thread nD τ).loc main_arg0) : S4096x1024.Idx → EReal) _
  congr 1
  funext x
  apply Fin.ext
  match x with
  | ⟨0, _⟩ => show win0_0.index t 0 * 2048 + 1 * k.val = 2048 * (t.val % 2) + k.val; rw [(index_0 t).1]; omega
  | ⟨1, _⟩ => show win0_0.index t 1 * 1024 + 1 * a.val = a.val; rw [(index_0 t).2]; omega

theorem block_1 (t : Fin cfg0.N) (k : Fin 2048) (b : Fin 1408) :
    (iblk m c 1 t : Vec Ideal S1x2048x1408 .bf16) (ix3 0 k b) = argC m c (2048 * (t.val % 2) + k.val) (1408 * (t.val / 2) + b.val) := by
  have ht : t.val < 8 := lt_of_lt_of_eq t.isLt N_0
  unfold argC
  rw [mat_of _ _ _ (by omega) (by omega)]
  unfold iblk
  rw [View.read_apply]
  show V m c main_v6 _ = _
  have e : (((cfg0.win 1).blk t).view.emb (ix3 0 k b) : S2x4096x2816.Idx) = ix3 ⟨t.val / 2 / 2, by omega⟩ ⟨2048 * (t.val % 2) + k.val, by omega⟩ ⟨1408 * (t.val / 2 % 2) + b.val, by omega⟩ := by
    funext x
    apply Fin.ext
    match x with
    | ⟨0, _⟩ => show win0_1.index t 0 * 1 + 1 * 0 = t.val / 2 / 2; rw [(index_1 t).1]; omega
    | ⟨1, _⟩ => show win0_1.index t 1 * 2048 + 1 * k.val = 2048 * (t.val % 2) + k.val; rw [(index_1 t).2.1]; omega
    | ⟨2, _⟩ => show win0_1.index t 2 * 1408 + 1 * b.val = 1408 * (t.val / 2 % 2) + b.val; rw [(index_1 t).2.2]; omega
  rw [host6]
  refine (congrArg _ e).trans ((halvesOf_apply _ _ _ _).trans ?_)
  exact congrArg (fun x => (m ((c : Thread nD τ).loc main_arg1) : S4096x5632.Idx → EReal) (ix2 _ x)) (Fin.ext (by dsimp only; omega))

/-- One block of rows' part of the gradient. -/
def part (h p a b : ℕ) : EReal := ∑ k : Fin 2048, argH m c (2048 * h + k.val) a * argC m c (2048 * h + k.val) (1408 * p + b)

/-- The accumulator after the first of a block's two points. -/
theorem acc_first (t : Fin cfg0.N) (h0 : t.val % 2 = 0) (a : Fin 1024) (b : Fin 1408) :
    (outsAt0 m c t.val t.isLt).2 (ix2 a b) = part m c 0 (t.val / 2) a.val b.val := by
  rw [outsAt0_A m c t h0 (by omega)]
  dsimp only
  rw [first_eq, step_apply, zero_apply, zero_add]
  unfold part
  refine Finset.sum_congr rfl fun k _ => ?_
  rw [block_0 m c t k a, block_1 m c t k b, h0]

/-- What the last of a block's two points writes. -/
theorem out_last (t : Fin cfg0.N) (h1 : t.val % 2 = 1) (a : Fin 1024) (b : Fin 1408) :
    (outsAt0 m c t.val t.isLt).1 (ix3 0 a b) = part m c 0 (t.val / 2) a.val b.val + part m c 1 (t.val / 2) a.val b.val := by
  rw [outsAt0_B m c t (by omega) h1]
  dsimp only
  rw [last_eq, cast_apply, step_apply]
  have e := acc_first m c ⟨t.val - 1, Nat.lt_of_le_of_lt (Nat.sub_le _ _) t.isLt⟩ (by dsimp only; omega) a b
  dsimp only at e
  rw [e, show (t.val - 1) / 2 = t.val / 2 by omega]
  congr 1
  unfold part
  refine Finset.sum_congr rfl fun k _ => ?_
  rw [block_0 m c t k a, block_1 m c t k b, h1]

/-- The result: the product over all rows, its columns in four blocks. -/
theorem result (s : Fin 4) (a : Fin 1024) (b : Fin 1408) : (G2 m c : S4x1024x1408.Idx → EReal) (ix3 s a b)
    = ∑ k : Fin 4096, argH m c k.val a.val * argC m c k.val (1408 * s.val + b.val) := by
  have hp : pt2Of (ix3 s a b) = 2 * s.val + 1 := by
    show 2 * (1 * (s.val / 1 - 0) + 1 * (a.val / 1024 - 0) + 1 * (b.val / 1408 - 0)) + 1 = _
    rw [Nat.div_eq_of_lt a.isLt, Nat.div_eq_of_lt b.isLt, Nat.div_one]; omega
  have hlt : 2 * s.val + 1 < cfg0.N := by rw [show cfg0.N = 8 from N_0]; omega
  have hl : loc2Of (ix3 s a b) = ix3 0 a b := by
    funext x
    apply Fin.ext
    match x with
    | ⟨0, _⟩ => exact Nat.mod_one _
    | ⟨1, _⟩ => exact Nat.mod_eq_of_lt a.isLt
    | ⟨2, _⟩ => exact Nat.mod_eq_of_lt b.isLt
  unfold G2
  rw [dif_pos (by rw [hp]; exact hlt), hl, ← outsAt0_sweep m c _ (by rw [hp]; exact hlt)]
  have e : ∀ n (hn : n < cfg0.N), n = 2 * s.val + 1 → (outsAt0 m c n hn).1 (ix3 0 a b)
      = part m c 0 s.val a.val b.val + part m c 1 s.val a.val b.val := by
    intro n hn hne
    have := out_last m c ⟨n, hn⟩ (by dsimp only; omega) a b
    dsimp only at this
    rw [this, show n / 2 = s.val by omega]
  rw [e _ _ hp, sum_halves (fun k => argH m c k a.val * argC m c k (1408 * s.val + b.val))]
  rfl

end Cert.UpDwIdeal.Ffn

end
-- ==== Proof.Ffn.UpDwEquation.lean ====
module

public import proofs.«01_k».proof.Defs
public import proofs.«01_k».proof.Proof.Ffn.UpDw
public import proofs.«01_k».proof.Proof.Gen.UpDwRefIdeal.Run
public import proofs.«01_k».proof.Proof.Gen.UpDwRefIdeal.Read
public import Idealize.ShloMosaic.Lib.Quiescent

@[expose] public section

set_option maxRecDepth 16384

noncomputable section

/-! The gradient of the up projection's weight: the call's blocked sum and the one product agree. -/

namespace Cert.UpDwRefIdeal.Ffn

open Idealize.ShloMosaic Idealize.ShloMosaic.TcCoe Idealize.SL.Sem
open Cert.UpDwRefIdeal Cert.UpDwRefIdeal.Gen Cert.UpDwRefIdeal.Read

/-- The gradient before its columns are cut into four. -/
theorem whole (x0 : FVec Ideal S4096x1024 .f32) (x1 : FVec Ideal S4096x5632 .f32) (a : Fin 1024) (j : Fin 5632) :
    val_main_v4 (F := Ideal) x0 x1 (ix2 a j) = ∑ k : Fin 4096, x1 (ix2 k j) * x0 (ix2 k a) := by
  pointwise [val_main_v4, val_main_v3, val_main_v2]

theorem cut (x0 : FVec Ideal S4096x1024 .f32) (x1 : FVec Ideal S4096x5632 .f32) (s : Fin 4) (a : Fin 1024) (b : Fin 1408) :
    val_main_v13 (F := Ideal) x0 x1 (ix3 s a b) = if _h : s.val < 1 then val_main_v4 (F := Ideal) x0 x1 (ix2 a ⟨b.val, by omega⟩)
      else if _h : s.val - 1 < 1 then val_main_v4 (F := Ideal) x0 x1 (ix2 a ⟨1408 + b.val, by omega⟩)
      else if _h : s.val - 1 - 1 < 1 then val_main_v4 (F := Ideal) x0 x1 (ix2 a ⟨2816 + b.val, by omega⟩)
      else val_main_v4 (F := Ideal) x0 x1 (ix2 a ⟨4224 + b.val, by omega⟩) := by
  unfold val_main_v13 val_main_v12 val_main_v11 val_main_v10 val_main_v9 val_main_v8 val_main_v7 val_main_v6 val_main_v5
  generalize val_main_v4 (F := Ideal) x0 x1 = A
  pointwise

theorem value (x0 : FVec Ideal S4096x1024 .f32) (x1 : FVec Ideal S4096x5632 .f32) (s : Fin 4) (a : Fin 1024) (b : Fin 1408) :
    val_main_v13 (F := Ideal) x0 x1 (ix3 s a b) = ∑ k : Fin 4096, x1 (ix2 k ⟨1408 * s.val + b.val, by omega⟩) * x0 (ix2 k a) := by
  rw [cut, ← whole]
  by_cases h0 : s.val < 1
  · rw [dif_pos h0]; exact congrArg (fun j => val_main_v4 (F := Ideal) x0 x1 (ix2 a j)) (Fin.ext (by dsimp only; omega))
  rw [dif_neg h0]
  by_cases h1 : s.val - 1 < 1
  · rw [dif_pos h1]; exact congrArg (fun j => val_main_v4 (F := Ideal) x0 x1 (ix2 a j)) (Fin.ext (by dsimp only; omega))
  rw [dif_neg h1]
  by_cases h2 : s.val - 1 - 1 < 1
  · rw [dif_pos h2]; exact congrArg (fun j => val_main_v4 (F := Ideal) x0 x1 (ix2 a j)) (Fin.ext (by dsimp only; omega))
  rw [dif_neg h2]
  exact congrArg (fun j => val_main_v4 (F := Ideal) x0 x1 (ix2 a j)) (Fin.ext (by dsimp only; omega))

variable (m : (ℓ : Loc nD τ sig) → Buf (Elt Ideal) ℓ) (ρ : Dev nD → PrngReg)

/-- The reference runs; its result is its last stage, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v13) = val_main_v13 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (val_main_v13_eq _ _), (h c).2⟩, sem_eq_zero_of_no_sems (by decide) r.2⟩)
    (Cert.UpDwRefIdeal.Value.run m ρ)

end Cert.UpDwRefIdeal.Ffn

namespace Cert.Proof

open Idealize.ShloMosaic Idealize.SL.Sem Idealize.ShloMosaic.TcCoe

theorem frame_UpDwRef : Cert.quiescent_UpDwRefIdeal (hUpDwRefIdeal := Cert.UpDwRefIdeal.Gen.facts) := fun m ρ _ =>
  (θ_run Cert.UpDwRefIdeal.defs _ _).mono (fun _ h => ⟨fun c => (h.1 c).2, h.2⟩) (Cert.UpDwRefIdeal.Ffn.run_main m ρ)

/-- Kernel and reference agree. -/
theorem equal_UpDw (m : (ℓ : Loc UpDwIdeal.nD UpDwIdeal.τ UpDwIdeal.sig) → Buf (Elt Ideal) ℓ) (c : Dev UpDwIdeal.nD) :
    (UpDwIdeal.Value.G2 m c : UpDwIdeal.S4x1024x1408.Idx → EReal)
      = UpDwRefIdeal.Read.val_main_v13 (F := Ideal) (m ((c.tc : Thread UpDwIdeal.nD UpDwIdeal.τ).loc UpDwIdeal.main_arg0)) (m ((c.tc : Thread UpDwIdeal.nD UpDwIdeal.τ).loc UpDwIdeal.main_arg1)) := by
  funext y
  obtain ⟨s, a, b, rfl⟩ : ∃ (s : Fin 4) (a : Fin 1024) (b : Fin 1408), y = ix3 s a b :=
    ⟨y 0, y 1, y 2, funext fun a => match a with | ⟨0, _⟩ => rfl | ⟨1, _⟩ => rfl | ⟨2, _⟩ => rfl⟩
  refine (UpDwIdeal.Ffn.result m c s a b).trans ((UpDwRefIdeal.Ffn.value _ _ s a b).trans ?_).symm
  refine Finset.sum_congr rfl fun k _ => ?_
  unfold UpDwIdeal.Ffn.argH UpDwIdeal.Ffn.argC
  rw [_root_.Ffn.mat_apply, _root_.Ffn.mat_of _ _ _ k.isLt (by omega), mul_comm]

/-- The blocked gradient of the up projection's weight and the gradient of the plain product are equal over the extended reals. -/
theorem algebraic_UpDw : Cert.algebraic_UpDwIdeal_UpDwRefIdeal (hUpDwIdeal := Cert.UpDwIdeal.Gen.facts) (hUpDwRefIdeal := Cert.UpDwRefIdeal.Gen.facts) :=
  fun m g m' g' _ hargs =>
  ⟨fun c => UpDwIdeal.Value.G2 m c, UpDwIdeal.Value.run m g,
    (θ_run Cert.UpDwRefIdeal.defs _ _).mono (fun r h c => by
      obtain ⟨e0, e1⟩ := hargs c
      obtain ⟨r0, rest⟩ := h.1 c
      refine ⟨r0.trans ?_, rest⟩
      refine Eq.trans ?_ (equal_UpDw m c).symm
      rw [e0, e1]) (Cert.UpDwRefIdeal.Ffn.run_main m' g')⟩

end Cert.Proof

end
-- ==== Proof.Pool.Spec.lean ====
module

public import Idealize.ShloMosaic.Lib.Pointwise

@[expose] public section

noncomputable section

/-!
  The mathematics of the pooling, over plain functions of row and column numbers: `u t l` is channel `l` of the pooled
  input at step `t`, `W g c d` the mixing matrix of group `g`, `sc l` the scale, `ct t l` the cotangent. Group `g` holds
  the columns `256 g … 256 g + 255` and averages over the last `2 ^ (g + 1)` steps.
-/

namespace Pool

open Idealize.ShloMosaic

/-- The number of steps that are averaged in the group of column `l`. -/
def wlen (l : ℕ) : ℕ := 2 ^ (l / 256 + 1)

/-- The divisor at step `t` of a window of `w` steps: the steps there are, up to `w`. -/
def cnt (w t : ℕ) : EReal := (((min (t + 1) w : ℕ) : ℝ) : EReal)

/-- The sum of column `l` over the `w` steps that end at `t` (fewer at the start). -/
def back (u : ℕ → ℕ → EReal) (w t l : ℕ) : EReal := ∑ k ∈ Finset.range w, if k ≤ t then u (t - k) l else 0

/-- The pooled value: the mean over the window less the current step. -/
def pooled (u : ℕ → ℕ → EReal) (t l : ℕ) : EReal := Ideal.div (back u (wlen l) t l) (cnt (wlen l) t) - u t l

/-- The pooled row times the group's mixing matrix, before the scale. -/
def mixed (u : ℕ → ℕ → EReal) (W : ℕ → ℕ → ℕ → EReal) (t l : ℕ) : EReal :=
  ∑ c : Fin 256, pooled u t (256 * (l / 256) + c.val) * W (l / 256) c.val (l % 256)

/-- The cotangent of the product: the result's cotangent times the scale. -/
def dmix (ct : ℕ → ℕ → EReal) (sc : ℕ → EReal) (t l : ℕ) : EReal := ct t l * sc l

/-- The cotangent of the pooled value. -/
def dpool (ct : ℕ → ℕ → EReal) (sc : ℕ → EReal) (W : ℕ → ℕ → ℕ → EReal) (t l : ℕ) : EReal :=
  ∑ d : Fin 256, dmix ct sc t (256 * (l / 256) + d.val) * W (l / 256) (l % 256) d.val

/-- The cotangent of the input: the windows that a step is in, ahead of it, less the step's own. -/
def dinput (ct : ℕ → ℕ → EReal) (sc : ℕ → EReal) (W : ℕ → ℕ → ℕ → EReal) (t l : ℕ) : EReal :=
  (∑ k ∈ Finset.range (wlen l), Ideal.div (dpool ct sc W (t + k) l) (cnt (wlen l) (t + k))) - dpool ct sc W t l

/-- The part of the mixing matrix's cotangent that the steps `256 b … 256 b + 255` contribute. -/
def dweightBlk (u ct : ℕ → ℕ → EReal) (sc : ℕ → EReal) (b g c d : ℕ) : EReal :=
  ∑ r : Fin 256, pooled u (256 * b + r.val) (256 * g + c) * dmix ct sc (256 * b + r.val) (256 * g + d)

/-- The part of the scale's cotangent that the steps `256 b … 256 b + 255` contribute. -/
def dscaleBlk (u ct : ℕ → ℕ → EReal) (W : ℕ → ℕ → ℕ → EReal) (b l : ℕ) : EReal :=
  ∑ r : Fin 256, ct (256 * b + r.val) l * mixed u W (256 * b + r.val) l

/-- A matrix as a function of row and column numbers, zero outside. -/
def at2 (A : (⟨2, ![4096, 1024]⟩ : Shape).Idx → EReal) (t l : ℕ) : EReal :=
  if h : t < 4096 ∧ l < 1024 then A (ix2 ⟨t, h.1⟩ ⟨l, h.2⟩) else 0

theorem at2_apply (A : (⟨2, ![4096, 1024]⟩ : Shape).Idx → EReal) (t : Fin 4096) (l : Fin 1024) : at2 A t.val l.val = A (ix2 t l) :=
  dif_pos ⟨t.isLt, l.isLt⟩

theorem at2_beyond (A : (⟨2, ![4096, 1024]⟩ : Shape).Idx → EReal) (t l : ℕ) (h : 4096 ≤ t) : at2 A t l = 0 :=
  dif_neg fun h' => absurd h'.1 (by omega)

/-- The mixing matrices as a function of group, row and column numbers, zero outside. -/
def at3 (A : (⟨3, ![4, 256, 256]⟩ : Shape).Idx → EReal) (g c d : ℕ) : EReal :=
  if h : g < 4 ∧ c < 256 ∧ d < 256 then A (ix3 ⟨g, h.1⟩ ⟨c, h.2.1⟩ ⟨d, h.2.2⟩) else 0

theorem at3_apply (A : (⟨3, ![4, 256, 256]⟩ : Shape).Idx → EReal) (g : Fin 4) (c d : Fin 256) : at3 A g.val c.val d.val = A (ix3 g c d) :=
  dif_pos ⟨g.isLt, c.isLt, d.isLt⟩

/-- A vector as a function of the column number, zero outside. -/
def at1 (A : (⟨1, ![1024]⟩ : Shape).Idx → EReal) (l : ℕ) : EReal :=
  if h : l < 1024 then A (ix1 ⟨l, h⟩) else 0

theorem at1_apply (A : (⟨1, ![1024]⟩ : Shape).Idx → EReal) (l : Fin 1024) : at1 A l.val = A (ix1 l) :=
  dif_pos l.isLt

end Pool

end
-- ==== Proof.Pool.Telescope.lean ====
module

public import proofs.«01_k».proof.Proof.Pool.Spec

@[expose] public section

noncomputable section

/-!
  Differences of running sums are sums over a window, where every term is a real number.
-/

namespace Pool

open Idealize.ShloMosaic

/-- The value is a real number. -/
def Fin' (x : EReal) : Prop := ∃ r : ℝ, x = (r : EReal)

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.zero : Fin' 0 := ⟨0, EReal.coe_zero.symm⟩

theorem Fin'.sum {ι : Type} (s : Finset ι) (f : ι → EReal) (h : ∀ i, Fin' (f i)) : Fin' (∑ i ∈ s, f i) := by
  classical
  induction s using Finset.induction_on with
  | empty => rw [Finset.sum_empty]; exact Fin'.zero
  | insert a s ha ih => rw [Finset.sum_insert ha]; exact (h a).add ih

theorem Fin'.div {x : EReal} (hx : Fin' x) (w t : ℕ) (hw : 0 < w) : Fin' (Ideal.div x (cnt w t)) := by
  obtain ⟨a, rfl⟩ := hx
  by_cases h : ((min (t + 1) w : ℕ) : ℝ) = 0
  · exact absurd h (by have : 0 < min (t + 1) w := by omega
                       exact_mod_cast this.ne')
  · unfold cnt
    rw [Ideal.div_coe h, ← EReal.coe_mul]
    exact ⟨_, rfl⟩

/-- The sum of real numbers, taken among the extended reals. -/
theorem coe_sum (n : ℕ) (r : ℕ → ℝ) : ∑ k ∈ Finset.range n, (r k : EReal) = ((∑ k ∈ Finset.range n, r k : ℝ) : EReal) := by
  induction n with
  | zero => simp
  | succ n ih => rw [Finset.sum_range_succ, Finset.sum_range_succ, ih, EReal.coe_add]

theorem window_real (r : ℕ → ℝ) (t w : ℕ) :
    ∑ k ∈ Finset.range (t + 1), r k - ∑ k ∈ Finset.range (t + 1 - w), r k = ∑ k ∈ Finset.range w, if k ≤ t then r (t - k) else 0 := by
  induction w with
  | zero => simp
  | succ w ih =>
    rw [Finset.sum_range_succ (n := w), ← ih]
    by_cases h : w ≤ t
    · rw [if_pos h, show t + 1 - w = (t - w) + 1 from by omega, show t + 1 - (w + 1) = t - w from by omega, Finset.sum_range_succ r (t - w)]
      ring
    · rw [if_neg h, show t + 1 - w = 0 from by omega, show t + 1 - (w + 1) = 0 from by omega]
      simp

/-- The difference of two running sums, `w` steps apart, is the sum over the window. -/
theorem back_eq (u : ℕ → ℕ → EReal) (hu : ∀ t l, Fin' (u t l)) (w t l : ℕ) :
    back u w t l = (∑ k ∈ Finset.range (t + 1), u k l) - (if t < w then 0 else ∑ k ∈ Finset.range (t - w + 1), u k l) := by
  choose r hr using hu
  unfold back
  have e1 : (if t < w then (0 : EReal) else ∑ k ∈ Finset.range (t - w + 1), u k l) = ∑ k ∈ Finset.range (t + 1 - w), u k l := by
    split
    · rw [show t + 1 - w = 0 from by omega, Finset.sum_range_zero]
    · rw [show t + 1 - w = t - w + 1 from by omega]
  rw [e1]
  simp only [hr]
  rw [coe_sum, coe_sum, ← EReal.coe_sub, window_real (fun k => r k l), ← coe_sum]
  refine Finset.sum_congr rfl fun k _ => ?_
  split
  · rfl
  · exact EReal.coe_zero.symm

theorem ahead_real (f : ℕ → ℝ) (w M : ℕ) :
    ∑ k ∈ Finset.range M, (f k - f (k + w)) = ∑ k ∈ Finset.range w, f k - ∑ k ∈ Finset.range w, f (M + k) := by
  induction M with
  | zero => simp
  | succ M ih =>
    have h := Finset.sum_range_succ (fun k => f (M + k)) w
    have h' := Finset.sum_range_succ' (fun k => f (M + k)) w
    have e : ∑ k ∈ Finset.range w, f (M + (k + 1)) = ∑ k ∈ Finset.range w, f (M + 1 + k) :=
      Finset.sum_congr rfl fun k _ => congrArg f (by omega)
    rw [Finset.sum_range_succ, ih, ← e, show M + w = M + w from rfl]
    simp only [Nat.add_zero] at h'
    linarith

/-- The reversed running sum of what enters a window less what leaves it is the sum over the window ahead. -/
theorem ahead_eq (e : ℕ → EReal) (he : ∀ t, Fin' (e t)) (h0 : ∀ t, 4096 ≤ t → e t = 0) (w t : ℕ) (ht : t < 4096) :
    ∑ k ∈ Finset.range (4096 - t), (e (t + k) + (if w + (t + k) < 4096 then -e (w + (t + k)) else 0)) = ∑ k ∈ Finset.range w, e (t + k) := by
  choose r hr using he
  have z : ∀ s, 4096 ≤ s → r s = 0 := fun s hs => EReal.coe_injective ((hr s).symm.trans ((h0 s hs).trans EReal.coe_zero.symm))
  have e1 : ∀ k, (e (t + k) + (if w + (t + k) < 4096 then -e (w + (t + k)) else 0)) = ((r (t + k) - r (t + (k + w)) : ℝ) : EReal) := by
    intro k
    rw [EReal.coe_sub, sub_eq_add_neg, hr (t + k), show t + (k + w) = w + (t + k) from by omega]
    split
    · rw [hr]
    · rename_i hc
      rw [z (w + (t + k)) (by omega), EReal.coe_zero, neg_zero]
  rw [Finset.sum_congr rfl fun k _ => e1 k, coe_sum, ahead_real (fun k => r (t + k))]
  have e2 : ∑ k ∈ Finset.range w, r (t + (4096 - t + k)) = 0 := Finset.sum_eq_zero fun k _ => z _ (by omega)
  rw [e2, sub_zero, ← coe_sum]
  exact Finset.sum_congr rfl fun k _ => (hr _).symm

end Pool

end
-- ==== Proof.Ffn.ActMath.lean ====
module

public import proofs.«01_k».proof.Proof.Ffn.Base
public import proofs.«01_k».proof.Proof.Pool.Telescope

@[expose] public section

set_option maxRecDepth 16384

noncomputable section

/-! The gradient of the gate `silu(conv) · v` and of the causal convolution of three taps, at natural numbers. -/

namespace Act

open Idealize.ShloMosaic

/-- The logistic function as the call computes it. -/
def sg (x : EReal) : EReal := Ideal.div 1 (1 + Ideal.exp (0 - x))

/-- The derivative of `x · sg x` as the call computes it. -/
def gateSlope (x : EReal) : EReal := sg x + x * sg x * (1 - sg x)

/-- The cotangent of the gated product: the result's cotangent times the transposed weights. -/
def grad (ct wd : ℕ → ℕ → EReal) (t l : ℕ) : EReal := ∑ k : Fin 1024, ct t k.val * wd l k.val

/-- The cotangent of the convolution's result. -/
def dcv (cv vv g : ℕ → ℕ → EReal) (t l : ℕ) : EReal := g t l * vv t l * gateSlope (cv t l)

/-- The cotangent of the convolution's input: three taps, later rows on earlier ones. -/
def dA (dc w : ℕ → ℕ → EReal) (t l : ℕ) : EReal := dc t l * w 2 l + dc (t + 1) l * w 1 l + dc (t + 2) l * w 0 l

/-- The cotangent of the gate's other factor. -/
def dV (cv g : ℕ → ℕ → EReal) (t l : ℕ) : EReal := g t l * (cv t l * sg (cv t l))

/-- The two cotangents, the convolution's input first. -/
def both (f g : ℕ → ℕ → EReal) (n t l : ℕ) : EReal := if n = 0 then f t l else g t l

/-- One block of rows' part of a tap's gradient: the input against the cotangent `s` rows later. -/
def tapBlk (a dc : ℕ → ℕ → EReal) (s b l : ℕ) : EReal := ∑ r : Fin 256, a (256 * b + r.val) l * dc (256 * b + r.val + s) l

/-- One block of rows' part of the bias gradient. -/
def biasBlk (dc : ℕ → ℕ → EReal) (b l : ℕ) : EReal := ∑ r : Fin 256, dc (256 * b + r.val) l

/-- One block of rows' part of the four sums. -/
def sumBlk (a dc : ℕ → ℕ → EReal) (q b l : ℕ) : EReal :=
  if q = 0 then tapBlk a dc 2 b l else if q = 1 then tapBlk a dc 1 b l else if q = 2 then tapBlk a dc 0 b l else if q = 3 then biasBlk dc b l else 0

theorem grad_beyond (ct wd : ℕ → ℕ → EReal) (h : ∀ t k, 4096 ≤ t → ct t k = 0) (t l : ℕ) (ht : 4096 ≤ t) : grad ct wd t l = 0 := by
  unfold grad
  exact Finset.sum_eq_zero fun k _ => by rw [h _ _ ht, zero_mul]

theorem dcv_beyond (cv vv g : ℕ → ℕ → EReal) (t l : ℕ) (h : g t l = 0) : dcv cv vv g t l = 0 := by
  unfold dcv
  rw [h, zero_mul, zero_mul]

end Act

end
-- ==== Proof.Ffn.ActRef.lean ====
module

public import proofs.«01_k».proof.Proof.Ffn.ActMath
public import proofs.«01_k».proof.Proof.Gen.ActRefIdeal.Run
public import proofs.«01_k».proof.Proof.Gen.ActRefIdeal.Read

@[expose] public section

set_option maxRecDepth 16384

noncomputable section

/-! The values of the gradient of the plain convolution and gate. -/

namespace Act

open Idealize.ShloMosaic

/-- The rows with two rows of zeros in front. -/
def apad (a : ℕ → ℕ → EReal) (s l : ℕ) : EReal := if s < 2 then 0 else a (s - 2) l

/-- The causal convolution of three taps. -/
def conv (a w : ℕ → ℕ → EReal) (b : ℕ → EReal) (t l : ℕ) : EReal :=
  b l + apad a t l * w 0 l + apad a (t + 1) l * w 1 l + apad a (t + 2) l * w 2 l

end Act

namespace Cert.ActRefIdeal.Ffn

open Idealize.ShloMosaic Cert.ActRefIdeal Cert.ActRefIdeal.Gen Cert.ActRefIdeal.Read
open _root_.Ffn _root_.Act

variable (x0 x1 : FVec Ideal S4096x2816 .f32) (x2 : FVec Ideal S3x2816 .f32) (x3 : FVec Ideal S2816 .f32)
  (x4 : FVec Ideal S2816x1024 .f32) (x5 : FVec Ideal S4096x1024 .f32)

theorem padded (s : Fin 4098) (l : Fin 2816) : val_main_v1 (F := Ideal) x0 (ix2 s l) = apad (mat x0) s.val l.val := by
  have h : val_main_v1 (F := Ideal) x0 (ix2 s l) = if h : s.val < 2 then 0 else x0 (ix2 ⟨s.val - 2, by omega⟩ l) := by
    pointwise [val_main_v1, val_main_v0, val_main_cst]
  rw [h]
  unfold apad
  by_cases hs : s.val < 2
  · rw [dif_pos hs, if_pos hs]
  · rw [dif_neg hs, if_neg hs, mat_of _ _ _ (by omega) l.isLt]

theorem rows0 (t : Fin 4096) (l : Fin 2816) : val_main_v3 (F := Ideal) x0 (ix2 t l) = apad (mat x0) t.val l.val := by
  rw [← padded x0 ⟨t.val, by omega⟩ l]
  unfold val_main_v3
  generalize val_main_v1 (F := Ideal) x0 = A
  pointwise

theorem rows1 (t : Fin 4096) (l : Fin 2816) : val_main_v12 (F := Ideal) x0 (ix2 t l) = apad (mat x0) (1 + t.val) l.val := by
  rw [← padded x0 ⟨1 + t.val, by omega⟩ l]
  unfold val_main_v12
  generalize val_main_v1 (F := Ideal) x0 = A
  pointwise

theorem rows2 (t : Fin 4096) (l : Fin 2816) : val_main_v19 (F := Ideal) x0 (ix2 t l) = apad (mat x0) (2 + t.val) l.val := by
  rw [← padded x0 ⟨2 + t.val, by omega⟩ l]
  unfold val_main_v19
  generalize val_main_v1 (F := Ideal) x0 = A
  pointwise

/-- The convolution. -/
theorem conv_value (t : Fin 4096) (l : Fin 2816) :
    val_main_v25 (F := Ideal) x0 x2 x3 (ix2 t l) = conv (mat x0) (mat x2) (vec x3) t.val l.val := by
  have h : val_main_v25 (F := Ideal) x0 x2 x3 (ix2 t l)
      = x3 (ix1 l) + val_main_v3 (F := Ideal) x0 (ix2 t l) * x2 (ix2 0 l) + val_main_v12 (F := Ideal) x0 (ix2 t l) * x2 (ix2 1 l)
        + val_main_v19 (F := Ideal) x0 (ix2 t l) * x2 (ix2 2 l) := by
    unfold val_main_v25 val_main_v18 val_main_v11 val_main_v8 val_main_v17 val_main_v24
    generalize val_main_v3 (F := Ideal) x0 = A
    generalize val_main_v12 (F := Ideal) x0 = B
    generalize val_main_v19 (F := Ideal) x0 = C
    pointwise [val_main_v4, val_main_v5, val_main_v6, val_main_v7, val_main_v9, val_main_v10, val_main_v13, val_main_v14, val_main_v15,
      val_main_v16, val_main_v20, val_main_v21, val_main_v22, val_main_v23]
  rw [h, rows0, rows1, rows2, ← vec_apply x3 l, ← mat_apply x2 0 l, ← mat_apply x2 1 l, ← mat_apply x2 2 l, Nat.add_comm 1, Nat.add_comm 2]
  rfl

/-- The cotangent of the gated product. -/
theorem grad_value (t : Fin 4096) (l : Fin 2816) :
    val_main_v29 (F := Ideal) x4 x5 (ix2 t l) = grad (mat x5) (mat x4) t.val l.val := by
  have h : val_main_v29 (F := Ideal) x4 x5 (ix2 t l) = ∑ k : Fin 1024, x5 (ix2 t k) * x4 (ix2 l k) := by
    pointwise [val_main_v29]
  rw [h]
  unfold grad
  exact Finset.sum_congr rfl fun k _ => by rw [mat_apply, mat_apply]

theorem sig_value (t : Fin 4096) (l : Fin 2816) :
    val_main_v26_2 (F := Ideal) x0 x2 x3 (ix2 t l) = Ideal.div 1 (1 + Ideal.exp (-val_main_v25 (F := Ideal) x0 x2 x3 (ix2 t l))) := by
  unfold val_main_v26_2 val_main_call0_v3 val_main_call0_v1 val_main_call0_v0
  generalize val_main_v25 (F := Ideal) x0 x2 x3 = A
  pointwise [val_main_call0_v4, val_main_call0_v2, val_main_call0_cst, val_main_call0_cst_0]

/-- The other factor's cotangent. -/
theorem dv_value (t : Fin 4096) (l : Fin 2816) :
    val_main_v30 (F := Ideal) x0 x2 x3 x4 x5 (ix2 t l) = dV (conv (mat x0) (mat x2) (vec x3)) (grad (mat x5) (mat x4)) t.val l.val := by
  have h : val_main_v30 (F := Ideal) x0 x2 x3 x4 x5 (ix2 t l) = val_main_v25 (F := Ideal) x0 x2 x3 (ix2 t l) * val_main_v26_2 (F := Ideal) x0 x2 x3 (ix2 t l)
      * val_main_v29 (F := Ideal) x4 x5 (ix2 t l) := rfl
  rw [h, sig_value, grad_value, conv_value]
  unfold dV sg
  rw [mul_comm, zero_sub]

/-- The convolution's cotangent as the plain gradient groups it. -/
theorem dconv_value (t : Fin 4096) (l : Fin 2816) :
    val_main_v32 (F := Ideal) x0 x1 x2 x3 x4 x5 (ix2 t l)
      = (let x := conv (mat x0) (mat x2) (vec x3) t.val l.val
         let g := grad (mat x5) (mat x4) t.val l.val * mat x1 t.val l.val
         g * sg x + x * g * (sg x * (1 - sg x))) := by
  have h1 : val_main_v26_1 (F := Ideal) x0 x2 x3 (ix2 t l) = val_main_v26_2 (F := Ideal) x0 x2 x3 (ix2 t l) * (1 - val_main_v26_2 (F := Ideal) x0 x2 x3 (ix2 t l)) := by
    unfold val_main_v26_1 val_main_call0_v7
    generalize val_main_v26_2 (F := Ideal) x0 x2 x3 = A
    pointwise [val_main_call0_v6, val_main_call0_cst_1]
  have h : val_main_v32 (F := Ideal) x0 x1 x2 x3 x4 x5 (ix2 t l)
      = val_main_v29 (F := Ideal) x4 x5 (ix2 t l) * x1 (ix2 t l) * val_main_v26_2 (F := Ideal) x0 x2 x3 (ix2 t l)
        + val_main_v25 (F := Ideal) x0 x2 x3 (ix2 t l) * (val_main_v29 (F := Ideal) x4 x5 (ix2 t l) * x1 (ix2 t l)) * val_main_v26_1 (F := Ideal) x0 x2 x3 (ix2 t l) := rfl
  rw [h, h1, sig_value, grad_value, conv_value, ← mat_apply x1 t l]
  dsimp only
  unfold sg
  rw [zero_sub]

/-- The bias's cotangent. -/
theorem bias_value (l : Fin 2816) :
    val_main_v55 (F := Ideal) x0 x1 x2 x3 x4 x5 (ix1 l) = ∑ t : Fin 4096, val_main_v32 (F := Ideal) x0 x1 x2 x3 x4 x5 (ix2 t l) := by
  unfold val_main_v55 val_main_v54 val_main_v53
  generalize val_main_v32 (F := Ideal) x0 x1 x2 x3 x4 x5 = D
  pointwise [val_main_cst_9, val_main_cst_10]
  exact Fin.sum_univ_one _

/-- The taps' cotangents. -/
theorem taps_value (q : Fin 3) (l : Fin 2816) :
    val_main_v64 (F := Ideal) x0 x1 x2 x3 x4 x5 (ix2 q l)
      = ((if _h : 2 ≤ q.val ∧ q.val - 2 < 1 then ∑ t : Fin 4096, val_main_v19 (F := Ideal) x0 (ix2 t l) * val_main_v32 (F := Ideal) x0 x1 x2 x3 x4 x5 (ix2 t l) else 0)
        + (if _h : 1 ≤ q.val ∧ q.val - 1 < 1 then ∑ t : Fin 4096, val_main_v12 (F := Ideal) x0 (ix2 t l) * val_main_v32 (F := Ideal) x0 x1 x2 x3 x4 x5 (ix2 t l) else 0))
        + (if _h : q.val < 1 then ∑ t : Fin 4096, val_main_v3 (F := Ideal) x0 (ix2 t l) * val_main_v32 (F := Ideal) x0 x1 x2 x3 x4 x5 (ix2 t l) else 0) := by
  unfold val_main_v64 val_main_v50 val_main_v40 val_main_v39 val_main_v38 val_main_v35 val_main_v34 val_main_v33
    val_main_v49 val_main_v48 val_main_v47 val_main_v44 val_main_v43 val_main_v42 val_main_v63 val_main_v62 val_main_v61 val_main_v58 val_main_v57 val_main_v56
  generalize val_main_v32 (F := Ideal) x0 x1 x2 x3 x4 x5 = D
  generalize val_main_v3 (F := Ideal) x0 = A
  generalize val_main_v12 (F := Ideal) x0 = B
  generalize val_main_v19 (F := Ideal) x0 = C
  pointwise [val_main_cst_1, val_main_cst_2, val_main_cst_3, val_main_cst_5, val_main_cst_6, val_main_cst_7, val_main_cst_11, val_main_cst_12, val_main_cst_13]
  simp only [Fin.sum_univ_one]

/-- The convolution's input's cotangent over the padded rows. -/
theorem pad_value (s : Fin 4098) (l : Fin 2816) :
    val_main_v66 (F := Ideal) x0 x1 x2 x3 x4 x5 (ix2 s l)
      = ((if h : 2 ≤ s.val ∧ s.val - 2 < 4096 then val_main_v32 (F := Ideal) x0 x1 x2 x3 x4 x5 (ix2 ⟨s.val - 2, h.2⟩ l) * x2 (ix2 2 l) else 0)
        + (if h : 1 ≤ s.val ∧ s.val - 1 < 4096 then val_main_v32 (F := Ideal) x0 x1 x2 x3 x4 x5 (ix2 ⟨s.val - 1, h.2⟩ l) * x2 (ix2 1 l) else 0))
        + (if h : s.val < 4096 then val_main_v32 (F := Ideal) x0 x1 x2 x3 x4 x5 (ix2 ⟨s.val, h⟩ l) * x2 (ix2 0 l) else 0) := by
  unfold val_main_v66 val_main_v52 val_main_v41 val_main_v37 val_main_v51 val_main_v46 val_main_v65 val_main_v60
  generalize val_main_v32 (F := Ideal) x0 x1 x2 x3 x4 x5 = D
  pointwise [val_main_v36, val_main_v45, val_main_v59, val_main_v4, val_main_v5, val_main_v6, val_main_v13, val_main_v14, val_main_v15, val_main_v20, val_main_v21, val_main_v22,
    val_main_cst_4, val_main_cst_8, val_main_cst_14]

/-- The first result: the two cotangents, one after the other. -/
theorem stack_value (n : Fin 2) (t : Fin 4096) (l : Fin 2816) :
    val_main_v72 (F := Ideal) x0 x1 x2 x3 x4 x5 (ix3 n t l)
      = if n.val < 1 then val_main_v66 (F := Ideal) x0 x1 x2 x3 x4 x5 (ix2 ⟨2 + t.val, by omega⟩ l) else val_main_v30 (F := Ideal) x0 x2 x3 x4 x5 (ix2 t l) := by
  unfold val_main_v72 val_main_v71 val_main_v69 val_main_v70 val_main_v68
  generalize val_main_v66 (F := Ideal) x0 x1 x2 x3 x4 x5 = D
  generalize val_main_v30 (F := Ideal) x0 x2 x3 x4 x5 = E
  have h : ∀ P Q : EReal, (if _h : n.val < 1 then P else Q) = if n.val < 1 then P else Q := fun _ _ => dite_eq_ite
  rw [← h]
  pointwise []

end Cert.ActRefIdeal.Ffn

end
-- ==== Proof.Pool.Finite.lean ====
module

public import proofs.«01_k».proof.Proof.Pool.Telescope
public import proofs.«01_k».proof.Pre_finite

@[expose] public section

noncomputable section

/-!
  What the precondition says: every element of the four arguments is a real number.
-/

namespace Pool

open Idealize.ShloMosaic

/-- An element whose absolute value compares below infinity is a real number. -/
theorem fin_of_lt (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have hlt : max x (-x) < ⊤ := by
    by_contra hc
    simp [Ideal.cmp, hc] at h
  have h1 : x ≠ ⊤ := fun e => by subst e; simp at hlt
  have h2 : x ≠ ⊥ := fun e => by subst e; simp at hlt
  exact ⟨x.toReal, (EReal.coe_toReal h1 h2).symm⟩

theorem fin_of_word {s : Shape} (hb : (⟨0, ![]⟩ : Shape).BroadcastsInDim s (![] : Fin 0 → Fin s.rank)) (A : FVec Ideal s .f32)
    (h : cmpf .olt (Host.absf A) (broadcastInDim s ![] hb (constant (F := Ideal) ⟨0, ![]⟩ .f32 0x7F800000#32)) = fun _ => 1#1) (i : s.Idx) :
    Fin' (A i) :=
  fin_of_lt (A i) (congrFun h i)

theorem at2_fin (A : (⟨2, ![4096, 1024]⟩ : Shape).Idx → EReal) (h : ∀ i, Fin' (A i)) (t l : ℕ) : Fin' (at2 A t l) := by
  unfold at2
  split
  · exact h _
  · exact Fin'.zero

theorem at3_fin (A : (⟨3, ![4, 256, 256]⟩ : Shape).Idx → EReal) (h : ∀ i, Fin' (A i)) (g c d : ℕ) : Fin' (at3 A g c d) := by
  unfold at3
  split
  · exact h _
  · exact Fin'.zero

theorem at1_fin (A : (⟨1, ![1024]⟩ : Shape).Idx → EReal) (h : ∀ i, Fin' (A i)) (l : ℕ) : Fin' (at1 A l) := by
  unfold at1
  split
  · exact h _
  · exact Fin'.zero

end Pool

end
-- ==== Proof.Pool.Groups.lean ====
module

public import proofs.«01_k».proof.Proof.Pool.Telescope

@[expose] public section

noncomputable section

/-!
  The pooling's values at column `c` of group `g`, column `256 g + c` of all.
-/

namespace Pool

open Idealize.ShloMosaic

theorem group_div (g c : ℕ) (hc : c < 256) : (256 * g + c) / 256 = g := by omega

theorem group_mod (g c : ℕ) (hc : c < 256) : (256 * g + c) % 256 = c := by omega

theorem wlen_group (g c : ℕ) (hc : c < 256) : wlen (256 * g + c) = 2 ^ (g + 1) := by
  unfold wlen
  rw [group_div g c hc]

theorem wlen_pos (l : ℕ) : 0 < wlen l := Nat.two_pow_pos _

/-- The pooled value as the reference has it: two running sums subtracted. -/
theorem pooled_group (u : ℕ → ℕ → EReal) (hu : ∀ t l, Fin' (u t l)) (t g c w : ℕ) (hc : c < 256) (hw : 2 ^ (g + 1) = w) :
    pooled u t (256 * g + c)
      = Ideal.div ((∑ k ∈ Finset.range (t + 1), u k (256 * g + c)) - (if t < w then 0 else ∑ k ∈ Finset.range (t - w + 1), u k (256 * g + c))) (cnt w t)
        - u t (256 * g + c) := by
  unfold pooled
  rw [wlen_group g c hc, hw, back_eq u hu]

theorem mixed_group (u : ℕ → ℕ → EReal) (W : ℕ → ℕ → ℕ → EReal) (t g c : ℕ) (hc : c < 256) :
    mixed u W t (256 * g + c) = ∑ x : Fin 256, pooled u t (256 * g + x.val) * W g x.val c := by
  unfold mixed
  rw [group_div g c hc, group_mod g c hc]

theorem dpool_group (ct : ℕ → ℕ → EReal) (sc : ℕ → EReal) (W : ℕ → ℕ → ℕ → EReal) (t g c : ℕ) (hc : c < 256) :
    dpool ct sc W t (256 * g + c) = ∑ x : Fin 256, dmix ct sc t (256 * g + x.val) * W g c x.val := by
  unfold dpool
  rw [group_div g c hc, group_mod g c hc]

theorem dpool_fin (ct : ℕ → ℕ → EReal) (sc : ℕ → EReal) (W : ℕ → ℕ → ℕ → EReal) (hct : ∀ t l, Fin' (ct t l)) (hsc : ∀ l, Fin' (sc l))
    (hW : ∀ g c d, Fin' (W g c d)) (t l : ℕ) : Fin' (dpool ct sc W t l) :=
  Fin'.sum _ _ fun _ => ((hct _ _).mul (hsc _)).mul (hW _ _ _)

theorem dpool_beyond (ct : ℕ → ℕ → EReal) (sc : ℕ → EReal) (W : ℕ → ℕ → ℕ → EReal) (t l : ℕ) (h0 : ∀ l, ct t l = 0) : dpool ct sc W t l = 0 := by
  unfold dpool dmix
  refine Finset.sum_eq_zero fun d _ => ?_
  rw [h0, zero_mul, zero_mul]

/-- The mean's cotangent, of the steps' own group. -/
def dmean (ct : ℕ → ℕ → EReal) (sc : ℕ → EReal) (W : ℕ → ℕ → ℕ → EReal) (t l : ℕ) : EReal := Ideal.div (dpool ct sc W t l) (cnt (wlen l) t)

/-- What enters the running sum's cotangent at step `t`: the mean's cotangent there, less that one window later. -/
def dentry (ct : ℕ → ℕ → EReal) (sc : ℕ → EReal) (W : ℕ → ℕ → ℕ → EReal) (t l : ℕ) : EReal :=
  dmean ct sc W t l + (if wlen l + t < 4096 then -dmean ct sc W (wlen l + t) l else 0)

theorem zero_div_cnt (w t : ℕ) (hw : 0 < w) : Ideal.div 0 (cnt w t) = 0 := by
  unfold cnt
  have h : ((min (t + 1) w : ℕ) : ℝ) ≠ 0 := by
    have : 0 < min (t + 1) w := by omega
    exact_mod_cast this.ne'
  rw [Ideal.div_coe h, zero_mul]

/-- The input's cotangent as the reference has it: less the pooled value's cotangent, plus the reversed running sum. -/
theorem dinput_eq (ct : ℕ → ℕ → EReal) (sc : ℕ → EReal) (W : ℕ → ℕ → ℕ → EReal) (hct : ∀ t l, Fin' (ct t l)) (hsc : ∀ l, Fin' (sc l))
    (hW : ∀ g c d, Fin' (W g c d)) (h0 : ∀ t l, 4096 ≤ t → ct t l = 0) (t l : ℕ) (ht : t < 4096) :
    -dpool ct sc W t l + ∑ k ∈ Finset.range (4096 - t), dentry ct sc W (t + k) l = dinput ct sc W t l := by
  unfold dinput dentry
  rw [ahead_eq (fun t => dmean ct sc W t l) (fun t => Fin'.div (dpool_fin ct sc W hct hsc hW t l) _ _ (wlen_pos l))
    (fun t h => by
      show Ideal.div (dpool ct sc W t l) _ = 0
      rw [dpool_beyond ct sc W t l (fun l => h0 t l h), zero_div_cnt _ _ (wlen_pos l)]) (wlen l) t ht, sub_eq_add_neg, add_comm]
  rfl

/-- A matrix read at literal places. -/
theorem at2_mk (A : (⟨2, ![4096, 1024]⟩ : Shape).Idx → EReal) (t : Fin 4096) (l : ℕ) (h : l < 1024) : A (ix2 t ⟨l, h⟩) = at2 A t.val l :=
  (at2_apply A t ⟨l, h⟩).symm

theorem at1_mk (A : (⟨1, ![1024]⟩ : Shape).Idx → EReal) (l : ℕ) (h : l < 1024) : A (ix1 ⟨l, h⟩) = at1 A l :=
  (at1_apply A ⟨l, h⟩).symm

theorem at3_mk (A : (⟨3, ![4, 256, 256]⟩ : Shape).Idx → EReal) (g : Fin 4) (c d : Fin 256) : A (ix3 g c d) = at3 A g.val c.val d.val :=
  (at3_apply A g c d).symm

/-- A sum over the steps, block by block. -/
theorem sum_steps (f : ℕ → EReal) : ∑ t : Fin 4096, f t.val = ∑ b ∈ Finset.range 16, ∑ r : Fin 256, f (256 * b + r.val) := by
  rw [Fin.sum_univ_tiles 16 256 rfl, Finset.sum_range]
  refine Finset.sum_congr rfl fun b _ => Finset.sum_congr rfl fun r _ => ?_
  exact congrArg f (by show b.val * 256 + r.val = _; rw [Nat.mul_comm])

end Pool

end
-- ==== Proof.Ffn.ActSpec.lean ====
module

public import proofs.«01_k».proof.Proof.Ffn.ActRef
public import proofs.«01_k».proof.Proof.Pool.Finite
public import proofs.«01_k».proof.Proof.Pool.Groups

@[expose] public section

set_option maxRecDepth 16384

noncomputable section

/-! The gate's gradient: the call's grouping and the plain one agree on real numbers, and sums by blocks are whole sums. -/

namespace Act

open Idealize.ShloMosaic
open _root_.Pool _root_.Ffn

theorem mat_fin {a b : ℕ} (A : (⟨2, ![a, b]⟩ : Shape).Idx → EReal) (h : ∀ i, Fin' (A i)) (t l : ℕ) : Fin' (mat A t l) := by
  unfold mat
  split
  · exact h _
  · exact Fin'.zero

theorem vec_fin {a : ℕ} (A : (⟨1, ![a]⟩ : Shape).Idx → EReal) (h : ∀ i, Fin' (A i)) (l : ℕ) : Fin' (vec A l) := by
  unfold vec
  split
  · exact h _
  · exact Fin'.zero

theorem apad_fin (a : ℕ → ℕ → EReal) (h : ∀ t l, Fin' (a t l)) (s l : ℕ) : Fin' (apad a s l) := by
  unfold apad
  split
  · exact Fin'.zero
  · exact h _ _

theorem conv_fin (a w : ℕ → ℕ → EReal) (b : ℕ → EReal) (ha : ∀ t l, Fin' (a t l)) (hw : ∀ t l, Fin' (w t l)) (hb : ∀ l, Fin' (b l)) (t l : ℕ) :
    Fin' (conv a w b t l) :=
  (((hb l).add ((apad_fin a ha _ _).mul (hw _ _))).add ((apad_fin a ha _ _).mul (hw _ _))).add ((apad_fin a ha _ _).mul (hw _ _))

theorem grad_fin (ct wd : ℕ → ℕ → EReal) (hc : ∀ t l, Fin' (ct t l)) (hw : ∀ t l, Fin' (wd t l)) (t l : ℕ) : Fin' (grad ct wd t l) :=
  Fin'.sum _ _ fun _ => (hc _ _).mul (hw _ _)

/-- The logistic function of a real number. -/
theorem sg_coe (r : ℝ) : sg (r : EReal) = ((1 / (1 + Real.exp (-r)) : ℝ) : EReal) := by
  have h : (1 + Real.exp (-r)) ≠ 0 := by have := Real.exp_pos (-r); positivity
  unfold sg
  rw [zero_sub, ← EReal.coe_neg, Ideal.exp_coe, ← EReal.coe_one, ← EReal.coe_add, Ideal.div_coe h, ← EReal.coe_mul, one_mul]

/-- The two groupings of the convolution's cotangent. -/
theorem slope_eq (x g : EReal) (hx : Fin' x) (hg : Fin' g) : g * sg x + x * g * (sg x * (1 - sg x)) = g * gateSlope x := by
  obtain ⟨r, rfl⟩ := hx
  obtain ⟨q, rfl⟩ := hg
  unfold gateSlope
  rw [sg_coe, ← EReal.coe_one]
  generalize 1 / (1 + Real.exp (-r)) = s
  simp only [← EReal.coe_mul, ← EReal.coe_add, ← EReal.coe_sub]
  exact congrArg _ (by ring)

/-- A sum of padded rows against later rows is the sum of the rows against rows further on. -/
theorem shift_sum (a dc : ℕ → ℕ → EReal) (l q k : ℕ) (hq : q + k = 2) (hdc : ∀ t, 4096 ≤ t → dc t l = 0) :
    ∑ t ∈ Finset.range 4096, apad a (q + t) l * dc t l = ∑ t ∈ Finset.range 4096, a t l * dc (t + k) l := by
  have h1 : ∑ t ∈ Finset.range 4096, apad a (q + t) l * dc t l = ∑ j ∈ Finset.range (4096 - k), a j l * dc (j + k) l := by
    rw [show 4096 = k + (4096 - k) by omega, Finset.sum_range_add, show k + (4096 - k) - k = 4096 - k by omega]
    rw [Finset.sum_eq_zero (fun t ht => by
      have := Finset.mem_range.mp ht
      unfold apad
      rw [if_pos (by omega), zero_mul]), zero_add]
    refine Finset.sum_congr rfl fun j _ => ?_
    unfold apad
    rw [if_neg (by omega), show q + (k + j) - 2 = j by omega, Nat.add_comm k j]
  have h2 : ∑ t ∈ Finset.range 4096, a t l * dc (t + k) l = ∑ j ∈ Finset.range (4096 - k), a j l * dc (j + k) l := by
    rw [show 4096 = (4096 - k) + k by omega, Finset.sum_range_add, show 4096 - k + k - k = 4096 - k by omega]
    rw [Finset.sum_eq_zero (s := Finset.range k) (fun t _ => by rw [hdc _ (by omega), mul_zero]), add_zero]
  rw [h1, h2]

/-- The taps' parts over all blocks of rows. -/
theorem taps_total (a dc : ℕ → ℕ → EReal) (s l : ℕ) :
    ∑ b ∈ Finset.range 16, tapBlk a dc s b l = ∑ t ∈ Finset.range 4096, a t l * dc (t + s) l := by
  rw [← Fin.sum_univ_eq_sum_range (fun t => a t l * dc (t + s) l) 4096, sum_steps (fun t => a t l * dc (t + s) l)]
  rfl

/-- The bias's parts over all blocks of rows. -/
theorem bias_total (dc : ℕ → ℕ → EReal) (l : ℕ) :
    ∑ b ∈ Finset.range 16, biasBlk dc b l = ∑ t ∈ Finset.range 4096, dc t l := by
  rw [← Fin.sum_univ_eq_sum_range (fun t => dc t l) 4096, sum_steps (fun t => dc t l)]
  rfl

end Act

namespace Cert.ActRefIdeal.Ffn

open Idealize.ShloMosaic Cert.ActRefIdeal Cert.ActRefIdeal.Gen Cert.ActRefIdeal.Read
open _root_.Ffn _root_.Act _root_.Pool

variable (x0 : FVec Ideal S4096x2816 .f32) (x1 : FVec Ideal S4096x2816 .f32) (x2 : FVec Ideal S3x2816 .f32) (x3 : FVec Ideal S2816 .f32)
  (x4 : FVec Ideal S2816x1024 .f32) (x5 : FVec Ideal S4096x1024 .f32)
  (h0 : ∀ i, Fin' (x0 i)) (h1 : ∀ i, Fin' (x1 i)) (h2 : ∀ i, Fin' (x2 i)) (h3 : ∀ i, Fin' (x3 i)) (h4 : ∀ i, Fin' (x4 i)) (h5 : ∀ i, Fin' (x5 i))

/-- The convolution's cotangent of the call, from the reference's arguments. -/
def dcOf : ℕ → ℕ → EReal := dcv (conv (mat x0) (mat x2) (vec x3)) (mat x1) (grad (mat x5) (mat x4))

theorem dcOf_beyond (t l : ℕ) (h : 4096 ≤ t) : dcOf x0 x1 x2 x3 x4 x5 t l = 0 :=
  dcv_beyond _ _ _ _ _ (grad_beyond _ _ (fun t k ht => by unfold mat; rw [dif_neg (by omega)]) _ _ h)

include h0 h1 h2 h3 h4 h5

theorem dconv_eq (t : Fin 4096) (l : Fin 2816) :
    val_main_v32 (F := Ideal) x0 x1 x2 x3 x4 x5 (ix2 t l) = dcOf x0 x1 x2 x3 x4 x5 t.val l.val := by
  rw [dconv_value]
  exact slope_eq _ _ (conv_fin _ _ _ (mat_fin _ h0) (mat_fin _ h2) (vec_fin _ h3) _ _) ((grad_fin _ _ (mat_fin _ h5) (mat_fin _ h4) _ _).mul (mat_fin _ h1 _ _))

/-- A guarded row of the convolution's cotangent times a tap. -/
theorem tap_row (q : Fin 3) (n : ℕ) (l : Fin 2816) (h : n < 4096) :
    val_main_v32 (F := Ideal) x0 x1 x2 x3 x4 x5 (ix2 ⟨n, h⟩ l) * x2 (ix2 q l) = dcOf x0 x1 x2 x3 x4 x5 n l.val * mat x2 q.val l.val := by
  rw [dconv_eq x0 x1 x2 x3 x4 x5 h0 h1 h2 h3 h4 h5, mat_apply]

/-- The first result. -/
theorem first_eq (n : Fin 2) (t : Fin 4096) (l : Fin 2816) :
    val_main_v72 (F := Ideal) x0 x1 x2 x3 x4 x5 (ix3 n t l)
      = both (dA (dcOf x0 x1 x2 x3 x4 x5) (mat x2)) (dV (conv (mat x0) (mat x2) (vec x3)) (grad (mat x5) (mat x4))) n.val t.val l.val := by
  rw [stack_value]
  unfold both
  by_cases hn : n.val < 1
  · rw [if_pos hn, if_pos (show n.val = 0 by omega), pad_value]
    unfold dA
    have row := tap_row x0 x1 x2 x3 x4 x5 h0 h1 h2 h3 h4 h5
    have e2 : (if h : 2 ≤ 2 + t.val ∧ 2 + t.val - 2 < 4096 then val_main_v32 (F := Ideal) x0 x1 x2 x3 x4 x5 (ix2 ⟨2 + t.val - 2, h.2⟩ l) * x2 (ix2 2 l) else 0)
        = dcOf x0 x1 x2 x3 x4 x5 t.val l.val * mat x2 2 l.val := by
      rw [dif_pos (by omega)]
      refine (row 2 (2 + t.val - 2) l (by omega)).trans ?_
      rw [show 2 + t.val - 2 = t.val by omega]
      rfl
    have e1 : (if h : 1 ≤ 2 + t.val ∧ 2 + t.val - 1 < 4096 then val_main_v32 (F := Ideal) x0 x1 x2 x3 x4 x5 (ix2 ⟨2 + t.val - 1, h.2⟩ l) * x2 (ix2 1 l) else 0)
        = dcOf x0 x1 x2 x3 x4 x5 (t.val + 1) l.val * mat x2 1 l.val := by
      by_cases hb : t.val + 1 < 4096
      · rw [dif_pos (by omega)]
        refine (row 1 (2 + t.val - 1) l (by omega)).trans ?_
        rw [show 2 + t.val - 1 = t.val + 1 by omega]
        rfl
      · rw [dif_neg (by omega), dcOf_beyond _ _ _ _ _ _ _ _ (by omega), zero_mul]
    have e0 : (if h : 2 + t.val < 4096 then val_main_v32 (F := Ideal) x0 x1 x2 x3 x4 x5 (ix2 ⟨2 + t.val, h⟩ l) * x2 (ix2 0 l) else 0)
        = dcOf x0 x1 x2 x3 x4 x5 (t.val + 2) l.val * mat x2 0 l.val := by
      by_cases hb : t.val + 2 < 4096
      · rw [dif_pos (by omega)]
        refine (row 0 (2 + t.val) l (by omega)).trans ?_
        rw [show 2 + t.val = t.val + 2 by omega]
        rfl
      · rw [dif_neg (by omega), dcOf_beyond _ _ _ _ _ _ _ _ (by omega), zero_mul]
    exact congrArg₂ (· + ·) (congrArg₂ (· + ·) e2 e1) e0
  · rw [if_neg hn, if_neg (show ¬ n.val = 0 by omega), dv_value]

/-- The bias's gradient. -/
theorem bias_eq (l : Fin 2816) :
    val_main_v55 (F := Ideal) x0 x1 x2 x3 x4 x5 (ix1 l) = ∑ b ∈ Finset.range 16, biasBlk (dcOf x0 x1 x2 x3 x4 x5) b l.val := by
  rw [bias_value, bias_total, ← Fin.sum_univ_eq_sum_range (fun t => dcOf x0 x1 x2 x3 x4 x5 t l.val) 4096]
  exact Finset.sum_congr rfl fun t _ => dconv_eq x0 x1 x2 x3 x4 x5 h0 h1 h2 h3 h4 h5 t l

/-- One tap's gradient. -/
theorem tap_sum (A : FVec Ideal S4096x2816 .f32) (q k : ℕ) (hq : q + k = 2) (hA : ∀ (t : Fin 4096) (l : Fin 2816), A (ix2 t l) = apad (mat x0) (q + t.val) l.val) (l : Fin 2816) :
    (∑ t : Fin 4096, A (ix2 t l) * val_main_v32 (F := Ideal) x0 x1 x2 x3 x4 x5 (ix2 t l)) = ∑ b ∈ Finset.range 16, tapBlk (mat x0) (dcOf x0 x1 x2 x3 x4 x5) k b l.val := by
  rw [taps_total, ← shift_sum (mat x0) (dcOf x0 x1 x2 x3 x4 x5) l.val q k hq (fun t ht => dcOf_beyond _ _ _ _ _ _ t _ ht),
    ← Fin.sum_univ_eq_sum_range (fun t => apad (mat x0) (q + t) l.val * dcOf x0 x1 x2 x3 x4 x5 t l.val) 4096]
  exact Finset.sum_congr rfl fun t _ => by rw [hA, dconv_eq x0 x1 x2 x3 x4 x5 h0 h1 h2 h3 h4 h5 t l]

/-- The taps' gradients. -/
theorem taps_eq (q : Fin 3) (l : Fin 2816) :
    val_main_v64 (F := Ideal) x0 x1 x2 x3 x4 x5 (ix2 q l) = ∑ b ∈ Finset.range 16, sumBlk (mat x0) (dcOf x0 x1 x2 x3 x4 x5) q.val b l.val := by
  rw [taps_value]
  have s := tap_sum x0 x1 x2 x3 x4 x5 h0 h1 h2 h3 h4 h5
  unfold sumBlk
  match q with
  | ⟨0, _⟩ =>
    rw [dif_neg (by dsimp only; omega), dif_neg (by dsimp only; omega), dif_pos (by dsimp only; omega), zero_add, zero_add]
    exact s _ 0 2 rfl (fun t l => by rw [rows0, Nat.zero_add]) l
  | ⟨1, _⟩ =>
    rw [dif_neg (by dsimp only; omega), dif_pos (by dsimp only; omega), dif_neg (by dsimp only; omega), zero_add, add_zero]
    exact s _ 1 1 rfl (fun t l => rows1 x0 t l) l
  | ⟨2, _⟩ =>
    rw [dif_pos (by dsimp only; omega), dif_neg (by dsimp only; omega), dif_neg (by dsimp only; omega), add_zero, add_zero]
    exact s _ 2 0 rfl (fun t l => rows2 x0 t l) l

end Cert.ActRefIdeal.Ffn

end
-- ==== Proof.Ffn.ActHost.lean ====
module

public import proofs.«01_k».proof.Proof.Ffn.ActRef
public import proofs.«01_k».proof.Proof.Gen.ActIdeal.Frame
public import Idealize.ShloMosaic.Lib.StableHlo.RunRead

@[expose] public section

set_option maxRecDepth 16384

noncomputable section

/-! What the gate's backward call reads: the arrays its host code prepares, in terms of the arguments. -/

namespace Cert.ActIdeal.Ffn

open Idealize.ShloMosaic Idealize.ShloMosaic.TcCoe Idealize.ShloMosaic.Tactic Idealize.SL.Sem Cert.ActIdeal Cert.ActIdeal.Gen
open _root_.Act _root_.Ffn

variable (m : (ℓ : Loc nD τ sig) → Buf (Elt Ideal) ℓ) (c : Dev nD)

/-- The cotangent, recast. -/
theorem host_ct : (V m c main_v28 : Vec Ideal S4096x1024 .bf16) = (m ((c : Thread nD τ).loc main_arg5) : Vec Ideal S4096x1024 .f32) := by
  have e : V0 m c (Proc.devRef .tc main_v28) = (truncf (F := Ideal) .bf16 (m ((c : Thread nD τ).loc main_arg5) : Vec Ideal S4096x1024 .f32) bitsLt_bf16_f32 : Vec Ideal S4096x1024 .bf16) := by
    after_reads_simp
  exact e

/-- The down projection's weights laid out under one leading axis, recast. -/
def wdOf (A : Vec Ideal S2816x1024 .f32) : Vec Ideal S1x2816x1024 .bf16 :=
  truncf (F := Ideal) .bf16 (shapeCast S1x2816x1024 A shapeCasts_S2816x1024_S1x2816x1024) bitsLt_bf16_f32

theorem wdOf_apply (A : Vec Ideal S2816x1024 .f32) (l : Fin 2816) (k : Fin 1024) : wdOf A (ix3 0 l k) = A (ix2 l k) := by
  pointwise [wdOf]

theorem host_wd_eq : V0 m c (Proc.devRef .tc main_v30) = wdOf (m ((c : Thread nD τ).loc main_arg4)) := by
  unfold wdOf
  after_reads_simp
  rfl

theorem host_wd (l : Fin 2816) (k : Fin 1024) :
    (V m c main_v30 : Vec Ideal S1x2816x1024 .bf16) (ix3 0 l k) = mat (m ((c : Thread nD τ).loc main_arg4) : Vec Ideal S2816x1024 .f32) l.val k.val :=
  ((congrFun (host_wd_eq m c) (ix3 0 l k)).trans (wdOf_apply _ l k)).trans (mat_apply (a := 2816) (b := 1024) _ l k).symm

/-- The gate's input and the other factor side by side, recast. -/
theorem host_both (t : Fin 4096) (l : Fin 5632) :
    (V m c main_v1 : Vec Ideal S4096x5632 .bf16) (ix2 t l)
      = if _h : l.val < 2816 then mat (m ((c : Thread nD τ).loc main_arg0)) t.val l.val else mat (m ((c : Thread nD τ).loc main_arg1)) t.val (l.val - 2816) := by
  have e : V0 m c (Proc.devRef .tc main_v1) = (truncf (F := Ideal) .bf16 (concatenate S4096x5632 1 [⟨S4096x2816, (m ((c : Thread nD τ).loc main_arg0) : Vec Ideal S4096x2816 .f32)⟩, ⟨S4096x2816, (m ((c : Thread nD τ).loc main_arg1) : Vec Ideal S4096x2816 .f32)⟩] concatenates_S4096x2816_S4096x2816_S4096x5632_d1) bitsLt_bf16_f32 : Vec Ideal S4096x5632 .bf16) := by
    after_reads_simp
    rfl
  refine (congrFun e _).trans ?_
  generalize m ((c : Thread nD τ).loc main_arg0) = A
  generalize m ((c : Thread nD τ).loc main_arg1) = B
  by_cases h : l.val < 2816
  · rw [dif_pos h, mat_of A _ _ t.isLt h]
    pointwise []
    exact dif_pos h
  · rw [dif_neg h, mat_of B _ _ t.isLt (by omega)]
    pointwise []
    exact dif_neg h

/-- The convolution of the gate's input, recast. -/
theorem host_conv (t : Fin 4096) (l : Fin 2816) :
    (V m c main_v27 : Vec Ideal S4096x2816 .bf16) (ix2 t l)
      = conv (mat (m ((c : Thread nD τ).loc main_arg0))) (mat (m ((c : Thread nD τ).loc main_arg2))) (vec (m ((c : Thread nD τ).loc main_arg3))) t.val l.val := by
  have e : V0 m c (Proc.devRef .tc main_v27) = Cert.ActRefIdeal.Read.val_main_v25 (F := Ideal) (m ((c : Thread nD τ).loc main_arg0)) (m ((c : Thread nD τ).loc main_arg2)) (m ((c : Thread nD τ).loc main_arg3)) := by
    after_reads_simp
    rfl
  exact (congrFun e _).trans (Cert.ActRefIdeal.Ffn.conv_value _ _ _ t l)

end Cert.ActIdeal.Ffn

end
-- ==== Proof.Pool.Words.lean ====
module

public import proofs.«01_k».proof.Proof.Pool.Spec

@[expose] public section

noncomputable section

/-! Step counters kept as 32-bit words, and the divisor they give. -/

namespace Pool

open Idealize.ShloMosaic

theorem toInt_ofNat (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The smaller of two small naturals, as words. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [BitVec.slt, toInt_ofNat a ha, toInt_ofNat b hb]
  rcases Nat.lt_or_ge a b with h | h
  · rw [if_pos (by simpa using h), min_eq_left h.le]
  · rw [if_neg (by simpa using h), min_eq_right h]

/-- The step number of row `r` of block `b`, plus an offset's worth of one, capped at `w`: the divisor. -/
theorem cnt_word (t w : ℕ) (ht : t < 2 ^ 30) (hw : w < 2 ^ 30) :
    FloatOps.sitofp (F := Ideal) .f32 (IntOp.minsi (IntOp.addi (BitVec.ofNat 32 t) 1#32) (BitVec.ofNat 32 w)) = cnt w t := by
  have h1 : IntOp.addi (BitVec.ofNat 32 t) 1#32 = BitVec.ofNat 32 (t + 1) := (BitVec.ofNat_add t 1).symm
  rw [h1, minsi_ofNat _ _ (by omega) (by omega)]
  show (((BitVec.ofNat 32 (min (t + 1) w)).toInt : ℝ) : EReal) = _
  rw [toInt_ofNat _ (by omega)]
  unfold cnt
  norm_cast

/-- The step number of row `r` of block `b`, as the kernel counts it. -/
theorem step_word (b r : ℕ) : IntOp.addi (Scalar.muli (BitVec.ofNat 32 b) 256#32) (BitVec.ofNat 32 r) = BitVec.ofNat 32 (256 * b + r) := by
  have h1 : Scalar.muli (BitVec.ofNat 32 b) 256#32 = BitVec.ofNat 32 (b * 256) := (BitVec.ofNat_mul b 256).symm
  rw [h1, Nat.mul_comm]
  exact (BitVec.ofNat_add (256 * b) r).symm

theorem select_sgt (b : ℕ) (hb : b < 2 ^ 31) (x y : EReal) :
    Scalar.select (Scalar.cmpi .sgt (BitVec.ofNat 32 b) 0#32) x y = if 0 < b then x else y := by
  have h : (Scalar.cmpi .sgt (BitVec.ofNat 32 b) 0#32 = 1) ↔ 0 < b := by
    have := toInt_ofNat b hb
    by_cases hb0 : 0 < b <;> simp [Scalar.cmpi, IntOp.cmpi, BitVec.slt, this, hb0]
  unfold Scalar.select
  by_cases hb0 : 0 < b
  · rw [if_pos hb0, if_pos (h.2 hb0)]
  · rw [if_neg hb0, if_neg (fun e => hb0 (h.1 e))]

theorem select_slt (b n : ℕ) (hb : b < 2 ^ 31) (hn : n < 2 ^ 31) (x y : EReal) :
    Scalar.select (Scalar.cmpi .slt (BitVec.ofNat 32 b) (BitVec.ofNat 32 n)) x y = if b < n then x else y := by
  have h : (Scalar.cmpi .slt (BitVec.ofNat 32 b) (BitVec.ofNat 32 n) = 1) ↔ b < n := by
    have h1 := toInt_ofNat b hb
    have h2 := toInt_ofNat n hn
    by_cases hb0 : b < n <;> simp [Scalar.cmpi, IntOp.cmpi, BitVec.slt, h1, h2, hb0]
  unfold Scalar.select
  by_cases hb0 : b < n
  · rw [if_pos hb0, if_pos (h.2 hb0)]
  · rw [if_neg hb0, if_neg (fun e => hb0 (h.1 e))]

end Pool

end
-- ==== Proof.Ffn.ActPoint.lean ====
module

public import proofs.«01_k».proof.Proof.Gen.ActIdeal.Frame
public import proofs.«01_k».proof.Proof.Pool.Words
public import proofs.«01_k».proof.Proof.Ffn.ActMath
public import Idealize.ShloMosaic.Lib.Pipeline.ReadBack

@[expose] public section

set_option maxRecDepth 16384

noncomputable section

/-! What one grid point of the gate's backward call computes from its blocks. -/

namespace Cert.ActIdeal.Ffn

open Idealize.ShloMosaic Cert.ActIdeal Cert.ActIdeal.Gen
open _root_.Act _root_.Pool

theorem ext_bf16 (x : Vec Ideal S256x1408 .bf16) (x' : Vec Ideal S16x1408 .bf16) (e : Fin 272) (l : Fin 1408) :
    k0_pay3 (F := Ideal) x x' (ix2 e l) = if h : e.val < 256 then x (ix2 ⟨e.val, h⟩ l) else x' (ix2 ⟨e.val - 256, by omega⟩ l) := by
  pointwise [k0_pay3]

theorem ext_bf16' (x : Vec Ideal S256x1408 .bf16) (x' : Vec Ideal S16x1408 .bf16) (e : Fin 272) (l : Fin 1408) :
    k0_pay4 (F := Ideal) x x' (ix2 e l) = if h : e.val < 256 then x (ix2 ⟨e.val, h⟩ l) else x' (ix2 ⟨e.val - 256, by omega⟩ l) := by
  pointwise [k0_pay4]

theorem ext_grad (i : grid0.Coords) (x0 : Vec Ideal S256x1024 .bf16) (x1 : Vec Ideal S16x1024 .bf16) (x2 : Vec Ideal S1x1408x1024 .bf16) (e : Fin 272) (l : Fin 1408) :
    k0_pay5 (F := Ideal) i x0 x2 x1 x2 (ix2 e l) = if h : e.val < 256 then ∑ k : Fin 1024, x0 (ix2 ⟨e.val, h⟩ k) * x2 (ix3 0 l k)
      else Scalar.select (Scalar.cmpi .slt (BitVec.ofNat 32 (i 1).val) 15#32) (∑ k : Fin 1024, x1 (ix2 ⟨e.val - 256, by omega⟩ k) * x2 (ix3 0 l k)) 0 := by
  pointwise [k0_pay5]

theorem sig_apply (v : FVec Ideal S272x1408 .f32) (e : Fin 272) (l : Fin 1408) : k0_pay6 v (ix2 e l) = sg (v (ix2 e l)) := by
  unfold sg
  pointwise [k0_pay6]

theorem dcv_apply (v8 v14 v28 : FVec Ideal S272x1408 .f32) (e : Fin 272) (l : Fin 1408) :
    k0_pay8 v8 v14 v28 (ix2 e l) = v28 (ix2 e l) * v14 (ix2 e l) * gateSlope (v8 (ix2 e l)) := by
  unfold gateSlope
  rw [← sig_apply]
  generalize hs : k0_pay6 v8 = s
  have h : k0_pay8 v8 v14 v28 = mulf (mulf v28 v14) (addf (k0_pay6 v8) (mulf (mulf v8 (k0_pay6 v8)) (subf (broadcast S272x1408 (Scalar.ofBits .f32 0x3F800000#32)) (k0_pay6 v8)))) := rfl
  rw [h, hs]
  pointwise []

theorem ahead1_apply (v8 v14 v28 : FVec Ideal S272x1408 .f32) (e : Fin 272) (l : Fin 1408) :
    k0_pay9 v8 v14 v28 (ix2 e l) = k0_pay8 v8 v14 v28 (ix2 ⟨(e.val + 272 - 271 % 272) % 272, Nat.mod_lt _ (by omega)⟩ l) := by
  unfold k0_pay9
  generalize k0_pay8 v8 v14 v28 = d
  pointwise []

theorem ahead2_apply (v8 v14 v28 : FVec Ideal S272x1408 .f32) (e : Fin 272) (l : Fin 1408) :
    k0_pay10 v8 v14 v28 (ix2 e l) = k0_pay8 v8 v14 v28 (ix2 ⟨(e.val + 272 - 270 % 272) % 272, Nat.mod_lt _ (by omega)⟩ l) := by
  unfold k0_pay10
  generalize k0_pay8 v8 v14 v28 = d
  pointwise []

theorem taps_apply (v8 v14 v28 : FVec Ideal S272x1408 .f32) (w0 w1 w2 : Vec Ideal S1x1408 .f32) (r : Fin 256) (l : Fin 1408) :
    k0_pay11 v8 v14 v28 w0 w1 w2 (ix3 0 r l)
      = k0_pay8 v8 v14 v28 (ix2 ⟨r.val, by omega⟩ l) * w2 (ix2 0 l) + k0_pay9 v8 v14 v28 (ix2 ⟨r.val, by omega⟩ l) * w1 (ix2 0 l)
        + k0_pay10 v8 v14 v28 (ix2 ⟨r.val, by omega⟩ l) * w0 (ix2 0 l) := by
  unfold k0_pay11
  generalize k0_pay8 v8 v14 v28 = d
  generalize k0_pay9 v8 v14 v28 = d1
  generalize k0_pay10 v8 v14 v28 = d2
  pointwise []

theorem other_apply (v8 v28 : FVec Ideal S272x1408 .f32) (r : Fin 256) (l : Fin 1408) :
    k0_pay12 v8 v28 (ix3 0 r l) = v28 (ix2 ⟨r.val, by omega⟩ l) * (v8 (ix2 ⟨r.val, by omega⟩ l) * sg (v8 (ix2 ⟨r.val, by omega⟩ l))) := by
  rw [← sig_apply]
  unfold k0_pay12 k0_pay7
  generalize k0_pay6 v8 = s
  pointwise []

theorem rows_apply (x : Vec Ideal S256x1408 .bf16) (r : Fin 256) (l : Fin 1408) : k0_pay13 (F := Ideal) x (ix2 r l) = x (ix2 r l) := by
  pointwise [k0_pay13]

theorem first_apply (v8 v14 v28 : FVec Ideal S272x1408 .f32) (r : Fin 256) (l : Fin 1408) :
    k0_pay14 v8 v14 v28 (ix2 r l) = k0_pay10 v8 v14 v28 (ix2 ⟨r.val, by omega⟩ l) := by
  unfold k0_pay14
  generalize k0_pay10 v8 v14 v28 = d
  pointwise []

theorem sums_apply (d d1 : FVec Ideal S272x1408 .f32) (a d2 : FVec Ideal S256x1408 .f32) (acc : Vec Ideal S8x1408 .f32) (q : Fin 8) (l : Fin 1408) :
    k0_pay1 d d1 a d2 acc (ix2 q l) = acc (ix2 q l) + (
      if q.val < 1 then ∑ r : Fin 256, a (ix2 r l) * d2 (ix2 r l)
      else if q.val - 1 < 1 then ∑ r : Fin 256, a (ix2 r l) * d1 (ix2 ⟨r.val, by omega⟩ l)
      else if q.val - 1 - 1 < 1 then ∑ r : Fin 256, a (ix2 r l) * d (ix2 ⟨r.val, by omega⟩ l)
      else if q.val - 1 - 1 - 1 < 1 then ∑ r : Fin 256, d (ix2 ⟨r.val, by omega⟩ l) else 0) := by
  pointwise [k0_pay1]
  by_cases h : q.val < 1
  · rw [dif_pos h, if_pos h]
  · rw [dif_neg h, if_neg h]
    by_cases h : q.val - 1 < 1
    · rw [dif_pos h, if_pos h]
    · rw [dif_neg h, if_neg h]
      by_cases h : q.val - 1 - 1 < 1
      · rw [dif_pos h, if_pos h]
      · rw [dif_neg h, if_neg h]
        by_cases h : q.val - 1 - 1 - 1 < 1
        · rw [dif_pos h, if_pos h]
        · rw [dif_neg h, if_neg h]

theorem zero_apply (q : Fin 8) (l : Fin 1408) : (k0_pay2 (F := Ideal)) (ix2 q l) = 0 := by
  pointwise [k0_pay2]

end Cert.ActIdeal.Ffn

end
-- ==== Proof.Ffn.ActOut.lean ====
module

public import proofs.«01_k».proof.Proof.Ffn.ActPoint

@[expose] public section

set_option maxRecDepth 16384

noncomputable section

/-! What one grid point of the gate's backward call leaves in its two results' blocks. -/

namespace Cert.ActIdeal.Ffn

open Idealize.ShloMosaic Cert.ActIdeal Cert.ActIdeal.Gen
open _root_.Act _root_.Pool

section
variable (ct wd cv vv aa w : ℕ → ℕ → EReal) (i : grid0.Coords)
  (x0 : Vec Ideal S256x1024 .bf16) (x1 : Vec Ideal S16x1024 .bf16) (x2 : Vec Ideal S1x1408x1024 .bf16) (x3 : Vec Ideal S256x1408 .bf16)
  (x4 : Vec Ideal S16x1408 .bf16) (x5 x6 : Vec Ideal S256x1408 .bf16) (x7 : Vec Ideal S16x1408 .bf16) (x8 : Vec Ideal S3x1408 .f32) (xo10 : Vec Ideal S8x1408 .f32)
  (hct : ∀ t l, 4096 ≤ t → ct t l = 0)
  (hx0 : ∀ (r : Fin 256) (k : Fin 1024), x0 (ix2 r k) = ct (256 * (i 1).val + r.val) k.val)
  (hx1 : (i 1).val < 15 → ∀ (e : Fin 16) (k : Fin 1024), x1 (ix2 e k) = ct (256 * (i 1).val + 256 + e.val) k.val)
  (hx2 : ∀ (l : Fin 1408) (k : Fin 1024), x2 (ix3 0 l k) = wd (1408 * (i 0).val + l.val) k.val)
  (hx3 : ∀ (r : Fin 256) (l : Fin 1408), x3 (ix2 r l) = cv (256 * (i 1).val + r.val) (1408 * (i 0).val + l.val))
  (hx4 : (i 1).val < 15 → ∀ (e : Fin 16) (l : Fin 1408), x4 (ix2 e l) = cv (256 * (i 1).val + 256 + e.val) (1408 * (i 0).val + l.val))
  (hx5 : ∀ (r : Fin 256) (l : Fin 1408), x5 (ix2 r l) = aa (256 * (i 1).val + r.val) (1408 * (i 0).val + l.val))
  (hx6 : ∀ (r : Fin 256) (l : Fin 1408), x6 (ix2 r l) = vv (256 * (i 1).val + r.val) (1408 * (i 0).val + l.val))
  (hx7 : (i 1).val < 15 → ∀ (e : Fin 16) (l : Fin 1408), x7 (ix2 e l) = vv (256 * (i 1).val + 256 + e.val) (1408 * (i 0).val + l.val))
  (hx8 : ∀ (q : Fin 3) (l : Fin 1408), x8 (ix2 q l) = w q.val (1408 * (i 0).val + l.val))

theorem block_lt : (i 1).val < 16 := (i 1).isLt

include hct hx0 hx1 hx2 in
/-- The gated product's cotangent in the block and in the sixteen rows after it, zero after the last. -/
theorem grad_ext (e : Fin 272) (l : Fin 1408) :
    k0_pay5 (F := Ideal) i x0 x2 x1 x2 (ix2 e l) = grad ct wd (256 * (i 1).val + e.val) (1408 * (i 0).val + l.val) := by
  have hb := block_lt i
  rw [ext_grad]
  by_cases he : e.val < 256
  · rw [dif_pos he]
    unfold grad
    exact Finset.sum_congr rfl fun k _ => by rw [hx0, hx2]
  · rw [dif_neg he, select_slt _ 15 (by omega) (by omega)]
    by_cases hb0 : (i 1).val < 15
    · rw [if_pos hb0]
      unfold grad
      refine Finset.sum_congr rfl fun k _ => ?_
      rw [hx1 hb0, hx2]
      exact congrArg (fun z => ct z k.val * wd (1408 * (i 0).val + l.val) k.val) (by show 256 * (i 1).val + 256 + (e.val - 256) = 256 * (i 1).val + e.val; omega)
    · rw [if_neg hb0, grad_beyond ct wd hct _ _ (by omega)]

include hx3 hx4 in
theorem conv_ext (e : Fin 272) (l : Fin 1408) (h : e.val < 256 ∨ (i 1).val < 15) :
    k0_pay3 (F := Ideal) x3 x4 (ix2 e l) = cv (256 * (i 1).val + e.val) (1408 * (i 0).val + l.val) := by
  rw [ext_bf16]
  by_cases he : e.val < 256
  · rw [dif_pos he, hx3]
  · rw [dif_neg he, hx4 (h.resolve_left he)]
    exact congrArg (fun z => cv z (1408 * (i 0).val + l.val)) (by show 256 * (i 1).val + 256 + (e.val - 256) = 256 * (i 1).val + e.val; omega)

include hx6 hx7 in
theorem other_ext (e : Fin 272) (l : Fin 1408) (h : e.val < 256 ∨ (i 1).val < 15) :
    k0_pay4 (F := Ideal) x6 x7 (ix2 e l) = vv (256 * (i 1).val + e.val) (1408 * (i 0).val + l.val) := by
  rw [ext_bf16']
  by_cases he : e.val < 256
  · rw [dif_pos he, hx6]
  · rw [dif_neg he, hx7 (h.resolve_left he)]
    exact congrArg (fun z => vv z (1408 * (i 0).val + l.val)) (by show 256 * (i 1).val + 256 + (e.val - 256) = 256 * (i 1).val + e.val; omega)

include hct hx0 hx1 hx2 hx3 hx4 hx6 hx7 in
/-- The convolution's cotangent in the block and in the sixteen rows after it. -/
theorem dcv_ext (e : Fin 272) (l : Fin 1408) :
    k0_pay8 (k0_pay3 (F := Ideal) x3 x4) (k0_pay4 (F := Ideal) x6 x7) (k0_pay5 (F := Ideal) i x0 x2 x1 x2) (ix2 e l)
      = dcv cv vv (grad ct wd) (256 * (i 1).val + e.val) (1408 * (i 0).val + l.val) := by
  rw [dcv_apply, grad_ext ct wd i x0 x1 x2 hct hx0 hx1 hx2]
  by_cases h : e.val < 256 ∨ (i 1).val < 15
  · rw [conv_ext cv i x3 x4 hx3 hx4 e l h, other_ext vv i x6 x7 hx6 hx7 e l h]
    rfl
  · have hz := grad_beyond ct wd hct (256 * (i 1).val + e.val) (1408 * (i 0).val + l.val) (by omega)
    rw [dcv_beyond cv vv _ _ _ hz, hz, zero_mul, zero_mul]

include hct hx0 hx1 hx2 hx3 hx4 hx6 hx7 in
theorem dcv_ahead1 (r : Fin 256) (l : Fin 1408) :
    k0_pay9 (k0_pay3 (F := Ideal) x3 x4) (k0_pay4 (F := Ideal) x6 x7) (k0_pay5 (F := Ideal) i x0 x2 x1 x2) (ix2 ⟨r.val, by omega⟩ l)
      = dcv cv vv (grad ct wd) (256 * (i 1).val + r.val + 1) (1408 * (i 0).val + l.val) := by
  rw [ahead1_apply, dcv_ext ct wd cv vv i x0 x1 x2 x3 x4 x6 x7 hct hx0 hx1 hx2 hx3 hx4 hx6 hx7]
  exact congrArg (fun z => dcv cv vv (grad ct wd) z (1408 * (i 0).val + l.val)) (by show 256 * (i 1).val + (r.val + 272 - 271 % 272) % 272 = _; omega)

include hct hx0 hx1 hx2 hx3 hx4 hx6 hx7 in
theorem dcv_ahead2 (r : Fin 256) (l : Fin 1408) :
    k0_pay10 (k0_pay3 (F := Ideal) x3 x4) (k0_pay4 (F := Ideal) x6 x7) (k0_pay5 (F := Ideal) i x0 x2 x1 x2) (ix2 ⟨r.val, by omega⟩ l)
      = dcv cv vv (grad ct wd) (256 * (i 1).val + r.val + 2) (1408 * (i 0).val + l.val) := by
  rw [ahead2_apply, dcv_ext ct wd cv vv i x0 x1 x2 x3 x4 x6 x7 hct hx0 hx1 hx2 hx3 hx4 hx6 hx7]
  exact congrArg (fun z => dcv cv vv (grad ct wd) z (1408 * (i 0).val + l.val)) (by show 256 * (i 1).val + (r.val + 272 - 270 % 272) % 272 = _; omega)

include hx8 in
/-- One tap's weights. -/
theorem ld_tap (q : ℕ) (hq : q < 3) (hin) (l : Fin 1408) :
    View.ld x8 (Rect.unit (s := S3x1408) ![q, 0] S1x1408.size hin) (ix2 0 l) = w q (1408 * (i 0).val + l.val) := by
  have h : View.ld x8 (Rect.unit (s := S3x1408) ![q, 0] S1x1408.size hin) (ix2 0 l) = x8 (ix2 ⟨q, hq⟩ l) := by
    show x8 _ = x8 _
    congr 1
    funext a
    apply Fin.ext
    match a with
    | ⟨0, _⟩ => show q + 1 * 0 = q; omega
    | ⟨1, _⟩ => show 0 + 1 * l.val = l.val; omega
  rw [h, hx8]

include hct hx0 hx1 hx2 hx3 hx4 hx6 hx7 in
/-- The block of the convolution's input's cotangent. -/
theorem da_block (w0 w1 w2 : Vec Ideal S1x1408 .f32)
    (h0 : ∀ l : Fin 1408, w0 (ix2 0 l) = w 0 (1408 * (i 0).val + l.val)) (h1 : ∀ l : Fin 1408, w1 (ix2 0 l) = w 1 (1408 * (i 0).val + l.val))
    (h2 : ∀ l : Fin 1408, w2 (ix2 0 l) = w 2 (1408 * (i 0).val + l.val)) (r : Fin 256) (l : Fin 1408) :
    k0_pay11 (k0_pay3 (F := Ideal) x3 x4) (k0_pay4 (F := Ideal) x6 x7) (k0_pay5 (F := Ideal) i x0 x2 x1 x2) w0 w1 w2 (ix3 0 r l)
      = dA (dcv cv vv (grad ct wd)) w (256 * (i 1).val + r.val) (1408 * (i 0).val + l.val) := by
  rw [taps_apply, dcv_ahead1 ct wd cv vv i x0 x1 x2 x3 x4 x6 x7 hct hx0 hx1 hx2 hx3 hx4 hx6 hx7, dcv_ahead2 ct wd cv vv i x0 x1 x2 x3 x4 x6 x7 hct hx0 hx1 hx2 hx3 hx4 hx6 hx7, dcv_ext ct wd cv vv i x0 x1 x2 x3 x4 x6 x7 hct hx0 hx1 hx2 hx3 hx4 hx6 hx7, h0, h1, h2]
  rfl

include hct hx0 hx1 hx2 hx3 hx4 in
/-- The block of the other factor's cotangent. -/
theorem dv_block (r : Fin 256) (l : Fin 1408) :
    k0_pay12 (k0_pay3 (F := Ideal) x3 x4) (k0_pay5 (F := Ideal) i x0 x2 x1 x2) (ix3 0 r l)
      = dV cv (grad ct wd) (256 * (i 1).val + r.val) (1408 * (i 0).val + l.val) := by
  rw [other_apply, conv_ext cv i x3 x4 hx3 hx4 _ l (.inl r.isLt), grad_ext ct wd i x0 x1 x2 hct hx0 hx1 hx2]
  rfl

include hct hx0 hx1 hx2 hx3 hx4 hx6 hx7 hx5 in
/-- The four sums of the block, added to what was there. -/
theorem sums_block (acc : Vec Ideal S8x1408 .f32) (q : Fin 8) (l : Fin 1408) :
    k0_pay1 (k0_pay8 (k0_pay3 (F := Ideal) x3 x4) (k0_pay4 (F := Ideal) x6 x7) (k0_pay5 (F := Ideal) i x0 x2 x1 x2))
      (k0_pay9 (k0_pay3 (F := Ideal) x3 x4) (k0_pay4 (F := Ideal) x6 x7) (k0_pay5 (F := Ideal) i x0 x2 x1 x2)) (k0_pay13 (F := Ideal) x5)
      (k0_pay14 (k0_pay3 (F := Ideal) x3 x4) (k0_pay4 (F := Ideal) x6 x7) (k0_pay5 (F := Ideal) i x0 x2 x1 x2)) acc (ix2 q l)
      = acc (ix2 q l) + sumBlk aa (dcv cv vv (grad ct wd)) q.val (i 1).val (1408 * (i 0).val + l.val) := by
  have e0 (r : Fin 256) := dcv_ext ct wd cv vv i x0 x1 x2 x3 x4 x6 x7 hct hx0 hx1 hx2 hx3 hx4 hx6 hx7 ⟨r.val, by omega⟩ l
  rw [sums_apply]
  simp only [rows_apply, first_apply, dcv_ahead1 ct wd cv vv i x0 x1 x2 x3 x4 x6 x7 hct hx0 hx1 hx2 hx3 hx4 hx6 hx7, dcv_ahead2 ct wd cv vv i x0 x1 x2 x3 x4 x6 x7 hct hx0 hx1 hx2 hx3 hx4 hx6 hx7, e0, hx5]
  congr 1
  unfold sumBlk
  by_cases h : q.val < 1
  · rw [if_pos h, if_pos (show q.val = 0 by omega)]; rfl
  · rw [if_neg h, if_neg (show ¬ q.val = 0 by omega)]
    by_cases h1 : q.val - 1 < 1
    · rw [if_pos h1, if_pos (show q.val = 1 by omega)]; rfl
    · rw [if_neg h1, if_neg (show ¬ q.val = 1 by omega)]
      by_cases h2 : q.val - 1 - 1 < 1
      · rw [if_pos h2, if_pos (show q.val = 2 by omega)]; rfl
      · rw [if_neg h2, if_neg (show ¬ q.val = 2 by omega)]
        by_cases h3 : q.val - 1 - 1 - 1 < 1
        · rw [if_pos h3, if_pos (show q.val = 3 by omega)]; rfl
        · rw [if_neg h3, if_neg (show ¬ q.val = 3 by omega)]

/-- One of the two cotangents' blocks, placed. -/
theorem place (f g : ℕ → ℕ → EReal) (P : Vec Ideal S1x256x1408 .bf16) (n : ℕ) (b j : ℕ) (hin)
    (h : ∀ (r : Fin 256) (l : Fin 1408), P (ix3 0 r l) = both f g n (256 * b + r.val) (1408 * j + l.val)) (x : S1x256x1408.Idx) :
    P x = (fun y : S2x256x1408.Idx => both f g (y 0).val (256 * b + (y 1).val) (1408 * j + (y 2).val))
      ((Rect.unit (s := S2x256x1408) ![n, 0, 0] S1x256x1408.size hin).emb x) := by
  obtain ⟨r, l, rfl⟩ : ∃ (r : Fin 256) (l : Fin 1408), x = ix3 0 r l := ⟨x 1, x 2, funext fun a => by
    match a with
    | ⟨0, h⟩ => exact Fin.ext (by have : (x ⟨0, h⟩).val < 1 := (x ⟨0, h⟩).isLt; show (x ⟨0, h⟩).val = 0; omega)
    | ⟨1, _⟩ => rfl
    | ⟨2, _⟩ => rfl⟩
  rw [h]
  show both f g n _ _ = both f g (n + 1 * 0) (256 * b + (0 + 1 * r.val)) (1408 * j + (0 + 1 * l.val))
  rw [mul_zero, add_zero, zero_add, one_mul, zero_add, one_mul]

section
variable (c : Dev nD) (arg2 : Memref sig .tc .vmem S256x1024 .bf16) (harg2 : arg2.IsWhole) (arg3 : Memref sig .tc .vmem S16x1024 .bf16) (harg3 : arg3.IsWhole) (arg4 : Memref sig .tc .vmem S1x1408x1024 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S256x1408 .bf16) (harg7 : arg7.IsWhole) (arg8 : Memref sig .tc .vmem S256x1408 .bf16) (harg8 : arg8.IsWhole) (arg9 : Memref sig .tc .vmem S16x1408 .bf16) (harg9 : arg9.IsWhole) (arg10 : Memref sig .tc .vmem S3x1408 .f32) (harg10 : arg10.IsWhole) (arg11 : Memref sig .tc .vmem S2x256x1408 .bf16) (harg11 : arg11.IsWhole) (arg12 : Memref sig .tc .vmem S8x1408 .f32) (harg12 : arg12.IsWhole)

include hct hx0 hx1 hx2 hx3 hx4 hx6 hx7 hx8 in
theorem out0_A_9_eq (hc0 : cond0_0 i) (y : S2x256x1408.Idx) : out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 y
    = both (dA (dcv cv vv (grad ct wd)) w) (dV cv (grad ct wd)) (y 0).val (256 * (i 1).val + (y 1).val) (1408 * (i 0).val + (y 2).val) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, shapeCast_self]
  have hz3 : (![0, 0, 0] : Fin 3 → Nat) = fun _ => 0 := funext fun a => by fin_cases a <;> rfl
  have hz2 : (![0, 0] : Fin 2 → Nat) = fun _ => 0 := funext fun a => by fin_cases a <;> rfl
  simp only [View.ld_unit_zero (S := S256x1024) hz2, View.ld_unit_zero (S := S16x1024) hz2, View.ld_unit_zero (S := S1x1408x1024) hz3, View.ld_unit_zero (S := S256x1408) hz2, View.ld_unit_zero (S := S16x1408) hz2]
  have key := fun L h => View.canon_append_of_piecesOf (Val := Elt Ideal) (e := .bf16)
    (fun y : S2x256x1408.Idx => both (dA (dcv cv vv (grad ct wd)) w) (dV cv (grad ct wd)) (y 0).val (256 * (i 1).val + (y 1).val) (1408 * (i 0).val + (y 2).val)) [] L h y
  refine key [_, _] ?_ ?_
  · exact ⟨place _ _ _ 1 _ _ inb_S2x256x1408_S1x256x1408_1_0_0 (dv_block ct wd cv i x0 x1 x2 x3 x4 hct hx0 hx1 hx2 hx3 hx4),
      place _ _ _ 0 _ _ inb_S2x256x1408_S1x256x1408_0_0_0 (da_block ct wd cv vv w i x0 x1 x2 x3 x4 x6 x7 hct hx0 hx1 hx2 hx3 hx4 hx6 hx7 _ _ _
        (ld_tap w i x8 hx8 0 (by omega) inb_S3x1408_S1x1408_0_0) (ld_tap w i x8 hx8 1 (by omega) inb_S3x1408_S1x1408_1_0) (ld_tap w i x8 hx8 2 (by omega) inb_S3x1408_S1x1408_2_0)), trivial⟩
  · exact View.cover_of_tiledL (s := S2x256x1408) _ S1x256x1408.size (by sl_kernel_rfl) y

include hct hx0 hx1 hx2 hx3 hx4 hx6 hx7 hx5 in
theorem out0_A_10_eq (hc0 : cond0_0 i) (q : Fin 8) (l : Fin 1408) : out0_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 (ix2 q l)
    = sumBlk aa (dcv cv vv (grad ct wd)) q.val (i 1).val (1408 * (i 0).val + l.val) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, shapeCast_self]
  have hz3 : (![0, 0, 0] : Fin 3 → Nat) = fun _ => 0 := funext fun a => by fin_cases a <;> rfl
  have hz2 : (![0, 0] : Fin 2 → Nat) = fun _ => 0 := funext fun a => by fin_cases a <;> rfl
  simp (disch := decide) only [↓View.readCov_skip, ↓View.readCov_fill]
  simp only [View.canon_unit_zero (S := S8x1408) hz2, View.readCov_unit_zero (S := S8x1408) _ hz2, View.canon_cons_unit_zero (S := S8x1408) hz2, View.ld_unit_zero (S := S8x1408) hz2, View.ld_unit_zero (S := S256x1024) hz2, View.ld_unit_zero (S := S16x1024) hz2, View.ld_unit_zero (S := S1x1408x1024) hz3, View.ld_unit_zero (S := S256x1408) hz2, View.ld_unit_zero (S := S16x1408) hz2]
  exact (sums_block ct wd cv vv aa i x0 x1 x2 x3 x4 x5 x6 x7 hct hx0 hx1 hx2 hx3 hx4 hx5 hx6 hx7 _ q l).trans ((congrArg (· + _) (zero_apply q l)).trans (zero_add _))

include hct hx0 hx1 hx2 hx3 hx4 hx6 hx7 hx8 in
theorem out0_B_9_eq (hc0 : ¬cond0_0 i) (y : S2x256x1408.Idx) : out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 y
    = both (dA (dcv cv vv (grad ct wd)) w) (dV cv (grad ct wd)) (y 0).val (256 * (i 1).val + (y 1).val) (1408 * (i 0).val + (y 2).val) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, shapeCast_self]
  have hz3 : (![0, 0, 0] : Fin 3 → Nat) = fun _ => 0 := funext fun a => by fin_cases a <;> rfl
  have hz2 : (![0, 0] : Fin 2 → Nat) = fun _ => 0 := funext fun a => by fin_cases a <;> rfl
  simp only [View.ld_unit_zero (S := S256x1024) hz2, View.ld_unit_zero (S := S16x1024) hz2, View.ld_unit_zero (S := S1x1408x1024) hz3, View.ld_unit_zero (S := S256x1408) hz2, View.ld_unit_zero (S := S16x1408) hz2]
  have key := fun L h => View.canon_append_of_piecesOf (Val := Elt Ideal) (e := .bf16)
    (fun y : S2x256x1408.Idx => both (dA (dcv cv vv (grad ct wd)) w) (dV cv (grad ct wd)) (y 0).val (256 * (i 1).val + (y 1).val) (1408 * (i 0).val + (y 2).val)) [] L h y
  refine key [_, _] ?_ ?_
  · exact ⟨place _ _ _ 1 _ _ inb_S2x256x1408_S1x256x1408_1_0_0 (dv_block ct wd cv i x0 x1 x2 x3 x4 hct hx0 hx1 hx2 hx3 hx4),
      place _ _ _ 0 _ _ inb_S2x256x1408_S1x256x1408_0_0_0 (da_block ct wd cv vv w i x0 x1 x2 x3 x4 x6 x7 hct hx0 hx1 hx2 hx3 hx4 hx6 hx7 _ _ _
        (ld_tap w i x8 hx8 0 (by omega) inb_S3x1408_S1x1408_0_0) (ld_tap w i x8 hx8 1 (by omega) inb_S3x1408_S1x1408_1_0) (ld_tap w i x8 hx8 2 (by omega) inb_S3x1408_S1x1408_2_0)), trivial⟩
  · exact View.cover_of_tiledL (s := S2x256x1408) _ S1x256x1408.size (by sl_kernel_rfl) y

include hct hx0 hx1 hx2 hx3 hx4 hx6 hx7 hx5 in
theorem out0_B_10_eq (hc0 : ¬cond0_0 i) (q : Fin 8) (l : Fin 1408) : out0_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 (ix2 q l)
    = xo10 (ix2 q l) + sumBlk aa (dcv cv vv (grad ct wd)) q.val (i 1).val (1408 * (i 0).val + l.val) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, shapeCast_self]
  have hz3 : (![0, 0, 0] : Fin 3 → Nat) = fun _ => 0 := funext fun a => by fin_cases a <;> rfl
  have hz2 : (![0, 0] : Fin 2 → Nat) = fun _ => 0 := funext fun a => by fin_cases a <;> rfl
  simp only [View.canon_unit_zero (S := S8x1408) hz2, View.readCov_unit_zero (S := S8x1408) _ hz2, View.canon_cons_unit_zero (S := S8x1408) hz2, View.ld_unit_zero (S := S8x1408) hz2, View.ld_unit_zero (S := S256x1024) hz2, View.ld_unit_zero (S := S16x1024) hz2, View.ld_unit_zero (S := S1x1408x1024) hz3, View.ld_unit_zero (S := S256x1408) hz2, View.ld_unit_zero (S := S16x1408) hz2]
  exact sums_block ct wd cv vv aa i x0 x1 x2 x3 x4 x5 x6 x7 hct hx0 hx1 hx2 hx3 hx4 hx5 hx6 hx7 xo10 q l

end

end

end Cert.ActIdeal.Ffn

end
-- ==== Proof.Ffn.ActArr.lean ====
module

public import proofs.«01_k».proof.Proof.Ffn.ActHost
public import proofs.«01_k».proof.Proof.Ffn.ActOut
public import Idealize.ShloMosaic.Lib.Pipeline.Value

@[expose] public section

set_option maxRecDepth 16384

noncomputable section

/-! What the gate's backward call leaves in its two arrays. -/

namespace Cert.ActIdeal.Ffn

open Idealize.ShloMosaic Idealize.ShloMosaic.TcCoe Cert.ActIdeal Cert.ActIdeal.Gen
open Idealize.ShloMosaic.Pipeline (Dat)
open _root_.Act _root_.Ffn

variable (m : (ℓ : Loc nD τ sig) → Buf (Elt Ideal) ℓ) (c : Dev nD)

theorem points_lt (t : Fin cfg0.N) : t.val < 32 := by
  have h : cfg0.N = 32 := N_0
  have := t.isLt
  omega

theorem coords_col : ∀ t : Fin cfg0.N, (grid0.coords t 0).val = t.val / 16 :=
  (by decide +kernel : ∀ t : Fin grid0.N, (grid0.coords t 0).val = t.val / 16)

theorem coords_row : ∀ t : Fin cfg0.N, (grid0.coords t 1).val = t.val % 16 :=
  (by decide +kernel : ∀ t : Fin grid0.N, (grid0.coords t 1).val = t.val % 16)

theorem index0_0 : ∀ t : Fin cfg0.N, win0_0.index t 0 = t.val % 16 ∧ win0_0.index t 1 = 0 :=
  (by decide +kernel : ∀ t : Fin grid0.N, win0_0.index t 0 = t.val % 16 ∧ win0_0.index t 1 = 0)

theorem index0_1 : ∀ t : Fin cfg0.N, win0_1.index t 0 = min (t.val % 16 * 16 + 16) 255 ∧ win0_1.index t 1 = 0 :=
  (by decide +kernel : ∀ t : Fin grid0.N, win0_1.index t 0 = min (t.val % 16 * 16 + 16) 255 ∧ win0_1.index t 1 = 0)

theorem index0_2 : ∀ t : Fin cfg0.N, win0_2.index t 0 = 0 ∧ win0_2.index t 1 = t.val / 16 ∧ win0_2.index t 2 = 0 :=
  (by decide +kernel : ∀ t : Fin grid0.N, win0_2.index t 0 = 0 ∧ win0_2.index t 1 = t.val / 16 ∧ win0_2.index t 2 = 0)

theorem index0_3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)

theorem index0_4 : ∀ t : Fin cfg0.N, win0_4.index t 0 = min (t.val % 16 * 16 + 16) 255 ∧ win0_4.index t 1 = t.val / 16 :=
  (by decide +kernel : ∀ t : Fin grid0.N, win0_4.index t 0 = min (t.val % 16 * 16 + 16) 255 ∧ win0_4.index t 1 = t.val / 16)

theorem index0_5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)

theorem index0_6 : ∀ t : Fin cfg0.N, win0_6.index t 0 = t.val % 16 ∧ win0_6.index t 1 = t.val / 16 + 2 :=
  (by decide +kernel : ∀ t : Fin grid0.N, win0_6.index t 0 = t.val % 16 ∧ win0_6.index t 1 = t.val / 16 + 2)

theorem index0_7 : ∀ t : Fin cfg0.N, win0_7.index t 0 = min (t.val % 16 * 16 + 16) 255 ∧ win0_7.index t 1 = t.val / 16 + 2 :=
  (by decide +kernel : ∀ t : Fin grid0.N, win0_7.index t 0 = min (t.val % 16 * 16 + 16) 255 ∧ win0_7.index t 1 = t.val / 16 + 2)

theorem index0_8 : ∀ t : Fin cfg0.N, win0_8.index t 0 = 0 ∧ win0_8.index t 1 = t.val / 16 :=
  (by decide +kernel : ∀ t : Fin grid0.N, win0_8.index t 0 = 0 ∧ win0_8.index t 1 = t.val / 16)

theorem index0_9 : ∀ t : Fin cfg0.N, win0_9.index t 0 = 0 ∧ win0_9.index t 1 = t.val % 16 ∧ win0_9.index t 2 = t.val / 16 :=
  (by decide +kernel : ∀ t : Fin grid0.N, win0_9.index t 0 = 0 ∧ win0_9.index t 1 = t.val % 16 ∧ win0_9.index t 2 = t.val / 16)

theorem index0_10 : ∀ t : Fin cfg0.N, win0_10.index t 0 = 0 ∧ win0_10.index t 1 = t.val / 16 :=
  (by decide +kernel : ∀ t : Fin grid0.N, win0_10.index t 0 = 0 ∧ win0_10.index t 1 = t.val / 16)

theorem blk0_0 (t : Fin cfg0.N) (r : Fin 256) (l : Fin 1024) :
    (iblk m c 0 t : Vec Ideal S256x1024 .bf16) (ix2 r l) = (V m c main_v28 : Vec Ideal S4096x1024 .bf16) (ix2 ⟨256 * (t.val % 16) + r.val, by have := points_lt t; omega⟩ ⟨l.val, by have := points_lt t; omega⟩) := by
  have ht := points_lt t
  unfold iblk
  rw [View.read_apply]
  show V m c main_v28 _ = V m c main_v28 _
  congr 1
  funext a
  apply Fin.ext
  match a with
  | ⟨0, _⟩ => show win0_0.index t 0 * 256 + 1 * r.val = 256 * (t.val % 16) + r.val; rw [(index0_0 t).1]; omega
  | ⟨1, _⟩ => show win0_0.index t 1 * 1024 + 1 * l.val = l.val; rw [(index0_0 t).2]; omega

theorem blk0_1 (t : Fin cfg0.N) (r : Fin 16) (l : Fin 1024) (h15 : t.val % 16 < 15) :
    (iblk m c 1 t : Vec Ideal S16x1024 .bf16) (ix2 r l) = (V m c main_v28 : Vec Ideal S4096x1024 .bf16) (ix2 ⟨256 * (t.val % 16) + 256 + r.val, by have := points_lt t; omega⟩ ⟨l.val, by have := points_lt t; omega⟩) := by
  have ht := points_lt t
  unfold iblk
  rw [View.read_apply]
  show V m c main_v28 _ = V m c main_v28 _
  congr 1
  funext a
  apply Fin.ext
  match a with
  | ⟨0, _⟩ => show win0_1.index t 0 * 16 + 1 * r.val = 256 * (t.val % 16) + 256 + r.val; rw [(index0_1 t).1]; omega
  | ⟨1, _⟩ => show win0_1.index t 1 * 1024 + 1 * l.val = l.val; rw [(index0_1 t).2]; omega

theorem blk0_3 (t : Fin cfg0.N) (r : Fin 256) (l : Fin 1408) :
    (iblk m c 3 t : Vec Ideal S256x1408 .bf16) (ix2 r l) = (V m c main_v27 : Vec Ideal S4096x2816 .bf16) (ix2 ⟨256 * (t.val % 16) + r.val, by have := points_lt t; omega⟩ ⟨1408 * (t.val / 16) + l.val, by have := points_lt t; omega⟩) := by
  have ht := points_lt t
  unfold iblk
  rw [View.read_apply]
  show V m c main_v27 _ = V m c main_v27 _
  congr 1
  funext a
  apply Fin.ext
  match a with
  | ⟨0, _⟩ => show win0_3.index t 0 * 256 + 1 * r.val = 256 * (t.val % 16) + r.val; rw [(index0_3 t).1]; omega
  | ⟨1, _⟩ => show win0_3.index t 1 * 1408 + 1 * l.val = 1408 * (t.val / 16) + l.val; rw [(index0_3 t).2]; omega

theorem blk0_4 (t : Fin cfg0.N) (r : Fin 16) (l : Fin 1408) (h15 : t.val % 16 < 15) :
    (iblk m c 4 t : Vec Ideal S16x1408 .bf16) (ix2 r l) = (V m c main_v27 : Vec Ideal S4096x2816 .bf16) (ix2 ⟨256 * (t.val % 16) + 256 + r.val, by have := points_lt t; omega⟩ ⟨1408 * (t.val / 16) + l.val, by have := points_lt t; omega⟩) := by
  have ht := points_lt t
  unfold iblk
  rw [View.read_apply]
  show V m c main_v27 _ = V m c main_v27 _
  congr 1
  funext a
  apply Fin.ext
  match a with
  | ⟨0, _⟩ => show win0_4.index t 0 * 16 + 1 * r.val = 256 * (t.val % 16) + 256 + r.val; rw [(index0_4 t).1]; omega
  | ⟨1, _⟩ => show win0_4.index t 1 * 1408 + 1 * l.val = 1408 * (t.val / 16) + l.val; rw [(index0_4 t).2]; omega

theorem blk0_5 (t : Fin cfg0.N) (r : Fin 256) (l : Fin 1408) :
    (iblk m c 5 t : Vec Ideal S256x1408 .bf16) (ix2 r l) = (V m c main_v1 : Vec Ideal S4096x5632 .bf16) (ix2 ⟨256 * (t.val % 16) + r.val, by have := points_lt t; omega⟩ ⟨1408 * (t.val / 16) + l.val, by have := points_lt t; omega⟩) := by
  have ht := points_lt t
  unfold iblk
  rw [View.read_apply]
  show V m c main_v1 _ = V m c main_v1 _
  congr 1
  funext a
  apply Fin.ext
  match a with
  | ⟨0, _⟩ => show win0_5.index t 0 * 256 + 1 * r.val = 256 * (t.val % 16) + r.val; rw [(index0_5 t).1]; omega
  | ⟨1, _⟩ => show win0_5.index t 1 * 1408 + 1 * l.val = 1408 * (t.val / 16) + l.val; rw [(index0_5 t).2]; omega

theorem blk0_6 (t : Fin cfg0.N) (r : Fin 256) (l : Fin 1408) :
    (iblk m c 6 t : Vec Ideal S256x1408 .bf16) (ix2 r l) = (V m c main_v1 : Vec Ideal S4096x5632 .bf16) (ix2 ⟨256 * (t.val % 16) + r.val, by have := points_lt t; omega⟩ ⟨2816 + 1408 * (t.val / 16) + l.val, by have := points_lt t; omega⟩) := by
  have ht := points_lt t
  unfold iblk
  rw [View.read_apply]
  show V m c main_v1 _ = V m c main_v1 _
  congr 1
  funext a
  apply Fin.ext
  match a with
  | ⟨0, _⟩ => show win0_6.index t 0 * 256 + 1 * r.val = 256 * (t.val % 16) + r.val; rw [(index0_6 t).1]; omega
  | ⟨1, _⟩ => show win0_6.index t 1 * 1408 + 1 * l.val = 2816 + 1408 * (t.val / 16) + l.val; rw [(index0_6 t).2]; omega

theorem blk0_7 (t : Fin cfg0.N) (r : Fin 16) (l : Fin 1408) (h15 : t.val % 16 < 15) :
    (iblk m c 7 t : Vec Ideal S16x1408 .bf16) (ix2 r l) = (V m c main_v1 : Vec Ideal S4096x5632 .bf16) (ix2 ⟨256 * (t.val % 16) + 256 + r.val, by have := points_lt t; omega⟩ ⟨2816 + 1408 * (t.val / 16) + l.val, by have := points_lt t; omega⟩) := by
  have ht := points_lt t
  unfold iblk
  rw [View.read_apply]
  show V m c main_v1 _ = V m c main_v1 _
  congr 1
  funext a
  apply Fin.ext
  match a with
  | ⟨0, _⟩ => show win0_7.index t 0 * 16 + 1 * r.val = 256 * (t.val % 16) + 256 + r.val; rw [(index0_7 t).1]; omega
  | ⟨1, _⟩ => show win0_7.index t 1 * 1408 + 1 * l.val = 2816 + 1408 * (t.val / 16) + l.val; rw [(index0_7 t).2]; omega

theorem blk0_8 (t : Fin cfg0.N) (r : Fin 3) (l : Fin 1408) :
    (iblk m c 8 t : Vec Ideal S3x1408 .f32) (ix2 r l) = (V m c main_arg2 : Vec Ideal S3x2816 .f32) (ix2 ⟨r.val, by have := points_lt t; omega⟩ ⟨1408 * (t.val / 16) + l.val, by have := points_lt t; omega⟩) := by
  have ht := points_lt t
  unfold iblk
  rw [View.read_apply]
  show V m c main_arg2 _ = V m c main_arg2 _
  congr 1
  funext a
  apply Fin.ext
  match a with
  | ⟨0, _⟩ => show win0_8.index t 0 * 3 + 1 * r.val = r.val; rw [(index0_8 t).1]; omega
  | ⟨1, _⟩ => show win0_8.index t 1 * 1408 + 1 * l.val = 1408 * (t.val / 16) + l.val; rw [(index0_8 t).2]; omega

theorem blk0_2 (t : Fin cfg0.N) (l : Fin 1408) (k : Fin 1024) :
    (iblk m c 2 t : Vec Ideal S1x1408x1024 .bf16) (ix3 0 l k) = (V m c main_v30 : Vec Ideal S1x2816x1024 .bf16) (ix3 0 ⟨1408 * (t.val / 16) + l.val, by have := points_lt t; omega⟩ k) := by
  have ht := points_lt t
  unfold iblk
  rw [View.read_apply]
  show V m c main_v30 _ = V m c main_v30 _
  congr 1
  funext a
  apply Fin.ext
  match a with
  | ⟨0, _⟩ => show win0_2.index t 0 * 1 + 1 * 0 = 0; rw [(index0_2 t).1]
  | ⟨1, _⟩ => show win0_2.index t 1 * 1408 + 1 * l.val = 1408 * (t.val / 16) + l.val; rw [(index0_2 t).2.1]; omega
  | ⟨2, _⟩ => show win0_2.index t 2 * 1024 + 1 * k.val = k.val; rw [(index0_2 t).2.2]; omega

/-- The arguments of core `c` read at numbers: the gate's input, the other factor, the taps, the bias, the weights, the cotangent. -/
def argA : ℕ → ℕ → EReal := mat (m ((c : Thread nD τ).loc main_arg0) : Vec Ideal S4096x2816 .f32)
def argV : ℕ → ℕ → EReal := mat (m ((c : Thread nD τ).loc main_arg1) : Vec Ideal S4096x2816 .f32)
def argTaps : ℕ → ℕ → EReal := mat (m ((c : Thread nD τ).loc main_arg2) : Vec Ideal S3x2816 .f32)
def argBias : ℕ → EReal := vec (m ((c : Thread nD τ).loc main_arg3) : Vec Ideal S2816 .f32)
def argWd : ℕ → ℕ → EReal := mat (m ((c : Thread nD τ).loc main_arg4) : Vec Ideal S2816x1024 .f32)
def argCt : ℕ → ℕ → EReal := mat (m ((c : Thread nD τ).loc main_arg5) : Vec Ideal S4096x1024 .f32)
/-- The convolution of the gate's input. -/
def cvOf : ℕ → ℕ → EReal := conv (argA m c) (argTaps m c) (argBias m c)
/-- The cotangent of the gated product. -/
def gradOf : ℕ → ℕ → EReal := grad (argCt m c) (argWd m c)
/-- The cotangent of the convolution. -/
def dcvOf : ℕ → ℕ → EReal := dcv (cvOf m c) (argV m c) (gradOf m c)

theorem own_beyond (t l : ℕ) (h : 4096 ≤ t) : argCt m c t l = 0 := by
  unfold argCt mat
  rw [dif_neg (by omega)]

theorem own_ct (t : Fin cfg0.N) (r : Fin 256) (k : Fin 1024) :
    (iblk m c 0 t : Vec Ideal S256x1024 .bf16) (ix2 r k) = argCt m c (256 * (grid0.coords t 1).val + r.val) k.val := by
  rw [blk0_0, coords_row, host_ct]
  exact (mat_apply (a := 4096) (b := 1024) (m ((c : Thread nD τ).loc main_arg5)) ⟨_, _⟩ ⟨_, _⟩).symm

theorem next_ct (t : Fin cfg0.N) (h : (grid0.coords t 1).val < 15) (e : Fin 16) (k : Fin 1024) :
    (iblk m c 1 t : Vec Ideal S16x1024 .bf16) (ix2 e k) = argCt m c (256 * (grid0.coords t 1).val + 256 + e.val) k.val := by
  rw [coords_row] at h ⊢
  rw [blk0_1 m c t e k h, host_ct]
  exact (mat_apply (a := 4096) (b := 1024) (m ((c : Thread nD τ).loc main_arg5)) ⟨_, _⟩ ⟨_, _⟩).symm

theorem own_wd (t : Fin cfg0.N) (l : Fin 1408) (k : Fin 1024) :
    (iblk m c 2 t : Vec Ideal S1x1408x1024 .bf16) (ix3 0 l k) = argWd m c (1408 * (grid0.coords t 0).val + l.val) k.val := by
  rw [blk0_2, coords_col, host_wd]
  rfl

theorem own_cv (t : Fin cfg0.N) (r : Fin 256) (l : Fin 1408) :
    (iblk m c 3 t : Vec Ideal S256x1408 .bf16) (ix2 r l) = cvOf m c (256 * (grid0.coords t 1).val + r.val) (1408 * (grid0.coords t 0).val + l.val) := by
  rw [blk0_3, coords_col, coords_row, host_conv]
  rfl

theorem next_cv (t : Fin cfg0.N) (h : (grid0.coords t 1).val < 15) (e : Fin 16) (l : Fin 1408) :
    (iblk m c 4 t : Vec Ideal S16x1408 .bf16) (ix2 e l) = cvOf m c (256 * (grid0.coords t 1).val + 256 + e.val) (1408 * (grid0.coords t 0).val + l.val) := by
  rw [coords_row] at h ⊢
  rw [blk0_4 m c t e l h, coords_col, host_conv]
  rfl

theorem own_a (t : Fin cfg0.N) (r : Fin 256) (l : Fin 1408) :
    (iblk m c 5 t : Vec Ideal S256x1408 .bf16) (ix2 r l) = argA m c (256 * (grid0.coords t 1).val + r.val) (1408 * (grid0.coords t 0).val + l.val) := by
  have ht := points_lt t
  rw [blk0_5, coords_col, coords_row, host_both, dif_pos (show 1408 * (t.val / 16) + l.val < 2816 by omega)]
  rfl

theorem own_v (t : Fin cfg0.N) (r : Fin 256) (l : Fin 1408) :
    (iblk m c 6 t : Vec Ideal S256x1408 .bf16) (ix2 r l) = argV m c (256 * (grid0.coords t 1).val + r.val) (1408 * (grid0.coords t 0).val + l.val) := by
  rw [blk0_6, coords_col, coords_row, host_both, dif_neg (show ¬ 2816 + 1408 * (t.val / 16) + l.val < 2816 by omega)]
  exact congrArg (argV m c _) (by show 2816 + 1408 * (t.val / 16) + l.val - 2816 = _; omega)

theorem next_v (t : Fin cfg0.N) (h : (grid0.coords t 1).val < 15) (e : Fin 16) (l : Fin 1408) :
    (iblk m c 7 t : Vec Ideal S16x1408 .bf16) (ix2 e l) = argV m c (256 * (grid0.coords t 1).val + 256 + e.val) (1408 * (grid0.coords t 0).val + l.val) := by
  rw [coords_row] at h ⊢
  rw [blk0_7 m c t e l h, coords_col, host_both, dif_neg (show ¬ 2816 + 1408 * (t.val / 16) + l.val < 2816 by omega)]
  exact congrArg (argV m c _) (by show 2816 + 1408 * (t.val / 16) + l.val - 2816 = _; omega)

theorem own_taps (t : Fin cfg0.N) (q : Fin 3) (l : Fin 1408) :
    (iblk m c 8 t : Vec Ideal S3x1408 .f32) (ix2 q l) = argTaps m c q.val (1408 * (grid0.coords t 0).val + l.val) := by
  rw [blk0_8, coords_col, V_main_arg2]
  exact (mat_apply (a := 3) (b := 2816) (m ((c : Thread nD τ).loc main_arg2)) ⟨_, _⟩ ⟨_, _⟩).symm

theorem fst_of {α β : Type} {p : α × β} {a : α} {b : β} (h : p = (a, b)) : p.1 = a := by rw [h]
theorem snd_of {α β : Type} {p : α × β} {a : α} {b : β} (h : p = (a, b)) : p.2 = b := by rw [h]

/-- Case A, the first output: the block of the two cotangents. -/
theorem caseA_9 (t : Fin cfg0.N) (h0 : t.val % 16 = 0) (y : S2x256x1408.Idx) :
    (outsAt0 m c t.val t.isLt).1 y = both (dA (dcvOf m c) (argTaps m c)) (dV (cvOf m c) (gradOf m c)) (y 0).val (256 * (grid0.coords t 1).val + (y 1).val) (1408 * (grid0.coords t 0).val + (y 2).val) := by
  have h := out0_A_9_eq (ct := argCt m c) (wd := argWd m c) (cv := cvOf m c) (vv := argV m c) (w := argTaps m c) (i := grid0.coords t)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (c := c) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (hc0 := (hcond0_0 t).mpr h0) (y := y)
      (hct := own_beyond m c) (hx0 := own_ct m c t) (hx1 := next_ct m c t) (hx2 := own_wd m c t) (hx3 := own_cv m c t) (hx4 := next_cv m c t) (hx6 := own_v m c t) (hx7 := next_v m c t) (hx8 := own_taps m c t)
  exact (congrFun (fst_of (outsAt0_A m c t h0)) y).trans h

/-- Case A, the second output: the block's part of the taps' and the bias's gradients. -/
theorem caseA_10 (t : Fin cfg0.N) (h0 : t.val % 16 = 0) (q : Fin 8) (l : Fin 1408) :
    (outsAt0 m c t.val t.isLt).2 (ix2 q l) = sumBlk (argA m c) (dcvOf m c) q.val (grid0.coords t 1).val (1408 * (grid0.coords t 0).val + l.val) := by
  have h := out0_A_10_eq (ct := argCt m c) (wd := argWd m c) (cv := cvOf m c) (vv := argV m c) (aa := argA m c) (i := grid0.coords t)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (c := c) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (hc0 := (hcond0_0 t).mpr h0) (q := q) (l := l)
      (hct := own_beyond m c) (hx0 := own_ct m c t) (hx1 := next_ct m c t) (hx2 := own_wd m c t) (hx3 := own_cv m c t) (hx4 := next_cv m c t) (hx5 := own_a m c t) (hx6 := own_v m c t) (hx7 := next_v m c t)
  exact (congrFun (snd_of (outsAt0_A m c t h0)) (ix2 q l)).trans h

/-- Case B, the first output: the block of the two cotangents. -/
theorem caseB_9 (t : Fin cfg0.N) (h0 : ¬ t.val % 16 = 0) (y : S2x256x1408.Idx) :
    (outsAt0 m c t.val t.isLt).1 y = both (dA (dcvOf m c) (argTaps m c)) (dV (cvOf m c) (gradOf m c)) (y 0).val (256 * (grid0.coords t 1).val + (y 1).val) (1408 * (grid0.coords t 0).val + (y 2).val) := by
  have h := out0_B_9_eq (ct := argCt m c) (wd := argWd m c) (cv := cvOf m c) (vv := argV m c) (w := argTaps m c) (i := grid0.coords t)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xo10 := (outsAt0 m c (t.val - 1) (Nat.lt_of_le_of_lt (Nat.sub_le _ _) t.isLt)).2)
      (c := c) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (hc0 := fun h => h0 ((hcond0_0 t).mp h)) (y := y)
      (hct := own_beyond m c) (hx0 := own_ct m c t) (hx1 := next_ct m c t) (hx2 := own_wd m c t) (hx3 := own_cv m c t) (hx4 := next_cv m c t) (hx6 := own_v m c t) (hx7 := next_v m c t) (hx8 := own_taps m c t)
  exact (congrFun (fst_of (outsAt0_B m c t h0)) y).trans h

/-- Case B, the second output: the block's part of the taps' and the bias's gradients. -/
theorem caseB_10 (t : Fin cfg0.N) (h0 : ¬ t.val % 16 = 0) (q : Fin 8) (l : Fin 1408) :
    (outsAt0 m c t.val t.isLt).2 (ix2 q l) = (outsAt0 m c (t.val - 1) (Nat.lt_of_le_of_lt (Nat.sub_le _ _) t.isLt)).2 (ix2 q l) + sumBlk (argA m c) (dcvOf m c) q.val (grid0.coords t 1).val (1408 * (grid0.coords t 0).val + l.val) := by
  have h := out0_B_10_eq (ct := argCt m c) (wd := argWd m c) (cv := cvOf m c) (vv := argV m c) (aa := argA m c) (i := grid0.coords t)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xo10 := (outsAt0 m c (t.val - 1) (Nat.lt_of_le_of_lt (Nat.sub_le _ _) t.isLt)).2)
      (c := c) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (hc0 := fun h => h0 ((hcond0_0 t).mp h)) (q := q) (l := l)
      (hct := own_beyond m c) (hx0 := own_ct m c t) (hx1 := next_ct m c t) (hx2 := own_wd m c t) (hx3 := own_cv m c t) (hx4 := next_cv m c t) (hx5 := own_a m c t) (hx6 := own_v m c t) (hx7 := next_v m c t)
  exact (congrFun (snd_of (outsAt0_B m c t h0)) (ix2 q l)).trans h

/-- The first output's block at any point. -/
theorem at_9 (t : Fin cfg0.N) (y : S2x256x1408.Idx) :
    (outsAt0 m c t.val t.isLt).1 y
      = both (dA (dcvOf m c) (argTaps m c)) (dV (cvOf m c) (gradOf m c)) (y 0).val (256 * (t.val % 16) + (y 1).val) (1408 * (t.val / 16) + (y 2).val) := by
  rw [← coords_row, ← coords_col]
  by_cases h0 : t.val % 16 = 0
  · exact caseA_9 m c t h0 y
  · exact caseB_9 m c t h0 y

/-- The second output's block after point `n`: the parts of the blocks of rows so far, in this block of columns. -/
theorem upto_10 (q : Fin 8) (l : Fin 1408) : ∀ (n : ℕ) (hn : n < cfg0.N),
    (outsAt0 m c n hn).2 (ix2 q l) = ∑ b ∈ Finset.range (n % 16 + 1), sumBlk (argA m c) (dcvOf m c) q.val b (1408 * (n / 16) + l.val)
  | 0, hn => by
    have h := caseA_10 m c ⟨0, hn⟩ rfl q l
    rw [coords_row, coords_col] at h
    rw [show 0 % 16 + 1 = 1 from rfl, Finset.sum_range_one]
    exact h
  | n + 1, hn => by
    by_cases h0 : (n + 1) % 16 = 0
    · have h := caseA_10 m c ⟨n + 1, hn⟩ h0 q l
      rw [coords_row, coords_col] at h
      dsimp only at h
      rw [h0] at h ⊢
      rw [Finset.sum_range_one]
      exact h
    · have h := caseB_10 m c ⟨n + 1, hn⟩ h0 q l
      rw [coords_row, coords_col] at h
      have e1 : (n + 1) % 16 = n % 16 + 1 := by omega
      have e2 : (n + 1) / 16 = n / 16 := by omega
      dsimp only at h
      rw [e1, e2] at h ⊢
      rw [Finset.sum_range_succ, ← upto_10 q l n (by omega)]
      exact h

theorem cover0_arr9 (y : S2x4096x2816.Idx) :
    ∃ t : Fin cfg0.N, (cfg0.win 9).flush t = true ∧ y ∈ ((cfg0.win 9).blk t).view.set := by
  have h0 : (y 0 : Nat) < 2 := (y 0).isLt
  have h1 : (y 1 : Nat) < 4096 := (y 1).isLt
  have h2 : (y 2 : Nat) < 2816 := (y 2).isLt
  have hN : cfg0.N = 32 := N_0
  obtain ⟨t, ht⟩ : ∃ t : Fin cfg0.N, t.val = 16 * ((y 2).val / 1408) + (y 1).val / 256 := ⟨⟨16 * ((y 2).val / 1408) + (y 1).val / 256, by omega⟩, rfl⟩
  refine ⟨t, flush0_9 _, ?_⟩
  show y ∈ ((View.whole main_v31_0).slice (win0_9.rect t)).set
  rw [View.set_slice_whole, Rect.mem_set_unit]
  intro a
  match a with
  | ⟨0, _⟩ =>
    show win0_9.index t 0 * 2 ≤ (y 0 : Nat) ∧ (y 0 : Nat) < win0_9.index t 0 * 2 + 2
    rw [(index0_9 t).1]
    omega
  | ⟨1, _⟩ =>
    show win0_9.index t 1 * 256 ≤ (y 1 : Nat) ∧ (y 1 : Nat) < win0_9.index t 1 * 256 + 256
    rw [(index0_9 t).2.1]
    omega
  | ⟨2, _⟩ =>
    show win0_9.index t 2 * 1408 ≤ (y 2 : Nat) ∧ (y 2 : Nat) < win0_9.index t 2 * 1408 + 1408
    rw [(index0_9 t).2.2]
    omega

/-- After the call: the two cotangents, one after the other. -/
theorem final_9 : (dats m 0 c).arrAt 9 cfg0.N
    = (fun y : S2x4096x2816.Idx => both (dA (dcvOf m c) (argTaps m c)) (dV (cvOf m c) (gradOf m c)) (y 0).val (y 1).val (y 2).val) := by
  refine (dats m 0 c).arrAt_eq_of_cover 9 (fun y : S2x4096x2816.Idx => both (dA (dcvOf m c) (argTaps m c)) (dV (cvOf m c) (gradOf m c)) (y 0).val (y 1).val (y 2).val) (fun t _ => ?_) cover0_arr9
  show (cfg0.win 9).cut (grid0.coords t) ((dats m 0 c).after 9 t) = _
  rw [after0_9]
  funext y
  rw [View.read_apply]
  refine (at_9 m c t y).trans ?_
  show both (dA (dcvOf m c) (argTaps m c)) (dV (cvOf m c) (gradOf m c)) (y 0).val (256 * (t.val % 16) + (y 1).val) (1408 * (t.val / 16) + (y 2).val)
    = both (dA (dcvOf m c) (argTaps m c)) (dV (cvOf m c) (gradOf m c)) (win0_9.index t 0 * 2 + 1 * (y 0).val) (win0_9.index t 1 * 256 + 1 * (y 1).val) (win0_9.index t 2 * 1408 + 1 * (y 2).val)
  rw [(index0_9 t).1, (index0_9 t).2.1, (index0_9 t).2.2, Nat.mul_comm 256, Nat.mul_comm 1408, one_mul, one_mul, one_mul, zero_mul, zero_add]

theorem cover0_arr10 (y : S8x2816.Idx) :
    ∃ t : Fin cfg0.N, (cfg0.win 10).flush t = true ∧ y ∈ ((cfg0.win 10).blk t).view.set := by
  have h0 : (y 0 : Nat) < 8 := (y 0).isLt
  have h1 : (y 1 : Nat) < 2816 := (y 1).isLt
  have hN : cfg0.N = 32 := N_0
  obtain ⟨t, ht⟩ : ∃ t : Fin cfg0.N, t.val = 16 * ((y 1).val / 1408) + 15 := ⟨⟨16 * ((y 1).val / 1408) + 15, by omega⟩, rfl⟩
  refine ⟨t, (flush0_10 t).mpr (by omega), ?_⟩
  show y ∈ ((View.whole main_v31_1).slice (win0_10.rect t)).set
  rw [View.set_slice_whole, Rect.mem_set_unit]
  intro a
  match a with
  | ⟨0, _⟩ =>
    show win0_10.index t 0 * 8 ≤ (y 0 : Nat) ∧ (y 0 : Nat) < win0_10.index t 0 * 8 + 8
    rw [(index0_10 t).1]
    omega
  | ⟨1, _⟩ =>
    show win0_10.index t 1 * 1408 ≤ (y 1 : Nat) ∧ (y 1 : Nat) < win0_10.index t 1 * 1408 + 1408
    rw [(index0_10 t).2]
    omega

theorem last_10 (t : Fin cfg0.N) (h : t.val % 16 = 15) (y : S8x1408.Idx) :
    (outsAt0 m c t.val t.isLt).2 y = ∑ b ∈ Finset.range 16, sumBlk (argA m c) (dcvOf m c) (y 0).val b (1408 * (t.val / 16) + (y 1).val) := by
  obtain ⟨q, l, rfl⟩ : ∃ (q : Fin 8) (l : Fin 1408), y = ix2 q l := ⟨y 0, y 1, by funext a; match a with | ⟨0, _⟩ => rfl | ⟨1, _⟩ => rfl⟩
  refine (upto_10 m c q l t.val t.isLt).trans ?_
  rw [h]
  rfl

/-- The second array: in row `q` the sums of the blocks' parts. -/
def sumsArr : Vec Ideal S8x2816 .f32 := fun y => ∑ b ∈ Finset.range 16, sumBlk (argA m c) (dcvOf m c) (y 0).val b (y 1).val

/-- After the call: the taps' gradients in rows 0 to 2 and the bias's in row 3. -/
theorem final_10 : (dats m 0 c).arrAt 10 cfg0.N = sumsArr m c := by
  refine (dats m 0 c).arrAt_eq_of_cover 10 (sumsArr m c) (fun t ht => ?_) cover0_arr10
  show (cfg0.win 10).cut (grid0.coords t) ((dats m 0 c).after 10 t) = _
  rw [after0_10]
  funext y
  rw [View.read_apply]
  refine (last_10 m c t ((flush0_10 t).mp ht) y).trans ?_
  have e : ∀ (a b a' b' : ℕ), a = a' → b = b' → (∑ z ∈ Finset.range 16, sumBlk (argA m c) (dcvOf m c) a z b) = ∑ z ∈ Finset.range 16, sumBlk (argA m c) (dcvOf m c) a' z b' :=
    fun a b a' b' h h' => by rw [h, h']
  refine e _ _ (win0_10.index t 0 * 8 + 1 * (y 0).val) (win0_10.index t 1 * 1408 + 1 * (y 1).val) ?_ ?_
  · rw [(index0_10 t).1]; omega
  · rw [(index0_10 t).2]; omega

end Cert.ActIdeal.Ffn

end
-- ==== Proof.Ffn.ActRun.lean ====
module

public import proofs.«01_k».proof.Proof.Ffn.ActArr
public import Idealize.ShloMosaic.Lib.Pointwise

@[expose] public section

set_option maxRecDepth 16384

noncomputable section

/-! The gate's backward call run, and what its three results hold. -/

namespace Cert.ActIdeal.Ffn

open Idealize.ShloMosaic Idealize.ShloMosaic.TcCoe Idealize.ShloMosaic.Tactic Idealize.SL.Sem Cert.ActIdeal Cert.ActIdeal.Gen
open _root_.Act _root_.Ffn

variable (m : (ℓ : Loc nD τ sig) → Buf (Elt Ideal) ℓ) (ρ : Dev nD → PrngReg) (c : Dev nD)

/-- The buffers as the call leaves them. -/
def exitOf : Valuation τ sig (Elt Ideal) := Pipeline.withArrays spec0 c (V0 m c) fun w => (dats m 0 c).arrAt w cfg0.N

theorem exit_sums : exitOf m c (Proc.devRef .tc main_v31_1) = sumsArr m c := by
  unfold exitOf
  exact ((dats m 0 c).withArrays_arrAt launch₀0.sharedIn _ (A_eq m c) 10).trans (final_10 m c)

/-- The taps' gradients are cut out of the sums. -/
def tapsOf (A : Vec Ideal S8x2816 .f32) : Vec Ideal S3x2816 .f32 := extractStridedSlice S3x2816 ![0, 0] A slices_S8x2816_S3x2816_0_0

theorem tapsOf_apply (A : Vec Ideal S8x2816 .f32) (q : Fin 3) (l : Fin 2816) : tapsOf A (ix2 q l) = A (ix2 ⟨q.val, by omega⟩ l) := by
  pointwise [tapsOf]

/-- The bias's gradient is cut out of the sums. -/
def biasOf (A : Vec Ideal S8x2816 .f32) : Vec Ideal S2816 .f32 := shapeCast S2816 (extractStridedSlice S1x2816 ![3, 0] A slices_S8x2816_S1x2816_3_0 : Vec Ideal S1x2816 .f32) shapeCasts_S1x2816_S2816

theorem biasOf_apply (A : Vec Ideal S8x2816 .f32) (l : Fin 2816) : biasOf A (ix1 l) = A (ix2 3 l) := by
  pointwise [biasOf]

theorem tail_taps : Pipeline.afterTail₀ cfgs (dats m) 0 (V0 m) [hostOps1] c main_v32 = tapsOf (sumsArr m c) := by
  rw [← exit_sums]
  show StableHlo.after hostOps1 (exitOf m c) (Proc.devRef .tc main_v32) = _
  unfold tapsOf
  generalize exitOf m c = E
  after_reads_simp

theorem tail_bias : Pipeline.afterTail₀ cfgs (dats m) 0 (V0 m) [hostOps1] c main_v34 = biasOf (sumsArr m c) := by
  rw [← exit_sums]
  show StableHlo.after hostOps1 (exitOf m c) (Proc.devRef .tc main_v34) = _
  unfold biasOf
  generalize exitOf m c = E
  after_reads_simp
  rfl

/-- The first result. -/
def result0 : Vec Ideal S2x4096x2816 .bf16 := fun y => both (dA (dcvOf m c) (argTaps m c)) (dV (cvOf m c) (gradOf m c)) (y 0).val (y 1).val (y 2).val

/-- The call runs, its three results hold these values, and its arguments are unchanged. -/
theorem run : θ_run defs (onTc (τ := τ) (main (F := Ideal))) ⟨m, fun _ => 0, ρ⟩ (fun r => ∀ c : Dev nD,
      r.2.mem ((c.tc : Thread nD τ).loc main_v31_0) = result0 m c
      ∧ r.2.mem ((c.tc : Thread nD τ).loc main_v32) = tapsOf (sumsArr m c)
      ∧ r.2.mem ((c.tc : Thread nD τ).loc main_v34) = biasOf (sumsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1 c).1 9).trans (final_9 m c),
        ((h.1 c).2 main_v32 (Pipeline.mem_restRefs_of main_v32 (by decide) (by decide))).trans (tail_taps m c),
        ((h.1 c).2 main_v34 (Pipeline.mem_restRefs_of main_v34 (by decide) (by decide))).trans (tail_bias m c), h.2 c⟩)
    (θ_run_and (run_main m ρ) (unchanged m ρ))

end Cert.ActIdeal.Ffn

end
-- ==== Proof.Ffn.ActEquation.lean ====
module

public import proofs.«01_k».proof.Defs
public import proofs.«01_k».proof.Proof.Ffn.ActSpec
public import proofs.«01_k».proof.Proof.Ffn.ActRun
public import Idealize.ShloMosaic.Lib.Quiescent

@[expose] public section

set_option maxRecDepth 16384

noncomputable section

/-! The gradient of the convolution and gate: the call and the plain gradient agree. -/

namespace Cert.ActRefIdeal.Ffn

open Idealize.ShloMosaic Idealize.ShloMosaic.TcCoe Idealize.SL.Sem
open Cert.ActRefIdeal Cert.ActRefIdeal.Gen Cert.ActRefIdeal.Read

variable (m : (ℓ : Loc nD τ sig) → Buf (Elt Ideal) ℓ) (ρ : Dev nD → PrngReg)

abbrev arg0 (c : Dev nD) : FVec Ideal S4096x2816 .f32 := m ((c.tc : Thread nD τ).loc main_arg0)
abbrev arg1 (c : Dev nD) : FVec Ideal S4096x2816 .f32 := m ((c.tc : Thread nD τ).loc main_arg1)
abbrev arg2 (c : Dev nD) : FVec Ideal S3x2816 .f32 := m ((c.tc : Thread nD τ).loc main_arg2)
abbrev arg3 (c : Dev nD) : FVec Ideal S2816 .f32 := m ((c.tc : Thread nD τ).loc main_arg3)
abbrev arg4 (c : Dev nD) : FVec Ideal S2816x1024 .f32 := m ((c.tc : Thread nD τ).loc main_arg4)
abbrev arg5 (c : Dev nD) : FVec Ideal S4096x1024 .f32 := m ((c.tc : Thread nD τ).loc main_arg5)

/-- The reference runs; its results are its stages, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v72) = val_main_v72 (F := Ideal) (arg0 m c) (arg1 m c) (arg2 m c) (arg3 m c) (arg4 m c) (arg5 m c)
      ∧ r.2.mem ((c.tc : Thread nD τ).loc main_v64) = val_main_v64 (F := Ideal) (arg0 m c) (arg1 m c) (arg2 m c) (arg3 m c) (arg4 m c) (arg5 m c)
      ∧ r.2.mem ((c.tc : Thread nD τ).loc main_v55) = val_main_v55 (F := Ideal) (arg0 m c) (arg1 m c) (arg2 m c) (arg3 m c) (arg4 m c) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h c).1.trans (val_main_v72_eq _ _), (h c).2.1.trans (val_main_v64_eq _ _),
      (h c).2.2.1.trans (val_main_v55_eq _ _), (h c).2.2.2⟩, sem_eq_zero_of_no_sems (by decide) r.2⟩)
    (Cert.ActRefIdeal.Value.run m ρ)

end Cert.ActRefIdeal.Ffn

namespace Cert.Proof

open Idealize.ShloMosaic Idealize.SL.Sem Idealize.ShloMosaic.TcCoe

theorem preFacts_act : Cert.Pre_finite_act.Facts := ⟨by decide, by decide, by decide, by decide, by decide⟩

theorem frame_ActRef : Cert.quiescent_ActRefIdeal (hActRefIdeal := Cert.ActRefIdeal.Gen.facts) := fun m ρ _ =>
  (θ_run Cert.ActRefIdeal.defs _ _).mono (fun _ h => ⟨fun c => (h.1 c).2.2.2, h.2⟩) (Cert.ActRefIdeal.Ffn.run_main m ρ)

theorem frame_ActRef_finite :
    Cert.quiescent_ActRefIdeal_pre_finite_act (hActRefIdeal := Cert.ActRefIdeal.Gen.facts) (hPre_finite_act := preFacts_act) := fun m ρ _ =>
  (θ_run Cert.ActRefIdeal.defs _ _).mono (fun _ h => ⟨fun c => (h.1 c).2.2.2, h.2⟩) (Cert.ActRefIdeal.Ffn.run_main m ρ)

section ActValues

variable (m : (ℓ : Loc ActIdeal.nD ActIdeal.τ ActIdeal.sig) → Buf (Elt Ideal) ℓ) (c : Dev ActIdeal.nD)

abbrev actArg0 : FVec Ideal ActIdeal.S4096x2816 .f32 := m ((c.tc : Thread ActIdeal.nD ActIdeal.τ).loc ActIdeal.main_arg0)
abbrev actArg1 : FVec Ideal ActIdeal.S4096x2816 .f32 := m ((c.tc : Thread ActIdeal.nD ActIdeal.τ).loc ActIdeal.main_arg1)
abbrev actArg2 : FVec Ideal ActIdeal.S3x2816 .f32 := m ((c.tc : Thread ActIdeal.nD ActIdeal.τ).loc ActIdeal.main_arg2)
abbrev actArg3 : FVec Ideal ActIdeal.S2816 .f32 := m ((c.tc : Thread ActIdeal.nD ActIdeal.τ).loc ActIdeal.main_arg3)
abbrev actArg4 : FVec Ideal ActIdeal.S2816x1024 .f32 := m ((c.tc : Thread ActIdeal.nD ActIdeal.τ).loc ActIdeal.main_arg4)
abbrev actArg5 : FVec Ideal ActIdeal.S4096x1024 .f32 := m ((c.tc : Thread ActIdeal.nD ActIdeal.τ).loc ActIdeal.main_arg5)

/-- The six arguments' elements are real numbers. -/
theorem args_fin_act (h : @Cert.Pre_ActIdeal_finite_act preFacts_act m) :
    (∀ i, _root_.Pool.Fin' (actArg0 m c i)) ∧ (∀ i, _root_.Pool.Fin' (actArg1 m c i)) ∧ (∀ i, _root_.Pool.Fin' (actArg2 m c i))
    ∧ (∀ i, _root_.Pool.Fin' (actArg3 m c i)) ∧ (∀ i, _root_.Pool.Fin' (actArg4 m c i)) ∧ (∀ i, _root_.Pool.Fin' (actArg5 m c i)) :=
  ⟨_root_.Pool.fin_of_word _ _ (h c).1, _root_.Pool.fin_of_word _ _ (h c).2.1, _root_.Pool.fin_of_word _ _ (h c).2.2.1,
    _root_.Pool.fin_of_word _ _ (h c).2.2.2.1, _root_.Pool.fin_of_word _ _ (h c).2.2.2.2.1, _root_.Pool.fin_of_word _ _ (h c).2.2.2.2.2⟩

variable (h : @Cert.Pre_ActIdeal_finite_act preFacts_act m)

include h

/-- The cotangents of the convolution's input and of the other factor: kernel and reference agree. -/
theorem equal_act0 : (ActIdeal.Ffn.result0 m c : ActIdeal.S2x4096x2816.Idx → EReal)
    = ActRefIdeal.Read.val_main_v72 (F := Ideal) (actArg0 m c) (actArg1 m c) (actArg2 m c) (actArg3 m c) (actArg4 m c) (actArg5 m c) := by
  obtain ⟨h0, h1, h2, h3, h4, h5⟩ := args_fin_act m c h
  funext y
  obtain ⟨n, t, l, rfl⟩ : ∃ (n : Fin 2) (t : Fin 4096) (l : Fin 2816), y = ix3 n t l :=
    ⟨y 0, y 1, y 2, funext fun a => match a with | ⟨0, _⟩ => rfl | ⟨1, _⟩ => rfl | ⟨2, _⟩ => rfl⟩
  exact (ActRefIdeal.Ffn.first_eq _ _ _ _ _ _ h0 h1 h2 h3 h4 h5 n t l).symm

/-- The taps' cotangents: kernel and reference agree. -/
theorem equal_act1 : (ActIdeal.Ffn.tapsOf (ActIdeal.Ffn.sumsArr m c) : ActIdeal.S3x2816.Idx → EReal)
    = ActRefIdeal.Read.val_main_v64 (F := Ideal) (actArg0 m c) (actArg1 m c) (actArg2 m c) (actArg3 m c) (actArg4 m c) (actArg5 m c) := by
  obtain ⟨h0, h1, h2, h3, h4, h5⟩ := args_fin_act m c h
  funext y
  obtain ⟨q, l, rfl⟩ : ∃ (q : Fin 3) (l : Fin 2816), y = ix2 q l :=
    ⟨y 0, y 1, funext fun a => match a with | ⟨0, _⟩ => rfl | ⟨1, _⟩ => rfl⟩
  exact (ActIdeal.Ffn.tapsOf_apply _ q l).trans (ActRefIdeal.Ffn.taps_eq _ _ _ _ _ _ h0 h1 h2 h3 h4 h5 q l).symm

/-- The bias's cotangent: kernel and reference agree. -/
theorem equal_act2 : (ActIdeal.Ffn.biasOf (ActIdeal.Ffn.sumsArr m c) : ActIdeal.S2816.Idx → EReal)
    = ActRefIdeal.Read.val_main_v55 (F := Ideal) (actArg0 m c) (actArg1 m c) (actArg2 m c) (actArg3 m c) (actArg4 m c) (actArg5 m c) := by
  obtain ⟨h0, h1, h2, h3, h4, h5⟩ := args_fin_act m c h
  funext y
  obtain ⟨l, rfl⟩ : ∃ l : Fin 2816, y = ix1 l := ⟨y 0, funext fun a => match a with | ⟨0, _⟩ => rfl⟩
  exact (ActIdeal.Ffn.biasOf_apply _ l).trans (ActRefIdeal.Ffn.bias_eq _ _ _ _ _ _ h0 h1 h2 h3 h4 h5 l).symm

end ActValues

/-- The gate's backward call and the gradient of the plain convolution and gate have equal results over the extended reals. -/
theorem algebraic_Act : Cert.algebraic_ActIdeal_ActRefIdeal_pre_finite_act (hActIdeal := Cert.ActIdeal.Gen.facts)
    (hActRefIdeal := Cert.ActRefIdeal.Gen.facts) (hPre_finite_act := preFacts_act) := fun m g m' g' hpre hargs =>
  ⟨fun c => ActIdeal.Ffn.result0 m c, fun c => ActIdeal.Ffn.tapsOf (ActIdeal.Ffn.sumsArr m c), fun c => ActIdeal.Ffn.biasOf (ActIdeal.Ffn.sumsArr m c),
    ActIdeal.Ffn.run m g,
    (θ_run Cert.ActRefIdeal.defs _ _).mono (fun r h c => by
      obtain ⟨e0, e1, e2, e3, e4, e5⟩ := hargs c
      obtain ⟨r0, r1, r2, rest⟩ := h.1 c
      unfold ActRefIdeal.Ffn.arg0 ActRefIdeal.Ffn.arg1 ActRefIdeal.Ffn.arg2 ActRefIdeal.Ffn.arg3 ActRefIdeal.Ffn.arg4 ActRefIdeal.Ffn.arg5 at r0 r1 r2
      rw [e0, e1, e2, e3, e4, e5] at r0 r1 r2
      exact ⟨r0.trans (equal_act0 m c hpre).symm, r1.trans (equal_act1 m c hpre).symm, r2.trans (equal_act2 m c hpre).symm, rest⟩)
      (Cert.ActRefIdeal.Ffn.run_main m' g')⟩

end Cert.Proof

end
-- ==== Proof.Pool.Roll.lean ====
module

public import proofs.«01_k».proof.Proof.Gen.KernelIdeal
public import proofs.«01_k».proof.Proof.Pool.Spec

@[expose] public section

set_option maxRecDepth 16384

noncomputable section

/-! A column summed with its own rotations: adding the rotation by 1, then by 2, 4, 8 doubles the number of rows summed. -/

namespace Cert.KernelIdeal.Pool

open Idealize.ShloMosaic Cert.KernelIdeal Cert.KernelIdeal.Gen

/-- An array plus itself rotated by `n` rows. -/
abbrev plusRot (n : BitVec 32) (v : FVec Ideal S272x256 .f32) : FVec Ideal S272x256 .f32 :=
  addf v (dynamicRotate 0 n none v rotates_S272x256_d0)

theorem plusRot_apply (n : BitVec 32) (v : FVec Ideal S272x256 .f32) (r : Fin 272) (l : Fin 256) :
    plusRot n v (ix2 r l) = v (ix2 r l) + v (ix2 ⟨(r.val + 272 - n.toNat % 272) % 272, Nat.mod_lt _ (by omega)⟩ l) := by
  pointwise

/-- If `v` sums the `w` rows of `v0` up to each row, then `v` plus its rotation by `w` sums `2 w`. -/
theorem plusRot_back (w : ℕ) (hw : w ≤ 8) (v v0 : FVec Ideal S272x256 .f32)
    (hv : ∀ (r : Fin 272) (l : Fin 256),
      v (ix2 r l) = ∑ k ∈ Finset.range w, v0 (ix2 ⟨(r.val + 272 - k) % 272, Nat.mod_lt _ (by omega)⟩ l))
    (r : Fin 272) (l : Fin 256) :
    plusRot (BitVec.ofNat 32 w) v (ix2 r l)
      = ∑ k ∈ Finset.range (w + w), v0 (ix2 ⟨(r.val + 272 - k) % 272, Nat.mod_lt _ (by omega)⟩ l) := by
  rw [plusRot_apply, hv, hv, Finset.sum_range_add]
  congr 1
  refine Finset.sum_congr rfl fun k hk => ?_
  have hk := Finset.mem_range.1 hk
  have hr := r.isLt
  have e : (BitVec.ofNat 32 w).toNat = w := by rw [BitVec.toNat_ofNat]; exact Nat.mod_eq_of_lt (by omega)
  congr 2
  refine Fin.ext ?_
  show ((r.val + 272 - (BitVec.ofNat 32 w).toNat % 272) % 272 + 272 - k) % 272 = (r.val + 272 - (w + k)) % 272
  rw [e]
  omega

/-- If `v` sums the `w` rows of `v0` from each row on, then `v` plus its rotation by `272 - w` sums `2 w`. -/
theorem plusRot_ahead (w : ℕ) (hw0 : 0 < w) (hw : w ≤ 8) (v v0 : FVec Ideal S272x256 .f32)
    (hv : ∀ (r : Fin 272) (l : Fin 256),
      v (ix2 r l) = ∑ k ∈ Finset.range w, v0 (ix2 ⟨(r.val + k) % 272, Nat.mod_lt _ (by omega)⟩ l))
    (r : Fin 272) (l : Fin 256) :
    plusRot (BitVec.ofNat 32 (272 - w)) v (ix2 r l)
      = ∑ k ∈ Finset.range (w + w), v0 (ix2 ⟨(r.val + k) % 272, Nat.mod_lt _ (by omega)⟩ l) := by
  rw [plusRot_apply, hv, hv, Finset.sum_range_add]
  congr 1
  refine Finset.sum_congr rfl fun k hk => ?_
  have hk := Finset.mem_range.1 hk
  have hr := r.isLt
  have e : (BitVec.ofNat 32 (272 - w)).toNat = 272 - w := by rw [BitVec.toNat_ofNat]; exact Nat.mod_eq_of_lt (by omega)
  congr 2
  refine Fin.ext ?_
  show ((r.val + 272 - (BitVec.ofNat 32 (272 - w)).toNat % 272) % 272 + k) % 272 = (r.val + (w + k)) % 272
  rw [e]
  omega

section
variable (v : FVec Ideal S272x256 .f32) (r : Fin 272) (l : Fin 256)

theorem back1 : v (ix2 r l) = ∑ k ∈ Finset.range 1, v (ix2 ⟨(r.val + 272 - k) % 272, Nat.mod_lt _ (by omega)⟩ l) := by
  rw [Finset.sum_range_one]
  congr 2
  refine Fin.ext ?_
  show r.val = (r.val + 272 - 0) % 272
  have := r.isLt
  omega

theorem ahead1 : v (ix2 r l) = ∑ k ∈ Finset.range 1, v (ix2 ⟨(r.val + k) % 272, Nat.mod_lt _ (by omega)⟩ l) := by
  rw [Finset.sum_range_one]
  congr 2
  refine Fin.ext ?_
  show r.val = (r.val + 0) % 272
  have := r.isLt
  omega

theorem back2 : plusRot 1#32 v (ix2 r l) = ∑ k ∈ Finset.range 2, v (ix2 ⟨(r.val + 272 - k) % 272, Nat.mod_lt _ (by omega)⟩ l) :=
  plusRot_back 1 (by omega) v v (back1 v) r l

theorem back4 : plusRot 2#32 (plusRot 1#32 v) (ix2 r l)
    = ∑ k ∈ Finset.range 4, v (ix2 ⟨(r.val + 272 - k) % 272, Nat.mod_lt _ (by omega)⟩ l) :=
  plusRot_back 2 (by omega) _ v (back2 v) r l

theorem back8 : plusRot 4#32 (plusRot 2#32 (plusRot 1#32 v)) (ix2 r l)
    = ∑ k ∈ Finset.range 8, v (ix2 ⟨(r.val + 272 - k) % 272, Nat.mod_lt _ (by omega)⟩ l) :=
  plusRot_back 4 (by omega) _ v (back4 v) r l

theorem back16 : plusRot 8#32 (plusRot 4#32 (plusRot 2#32 (plusRot 1#32 v))) (ix2 r l)
    = ∑ k ∈ Finset.range 16, v (ix2 ⟨(r.val + 272 - k) % 272, Nat.mod_lt _ (by omega)⟩ l) :=
  plusRot_back 8 (by omega) _ v (back8 v) r l

theorem ahead2 : plusRot 271#32 v (ix2 r l) = ∑ k ∈ Finset.range 2, v (ix2 ⟨(r.val + k) % 272, Nat.mod_lt _ (by omega)⟩ l) :=
  plusRot_ahead 1 (by omega) (by omega) v v (ahead1 v) r l

theorem ahead4 : plusRot 270#32 (plusRot 271#32 v) (ix2 r l)
    = ∑ k ∈ Finset.range 4, v (ix2 ⟨(r.val + k) % 272, Nat.mod_lt _ (by omega)⟩ l) :=
  plusRot_ahead 2 (by omega) (by omega) _ v (ahead2 v) r l

theorem ahead8 : plusRot 268#32 (plusRot 270#32 (plusRot 271#32 v)) (ix2 r l)
    = ∑ k ∈ Finset.range 8, v (ix2 ⟨(r.val + k) % 272, Nat.mod_lt _ (by omega)⟩ l) :=
  plusRot_ahead 4 (by omega) (by omega) _ v (ahead4 v) r l

theorem ahead16 : plusRot 264#32 (plusRot 268#32 (plusRot 270#32 (plusRot 271#32 v))) (ix2 r l)
    = ∑ k ∈ Finset.range 16, v (ix2 ⟨(r.val + k) % 272, Nat.mod_lt _ (by omega)⟩ l) :=
  plusRot_ahead 8 (by omega) (by omega) _ v (ahead8 v) r l

end

end Cert.KernelIdeal.Pool

end
-- ==== Proof.Pool.Fwd.lean ====
module

public import proofs.«01_k».proof.Proof.Gen.KernelIdeal.Frame
public import proofs.«01_k».proof.Proof.Pool.Roll
public import proofs.«01_k».proof.Proof.Pool.Words

@[expose] public section

set_option maxRecDepth 16384

noncomputable section

/-! What one grid point of the forward call leaves in its blocks: the pooled rows and their products with the mixing matrices. -/

namespace Cert.KernelIdeal.Pool

open Idealize.ShloMosaic Cert.KernelIdeal Cert.KernelIdeal.Gen
open _root_.Pool

/-- The last steps of a group: the window's sum over the divisor, less the current row. -/
abbrev meanLess (w : BitVec 32) (v9 : IVec S256x1 32) (e s : FVec Ideal S272x256 .f32) : FVec Ideal S256x256 .bf16 :=
  truncf .bf16 (subf (divf (extractStridedSlice S256x256 ![16, 0] s slices_S272x256_o16_0_S256x256)
    (broadcastTo S256x256 (sitofp .f32 (minsi (addi v9 (broadcast S256x1 1#32)) (broadcast S256x1 w))) broadcasts_S256x1_S256x256))
    (extractStridedSlice S256x256 ![16, 0] e slices_S272x256_o16_0_S256x256)) bitsLt_bf16_f32

theorem meanLess_apply (w : BitVec 32) (v9 : IVec S256x1 32) (e s : FVec Ideal S272x256 .f32) (r c : Fin 256) :
    meanLess w v9 e s (ix2 r c) = Ideal.div (s (ix2 ⟨16 + r.val, by omega⟩ c))
      (FloatOps.sitofp (F := Ideal) .f32 (IntOp.minsi (IntOp.addi (v9 (ix2 r 0)) 1#32) w)) - e (ix2 ⟨16 + r.val, by omega⟩ c) := by
  pointwise

/-- A group's product: a block of rows times the mixing matrix, kept in four slabs of 64 rows. -/
theorem pay_dot_apply (p : FVec Ideal S256x256 .bf16) (w : Vec Ideal S4x1x64x256 .bf16) (r d : Fin 256) :
    matmul dot_S256x256_S256x256_S256x256_1_0_0_1_n_n none p
      (shapeCast S256x256 (shapeCast S4x64x256 w shapeCasts_S4x1x64x256_S4x64x256) shapeCasts_S4x64x256_S256x256 : FVec Ideal S256x256 .bf16)
      (constant S256x256 .f32 0x00000000#32) (ix2 r d)
      = ∑ c : Fin 256, p (ix2 r c) * w (ix4 ⟨c.val / 64, by omega⟩ 0 ⟨c.val % 64, by omega⟩ d) := by
  pointwise

/-- The columns of group 0. -/
abbrev cols0 (v : FVec Ideal S272x1024 .f32) : FVec Ideal S272x256 .f32 :=
  extractStridedSlice S272x256 ![0, 0] v slices_S272x1024_o0_0_S272x256

theorem cols0_apply (v : FVec Ideal S272x1024 .f32) (e : Fin 272) (c : Fin 256) :
    cols0 v (ix2 e c) = v (ix2 e ⟨256 * 0 + c.val, by omega⟩) := by
  pointwise

/-- The columns of group 1. -/
abbrev cols1 (v : FVec Ideal S272x1024 .f32) : FVec Ideal S272x256 .f32 :=
  extractStridedSlice S272x256 ![0, 256] v slices_S272x1024_o0_256_S272x256

theorem cols1_apply (v : FVec Ideal S272x1024 .f32) (e : Fin 272) (c : Fin 256) :
    cols1 v (ix2 e c) = v (ix2 e ⟨256 * 1 + c.val, by omega⟩) := by
  pointwise

/-- The columns of group 2. -/
abbrev cols2 (v : FVec Ideal S272x1024 .f32) : FVec Ideal S272x256 .f32 :=
  extractStridedSlice S272x256 ![0, 512] v slices_S272x1024_o0_512_S272x256

theorem cols2_apply (v : FVec Ideal S272x1024 .f32) (e : Fin 272) (c : Fin 256) :
    cols2 v (ix2 e c) = v (ix2 e ⟨256 * 2 + c.val, by omega⟩) := by
  pointwise

/-- The columns of group 3. -/
abbrev cols3 (v : FVec Ideal S272x1024 .f32) : FVec Ideal S272x256 .f32 :=
  extractStridedSlice S272x256 ![0, 768] v slices_S272x1024_o0_768_S272x256

theorem cols3_apply (v : FVec Ideal S272x1024 .f32) (e : Fin 272) (c : Fin 256) :
    cols3 v (ix2 e c) = v (ix2 e ⟨256 * 3 + c.val, by omega⟩) := by
  pointwise

section
variable (u : ℕ → ℕ → EReal) (W : ℕ → ℕ → ℕ → EReal) (i : grid0.Coords)
  (x0 : Vec Ideal S16x1024 .f32) (x1 : Vec Ideal S256x1024 .f32) (x2 : Vec Ideal S4x4x64x256 .bf16) (x3 : Vec Ideal S1x1024 .f32)
  (hx0 : ∀ (e : Fin 16) (l : Fin 1024), 0 < (i 0).val → x0 (ix2 e l) = u (256 * (i 0).val + e.val - 16) l.val)
  (hx1 : ∀ (r : Fin 256) (l : Fin 1024), x1 (ix2 r l) = u (256 * (i 0).val + r.val) l.val)
  (hx2 : ∀ (q g : Fin 4) (r : Fin 64) (d : Fin 256), x2 (ix4 q g r d) = W g.val (64 * q.val + r.val) d.val)

theorem point0_lt : (i 0).val < 16 := (i 0).isLt

include hx0 hx1 in
/-- The block with the sixteen rows before it, zeros before the first. -/
theorem ext_apply (e : Fin 272) (l : Fin 1024) :
    k0_pay5 (F := Ideal) i x0 x1 (ix2 e l) = if 16 ≤ 256 * (i 0).val + e.val then u (256 * (i 0).val + e.val - 16) l.val else 0 := by
  have hb := point0_lt i
  have h : k0_pay5 (F := Ideal) i x0 x1 (ix2 e l) = if h : e.val < 16 then
      Scalar.select (Scalar.cmpi .sgt (BitVec.ofNat 32 (i 0).val) 0#32) (x0 (ix2 ⟨e.val, h⟩ l)) 0
      else x1 (ix2 ⟨e.val - 16, by omega⟩ l) := by
    pointwise [k0_pay5]
  rw [h]
  by_cases he : e.val < 16
  · rw [dif_pos he, select_sgt _ (by omega)]
    by_cases hb0 : 0 < (i 0).val
    · rw [if_pos hb0, hx0 _ _ hb0, if_pos (by omega)]
    · rw [if_neg hb0, if_neg (by omega)]
  · rw [dif_neg he, hx1, if_pos (by omega)]
    congr 1
    show 256 * (i 0).val + (e.val - 16) = _
    omega

include hx0 hx1 in
/-- A window of `w` rows of the extended block that ends at row `16 + r`. -/
theorem ext_back (w : ℕ) (hw : w ≤ 16) (g : ℕ) (hg : g < 4) (v : FVec Ideal S272x256 .f32)
    (hv : ∀ (e : Fin 272) (c : Fin 256), v (ix2 e c) = k0_pay5 (F := Ideal) i x0 x1 (ix2 e ⟨256 * g + c.val, by omega⟩)) (r c : Fin 256) :
    (∑ k ∈ Finset.range w, v (ix2 ⟨(16 + r.val + 272 - k) % 272, Nat.mod_lt _ (by omega)⟩ c))
      = back u w (256 * (i 0).val + r.val) (256 * g + c.val) := by
  refine Finset.sum_congr rfl fun k hk => ?_
  have hk := Finset.mem_range.1 hk
  have hr := r.isLt
  rw [hv, ext_apply u i x0 x1 hx0 hx1]
  have e1 : (16 + r.val + 272 - k) % 272 = 16 + r.val - k := by omega
  show (if 16 ≤ 256 * (i 0).val + (16 + r.val + 272 - k) % 272 then u (256 * (i 0).val + (16 + r.val + 272 - k) % 272 - 16) (256 * g + c.val) else 0) = _
  rw [e1]
  by_cases h : k ≤ 256 * (i 0).val + r.val
  · rw [if_pos h, if_pos (by omega)]
    congr 1
    omega
  · rw [if_neg h, if_neg (by omega)]

theorem step_apply (r : Fin 256) : k0_pay6 i (ix2 r 0) = BitVec.ofNat 32 (256 * (i 0).val + r.val) := by
  have h : k0_pay6 i (ix2 r 0) = IntOp.addi (Scalar.muli (BitVec.ofNat 32 (i 0).val) 256#32) (BitVec.ofNat 32 r.val) := by
    pointwise [k0_pay6]
  rw [h, step_word]

include hx0 hx1 in
/-- A group's pooled rows, from the rotated sums. -/
theorem pooled_apply (w : ℕ) (hw : w ≤ 16) (g : ℕ) (hg : g < 4) (hwg : w = 2 ^ (g + 1)) (v s : FVec Ideal S272x256 .f32)
    (hv : ∀ (e : Fin 272) (c : Fin 256), v (ix2 e c) = k0_pay5 (F := Ideal) i x0 x1 (ix2 e ⟨256 * g + c.val, by omega⟩))
    (hs : ∀ (e : Fin 272) (c : Fin 256), s (ix2 e c) = ∑ k ∈ Finset.range w, v (ix2 ⟨(e.val + 272 - k) % 272, Nat.mod_lt _ (by omega)⟩ c))
    (r c : Fin 256) :
    meanLess (BitVec.ofNat 32 w) (k0_pay6 i) v s (ix2 r c) = pooled u (256 * (i 0).val + r.val) (256 * g + c.val) := by
  have hb := point0_lt i
  have hr := r.isLt
  have hc := c.isLt
  rw [meanLess_apply, hs, ext_back u i x0 x1 hx0 hx1 w hw g hg v hv, step_apply, cnt_word _ _ (by omega) (by omega), hv,
    ext_apply u i x0 x1 hx0 hx1]
  have e1 : wlen (256 * g + c.val) = w := by
    unfold wlen
    rw [hwg, show (256 * g + c.val) / 256 = g by omega]
  unfold pooled
  rw [e1]
  show _ - (if 16 ≤ 256 * (i 0).val + (16 + r.val) then u (256 * (i 0).val + (16 + r.val) - 16) (256 * g + c.val) else 0) = _
  rw [if_pos (by omega)]
  congr 2
  omega

include hx0 hx1

theorem pooled0 (r c : Fin 256) :
    k0_pay7 (F := Ideal) i x0 x1 (ix2 r c) = pooled u (256 * (i 0).val + r.val) (256 * 0 + c.val) := by
  have e : k0_pay7 (F := Ideal) i x0 x1 = meanLess 2#32 (k0_pay6 i) (cols0 (k0_pay5 i x0 x1))
      (plusRot 1#32 (cols0 (k0_pay5 i x0 x1))) := rfl
  rw [e]
  exact pooled_apply u i x0 x1 hx0 hx1 2 (by omega) 0 (by omega) (by norm_num) _ _ (fun e c => cols0_apply _ e c)
    (fun e c => back2 _ e c) r c

theorem pooled1 (r c : Fin 256) :
    k0_pay11 (F := Ideal) (k0_pay5 i x0 x1) (k0_pay6 i) (ix2 r c) = pooled u (256 * (i 0).val + r.val) (256 * 1 + c.val) := by
  have e : k0_pay11 (F := Ideal) (k0_pay5 i x0 x1) (k0_pay6 i) = meanLess 4#32 (k0_pay6 i) (cols1 (k0_pay5 i x0 x1))
      (plusRot 2#32 (plusRot 1#32 (cols1 (k0_pay5 i x0 x1)))) := rfl
  rw [e]
  exact pooled_apply u i x0 x1 hx0 hx1 4 (by omega) 1 (by omega) (by norm_num) _ _ (fun e c => cols1_apply _ e c)
    (fun e c => back4 _ e c) r c

theorem pooled2 (r c : Fin 256) :
    k0_pay17 (F := Ideal) (k0_pay6 i) (k0_pay15 (k0_pay5 i x0 x1)) (k0_pay16 (k0_pay5 i x0 x1)) (ix2 r c) = pooled u (256 * (i 0).val + r.val) (256 * 2 + c.val) := by
  have e : k0_pay17 (F := Ideal) (k0_pay6 i) (k0_pay15 (k0_pay5 i x0 x1)) (k0_pay16 (k0_pay5 i x0 x1)) = meanLess 8#32 (k0_pay6 i) (cols2 (k0_pay5 i x0 x1))
      (plusRot 4#32 (plusRot 2#32 (plusRot 1#32 (cols2 (k0_pay5 i x0 x1))))) := rfl
  rw [e]
  exact pooled_apply u i x0 x1 hx0 hx1 8 (by omega) 2 (by omega) (by norm_num) _ _ (fun e c => cols2_apply _ e c)
    (fun e c => back8 _ e c) r c

theorem pooled3 (r c : Fin 256) :
    k0_pay1 (F := Ideal) (k0_pay6 i) (k0_pay21 (k0_pay5 i x0 x1)) (k0_pay22 (k0_pay5 i x0 x1)) k0_pay23 (ix2 r c) = pooled u (256 * (i 0).val + r.val) (256 * 3 + c.val) := by
  have e : k0_pay1 (F := Ideal) (k0_pay6 i) (k0_pay21 (k0_pay5 i x0 x1)) (k0_pay22 (k0_pay5 i x0 x1)) k0_pay23 = meanLess 16#32 (k0_pay6 i) (cols3 (k0_pay5 i x0 x1))
      (plusRot 8#32 (plusRot 4#32 (plusRot 2#32 (plusRot 1#32 (cols3 (k0_pay5 i x0 x1)))))) := rfl
  rw [e]
  exact pooled_apply u i x0 x1 hx0 hx1 16 (by omega) 3 (by omega) (by norm_num) _ _ (fun e c => cols3_apply _ e c)
    (fun e c => back16 _ e c) r c

omit hx0 hx1

/-- A group's product, from its pooled rows and its matrix. -/
theorem mixed_apply (g : ℕ) (p : FVec Ideal S256x256 .bf16)
    (hp : ∀ r c : Fin 256, p (ix2 r c) = pooled u (256 * (i 0).val + r.val) (256 * g + c.val)) (w : Vec Ideal S4x1x64x256 .bf16)
    (hw : ∀ (q : Fin 4) (r : Fin 64) (d : Fin 256), w (ix4 q 0 r d) = W g (64 * q.val + r.val) d.val) (r d : Fin 256) :
    matmul dot_S256x256_S256x256_S256x256_1_0_0_1_n_n none p
      (shapeCast S256x256 (shapeCast S4x64x256 w shapeCasts_S4x1x64x256_S4x64x256) shapeCasts_S4x64x256_S256x256 : FVec Ideal S256x256 .bf16)
      (constant S256x256 .f32 0x00000000#32) (ix2 r d) = mixed u W (256 * (i 0).val + r.val) (256 * g + d.val) := by
  have hd := d.isLt
  rw [pay_dot_apply]
  unfold mixed
  rw [show (256 * g + d.val) / 256 = g by omega, show (256 * g + d.val) % 256 = d.val by omega]
  refine Finset.sum_congr rfl fun c _ => ?_
  rw [hp, hw]
  congr 2
  show 64 * (c.val / 64) + c.val % 64 = c.val
  omega

include hx2 in
theorem ld_w {g : ℕ} (hg : g < 4) (hin) (q : Fin 4) (r : Fin 64) (d : Fin 256) :
    View.ld x2 (Rect.unit (s := S4x4x64x256) ![0, g, 0, 0] S4x1x64x256.size hin) (ix4 q 0 r d) = W g (64 * q.val + r.val) d.val := by
  have h : View.ld x2 (Rect.unit (s := S4x4x64x256) ![0, g, 0, 0] S4x1x64x256.size hin) (ix4 q 0 r d) = x2 (ix4 q ⟨g, hg⟩ r d) := by
    show x2 _ = x2 _
    congr 1
    funext a
    apply Fin.ext
    match a with
    | ⟨0, _⟩ => show 0 + 1 * q.val = q.val; omega
    | ⟨1, _⟩ => show g + 1 * 0 = g; omega
    | ⟨2, _⟩ => show 0 + 1 * r.val = r.val; omega
    | ⟨3, _⟩ => show 0 + 1 * d.val = d.val; omega
  rw [h, hx2]

include hx0 hx1

theorem mixed0 (w : Vec Ideal S4x1x64x256 .bf16)
    (hw : ∀ (q : Fin 4) (r : Fin 64) (d : Fin 256), w (ix4 q 0 r d) = W 0 (64 * q.val + r.val) d.val) (r d : Fin 256) :
    k0_pay9 (F := Ideal) i x0 x1 w (ix2 r d) = mixed u W (256 * (i 0).val + r.val) (256 * 0 + d.val) := by
  have e : k0_pay9 (F := Ideal) i x0 x1 w = matmul dot_S256x256_S256x256_S256x256_1_0_0_1_n_n none
      (k0_pay7 (F := Ideal) i x0 x1)
      (shapeCast S256x256 (shapeCast S4x64x256 w shapeCasts_S4x1x64x256_S4x64x256) shapeCasts_S4x64x256_S256x256 : FVec Ideal S256x256 .bf16)
      (constant S256x256 .f32 0x00000000#32) := rfl
  rw [e]
  exact mixed_apply u W i 0 _ (pooled0 u i x0 x1 hx0 hx1) w hw r d

theorem mixed1 (w : Vec Ideal S4x1x64x256 .bf16)
    (hw : ∀ (q : Fin 4) (r : Fin 64) (d : Fin 256), w (ix4 q 0 r d) = W 1 (64 * q.val + r.val) d.val) (r d : Fin 256) :
    k0_pay13 (F := Ideal) (k0_pay5 i x0 x1) (k0_pay6 i) w (ix2 r d) = mixed u W (256 * (i 0).val + r.val) (256 * 1 + d.val) := by
  have e : k0_pay13 (F := Ideal) (k0_pay5 i x0 x1) (k0_pay6 i) w = matmul dot_S256x256_S256x256_S256x256_1_0_0_1_n_n none
      (k0_pay11 (F := Ideal) (k0_pay5 i x0 x1) (k0_pay6 i))
      (shapeCast S256x256 (shapeCast S4x64x256 w shapeCasts_S4x1x64x256_S4x64x256) shapeCasts_S4x64x256_S256x256 : FVec Ideal S256x256 .bf16)
      (constant S256x256 .f32 0x00000000#32) := rfl
  rw [e]
  exact mixed_apply u W i 1 _ (pooled1 u i x0 x1 hx0 hx1) w hw r d

theorem mixed2 (w : Vec Ideal S4x1x64x256 .bf16)
    (hw : ∀ (q : Fin 4) (r : Fin 64) (d : Fin 256), w (ix4 q 0 r d) = W 2 (64 * q.val + r.val) d.val) (r d : Fin 256) :
    k0_pay19 (F := Ideal) (k0_pay6 i) (k0_pay15 (k0_pay5 i x0 x1)) (k0_pay16 (k0_pay5 i x0 x1)) w (ix2 r d) = mixed u W (256 * (i 0).val + r.val) (256 * 2 + d.val) := by
  have e : k0_pay19 (F := Ideal) (k0_pay6 i) (k0_pay15 (k0_pay5 i x0 x1)) (k0_pay16 (k0_pay5 i x0 x1)) w = matmul dot_S256x256_S256x256_S256x256_1_0_0_1_n_n none
      (k0_pay17 (F := Ideal) (k0_pay6 i) (k0_pay15 (k0_pay5 i x0 x1)) (k0_pay16 (k0_pay5 i x0 x1)))
      (shapeCast S256x256 (shapeCast S4x64x256 w shapeCasts_S4x1x64x256_S4x64x256) shapeCasts_S4x64x256_S256x256 : FVec Ideal S256x256 .bf16)
      (constant S256x256 .f32 0x00000000#32) := rfl
  rw [e]
  exact mixed_apply u W i 2 _ (pooled2 u i x0 x1 hx0 hx1) w hw r d

theorem mixed3 (w : Vec Ideal S4x1x64x256 .bf16)
    (hw : ∀ (q : Fin 4) (r : Fin 64) (d : Fin 256), w (ix4 q 0 r d) = W 3 (64 * q.val + r.val) d.val) (r d : Fin 256) :
    k0_pay3 (F := Ideal) (k0_pay6 i) (k0_pay21 (k0_pay5 i x0 x1)) (k0_pay22 (k0_pay5 i x0 x1)) k0_pay23 w (ix2 r d) = mixed u W (256 * (i 0).val + r.val) (256 * 3 + d.val) := by
  have e : k0_pay3 (F := Ideal) (k0_pay6 i) (k0_pay21 (k0_pay5 i x0 x1)) (k0_pay22 (k0_pay5 i x0 x1)) k0_pay23 w = matmul dot_S256x256_S256x256_S256x256_1_0_0_1_n_n none
      (k0_pay1 (F := Ideal) (k0_pay6 i) (k0_pay21 (k0_pay5 i x0 x1)) (k0_pay22 (k0_pay5 i x0 x1)) k0_pay23)
      (shapeCast S256x256 (shapeCast S4x64x256 w shapeCasts_S4x1x64x256_S4x64x256) shapeCasts_S4x64x256_S256x256 : FVec Ideal S256x256 .bf16)
      (constant S256x256 .f32 0x00000000#32) := rfl
  rw [e]
  exact mixed_apply u W i 3 _ (pooled3 u i x0 x1 hx0 hx1) w hw r d

/-- The forward call's pooled block. -/
theorem out0_4_eq (y : S256x1024.Idx) :
    out0_4 (F := Ideal) i x0 x1 x2 x3 y = pooled u (256 * (i 0).val + (y 0).val) (y 1).val := by
  unfold_out out0_4
  have hz : (![0, 0] : Fin 2 → Nat) = fun _ => 0 := funext fun a => by fin_cases a <;> rfl
  refine View.canon_apply_of_pieces (Val := Elt Ideal) (e := .bf16) (fun y : S256x1024.Idx => pooled u (256 * (i 0).val + (y 0).val) (y 1).val) _ ?_ y
    (cover0_4 _ _ _ _ y)
  simp only [List.forall_mem_cons, List.not_mem_nil, false_imp_iff, implies_true, and_true]
  refine ⟨fun x => ?_, fun x => ?_, fun x => ?_, fun x => ?_⟩
  all_goals
    obtain ⟨r, c, rfl⟩ : ∃ (r c : Fin 256), x = ix2 r c := ⟨x 0, x 1, funext fun a => by match a with | ⟨0, _⟩ => rfl | ⟨1, _⟩ => rfl⟩
    rw [View.ld_unit_zero (S := S16x1024) hz, View.ld_unit_zero (S := S256x1024) hz]
  · refine (pooled3 u i x0 x1 hx0 hx1 r c).trans ?_
    show pooled u _ (256 * 3 + c.val) = pooled u (_ + (0 + 1 * r.val)) (768 + 1 * c.val)
    rw [zero_add, one_mul, one_mul]
  · refine (pooled2 u i x0 x1 hx0 hx1 r c).trans ?_
    show pooled u _ (256 * 2 + c.val) = pooled u (_ + (0 + 1 * r.val)) (512 + 1 * c.val)
    rw [zero_add, one_mul, one_mul]
  · refine (pooled1 u i x0 x1 hx0 hx1 r c).trans ?_
    show pooled u _ (256 * 1 + c.val) = pooled u (_ + (0 + 1 * r.val)) (256 + 1 * c.val)
    rw [zero_add, one_mul, one_mul]
  · refine (pooled0 u i x0 x1 hx0 hx1 r c).trans ?_
    show pooled u _ (256 * 0 + c.val) = pooled u (_ + (0 + 1 * r.val)) (0 + 1 * c.val)
    rw [zero_add, one_mul, one_mul]

include hx2 in
/-- The forward call's block of products. -/
theorem out0_5_eq (y : S256x1024.Idx) :
    out0_5 (F := Ideal) i x0 x1 x2 x3 y = mixed u W (256 * (i 0).val + (y 0).val) (y 1).val := by
  unfold_out out0_5
  have hz : (![0, 0] : Fin 2 → Nat) = fun _ => 0 := funext fun a => by fin_cases a <;> rfl
  refine View.canon_apply_of_pieces (Val := Elt Ideal) (e := .bf16) (fun y : S256x1024.Idx => mixed u W (256 * (i 0).val + (y 0).val) (y 1).val) _ ?_ y
    (cover0_5 _ _ _ _ y)
  simp only [List.forall_mem_cons, List.not_mem_nil, false_imp_iff, implies_true, and_true]
  refine ⟨fun x => ?_, fun x => ?_, fun x => ?_, fun x => ?_⟩
  all_goals
    obtain ⟨r, c, rfl⟩ : ∃ (r c : Fin 256), x = ix2 r c := ⟨x 0, x 1, funext fun a => by match a with | ⟨0, _⟩ => rfl | ⟨1, _⟩ => rfl⟩
    rw [View.ld_unit_zero (S := S16x1024) hz, View.ld_unit_zero (S := S256x1024) hz]
  · refine (mixed3 u W i x0 x1 hx0 hx1 _ (ld_w W x2 hx2 (by omega) _) r c).trans ?_
    show mixed u W _ (256 * 3 + c.val) = mixed u W (_ + (0 + 1 * r.val)) (768 + 1 * c.val)
    rw [zero_add, one_mul, one_mul]
  · refine (mixed2 u W i x0 x1 hx0 hx1 _ (ld_w W x2 hx2 (by omega) _) r c).trans ?_
    show mixed u W _ (256 * 2 + c.val) = mixed u W (_ + (0 + 1 * r.val)) (512 + 1 * c.val)
    rw [zero_add, one_mul, one_mul]
  · refine (mixed1 u W i x0 x1 hx0 hx1 _ (ld_w W x2 hx2 (by omega) _) r c).trans ?_
    show mixed u W _ (256 * 1 + c.val) = mixed u W (_ + (0 + 1 * r.val)) (256 + 1 * c.val)
    rw [zero_add, one_mul, one_mul]
  · refine (mixed0 u W i x0 x1 hx0 hx1 _ (ld_w W x2 hx2 (by omega) _) r c).trans ?_
    show mixed u W _ (256 * 0 + c.val) = mixed u W (_ + (0 + 1 * r.val)) (0 + 1 * c.val)
    rw [zero_add, one_mul, one_mul]

end

end Cert.KernelIdeal.Pool

end
-- ==== Proof.Pool.Bwd.lean ====
module

public import proofs.«01_k».proof.Proof.Gen.KernelIdeal.Frame
public import proofs.«01_k».proof.Proof.Pool.Fwd

@[expose] public section

set_option maxRecDepth 16384

noncomputable section

/-! What one grid point of the backward call computes from its blocks, operation by operation. -/

namespace Cert.KernelIdeal.Pool

open Idealize.ShloMosaic Cert.KernelIdeal Cert.KernelIdeal.Gen
open _root_.Pool

/-- A group's cotangent of the product: its columns of the result's cotangent times the scale. -/
abbrev dzOf (v : FVec Ideal S272x256 .f32) (s : Vec Ideal S1x256 .f32) : FVec Ideal S272x256 .bf16 :=
  truncf .bf16 (mulf v (broadcastTo S272x256 (shapeCast S1x256 s shapeCasts_S1x256_S1x256 : FVec Ideal S1x256 .f32) broadcasts_S1x256_S272x256)) bitsLt_bf16_f32

theorem dzOf_apply (v : FVec Ideal S272x256 .f32) (s : Vec Ideal S1x256 .f32) (e : Fin 272) (c : Fin 256) :
    dzOf v s (ix2 e c) = v (ix2 e c) * s (ix2 0 c) := by
  pointwise

/-- A group's cotangent of the pooled rows: times the transposed mixing matrix. -/
abbrev dpoolOf (dz : FVec Ideal S272x256 .bf16) (w : Vec Ideal S4x1x64x256 .bf16) : FVec Ideal S272x256 .f32 :=
  matmul dot_S272x256_S256x256_S272x256_1_1_0_0_n_n none dz
    (shapeCast S256x256 (shapeCast S4x64x256 w shapeCasts_S4x1x64x256_S4x64x256) shapeCasts_S4x64x256_S256x256 : FVec Ideal S256x256 .bf16)
    (constant S272x256 .f32 0x00000000#32)

theorem dpoolOf_apply (dz : FVec Ideal S272x256 .bf16) (w : Vec Ideal S4x1x64x256 .bf16) (e : Fin 272) (c : Fin 256) :
    dpoolOf dz w (ix2 e c) = ∑ d : Fin 256, dz (ix2 e d) * w (ix4 ⟨c.val / 64, by omega⟩ 0 ⟨c.val % 64, by omega⟩ d) := by
  pointwise

/-- The quotient by the window's divisor. -/
abbrev quot (w : BitVec 32) (v24 : IVec S272x1 32) (D : FVec Ideal S272x256 .f32) : FVec Ideal S272x256 .f32 :=
  divf D (broadcastTo S272x256 (sitofp .f32 (minsi (addi v24 (broadcast S272x1 1#32)) (broadcast S272x1 w))) broadcasts_S272x1_S272x256)

theorem quot_apply (w : BitVec 32) (v24 : IVec S272x1 32) (D : FVec Ideal S272x256 .f32) (e : Fin 272) (c : Fin 256) :
    quot w v24 D (ix2 e c) = Ideal.div (D (ix2 e c)) (FloatOps.sitofp (F := Ideal) .f32 (IntOp.minsi (IntOp.addi (v24 (ix2 e 0)) 1#32) w)) := by
  pointwise

/-- The last steps: the window's sum less the step's own. -/
abbrev lessOwn (s D : FVec Ideal S272x256 .f32) : FVec Ideal S256x256 .bf16 :=
  truncf .bf16 (subf (extractStridedSlice S256x256 ![0, 0] s slices_S272x256_o0_0_S256x256)
    (extractStridedSlice S256x256 ![0, 0] D slices_S272x256_o0_0_S256x256)) bitsLt_bf16_f32

theorem lessOwn_apply (s D : FVec Ideal S272x256 .f32) (r c : Fin 256) :
    lessOwn s D (ix2 r c) = s (ix2 ⟨r.val, by omega⟩ c) - D (ix2 ⟨r.val, by omega⟩ c) := by
  pointwise

/-- A mixing matrix's accumulation: what was there plus the pooled rows' transpose times the cotangent. -/
abbrev accW (dz : FVec Ideal S272x256 .bf16) (acc : Vec Ideal S1x256x256 .f32) (p : Vec Ideal S256x256 .bf16) : FVec Ideal S1x256x256 .f32 :=
  shapeCast S1x256x256 (addf (shapeCast S256x256 acc shapeCasts_S1x256x256_S256x256 : FVec Ideal S256x256 .f32)
    (matmul dot_S256x256_S256x256_S256x256_0_0_1_1_n_n none (shapeCast S256x256 p shapeCasts_S256x256_S256x256 : FVec Ideal S256x256 .bf16)
      (extractStridedSlice S256x256 ![0, 0] dz slices_S272x256_o0_0_S256x256 : FVec Ideal S256x256 .bf16) (constant S256x256 .f32 0x00000000#32)))
    shapeCasts_S256x256_S1x256x256

theorem accW_apply (dz : FVec Ideal S272x256 .bf16) (acc : Vec Ideal S1x256x256 .f32) (p : Vec Ideal S256x256 .bf16) (c d : Fin 256) :
    accW dz acc p (ix3 0 c d) = acc (ix3 0 c d) + ∑ r : Fin 256, p (ix2 r c) * dz (ix2 ⟨r.val, by omega⟩ d) := by
  pointwise

/-- The scale's accumulation, in the first of eight rows. -/
theorem accS_apply (x : Vec Ideal S256x1024 .f32) (acc : Vec Ideal S8x1024 .f32) (z : Vec Ideal S256x1024 .bf16) (l : Fin 1024) :
    k1_pay6 x acc z (ix2 0 l) = acc (ix2 0 l) + ∑ r : Fin 256, x (ix2 r l) * z (ix2 r l) := by
  have h (j : Fin 8) : k1_pay6 x acc z (ix2 j l) = acc (ix2 j l) + (if j.val < 1 then ∑ r : Fin 256, x (ix2 r l) * z (ix2 r l) else 0) := by
    pointwise [k1_pay6]
    by_cases h : j.val < 1
    · rw [dif_pos h, if_pos h]
    · rw [dif_neg h, if_neg h]
  exact h 0

section
variable (u ct : ℕ → ℕ → EReal) (sc : ℕ → EReal) (W : ℕ → ℕ → ℕ → EReal) (i : grid1.Coords)
  (x0 : Vec Ideal S256x1024 .f32) (x1 : Vec Ideal S16x1024 .f32) (x2 x3 : Vec Ideal S256x1024 .bf16)
  (x4 : Vec Ideal S4x4x64x256 .bf16) (x5 : Vec Ideal S1x1024 .f32)
  (hct : ∀ t l, 4096 ≤ t → ct t l = 0)
  (hx0 : ∀ (r : Fin 256) (l : Fin 1024), x0 (ix2 r l) = ct (256 * (i 0).val + r.val) l.val)
  (hx1 : ∀ (e : Fin 16) (l : Fin 1024), (i 0).val < 15 → x1 (ix2 e l) = ct (256 * (i 0).val + 256 + e.val) l.val)
  (hx2 : ∀ (r : Fin 256) (l : Fin 1024), x2 (ix2 r l) = mixed u W (256 * (i 0).val + r.val) l.val)
  (hx3 : ∀ (r : Fin 256) (l : Fin 1024), x3 (ix2 r l) = pooled u (256 * (i 0).val + r.val) l.val)
  (hx4 : ∀ (q g : Fin 4) (r : Fin 64) (d : Fin 256), x4 (ix4 q g r d) = W g.val (64 * q.val + r.val) d.val)
  (hx5 : ∀ l : Fin 1024, x5 (ix2 0 l) = sc l.val)

theorem point1_lt : (i 0).val < 16 := (i 0).isLt

include hct hx0 hx1 in
/-- The block of cotangents with the sixteen rows after it, zeros after the last. -/
theorem ext1_apply (e : Fin 272) (l : Fin 1024) :
    k1_pay5 (F := Ideal) i x0 x1 (ix2 e l) = ct (256 * (i 0).val + e.val) l.val := by
  have hb := point1_lt i
  have h : k1_pay5 (F := Ideal) i x0 x1 (ix2 e l) = if h : e.val < 256 then x0 (ix2 ⟨e.val, h⟩ l) else
      Scalar.select (Scalar.cmpi .slt (BitVec.ofNat 32 (i 0).val) 15#32) (x1 (ix2 ⟨e.val - 256, by omega⟩ l)) 0 := by
    pointwise [k1_pay5]
  rw [h]
  by_cases he : e.val < 256
  · rw [dif_pos he, hx0]
  · rw [dif_neg he, select_slt _ 15 (by omega) (by omega)]
    by_cases hb0 : (i 0).val < 15
    · rw [if_pos hb0, hx1 _ _ hb0]
      congr 1
      show 256 * (i 0).val + 256 + (e.val - 256) = _
      omega
    · rw [if_neg hb0, hct _ _ (by omega)]

theorem step1_apply (e : Fin 272) : k1_pay7 i (ix2 e 0) = BitVec.ofNat 32 (256 * (i 0).val + e.val) := by
  have h : k1_pay7 i (ix2 e 0) = IntOp.addi (Scalar.muli (BitVec.ofNat 32 (i 0).val) 256#32) (BitVec.ofNat 32 e.val) := by
    pointwise [k1_pay7]
  rw [h, step_word]

include hct hx0 hx1 in
theorem dz_apply (g : ℕ) (hg : g < 4) (v : FVec Ideal S272x256 .f32) (s : Vec Ideal S1x256 .f32)
    (hv : ∀ (e : Fin 272) (c : Fin 256), v (ix2 e c) = k1_pay5 (F := Ideal) i x0 x1 (ix2 e ⟨256 * g + c.val, by omega⟩))
    (hs : ∀ c : Fin 256, s (ix2 0 c) = sc (256 * g + c.val)) (e : Fin 272) (c : Fin 256) :
    dzOf v s (ix2 e c) = dmix ct sc (256 * (i 0).val + e.val) (256 * g + c.val) := by
  rw [dzOf_apply, hv, hs, ext1_apply ct i x0 x1 hct hx0 hx1]
  rfl

theorem dpool_apply (g : ℕ) (dz : FVec Ideal S272x256 .bf16) (w : Vec Ideal S4x1x64x256 .bf16)
    (hdz : ∀ (e : Fin 272) (c : Fin 256), dz (ix2 e c) = dmix ct sc (256 * (i 0).val + e.val) (256 * g + c.val))
    (hw : ∀ (q : Fin 4) (r : Fin 64) (d : Fin 256), w (ix4 q 0 r d) = W g (64 * q.val + r.val) d.val) (e : Fin 272) (c : Fin 256) :
    dpoolOf dz w (ix2 e c) = dpool ct sc W (256 * (i 0).val + e.val) (256 * g + c.val) := by
  have hc := c.isLt
  rw [dpoolOf_apply]
  unfold dpool
  rw [show (256 * g + c.val) / 256 = g by omega, show (256 * g + c.val) % 256 = c.val by omega]
  refine Finset.sum_congr rfl fun d _ => ?_
  rw [hdz, hw]
  congr 2
  show 64 * (c.val / 64) + c.val % 64 = c.val
  omega

theorem dinput_apply (w : ℕ) (hw : w ≤ 16) (g : ℕ) (hwg : w = 2 ^ (g + 1)) (D s : FVec Ideal S272x256 .f32)
    (hD : ∀ (e : Fin 272) (c : Fin 256), D (ix2 e c) = dpool ct sc W (256 * (i 0).val + e.val) (256 * g + c.val))
    (hs : ∀ (e : Fin 272) (c : Fin 256), s (ix2 e c) = ∑ k ∈ Finset.range w,
      quot (BitVec.ofNat 32 w) (k1_pay7 i) D (ix2 ⟨(e.val + k) % 272, Nat.mod_lt _ (by omega)⟩ c)) (r c : Fin 256) :
    lessOwn s D (ix2 r c) = dinput ct sc W (256 * (i 0).val + r.val) (256 * g + c.val) := by
  have hb := point1_lt i
  have hr := r.isLt
  have hc := c.isLt
  have e1 : wlen (256 * g + c.val) = w := by
    unfold wlen
    rw [hwg, show (256 * g + c.val) / 256 = g by omega]
  rw [lessOwn_apply, hs, hD]
  unfold dinput
  rw [e1]
  refine congrArg₂ _ (Finset.sum_congr rfl fun k hk => ?_) rfl
  have hk := Finset.mem_range.1 hk
  rw [quot_apply, hD, step1_apply, cnt_word _ _ (by show 256 * (i 0).val + (r.val + k) % 272 < _; omega) (by omega)]
  show Ideal.div (dpool ct sc W (256 * (i 0).val + (r.val + k) % 272) (256 * g + c.val)) (cnt w (256 * (i 0).val + (r.val + k) % 272)) = _
  have e2 : 256 * (i 0).val + (r.val + k) % 272 = 256 * (i 0).val + r.val + k := by omega
  rw [e2]

theorem dweight_apply (g : ℕ) (dz : FVec Ideal S272x256 .bf16) (acc : Vec Ideal S1x256x256 .f32) (p : Vec Ideal S256x256 .bf16)
    (hdz : ∀ (e : Fin 272) (c : Fin 256), dz (ix2 e c) = dmix ct sc (256 * (i 0).val + e.val) (256 * g + c.val))
    (hp : ∀ r c : Fin 256, p (ix2 r c) = pooled u (256 * (i 0).val + r.val) (256 * g + c.val)) (c d : Fin 256) :
    accW dz acc p (ix3 0 c d) = acc (ix3 0 c d) + dweightBlk u ct sc (i 0).val g c.val d.val := by
  rw [accW_apply]
  unfold dweightBlk
  refine congrArg₂ _ rfl (Finset.sum_congr rfl fun r _ => ?_)
  rw [hp, hdz]

include hx0 hx2 in
theorem dscale_apply (acc : Vec Ideal S8x1024 .f32) (l : Fin 1024) :
    k1_pay6 x0 acc x2 (ix2 0 l) = acc (ix2 0 l) + dscaleBlk u ct W (i 0).val l.val := by
  rw [accS_apply]
  unfold dscaleBlk
  refine congrArg₂ _ rfl (Finset.sum_congr rfl fun r _ => ?_)
  rw [hx0, hx2]

end

end Cert.KernelIdeal.Pool

end
-- ==== Proof.Pool.BwdPoint.lean ====
module

public import proofs.«01_k».proof.Proof.Pool.Bwd
public import Idealize.ShloMosaic.Lib.Pipeline.ReadBack

@[expose] public section

set_option maxRecDepth 16384

noncomputable section

/-! What one grid point of the backward call leaves in its three results' blocks. -/

namespace Cert.KernelIdeal.Pool

open Idealize.ShloMosaic Cert.KernelIdeal Cert.KernelIdeal.Gen
open _root_.Pool

section
variable (u ct : ℕ → ℕ → EReal) (sc : ℕ → EReal) (W : ℕ → ℕ → ℕ → EReal) (i : grid1.Coords)
  (x0 : Vec Ideal S256x1024 .f32) (x1 : Vec Ideal S16x1024 .f32) (x2 x3 : Vec Ideal S256x1024 .bf16)
  (x4 : Vec Ideal S4x4x64x256 .bf16) (x5 : Vec Ideal S1x1024 .f32) (xo7 : Vec Ideal S4x256x256 .f32) (xo8 : Vec Ideal S8x1024 .f32)
  (hct : ∀ t l, 4096 ≤ t → ct t l = 0)
  (hx0 : ∀ (r : Fin 256) (l : Fin 1024), x0 (ix2 r l) = ct (256 * (i 0).val + r.val) l.val)
  (hx1 : ∀ (e : Fin 16) (l : Fin 1024), (i 0).val < 15 → x1 (ix2 e l) = ct (256 * (i 0).val + 256 + e.val) l.val)
  (hx2 : ∀ (r : Fin 256) (l : Fin 1024), x2 (ix2 r l) = mixed u W (256 * (i 0).val + r.val) l.val)
  (hx3 : ∀ (r : Fin 256) (l : Fin 1024), x3 (ix2 r l) = pooled u (256 * (i 0).val + r.val) l.val)
  (hx4 : ∀ (q g : Fin 4) (r : Fin 64) (d : Fin 256), x4 (ix4 q g r d) = W g.val (64 * q.val + r.val) d.val)
  (hx5 : ∀ l : Fin 1024, x5 (ix2 0 l) = sc l.val)

include hx5 in
/-- A group's columns of the scale. -/
theorem ld_sc (g : ℕ) (hg : g < 4) (o : ℕ) (ho : o = 256 * g) (hin) (c : Fin 256) :
    View.ld x5 (Rect.unit (s := S1x1024) ![0, o] S1x256.size hin) (ix2 0 c) = sc (256 * g + c.val) := by
  subst ho
  have h : View.ld x5 (Rect.unit (s := S1x1024) ![0, 256 * g] S1x256.size hin) (ix2 0 c) = x5 (ix2 0 ⟨256 * g + c.val, by omega⟩) := by
    show x5 _ = x5 _
    congr 1
    funext a
    apply Fin.ext
    match a with
    | ⟨0, _⟩ => rfl
    | ⟨1, _⟩ => show 256 * g + 1 * c.val = 256 * g + c.val; omega
  rw [h, hx5]

include hx3 in
/-- A group's columns of the pooled rows. -/
theorem ld_p (g : ℕ) (hg : g < 4) (o : ℕ) (ho : o = 256 * g) (hin) (r c : Fin 256) :
    View.ld x3 (Rect.unit (s := S256x1024) ![0, o] S256x256.size hin) (ix2 r c) = pooled u (256 * (i 0).val + r.val) (256 * g + c.val) := by
  subst ho
  have h : View.ld x3 (Rect.unit (s := S256x1024) ![0, 256 * g] S256x256.size hin) (ix2 r c) = x3 (ix2 r ⟨256 * g + c.val, by omega⟩) := by
    show x3 _ = x3 _
    congr 1
    funext a
    apply Fin.ext
    match a with
    | ⟨0, _⟩ => show 0 + 1 * r.val = r.val; omega
    | ⟨1, _⟩ => show 256 * g + 1 * c.val = 256 * g + c.val; omega
  rw [h, hx3]

include hct hx0 hx1

theorem dz0 (s : Vec Ideal S1x256 .f32) (hs : ∀ c : Fin 256, s (ix2 0 c) = sc (256 * 0 + c.val)) (e : Fin 272) (c : Fin 256) :
    k1_pay9 (F := Ideal) i x0 x1 s (ix2 e c) = dmix ct sc (256 * (i 0).val + e.val) (256 * 0 + c.val) := by
  have h : k1_pay9 i x0 x1 s = dzOf (cols0 (k1_pay5 i x0 x1)) s := rfl
  rw [h]
  exact dz_apply ct sc i x0 x1 hct hx0 hx1 0 (by omega) _ s (fun e c => cols0_apply _ e c) hs e c

theorem dz1 (s : Vec Ideal S1x256 .f32) (hs : ∀ c : Fin 256, s (ix2 0 c) = sc (256 * 1 + c.val)) (e : Fin 272) (c : Fin 256) :
    k1_pay12 (k1_pay5 i x0 x1) s (ix2 e c) = dmix ct sc (256 * (i 0).val + e.val) (256 * 1 + c.val) := by
  have h : k1_pay12 (k1_pay5 i x0 x1) s = dzOf (cols1 (k1_pay5 i x0 x1)) s := rfl
  rw [h]
  exact dz_apply ct sc i x0 x1 hct hx0 hx1 1 (by omega) _ s (fun e c => cols1_apply _ e c) hs e c

theorem dz2 (s : Vec Ideal S1x256 .f32) (hs : ∀ c : Fin 256, s (ix2 0 c) = sc (256 * 2 + c.val)) (e : Fin 272) (c : Fin 256) :
    k1_pay16 (k1_pay5 i x0 x1) s (ix2 e c) = dmix ct sc (256 * (i 0).val + e.val) (256 * 2 + c.val) := by
  have h : k1_pay16 (k1_pay5 i x0 x1) s = dzOf (cols2 (k1_pay5 i x0 x1)) s := rfl
  rw [h]
  exact dz_apply ct sc i x0 x1 hct hx0 hx1 2 (by omega) _ s (fun e c => cols2_apply _ e c) hs e c

theorem dz3 (s : Vec Ideal S1x256 .f32) (hs : ∀ c : Fin 256, s (ix2 0 c) = sc (256 * 3 + c.val)) (e : Fin 272) (c : Fin 256) :
    k1_pay21 (k1_pay5 i x0 x1) s (ix2 e c) = dmix ct sc (256 * (i 0).val + e.val) (256 * 3 + c.val) := by
  have h : k1_pay21 (k1_pay5 i x0 x1) s = dzOf (cols3 (k1_pay5 i x0 x1)) s := rfl
  rw [h]
  exact dz_apply ct sc i x0 x1 hct hx0 hx1 3 (by omega) _ s (fun e c => cols3_apply _ e c) hs e c

theorem du0 (w : Vec Ideal S4x1x64x256 .bf16) (s : Vec Ideal S1x256 .f32)
    (hw : ∀ (q : Fin 4) (r : Fin 64) (d : Fin 256), w (ix4 q 0 r d) = W 0 (64 * q.val + r.val) d.val)
    (hs : ∀ c : Fin 256, s (ix2 0 c) = sc (256 * 0 + c.val)) (r c : Fin 256) :
    k1_pay11 (k1_pay7 i) (k1_pay8 w) (k1_pay9 i x0 x1 s) (ix2 r c) = dinput ct sc W (256 * (i 0).val + r.val) (256 * 0 + c.val) := by
  have h : k1_pay11 (k1_pay7 i) (k1_pay8 w) (k1_pay9 i x0 x1 s)
      = lessOwn (plusRot 271#32 (quot 2#32 (k1_pay7 i) (dpoolOf (k1_pay9 i x0 x1 s) w))) (dpoolOf (k1_pay9 i x0 x1 s) w) := rfl
  rw [h]
  exact dinput_apply ct sc W i 2 (by omega) 0 (by norm_num) _ _
    (dpool_apply ct sc W i 0 _ w (dz0 ct sc i x0 x1 hct hx0 hx1 s hs) hw) (fun e c => ahead2 _ e c) r c

theorem du1 (w : Vec Ideal S4x1x64x256 .bf16) (s : Vec Ideal S1x256 .f32)
    (hw : ∀ (q : Fin 4) (r : Fin 64) (d : Fin 256), w (ix4 q 0 r d) = W 1 (64 * q.val + r.val) d.val)
    (hs : ∀ c : Fin 256, s (ix2 0 c) = sc (256 * 1 + c.val)) (r c : Fin 256) :
    k1_pay15 (k1_pay7 i) (k1_pay13 (k1_pay5 i x0 x1) w s) (ix2 r c) = dinput ct sc W (256 * (i 0).val + r.val) (256 * 1 + c.val) := by
  have h : k1_pay15 (k1_pay7 i) (k1_pay13 (k1_pay5 i x0 x1) w s)
      = lessOwn (plusRot 270#32 (plusRot 271#32 (quot 4#32 (k1_pay7 i) (dpoolOf (k1_pay12 (k1_pay5 i x0 x1) s) w)))) (dpoolOf (k1_pay12 (k1_pay5 i x0 x1) s) w) := rfl
  rw [h]
  exact dinput_apply ct sc W i 4 (by omega) 1 (by norm_num) _ _
    (dpool_apply ct sc W i 1 _ w (dz1 ct sc i x0 x1 hct hx0 hx1 s hs) hw) (fun e c => ahead4 _ e c) r c

theorem du2 (w : Vec Ideal S4x1x64x256 .bf16) (s : Vec Ideal S1x256 .f32)
    (hw : ∀ (q : Fin 4) (r : Fin 64) (d : Fin 256), w (ix4 q 0 r d) = W 2 (64 * q.val + r.val) d.val)
    (hs : ∀ c : Fin 256, s (ix2 0 c) = sc (256 * 2 + c.val)) (r c : Fin 256) :
    k1_pay19 (k1_pay7 i) (k1_pay17 (k1_pay5 i x0 x1) w s) (ix2 r c) = dinput ct sc W (256 * (i 0).val + r.val) (256 * 2 + c.val) := by
  have h : k1_pay19 (k1_pay7 i) (k1_pay17 (k1_pay5 i x0 x1) w s)
      = lessOwn (plusRot 268#32 (plusRot 270#32 (plusRot 271#32 (quot 8#32 (k1_pay7 i) (dpoolOf (k1_pay16 (k1_pay5 i x0 x1) s) w))))) (dpoolOf (k1_pay16 (k1_pay5 i x0 x1) s) w) := rfl
  rw [h]
  exact dinput_apply ct sc W i 8 (by omega) 2 (by norm_num) _ _
    (dpool_apply ct sc W i 2 _ w (dz2 ct sc i x0 x1 hct hx0 hx1 s hs) hw) (fun e c => ahead8 _ e c) r c

theorem du3 (w : Vec Ideal S4x1x64x256 .bf16) (s : Vec Ideal S1x256 .f32)
    (hw : ∀ (q : Fin 4) (r : Fin 64) (d : Fin 256), w (ix4 q 0 r d) = W 3 (64 * q.val + r.val) d.val)
    (hs : ∀ c : Fin 256, s (ix2 0 c) = sc (256 * 3 + c.val)) (r c : Fin 256) :
    k1_pay2 (k1_pay7 i) (k1_pay20 w) (k1_pay21 (k1_pay5 i x0 x1) s) (ix2 r c) = dinput ct sc W (256 * (i 0).val + r.val) (256 * 3 + c.val) := by
  have h : k1_pay2 (k1_pay7 i) (k1_pay20 w) (k1_pay21 (k1_pay5 i x0 x1) s)
      = lessOwn (plusRot 264#32 (plusRot 268#32 (plusRot 270#32 (plusRot 271#32 (quot 16#32 (k1_pay7 i) (dpoolOf (k1_pay21 (k1_pay5 i x0 x1) s) w)))))) (dpoolOf (k1_pay21 (k1_pay5 i x0 x1) s) w) := rfl
  rw [h]
  exact dinput_apply ct sc W i 16 (by omega) 3 (by norm_num) _ _
    (dpool_apply ct sc W i 3 _ w (dz3 ct sc i x0 x1 hct hx0 hx1 s hs) hw) (fun e c => ahead16 _ e c) r c

omit hct hx0 hx1

theorem zeroW (g : Fin 4) (a d : Fin 256) : (k1_pay3 (F := Ideal)) (ix3 g a d) = 0 := by
  pointwise [k1_pay3]

theorem zeroS (j : Fin 8) (l : Fin 1024) : (k1_pay4 (F := Ideal)) (ix2 j l) = 0 := by
  pointwise [k1_pay4]

/-- A group's block of a result's rows, placed at its columns. -/
theorem place (f : ℕ → ℕ → EReal) (P : Vec Ideal S256x256 .bf16) (g o : ℕ) (ho : o = 256 * g) (b : ℕ) (hin)
    (h : ∀ r c : Fin 256, P (ix2 r c) = f (256 * b + r.val) (256 * g + c.val)) (x : S256x256.Idx) :
    P x = (fun y : S256x1024.Idx => f (256 * b + (y 0).val) (y 1).val)
      ((Rect.unit (s := S256x1024) ![0, o] S256x256.size hin).emb x) := by
  obtain ⟨r, c, rfl⟩ : ∃ (r c : Fin 256), x = ix2 r c := ⟨x 0, x 1, funext fun a => by match a with | ⟨0, _⟩ => rfl | ⟨1, _⟩ => rfl⟩
  rw [h, ← ho]
  show f _ (o + c.val) = f (256 * b + (0 + 1 * r.val)) (o + 1 * c.val)
  rw [zero_add, one_mul, one_mul]

/-- A group's block of the mixing matrices' cotangent, placed at its matrix. -/
theorem placeW (g : ℕ) (hin) (dz : FVec Ideal S272x256 .bf16) (p : Vec Ideal S256x256 .bf16)
    (hdz : ∀ (e : Fin 272) (c : Fin 256), dz (ix2 e c) = dmix ct sc (256 * (i 0).val + e.val) (256 * g + c.val))
    (hp : ∀ r c : Fin 256, p (ix2 r c) = pooled u (256 * (i 0).val + r.val) (256 * g + c.val)) (x : S1x256x256.Idx) :
    accW dz (View.ld xo7 (Rect.unit (s := S4x256x256) ![g, 0, 0] S1x256x256.size hin)) p x
      = (fun y : S4x256x256.Idx => xo7 y + dweightBlk u ct sc (i 0).val (y 0).val (y 1).val (y 2).val)
        ((Rect.unit (s := S4x256x256) ![g, 0, 0] S1x256x256.size hin).emb x) := by
  obtain ⟨c, d, rfl⟩ : ∃ (c d : Fin 256), x = ix3 0 c d := ⟨x 1, x 2, funext fun a => by
    match a with
    | ⟨0, h⟩ => exact Fin.ext (by have : (x ⟨0, h⟩).val < 1 := (x ⟨0, h⟩).isLt; show (x ⟨0, h⟩).val = 0; omega)
    | ⟨1, _⟩ => rfl
    | ⟨2, _⟩ => rfl⟩
  rw [dweight_apply u ct sc i g dz _ p hdz hp]
  show xo7 _ + dweightBlk u ct sc _ g c.val d.val = xo7 _ + dweightBlk u ct sc _ (g + 1 * 0) (0 + 1 * c.val) (0 + 1 * d.val)
  rw [mul_zero, add_zero, zero_add, zero_add, one_mul, one_mul]
  rfl

section
variable (c : Dev nD) (arg1 : Memref sig .tc .vmem S256x1024 .f32) (harg1 : arg1.IsWhole) (arg2 : Memref sig .tc .vmem S16x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S4x4x64x256 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S4x256x256 .f32) (harg8 : arg8.IsWhole) (arg9 : Memref sig .tc .vmem S8x1024 .f32) (harg9 : arg9.IsWhole)

include hct hx0 hx1 hx4 hx5 in
theorem out1_A_6_eq (hc0 : cond1_0 i) (y : S256x1024.Idx) : out1_A_6 (F := Ideal) c i arg1 harg1 arg2 harg2 arg3 harg3 arg4 harg4 arg5 harg5 arg6 harg6 arg7 harg7 arg8 harg8 arg9 harg9 hc0 x0 x1 x2 x3 x4 x5 y
    = dinput ct sc W (256 * (i 0).val + (y 0).val) (y 1).val := by
  unfold out1_A_6
  rw [View.read_writes_eq_canon _ _ _ (cover1_A_6 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  simp only [View.readAt_eq_ld, harg1.read_unread, harg2.read_unread, harg3.read_unread, harg4.read_unread, harg5.read_unread, harg6.read_unread,
    harg8.read_unread, harg9.read_unread, shapeCast_self]
  have hz : (![0, 0] : Fin 2 → Nat) = fun _ => 0 := funext fun a => by fin_cases a <;> rfl
  rw [View.ld_unit_zero (S := S256x1024) hz, View.ld_unit_zero (S := S16x1024) hz]
  have key := fun L h => View.canon_append_of_piecesOf (Val := Elt Ideal) (e := .bf16) (fun y : S256x1024.Idx => dinput ct sc W (256 * (i 0).val + (y 0).val) (y 1).val)
    [] L h y
  refine key [_, _, _, _] ?_ ?_
  · exact ⟨place _ _ 3 768 rfl _ inb_S256x1024_S256x256_0_768 (du3 ct sc W i x0 x1 hct hx0 hx1 _ _ (ld_w W x4 hx4 (by omega) inb_S4x4x64x256_S4x1x64x256_0_3_0_0) (ld_sc sc x5 hx5 3 (by omega) 768 rfl inb_S1x1024_S1x256_0_768)),
      place _ _ 2 512 rfl _ inb_S256x1024_S256x256_0_512 (du2 ct sc W i x0 x1 hct hx0 hx1 _ _ (ld_w W x4 hx4 (by omega) inb_S4x4x64x256_S4x1x64x256_0_2_0_0) (ld_sc sc x5 hx5 2 (by omega) 512 rfl inb_S1x1024_S1x256_0_512)),
      place _ _ 1 256 rfl _ inb_S256x1024_S256x256_0_256 (du1 ct sc W i x0 x1 hct hx0 hx1 _ _ (ld_w W x4 hx4 (by omega) inb_S4x4x64x256_S4x1x64x256_0_1_0_0) (ld_sc sc x5 hx5 1 (by omega) 256 rfl inb_S1x1024_S1x256_0_256)),
      place _ _ 0 0 rfl _ inb_S256x1024_S256x256_0_0 (du0 ct sc W i x0 x1 hct hx0 hx1 _ _ (ld_w W x4 hx4 (by omega) inb_S4x4x64x256_S4x1x64x256_0_0_0_0) (ld_sc sc x5 hx5 0 (by omega) 0 rfl inb_S1x1024_S1x256_0_0)), trivial⟩
  · exact View.cover_of_tiledL (s := S256x1024) _ S256x256.size (by sl_kernel_rfl) y

include hct hx0 hx1 hx3 hx5 in
theorem out1_A_7_eq (hc0 : cond1_0 i) (g : Fin 4) (a d : Fin 256) : out1_A_7 (F := Ideal) c i arg1 harg1 arg2 harg2 arg3 harg3 arg4 harg4 arg5 harg5 arg6 harg6 arg7 harg7 arg8 harg8 arg9 harg9 hc0 x0 x1 x2 x3 x4 x5 (ix3 g a d)
    = dweightBlk u ct sc (i 0).val g.val a.val d.val := by
  unfold out1_A_7
  rw [View.read_writes_eq_canon _ _ _ (cover1_A_7 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  simp only [View.readAt_eq_ld, harg1.read_unread, harg2.read_unread, harg3.read_unread, harg4.read_unread, harg5.read_unread, harg6.read_unread,
    harg8.read_unread, harg9.read_unread, shapeCast_self]
  simp (disch := decide) only [↓View.readCov_skip, ↓View.readCov_fill]
  have hz : (![0, 0] : Fin 2 → Nat) = fun _ => 0 := funext fun a => by fin_cases a <;> rfl
  rw [View.ld_unit_zero (S := S256x1024) hz, View.ld_unit_zero (S := S16x1024) hz]
  have key := fun L' L h => View.canon_append_of_piecesOf (Val := Elt Ideal) (e := .f32)
    (fun y : S4x256x256.Idx => (k1_pay3 (F := Ideal)) y + dweightBlk u ct sc (i 0).val (y 0).val (y 1).val (y 2).val) L' L h (ix3 g a d)
  refine Eq.trans (key [_] [_, _, _, _] ?_ ?_) ((congrArg (· + _) (zeroW g a d)).trans (zero_add _))
  · exact ⟨placeW u ct sc i (k1_pay3 (F := Ideal)) 3 inb_S4x256x256_S1x256x256_3_0_0 _ _ (dz3 ct sc i x0 x1 hct hx0 hx1 _ (ld_sc sc x5 hx5 3 (by omega) 768 rfl inb_S1x1024_S1x256_0_768)) (ld_p u i x3 hx3 3 (by omega) 768 rfl inb_S256x1024_S256x256_0_768),
      placeW u ct sc i (k1_pay3 (F := Ideal)) 2 inb_S4x256x256_S1x256x256_2_0_0 _ _ (dz2 ct sc i x0 x1 hct hx0 hx1 _ (ld_sc sc x5 hx5 2 (by omega) 512 rfl inb_S1x1024_S1x256_0_512)) (ld_p u i x3 hx3 2 (by omega) 512 rfl inb_S256x1024_S256x256_0_512),
      placeW u ct sc i (k1_pay3 (F := Ideal)) 1 inb_S4x256x256_S1x256x256_1_0_0 _ _ (dz1 ct sc i x0 x1 hct hx0 hx1 _ (ld_sc sc x5 hx5 1 (by omega) 256 rfl inb_S1x1024_S1x256_0_256)) (ld_p u i x3 hx3 1 (by omega) 256 rfl inb_S256x1024_S256x256_0_256),
      placeW u ct sc i (k1_pay3 (F := Ideal)) 0 inb_S4x256x256_S1x256x256_0_0_0 _ _ (dz0 ct sc i x0 x1 hct hx0 hx1 _ (ld_sc sc x5 hx5 0 (by omega) 0 rfl inb_S1x1024_S1x256_0_0)) (ld_p u i x3 hx3 0 (by omega) 0 rfl inb_S256x1024_S256x256_0_0), trivial⟩
  · exact View.cover_of_tiledL (s := S4x256x256) _ S1x256x256.size (by sl_kernel_rfl) (ix3 g a d)

include hx0 hx2 in
theorem out1_A_8_eq (hc0 : cond1_0 i) (l : Fin 1024) : out1_A_8 (F := Ideal) c i arg1 harg1 arg2 harg2 arg3 harg3 arg4 harg4 arg5 harg5 arg6 harg6 arg7 harg7 arg8 harg8 arg9 harg9 hc0 x0 x1 x2 x3 x4 x5 (ix2 0 l)
    = dscaleBlk u ct W (i 0).val l.val := by
  unfold out1_A_8
  rw [View.read_writes_eq_canon _ _ _ (cover1_A_8 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  simp only [View.readAt_eq_ld, harg1.read_unread, harg2.read_unread, harg3.read_unread, harg4.read_unread, harg5.read_unread, harg6.read_unread,
    harg8.read_unread, harg9.read_unread, shapeCast_self]
  simp (disch := decide) only [↓View.readCov_skip, ↓View.readCov_fill]
  have hz : (![0, 0] : Fin 2 → Nat) = fun _ => 0 := funext fun a => by fin_cases a <;> rfl
  simp only [View.canon_unit_zero (S := S8x1024) hz, View.readCov_unit_zero (S := S8x1024) _ hz, View.canon_cons_unit_zero (S := S8x1024) hz, View.ld_unit_zero (S := S256x1024) hz, View.ld_unit_zero (S := S8x1024) hz]
  exact (dscale_apply u ct W i x0 x2 hx0 hx2 _ l).trans ((congrArg (· + _) (zeroS 0 l)).trans (zero_add _))

include hct hx0 hx1 hx4 hx5 in
theorem out1_B_6_eq (hc0 : ¬cond1_0 i) (y : S256x1024.Idx) : out1_B_6 (F := Ideal) c i arg1 harg1 arg2 harg2 arg3 harg3 arg4 harg4 arg5 harg5 arg6 harg6 arg7 harg7 arg8 harg8 arg9 harg9 hc0 x0 x1 x2 x3 x4 x5 xo7 xo8 y
    = dinput ct sc W (256 * (i 0).val + (y 0).val) (y 1).val := by
  unfold out1_B_6
  rw [View.read_writes_eq_canon _ _ _ (cover1_B_6 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  simp only [View.readAt_eq_ld, harg1.read_unread, harg2.read_unread, harg3.read_unread, harg4.read_unread, harg5.read_unread, harg6.read_unread,
    harg8.read_unread, harg9.read_unread, shapeCast_self]
  have hz : (![0, 0] : Fin 2 → Nat) = fun _ => 0 := funext fun a => by fin_cases a <;> rfl
  rw [View.ld_unit_zero (S := S256x1024) hz, View.ld_unit_zero (S := S16x1024) hz]
  have key := fun L h => View.canon_append_of_piecesOf (Val := Elt Ideal) (e := .bf16) (fun y : S256x1024.Idx => dinput ct sc W (256 * (i 0).val + (y 0).val) (y 1).val)
    [] L h y
  refine key [_, _, _, _] ?_ ?_
  · exact ⟨place _ _ 3 768 rfl _ inb_S256x1024_S256x256_0_768 (du3 ct sc W i x0 x1 hct hx0 hx1 _ _ (ld_w W x4 hx4 (by omega) inb_S4x4x64x256_S4x1x64x256_0_3_0_0) (ld_sc sc x5 hx5 3 (by omega) 768 rfl inb_S1x1024_S1x256_0_768)),
      place _ _ 2 512 rfl _ inb_S256x1024_S256x256_0_512 (du2 ct sc W i x0 x1 hct hx0 hx1 _ _ (ld_w W x4 hx4 (by omega) inb_S4x4x64x256_S4x1x64x256_0_2_0_0) (ld_sc sc x5 hx5 2 (by omega) 512 rfl inb_S1x1024_S1x256_0_512)),
      place _ _ 1 256 rfl _ inb_S256x1024_S256x256_0_256 (du1 ct sc W i x0 x1 hct hx0 hx1 _ _ (ld_w W x4 hx4 (by omega) inb_S4x4x64x256_S4x1x64x256_0_1_0_0) (ld_sc sc x5 hx5 1 (by omega) 256 rfl inb_S1x1024_S1x256_0_256)),
      place _ _ 0 0 rfl _ inb_S256x1024_S256x256_0_0 (du0 ct sc W i x0 x1 hct hx0 hx1 _ _ (ld_w W x4 hx4 (by omega) inb_S4x4x64x256_S4x1x64x256_0_0_0_0) (ld_sc sc x5 hx5 0 (by omega) 0 rfl inb_S1x1024_S1x256_0_0)), trivial⟩
  · exact View.cover_of_tiledL (s := S256x1024) _ S256x256.size (by sl_kernel_rfl) y

include hct hx0 hx1 hx3 hx5 in
theorem out1_B_7_eq (hc0 : ¬cond1_0 i) (g : Fin 4) (a d : Fin 256) : out1_B_7 (F := Ideal) c i arg1 harg1 arg2 harg2 arg3 harg3 arg4 harg4 arg5 harg5 arg6 harg6 arg7 harg7 arg8 harg8 arg9 harg9 hc0 x0 x1 x2 x3 x4 x5 xo7 xo8 (ix3 g a d)
    = xo7 (ix3 g a d) + dweightBlk u ct sc (i 0).val g.val a.val d.val := by
  unfold out1_B_7
  rw [View.read_writes_eq_canon _ _ _ (cover1_B_7 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  simp only [View.readAt_eq_ld, harg1.read_unread, harg2.read_unread, harg3.read_unread, harg4.read_unread, harg5.read_unread, harg6.read_unread,
    harg8.read_unread, harg9.read_unread, shapeCast_self]
  have hz : (![0, 0] : Fin 2 → Nat) = fun _ => 0 := funext fun a => by fin_cases a <;> rfl
  rw [View.ld_unit_zero (S := S256x1024) hz, View.ld_unit_zero (S := S16x1024) hz]
  have key := fun L' L h => View.canon_append_of_piecesOf (Val := Elt Ideal) (e := .f32)
    (fun y : S4x256x256.Idx => xo7 y + dweightBlk u ct sc (i 0).val (y 0).val (y 1).val (y 2).val) L' L h (ix3 g a d)
  refine key [] [_, _, _, _] ?_ ?_
  · exact ⟨placeW u ct sc i xo7 3 inb_S4x256x256_S1x256x256_3_0_0 _ _ (dz3 ct sc i x0 x1 hct hx0 hx1 _ (ld_sc sc x5 hx5 3 (by omega) 768 rfl inb_S1x1024_S1x256_0_768)) (ld_p u i x3 hx3 3 (by omega) 768 rfl inb_S256x1024_S256x256_0_768),
      placeW u ct sc i xo7 2 inb_S4x256x256_S1x256x256_2_0_0 _ _ (dz2 ct sc i x0 x1 hct hx0 hx1 _ (ld_sc sc x5 hx5 2 (by omega) 512 rfl inb_S1x1024_S1x256_0_512)) (ld_p u i x3 hx3 2 (by omega) 512 rfl inb_S256x1024_S256x256_0_512),
      placeW u ct sc i xo7 1 inb_S4x256x256_S1x256x256_1_0_0 _ _ (dz1 ct sc i x0 x1 hct hx0 hx1 _ (ld_sc sc x5 hx5 1 (by omega) 256 rfl inb_S1x1024_S1x256_0_256)) (ld_p u i x3 hx3 1 (by omega) 256 rfl inb_S256x1024_S256x256_0_256),
      placeW u ct sc i xo7 0 inb_S4x256x256_S1x256x256_0_0_0 _ _ (dz0 ct sc i x0 x1 hct hx0 hx1 _ (ld_sc sc x5 hx5 0 (by omega) 0 rfl inb_S1x1024_S1x256_0_0)) (ld_p u i x3 hx3 0 (by omega) 0 rfl inb_S256x1024_S256x256_0_0), trivial⟩
  · exact View.cover_of_tiledL (s := S4x256x256) _ S1x256x256.size (by sl_kernel_rfl) (ix3 g a d)

include hx0 hx2 in
theorem out1_B_8_eq (hc0 : ¬cond1_0 i) (l : Fin 1024) : out1_B_8 (F := Ideal) c i arg1 harg1 arg2 harg2 arg3 harg3 arg4 harg4 arg5 harg5 arg6 harg6 arg7 harg7 arg8 harg8 arg9 harg9 hc0 x0 x1 x2 x3 x4 x5 xo7 xo8 (ix2 0 l)
    = xo8 (ix2 0 l) + dscaleBlk u ct W (i 0).val l.val := by
  unfold out1_B_8
  rw [View.read_writes_eq_canon _ _ _ (cover1_B_8 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  simp only [View.readAt_eq_ld, harg1.read_unread, harg2.read_unread, harg3.read_unread, harg4.read_unread, harg5.read_unread, harg6.read_unread,
    harg8.read_unread, harg9.read_unread, shapeCast_self]
  have hz : (![0, 0] : Fin 2 → Nat) = fun _ => 0 := funext fun a => by fin_cases a <;> rfl
  simp only [View.canon_unit_zero (S := S8x1024) hz, View.readCov_unit_zero (S := S8x1024) _ hz, View.canon_cons_unit_zero (S := S8x1024) hz, View.ld_unit_zero (S := S256x1024) hz, View.ld_unit_zero (S := S8x1024) hz]
  exact dscale_apply u ct W i x0 x2 hx0 hx2 xo8 l

end

end

end Cert.KernelIdeal.Pool

end
-- ==== Proof.Pool.FwdArr.lean ====
module

public import proofs.«01_k».proof.Proof.Pool.Fwd
public import Idealize.ShloMosaic.Lib.Pipeline.Value

@[expose] public section

set_option maxRecDepth 16384

noncomputable section

/-! What the forward call leaves in its pooled rows and its products. -/

namespace Cert.KernelIdeal.Pool

open Idealize.ShloMosaic Idealize.ShloMosaic.TcCoe Cert.KernelIdeal Cert.KernelIdeal.Gen
open Idealize.ShloMosaic.Pipeline (Dat)
open _root_.Pool

variable (V : (c : Dev nD) → (b : Ref sig .tc) → Buf (Elt Ideal) ((c : Thread nD τ).loc b)) (c : Dev nD)

theorem coords0 : ∀ t : Fin cfg0.N, (grid0.coords t 0).val = t.val :=
  (by decide +kernel : ∀ t : Fin grid0.N, (grid0.coords t 0).val = t.val)

theorem point0_le (t : Fin cfg0.N) : t.val < 16 := by
  have h : cfg0.N = 16 := N_0
  have := t.isLt
  omega

theorem index0_0 : ∀ t : Fin cfg0.N, win0_0.index t 0 = t.val * 16 - 1 ∧ win0_0.index t 1 = 0 :=
  (by decide +kernel : ∀ t : Fin grid0.N, win0_0.index t 0 = t.val * 16 - 1 ∧ win0_0.index t 1 = 0)

theorem index0_1 : ∀ t : Fin cfg0.N, win0_1.index t 0 = t.val ∧ win0_1.index t 1 = 0 :=
  (by decide +kernel : ∀ t : Fin grid0.N, win0_1.index t 0 = t.val ∧ win0_1.index t 1 = 0)

theorem index0_2 : ∀ t : Fin cfg0.N, win0_2.index t 0 = 0 ∧ win0_2.index t 1 = 0 ∧ win0_2.index t 2 = 0 ∧ win0_2.index t 3 = 0 :=
  (by decide +kernel : ∀ t : Fin grid0.N, win0_2.index t 0 = 0 ∧ win0_2.index t 1 = 0 ∧ win0_2.index t 2 = 0 ∧ win0_2.index t 3 = 0)

theorem index0_4 : ∀ t : Fin cfg0.N, win0_4.index t 0 = t.val ∧ win0_4.index t 1 = 0 :=
  (by decide +kernel : ∀ t : Fin grid0.N, win0_4.index t 0 = t.val ∧ win0_4.index t 1 = 0)

theorem index0_5 : ∀ t : Fin cfg0.N, win0_5.index t 0 = t.val ∧ win0_5.index t 1 = 0 :=
  (by decide +kernel : ∀ t : Fin grid0.N, win0_5.index t 0 = t.val ∧ win0_5.index t 1 = 0)

theorem blk0_1 (t : Fin cfg0.N) (r : Fin 256) (l : Fin 1024) :
    (iblk0 V c 1 t : Vec Ideal S256x1024 .f32) (ix2 r l) = at2 (V c main_arg0) (256 * t.val + r.val) l.val := by
  have ht := point0_le t
  rw [show 256 * t.val + r.val = (⟨256 * t.val + r.val, by omega⟩ : Fin 4096).val from rfl, at2_apply]
  unfold iblk0
  rw [View.read_apply]
  show V c main_arg0 _ = V c main_arg0 _
  congr 1
  funext a
  apply Fin.ext
  match a with
  | ⟨0, _⟩ => show win0_1.index t 0 * 256 + 1 * r.val = 256 * t.val + r.val; rw [(index0_1 t).1]; omega
  | ⟨1, _⟩ => show win0_1.index t 1 * 1024 + 1 * l.val = l.val; rw [(index0_1 t).2]; omega

theorem blk0_0 (t : Fin cfg0.N) (e : Fin 16) (l : Fin 1024) (h0 : 0 < t.val) :
    (iblk0 V c 0 t : Vec Ideal S16x1024 .f32) (ix2 e l) = at2 (V c main_arg0) (256 * t.val + e.val - 16) l.val := by
  have ht := point0_le t
  rw [show 256 * t.val + e.val - 16 = (⟨256 * t.val + e.val - 16, by omega⟩ : Fin 4096).val from rfl, at2_apply]
  unfold iblk0
  rw [View.read_apply]
  show V c main_arg0 _ = V c main_arg0 _
  congr 1
  funext a
  apply Fin.ext
  match a with
  | ⟨0, _⟩ => show win0_0.index t 0 * 16 + 1 * e.val = 256 * t.val + e.val - 16; rw [(index0_0 t).1]; omega
  | ⟨1, _⟩ => show win0_0.index t 1 * 1024 + 1 * l.val = l.val; rw [(index0_0 t).2]; omega

theorem blk0_2 (t : Fin cfg0.N) : (iblk0 V c 2 t : Vec Ideal S4x4x64x256 .bf16) = V c main_v2 := by
  funext y
  unfold iblk0
  rw [View.read_apply]
  show V c main_v2 _ = V c main_v2 y
  congr 1
  funext a
  apply Fin.ext
  match a with
  | ⟨0, h⟩ => show win0_2.index t 0 * 4 + 1 * (y ⟨0, h⟩).val = (y ⟨0, h⟩).val; rw [(index0_2 t).1]; omega
  | ⟨1, h⟩ => show win0_2.index t 1 * 4 + 1 * (y ⟨1, h⟩).val = (y ⟨1, h⟩).val; rw [(index0_2 t).2.1]; omega
  | ⟨2, h⟩ => show win0_2.index t 2 * 64 + 1 * (y ⟨2, h⟩).val = (y ⟨2, h⟩).val; rw [(index0_2 t).2.2.1]; omega
  | ⟨3, h⟩ => show win0_2.index t 3 * 256 + 1 * (y ⟨3, h⟩).val = (y ⟨3, h⟩).val; rw [(index0_2 t).2.2.2]; omega

theorem cover0_arr4 (y : S4096x1024.Idx) :
    ∃ t : Fin cfg0.N, (cfg0.win 4).flush t = true ∧ y ∈ ((cfg0.win 4).blk t).view.set := by
  have h0 : (y 0 : Nat) < 4096 := (y 0).isLt
  have h1 : (y 1 : Nat) < 1024 := (y 1).isLt
  have hN : cfg0.N = 16 := N_0
  obtain ⟨t, ht⟩ : ∃ t : Fin cfg0.N, t.val = (y 0).val / 256 := ⟨⟨(y 0).val / 256, by omega⟩, rfl⟩
  refine ⟨t, flush0_4 _, ?_⟩
  show y ∈ ((View.whole main_v4_0).slice (win0_4.rect t)).set
  rw [View.set_slice_whole, Rect.mem_set_unit]
  intro a
  match a with
  | ⟨0, _⟩ =>
    show win0_4.index t 0 * 256 ≤ (y 0 : Nat) ∧ (y 0 : Nat) < win0_4.index t 0 * 256 + 256
    rw [(index0_4 t).1]
    omega
  | ⟨1, _⟩ =>
    show win0_4.index t 1 * 1024 ≤ (y 1 : Nat) ∧ (y 1 : Nat) < win0_4.index t 1 * 1024 + 1024
    rw [(index0_4 t).2]
    omega

/-- After the forward call: the pooled rows. -/
theorem final0_4 : (dat0 V c).arrAt 4 cfg0.N = (fun y : S4096x1024.Idx => pooled (at2 (V c main_arg0)) (y 0).val (y 1).val) := by
  refine (dat0 V c).arrAt_eq_of_cover 4 (fun y : S4096x1024.Idx => pooled (at2 (V c main_arg0)) (y 0).val (y 1).val) (fun t _ => ?_) cover0_arr4
  show (cfg0.win 4).cut (grid0.coords t) ((dat0 V c).after 4 t) = _
  rw [after0_4]
  funext y
  rw [View.read_apply]
  refine (out0_4_eq (at2 (V c main_arg0)) (grid0.coords t) _ _ _ _
    (fun e l h => by rw [coords0] at h ⊢; exact blk0_0 V c t e l h) (fun r l => by rw [coords0]; exact blk0_1 V c t r l) y).trans ?_
  show pooled (at2 (V c main_arg0)) (256 * (grid0.coords t 0).val + (y 0).val) (y 1).val
    = pooled (at2 (V c main_arg0)) (win0_4.index t 0 * 256 + 1 * (y 0).val) (win0_4.index t 1 * 1024 + 1 * (y 1).val)
  rw [(index0_4 t).1, (index0_4 t).2, coords0 t, Nat.mul_comm 256, one_mul, one_mul, zero_mul, zero_add]

theorem cover0_arr5 (y : S4096x1024.Idx) :
    ∃ t : Fin cfg0.N, (cfg0.win 5).flush t = true ∧ y ∈ ((cfg0.win 5).blk t).view.set := by
  have h0 : (y 0 : Nat) < 4096 := (y 0).isLt
  have h1 : (y 1 : Nat) < 1024 := (y 1).isLt
  have hN : cfg0.N = 16 := N_0
  obtain ⟨t, ht⟩ : ∃ t : Fin cfg0.N, t.val = (y 0).val / 256 := ⟨⟨(y 0).val / 256, by omega⟩, rfl⟩
  refine ⟨t, flush0_5 _, ?_⟩
  show y ∈ ((View.whole main_v4_1).slice (win0_5.rect t)).set
  rw [View.set_slice_whole, Rect.mem_set_unit]
  intro a
  match a with
  | ⟨0, _⟩ =>
    show win0_5.index t 0 * 256 ≤ (y 0 : Nat) ∧ (y 0 : Nat) < win0_5.index t 0 * 256 + 256
    rw [(index0_5 t).1]
    omega
  | ⟨1, _⟩ =>
    show win0_5.index t 1 * 1024 ≤ (y 1 : Nat) ∧ (y 1 : Nat) < win0_5.index t 1 * 1024 + 1024
    rw [(index0_5 t).2]
    omega

/-- After the forward call: the products. -/
theorem final0_5 (W : ℕ → ℕ → ℕ → EReal)
    (hW : ∀ (q g : Fin 4) (r : Fin 64) (d : Fin 256), (V c main_v2 : Vec Ideal S4x4x64x256 .bf16) (ix4 q g r d) = W g.val (64 * q.val + r.val) d.val) :
    (dat0 V c).arrAt 5 cfg0.N = (fun y : S4096x1024.Idx => mixed (at2 (V c main_arg0)) W (y 0).val (y 1).val) := by
  refine (dat0 V c).arrAt_eq_of_cover 5 (fun y : S4096x1024.Idx => mixed (at2 (V c main_arg0)) W (y 0).val (y 1).val) (fun t _ => ?_) cover0_arr5
  show (cfg0.win 5).cut (grid0.coords t) ((dat0 V c).after 5 t) = _
  rw [after0_5]
  funext y
  rw [View.read_apply]
  refine (out0_5_eq (at2 (V c main_arg0)) W (grid0.coords t) _ _ _ _
    (fun e l h => by rw [coords0] at h ⊢; exact blk0_0 V c t e l h) (fun r l => by rw [coords0]; exact blk0_1 V c t r l) (fun q g r d => by rw [blk0_2]; exact hW q g r d) y).trans ?_
  show mixed (at2 (V c main_arg0)) W (256 * (grid0.coords t 0).val + (y 0).val) (y 1).val
    = mixed (at2 (V c main_arg0)) W (win0_5.index t 0 * 256 + 1 * (y 0).val) (win0_5.index t 1 * 1024 + 1 * (y 1).val)
  rw [(index0_5 t).1, (index0_5 t).2, coords0 t, Nat.mul_comm 256, one_mul, one_mul, zero_mul, zero_add]

end Cert.KernelIdeal.Pool

end
-- ==== Proof.Pool.BwdArr.lean ====
module

public import proofs.«01_k».proof.Proof.Pool.BwdPoint
public import proofs.«01_k».proof.Proof.Pool.FwdArr
public import Idealize.ShloMosaic.Lib.Pipeline.Value

@[expose] public section

set_option maxRecDepth 16384

noncomputable section

/-! What the backward call leaves in its three arrays. -/

namespace Cert.KernelIdeal.Pool

open Idealize.ShloMosaic Idealize.ShloMosaic.TcCoe Cert.KernelIdeal Cert.KernelIdeal.Gen
open Idealize.ShloMosaic.Pipeline (Dat)
open _root_.Pool

variable (V : (c : Dev nD) → (b : Ref sig .tc) → Buf (Elt Ideal) ((c : Thread nD τ).loc b)) (c : Dev nD)

theorem coords1 : ∀ t : Fin cfg1.N, (grid1.coords t 0).val = t.val :=
  (by decide +kernel : ∀ t : Fin grid1.N, (grid1.coords t 0).val = t.val)

theorem point1_le (t : Fin cfg1.N) : t.val < 16 := by
  have h : cfg1.N = 16 := N_1
  have := t.isLt
  omega

theorem index1_0 : ∀ t : Fin cfg1.N, win1_0.index t 0 = t.val ∧ win1_0.index t 1 = 0 :=
  (by decide +kernel : ∀ t : Fin grid1.N, win1_0.index t 0 = t.val ∧ win1_0.index t 1 = 0)

theorem index1_1 : ∀ t : Fin cfg1.N, win1_1.index t 0 = min (t.val * 16 + 16) 255 ∧ win1_1.index t 1 = 0 :=
  (by decide +kernel : ∀ t : Fin grid1.N, win1_1.index t 0 = min (t.val * 16 + 16) 255 ∧ win1_1.index t 1 = 0)

theorem index1_2 : ∀ t : Fin cfg1.N, win1_2.index t 0 = t.val ∧ win1_2.index t 1 = 0 :=
  (by decide +kernel : ∀ t : Fin grid1.N, win1_2.index t 0 = t.val ∧ win1_2.index t 1 = 0)

theorem index1_3 : ∀ t : Fin cfg1.N, win1_3.index t 0 = t.val ∧ win1_3.index t 1 = 0 :=
  (by decide +kernel : ∀ t : Fin grid1.N, win1_3.index t 0 = t.val ∧ win1_3.index t 1 = 0)

theorem index1_4 : ∀ t : Fin cfg1.N, win1_4.index t 0 = 0 ∧ win1_4.index t 1 = 0 ∧ win1_4.index t 2 = 0 ∧ win1_4.index t 3 = 0 :=
  (by decide +kernel : ∀ t : Fin grid1.N, win1_4.index t 0 = 0 ∧ win1_4.index t 1 = 0 ∧ win1_4.index t 2 = 0 ∧ win1_4.index t 3 = 0)

theorem index1_5 : ∀ t : Fin cfg1.N, win1_5.index t 0 = 0 ∧ win1_5.index t 1 = 0 :=
  (by decide +kernel : ∀ t : Fin grid1.N, win1_5.index t 0 = 0 ∧ win1_5.index t 1 = 0)

theorem index1_6 : ∀ t : Fin cfg1.N, win1_6.index t 0 = t.val ∧ win1_6.index t 1 = 0 :=
  (by decide +kernel : ∀ t : Fin grid1.N, win1_6.index t 0 = t.val ∧ win1_6.index t 1 = 0)

theorem index1_7 : ∀ t : Fin cfg1.N, win1_7.index t 0 = 0 ∧ win1_7.index t 1 = 0 ∧ win1_7.index t 2 = 0 :=
  (by decide +kernel : ∀ t : Fin grid1.N, win1_7.index t 0 = 0 ∧ win1_7.index t 1 = 0 ∧ win1_7.index t 2 = 0)

theorem index1_8 : ∀ t : Fin cfg1.N, win1_8.index t 0 = 0 ∧ win1_8.index t 1 = 0 :=
  (by decide +kernel : ∀ t : Fin grid1.N, win1_8.index t 0 = 0 ∧ win1_8.index t 1 = 0)

theorem blk1_0 (t : Fin cfg1.N) (r : Fin 256) (l : Fin 1024) :
    (iblk1 V c 0 t : Vec Ideal S256x1024 .f32) (ix2 r l) = at2 (V c main_arg3) (256 * t.val + r.val) l.val := by
  have ht := point1_le t
  rw [show 256 * t.val + r.val = (⟨256 * t.val + r.val, by omega⟩ : Fin 4096).val from rfl, at2_apply]
  unfold iblk1
  rw [View.read_apply]
  show V c main_arg3 _ = V c main_arg3 _
  congr 1
  funext a
  apply Fin.ext
  match a with
  | ⟨0, _⟩ => show win1_0.index t 0 * 256 + 1 * r.val = 256 * t.val + r.val; rw [(index1_0 t).1]; omega
  | ⟨1, _⟩ => show win1_0.index t 1 * 1024 + 1 * l.val = l.val; rw [(index1_0 t).2]; omega

theorem blk1_2 (t : Fin cfg1.N) (r : Fin 256) (l : Fin 1024) :
    (iblk1 V c 2 t : Vec Ideal S256x1024 .bf16) (ix2 r l) = at2 (V c main_v4_1) (256 * t.val + r.val) l.val := by
  have ht := point1_le t
  rw [show 256 * t.val + r.val = (⟨256 * t.val + r.val, by omega⟩ : Fin 4096).val from rfl, at2_apply]
  unfold iblk1
  rw [View.read_apply]
  show V c main_v4_1 _ = V c main_v4_1 _
  congr 1
  funext a
  apply Fin.ext
  match a with
  | ⟨0, _⟩ => show win1_2.index t 0 * 256 + 1 * r.val = 256 * t.val + r.val; rw [(index1_2 t).1]; omega
  | ⟨1, _⟩ => show win1_2.index t 1 * 1024 + 1 * l.val = l.val; rw [(index1_2 t).2]; omega

theorem blk1_3 (t : Fin cfg1.N) (r : Fin 256) (l : Fin 1024) :
    (iblk1 V c 3 t : Vec Ideal S256x1024 .bf16) (ix2 r l) = at2 (V c main_v4_0) (256 * t.val + r.val) l.val := by
  have ht := point1_le t
  rw [show 256 * t.val + r.val = (⟨256 * t.val + r.val, by omega⟩ : Fin 4096).val from rfl, at2_apply]
  unfold iblk1
  rw [View.read_apply]
  show V c main_v4_0 _ = V c main_v4_0 _
  congr 1
  funext a
  apply Fin.ext
  match a with
  | ⟨0, _⟩ => show win1_3.index t 0 * 256 + 1 * r.val = 256 * t.val + r.val; rw [(index1_3 t).1]; omega
  | ⟨1, _⟩ => show win1_3.index t 1 * 1024 + 1 * l.val = l.val; rw [(index1_3 t).2]; omega

theorem blk1_1 (t : Fin cfg1.N) (e : Fin 16) (l : Fin 1024) (h15 : t.val < 15) :
    (iblk1 V c 1 t : Vec Ideal S16x1024 .f32) (ix2 e l) = at2 (V c main_arg3) (256 * t.val + 256 + e.val) l.val := by
  rw [show 256 * t.val + 256 + e.val = (⟨256 * t.val + 256 + e.val, by omega⟩ : Fin 4096).val from rfl, at2_apply]
  unfold iblk1
  rw [View.read_apply]
  show V c main_arg3 _ = V c main_arg3 _
  congr 1
  funext a
  apply Fin.ext
  match a with
  | ⟨0, _⟩ => show win1_1.index t 0 * 16 + 1 * e.val = 256 * t.val + 256 + e.val; rw [(index1_1 t).1]; omega
  | ⟨1, _⟩ => show win1_1.index t 1 * 1024 + 1 * l.val = l.val; rw [(index1_1 t).2]; omega

theorem blk1_4 (t : Fin cfg1.N) : (iblk1 V c 4 t : Vec Ideal S4x4x64x256 .bf16) = V c main_v2 := by
  funext y
  unfold iblk1
  rw [View.read_apply]
  show V c main_v2 _ = V c main_v2 y
  congr 1
  funext a
  apply Fin.ext
  match a with
  | ⟨0, h⟩ => show win1_4.index t 0 * 4 + 1 * (y ⟨0, h⟩).val = (y ⟨0, h⟩).val; rw [(index1_4 t).1]; omega
  | ⟨1, h⟩ => show win1_4.index t 1 * 4 + 1 * (y ⟨1, h⟩).val = (y ⟨1, h⟩).val; rw [(index1_4 t).2.1]; omega
  | ⟨2, h⟩ => show win1_4.index t 2 * 64 + 1 * (y ⟨2, h⟩).val = (y ⟨2, h⟩).val; rw [(index1_4 t).2.2.1]; omega
  | ⟨3, h⟩ => show win1_4.index t 3 * 256 + 1 * (y ⟨3, h⟩).val = (y ⟨3, h⟩).val; rw [(index1_4 t).2.2.2]; omega

theorem blk1_5 (t : Fin cfg1.N) : (iblk1 V c 5 t : Vec Ideal S1x1024 .f32) = V c main_v5 := by
  funext y
  unfold iblk1
  rw [View.read_apply]
  show V c main_v5 _ = V c main_v5 y
  congr 1
  funext a
  apply Fin.ext
  match a with
  | ⟨0, h⟩ => show win1_5.index t 0 * 1 + 1 * (y ⟨0, h⟩).val = (y ⟨0, h⟩).val; rw [(index1_5 t).1]; omega
  | ⟨1, h⟩ => show win1_5.index t 1 * 1024 + 1 * (y ⟨1, h⟩).val = (y ⟨1, h⟩).val; rw [(index1_5 t).2]; omega

variable (u : ℕ → ℕ → EReal) (sc : ℕ → EReal) (W : ℕ → ℕ → ℕ → EReal)
  (hz : (V c main_v4_1 : Vec Ideal S4096x1024 .bf16) = fun y => mixed u W (y 0).val (y 1).val)
  (hp : (V c main_v4_0 : Vec Ideal S4096x1024 .bf16) = fun y => pooled u (y 0).val (y 1).val)
  (hW : ∀ (q g : Fin 4) (r : Fin 64) (d : Fin 256), (V c main_v2 : Vec Ideal S4x4x64x256 .bf16) (ix4 q g r d) = W g.val (64 * q.val + r.val) d.val)
  (hs : ∀ l : Fin 1024, (V c main_v5 : Vec Ideal S1x1024 .f32) (ix2 0 l) = sc l.val)

theorem cover1_arr6 (y : S4096x1024.Idx) :
    ∃ t : Fin cfg1.N, (cfg1.win 6).flush t = true ∧ y ∈ ((cfg1.win 6).blk t).view.set := by
  have h0 : (y 0 : Nat) < 4096 := (y 0).isLt
  have h1 : (y 1 : Nat) < 1024 := (y 1).isLt
  have hN : cfg1.N = 16 := N_1
  obtain ⟨t, ht⟩ : ∃ t : Fin cfg1.N, t.val = (y 0).val / 256 := ⟨⟨(y 0).val / 256, by omega⟩, rfl⟩
  refine ⟨t, flush1_6 _, ?_⟩
  show y ∈ ((View.whole main_v6_0).slice (win1_6.rect t)).set
  rw [View.set_slice_whole, Rect.mem_set_unit]
  intro a
  match a with
  | ⟨0, _⟩ =>
    show win1_6.index t 0 * 256 ≤ (y 0 : Nat) ∧ (y 0 : Nat) < win1_6.index t 0 * 256 + 256
    rw [(index1_6 t).1]
    omega
  | ⟨1, _⟩ =>
    show win1_6.index t 1 * 1024 ≤ (y 1 : Nat) ∧ (y 1 : Nat) < win1_6.index t 1 * 1024 + 1024
    rw [(index1_6 t).2]
    omega

include hz in
theorem block_z (t : Fin cfg1.N) (r : Fin 256) (l : Fin 1024) :
    (iblk1 V c 2 t : Vec Ideal S256x1024 .bf16) (ix2 r l) = mixed u W (256 * t.val + r.val) l.val := by
  have ht := point1_le t
  refine (blk1_2 V c t r l).trans ?_
  rw [show 256 * t.val + r.val = (⟨256 * t.val + r.val, by omega⟩ : Fin 4096).val from rfl, at2_apply, hz]; rfl

include hp in
theorem block_p (t : Fin cfg1.N) (r : Fin 256) (l : Fin 1024) :
    (iblk1 V c 3 t : Vec Ideal S256x1024 .bf16) (ix2 r l) = pooled u (256 * t.val + r.val) l.val := by
  have ht := point1_le t
  refine (blk1_3 V c t r l).trans ?_
  rw [show 256 * t.val + r.val = (⟨256 * t.val + r.val, by omega⟩ : Fin 4096).val from rfl, at2_apply, hp]; rfl

theorem fst_of {α β γ : Type} {p : α × β × γ} {a : α} {b : β} {c : γ} (h : p = (a, b, c)) : p.1 = a := by rw [h]
theorem mid_of {α β γ : Type} {p : α × β × γ} {a : α} {b : β} {c : γ} (h : p = (a, b, c)) : p.2.1 = b := by rw [h]
theorem last_of {α β γ : Type} {p : α × β × γ} {a : α} {b : β} {c : γ} (h : p = (a, b, c)) : p.2.2 = c := by rw [h]

theorem own_ct (t : Fin cfg1.N) (r : Fin 256) (l : Fin 1024) :
    (iblk1 V c 0 t : Vec Ideal S256x1024 .f32) (ix2 r l) = at2 (V c main_arg3) (256 * (grid1.coords t 0).val + r.val) l.val := by
  rw [coords1]; exact blk1_0 V c t r l

theorem next_ct (t : Fin cfg1.N) (e : Fin 16) (l : Fin 1024) (h : (grid1.coords t 0).val < 15) :
    (iblk1 V c 1 t : Vec Ideal S16x1024 .f32) (ix2 e l) = at2 (V c main_arg3) (256 * (grid1.coords t 0).val + 256 + e.val) l.val := by
  rw [coords1] at h ⊢; exact blk1_1 V c t e l h

include hz in
theorem own_z (t : Fin cfg1.N) (r : Fin 256) (l : Fin 1024) :
    (iblk1 V c 2 t : Vec Ideal S256x1024 .bf16) (ix2 r l) = mixed u W (256 * (grid1.coords t 0).val + r.val) l.val := by
  rw [coords1]; exact block_z V c u W hz t r l

include hp in
theorem own_p (t : Fin cfg1.N) (r : Fin 256) (l : Fin 1024) :
    (iblk1 V c 3 t : Vec Ideal S256x1024 .bf16) (ix2 r l) = pooled u (256 * (grid1.coords t 0).val + r.val) l.val := by
  rw [coords1]; exact block_p V c u hp t r l

include hW in
theorem own_W (t : Fin cfg1.N) (q g : Fin 4) (r : Fin 64) (d : Fin 256) :
    (iblk1 V c 4 t : Vec Ideal S4x4x64x256 .bf16) (ix4 q g r d) = W g.val (64 * q.val + r.val) d.val := by
  rw [blk1_4]; exact hW q g r d

include hs in
theorem own_sc (t : Fin cfg1.N) (l : Fin 1024) : (iblk1 V c 5 t : Vec Ideal S1x1024 .f32) (ix2 0 l) = sc l.val := by
  rw [blk1_5]; exact hs l

include hz hp hW hs

/-- Case A, output 6: the block of the input gradient. -/
theorem caseA_6 (t : Fin cfg1.N) (h0 : t.val % 16 = 0) (y : S256x1024.Idx) :
    (outsAt1 V c t.val t.isLt).1 y = dinput (at2 (V c main_arg3)) sc W (256 * (grid1.coords t 0).val + (y 0).val) (y 1).val := by
  have h := out1_A_6_eq (ct := at2 (V c main_arg3)) (W := W) (sc := sc) (i := grid1.coords t)
      (x0 := iblk1 V c 0 t) (x1 := iblk1 V c 1 t) (x2 := iblk1 V c 2 t) (x3 := iblk1 V c 3 t) (x4 := iblk1 V c 4 t) (x5 := iblk1 V c 5 t)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := (hcond1_0 t).mpr h0) (y := y)
      (hct := at2_beyond _) (hx0 := own_ct V c t) (hx1 := next_ct V c t) (hx4 := own_W V c W hW t) (hx5 := own_sc V c sc hs t)
  exact (congrFun (fst_of (outsAt1_A V c t h0)) y).trans h

/-- Case A, output 7: the block's part of the weight gradient. -/
theorem caseA_7 (t : Fin cfg1.N) (h0 : t.val % 16 = 0) (g : Fin 4) (a d : Fin 256) :
    (outsAt1 V c t.val t.isLt).2.1 (ix3 g a d) = dweightBlk u (at2 (V c main_arg3)) sc (grid1.coords t 0).val g.val a.val d.val := by
  have h := out1_A_7_eq (ct := at2 (V c main_arg3)) (sc := sc) (u := u) (i := grid1.coords t)
      (x0 := iblk1 V c 0 t) (x1 := iblk1 V c 1 t) (x2 := iblk1 V c 2 t) (x3 := iblk1 V c 3 t) (x4 := iblk1 V c 4 t) (x5 := iblk1 V c 5 t)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := (hcond1_0 t).mpr h0) (g := g) (a := a) (d := d)
      (hct := at2_beyond _) (hx0 := own_ct V c t) (hx1 := next_ct V c t) (hx3 := own_p V c u hp t) (hx5 := own_sc V c sc hs t)
  exact (congrFun (mid_of (outsAt1_A V c t h0)) (ix3 g a d)).trans h

/-- Case A, output 8: the block's part of the scale gradient. -/
theorem caseA_8 (t : Fin cfg1.N) (h0 : t.val % 16 = 0) (l : Fin 1024) :
    (outsAt1 V c t.val t.isLt).2.2 (ix2 0 l) = dscaleBlk u (at2 (V c main_arg3)) W (grid1.coords t 0).val l.val := by
  have h := out1_A_8_eq (ct := at2 (V c main_arg3)) (W := W) (u := u) (i := grid1.coords t)
      (x0 := iblk1 V c 0 t) (x1 := iblk1 V c 1 t) (x2 := iblk1 V c 2 t) (x3 := iblk1 V c 3 t) (x4 := iblk1 V c 4 t) (x5 := iblk1 V c 5 t)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := (hcond1_0 t).mpr h0) (l := l)
      (hx0 := own_ct V c t) (hx2 := own_z V c u W hz t)
  exact (congrFun (last_of (outsAt1_A V c t h0)) (ix2 0 l)).trans h

/-- Case B, output 6: the block of the input gradient. -/
theorem caseB_6 (t : Fin cfg1.N) (h0 : ¬ t.val % 16 = 0) (y : S256x1024.Idx) :
    (outsAt1 V c t.val t.isLt).1 y = dinput (at2 (V c main_arg3)) sc W (256 * (grid1.coords t 0).val + (y 0).val) (y 1).val := by
  have h := out1_B_6_eq (ct := at2 (V c main_arg3)) (W := W) (sc := sc) (i := grid1.coords t)
      (x0 := iblk1 V c 0 t) (x1 := iblk1 V c 1 t) (x2 := iblk1 V c 2 t) (x3 := iblk1 V c 3 t) (x4 := iblk1 V c 4 t) (x5 := iblk1 V c 5 t) (xo7 := (outsAt1 V c (t.val - 1) (Nat.lt_of_le_of_lt (Nat.sub_le _ _) t.isLt)).2.1) (xo8 := (outsAt1 V c (t.val - 1) (Nat.lt_of_le_of_lt (Nat.sub_le _ _) t.isLt)).2.2)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := fun h => h0 ((hcond1_0 t).mp h)) (y := y)
      (hct := at2_beyond _) (hx0 := own_ct V c t) (hx1 := next_ct V c t) (hx4 := own_W V c W hW t) (hx5 := own_sc V c sc hs t)
  exact (congrFun (fst_of (outsAt1_B V c t h0)) y).trans h

/-- Case B, output 7: the block's part of the weight gradient, added to what was there. -/
theorem caseB_7 (t : Fin cfg1.N) (h0 : ¬ t.val % 16 = 0) (g : Fin 4) (a d : Fin 256) :
    (outsAt1 V c t.val t.isLt).2.1 (ix3 g a d) = (outsAt1 V c (t.val - 1) (Nat.lt_of_le_of_lt (Nat.sub_le _ _) t.isLt)).2.1 (ix3 g a d)
        + dweightBlk u (at2 (V c main_arg3)) sc (grid1.coords t 0).val g.val a.val d.val := by
  have h := out1_B_7_eq (ct := at2 (V c main_arg3)) (sc := sc) (u := u) (i := grid1.coords t)
      (x0 := iblk1 V c 0 t) (x1 := iblk1 V c 1 t) (x2 := iblk1 V c 2 t) (x3 := iblk1 V c 3 t) (x4 := iblk1 V c 4 t) (x5 := iblk1 V c 5 t) (xo7 := (outsAt1 V c (t.val - 1) (Nat.lt_of_le_of_lt (Nat.sub_le _ _) t.isLt)).2.1) (xo8 := (outsAt1 V c (t.val - 1) (Nat.lt_of_le_of_lt (Nat.sub_le _ _) t.isLt)).2.2)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := fun h => h0 ((hcond1_0 t).mp h)) (g := g) (a := a) (d := d)
      (hct := at2_beyond _) (hx0 := own_ct V c t) (hx1 := next_ct V c t) (hx3 := own_p V c u hp t) (hx5 := own_sc V c sc hs t)
  exact (congrFun (mid_of (outsAt1_B V c t h0)) (ix3 g a d)).trans h

/-- Case B, output 8: the block's part of the scale gradient, added to what was there. -/
theorem caseB_8 (t : Fin cfg1.N) (h0 : ¬ t.val % 16 = 0) (l : Fin 1024) :
    (outsAt1 V c t.val t.isLt).2.2 (ix2 0 l) = (outsAt1 V c (t.val - 1) (Nat.lt_of_le_of_lt (Nat.sub_le _ _) t.isLt)).2.2 (ix2 0 l)
        + dscaleBlk u (at2 (V c main_arg3)) W (grid1.coords t 0).val l.val := by
  have h := out1_B_8_eq (ct := at2 (V c main_arg3)) (W := W) (u := u) (i := grid1.coords t)
      (x0 := iblk1 V c 0 t) (x1 := iblk1 V c 1 t) (x2 := iblk1 V c 2 t) (x3 := iblk1 V c 3 t) (x4 := iblk1 V c 4 t) (x5 := iblk1 V c 5 t) (xo7 := (outsAt1 V c (t.val - 1) (Nat.lt_of_le_of_lt (Nat.sub_le _ _) t.isLt)).2.1) (xo8 := (outsAt1 V c (t.val - 1) (Nat.lt_of_le_of_lt (Nat.sub_le _ _) t.isLt)).2.2)
      (c := c) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := ms1_8 t) (harg9 := hs1_8 t)
      (hc0 := fun h => h0 ((hcond1_0 t).mp h)) (l := l)
      (hx0 := own_ct V c t) (hx2 := own_z V c u W hz t)
  exact (congrFun (last_of (outsAt1_B V c t h0)) (ix2 0 l)).trans h

/-- After point `t`: the block of the input gradient. -/
theorem at_6 (t : Fin cfg1.N) (y : S256x1024.Idx) :
    (outsAt1 V c t.val t.isLt).1 y = dinput (at2 (V c main_arg3)) sc W (256 * t.val + (y 0).val) (y 1).val := by
  by_cases h0 : t.val % 16 = 0
  · exact (caseA_6 V c u sc W hz hp hW hs t h0 y).trans (by rw [coords1])
  · exact (caseB_6 V c u sc W hz hp hW hs t h0 y).trans (by rw [coords1])

/-- At the first point: the first block's part of the weight gradient. -/
theorem first_7 (t : Fin cfg1.N) (h0 : t.val % 16 = 0) (g : Fin 4) (a d : Fin 256) :
    (outsAt1 V c t.val t.isLt).2.1 (ix3 g a d) = dweightBlk u (at2 (V c main_arg3)) sc t.val g.val a.val d.val :=
  (caseA_7 V c u sc W hz hp hW hs t h0 g a d).trans (by rw [coords1])

/-- At a later point: the block's part of the weight gradient added to what was there. -/
theorem step_7 (t : Fin cfg1.N) (h0 : ¬ t.val % 16 = 0) (g : Fin 4) (a d : Fin 256) :
    (outsAt1 V c t.val t.isLt).2.1 (ix3 g a d)
      = (outsAt1 V c (t.val - 1) (Nat.lt_of_le_of_lt (Nat.sub_le _ _) t.isLt)).2.1 (ix3 g a d)
        + dweightBlk u (at2 (V c main_arg3)) sc t.val g.val a.val d.val :=
  (caseB_7 V c u sc W hz hp hW hs t h0 g a d).trans (by rw [coords1])

/-- At the first point: the first block's part of the scale gradient. -/
theorem first_8 (t : Fin cfg1.N) (h0 : t.val % 16 = 0) (l : Fin 1024) :
    (outsAt1 V c t.val t.isLt).2.2 (ix2 0 l) = dscaleBlk u (at2 (V c main_arg3)) W t.val l.val :=
  (caseA_8 V c u sc W hz hp hW hs t h0 l).trans (by rw [coords1])

/-- At a later point: the block's part of the scale gradient added to what was there. -/
theorem step_8 (t : Fin cfg1.N) (h0 : ¬ t.val % 16 = 0) (l : Fin 1024) :
    (outsAt1 V c t.val t.isLt).2.2 (ix2 0 l)
      = (outsAt1 V c (t.val - 1) (Nat.lt_of_le_of_lt (Nat.sub_le _ _) t.isLt)).2.2 (ix2 0 l)
        + dscaleBlk u (at2 (V c main_arg3)) W t.val l.val :=
  (caseB_8 V c u sc W hz hp hW hs t h0 l).trans (by rw [coords1])

/-- The weight gradient's accumulator after point `n`: the parts of the blocks `0, …, n`. -/
theorem upto_7 (g : Fin 4) (a d : Fin 256) : ∀ (n : ℕ) (hn : n < cfg1.N),
    (outsAt1 V c n hn).2.1 (ix3 g a d) = ∑ b ∈ Finset.range (n + 1), dweightBlk u (at2 (V c main_arg3)) sc b g.val a.val d.val
  | 0, hn => by
    rw [Finset.sum_range_one]
    exact first_7 V c u sc W hz hp hW hs ⟨0, hn⟩ rfl g a d
  | n + 1, hn => by
    have hN : cfg1.N = 16 := N_1
    rw [Finset.sum_range_succ, ← upto_7 g a d n (by omega)]
    exact step_7 V c u sc W hz hp hW hs ⟨n + 1, hn⟩ (by show ¬ (n + 1) % 16 = 0; omega) g a d

/-- The scale gradient's accumulator after point `n`: the parts of the blocks `0, …, n`. -/
theorem upto_8 (l : Fin 1024) : ∀ (n : ℕ) (hn : n < cfg1.N),
    (outsAt1 V c n hn).2.2 (ix2 0 l) = ∑ b ∈ Finset.range (n + 1), dscaleBlk u (at2 (V c main_arg3)) W b l.val
  | 0, hn => by
    rw [Finset.sum_range_one]
    exact first_8 V c u sc W hz hp hW hs ⟨0, hn⟩ rfl l
  | n + 1, hn => by
    have hN : cfg1.N = 16 := N_1
    rw [Finset.sum_range_succ, ← upto_8 l n (by omega)]
    exact step_8 V c u sc W hz hp hW hs ⟨n + 1, hn⟩ (by show ¬ (n + 1) % 16 = 0; omega) l

/-- After the backward call: the input gradient. -/
theorem final1_6 : (dat1 V c).arrAt 6 cfg1.N = (fun y : S4096x1024.Idx => dinput (at2 (V c main_arg3)) sc W (y 0).val (y 1).val) := by
  refine (dat1 V c).arrAt_eq_of_cover 6 (fun y : S4096x1024.Idx => dinput (at2 (V c main_arg3)) sc W (y 0).val (y 1).val) (fun t _ => ?_) cover1_arr6
  show (cfg1.win 6).cut (grid1.coords t) ((dat1 V c).after 6 t) = _
  rw [after1_6]
  funext y
  rw [View.read_apply]
  refine (at_6 V c u sc W hz hp hW hs t y).trans ?_
  show dinput (at2 (V c main_arg3)) sc W (256 * t.val + (y 0).val) (y 1).val
    = dinput (at2 (V c main_arg3)) sc W (win1_6.index t 0 * 256 + 1 * (y 0).val) (win1_6.index t 1 * 1024 + 1 * (y 1).val)
  rw [(index1_6 t).1, (index1_6 t).2, Nat.mul_comm 256, one_mul, one_mul, zero_mul, zero_add]

/-- After the backward call: the weight gradient. -/
theorem final1_7 (g : Fin 4) (a d : Fin 256) : ((dat1 V c).arrAt 7 cfg1.N : S4x256x256.Idx → EReal) (ix3 g a d)
    = ∑ b ∈ Finset.range 16, dweightBlk u (at2 (V c main_arg3)) sc b g.val a.val d.val := by
  have hN : cfg1.N = 16 := N_1
  have e : (dat1 V c).arrAt 7 cfg1.N = (outsAt1 V c 15 (by omega)).2.1 := by
    refine (dat1 V c).arrAt_eq_of_cover 7 (outsAt1 V c 15 (by omega)).2.1 (fun t ht => ?_) (fun y => ?_)
    · have h15 : t.val = 15 := by have := (flush1_7 t).mp ht; have := point1_le t; omega
      obtain ⟨t, htn⟩ := t
      dsimp only at h15
      subst h15
      show (cfg1.win 7).cut (grid1.coords _) ((dat1 V c).after 7 _) = _
      rw [after1_7]
      funext y
      rw [View.read_apply]
      generalize (outsAt1 V c 15 htn).2.1 = G
      refine congrArg G ?_
      funext k
      apply Fin.ext
      match k with
      | ⟨0, h⟩ => show (y ⟨0, h⟩).val = win1_7.index ⟨15, htn⟩ 0 * 4 + 1 * (y ⟨0, h⟩).val; rw [(index1_7 _).1]; omega
      | ⟨1, h⟩ => show (y ⟨1, h⟩).val = win1_7.index ⟨15, htn⟩ 1 * 256 + 1 * (y ⟨1, h⟩).val; rw [(index1_7 _).2.1]; omega
      | ⟨2, h⟩ => show (y ⟨2, h⟩).val = win1_7.index ⟨15, htn⟩ 2 * 256 + 1 * (y ⟨2, h⟩).val; rw [(index1_7 _).2.2]; omega
    · obtain ⟨t, ht⟩ : ∃ t : Fin cfg1.N, t.val = 15 := ⟨⟨15, by omega⟩, rfl⟩
      refine ⟨t, (flush1_7 t).mpr (by omega), ?_⟩
      show y ∈ ((View.whole main_v6_1).slice (win1_7.rect t)).set
      rw [View.set_slice_whole, Rect.mem_set_unit]
      intro k
      have hk := (y k).isLt
      match k with
      | ⟨0, h⟩ => show win1_7.index t 0 * 4 ≤ (y ⟨0, h⟩).val ∧ (y ⟨0, h⟩).val < win1_7.index t 0 * 4 + 4; rw [(index1_7 _).1]; have : (y ⟨0, h⟩).val < 4 := hk; omega
      | ⟨1, h⟩ => show win1_7.index t 1 * 256 ≤ (y ⟨1, h⟩).val ∧ (y ⟨1, h⟩).val < win1_7.index t 1 * 256 + 256; rw [(index1_7 _).2.1]; have : (y ⟨1, h⟩).val < 256 := hk; omega
      | ⟨2, h⟩ => show win1_7.index t 2 * 256 ≤ (y ⟨2, h⟩).val ∧ (y ⟨2, h⟩).val < win1_7.index t 2 * 256 + 256; rw [(index1_7 _).2.2]; have : (y ⟨2, h⟩).val < 256 := hk; omega
  rw [e]
  exact upto_7 V c u sc W hz hp hW hs g a d 15 (by omega)

/-- After the backward call: the scale gradient, in row 0. -/
theorem final1_8 (l : Fin 1024) : ((dat1 V c).arrAt 8 cfg1.N : S8x1024.Idx → EReal) (ix2 0 l)
    = ∑ b ∈ Finset.range 16, dscaleBlk u (at2 (V c main_arg3)) W b l.val := by
  have hN : cfg1.N = 16 := N_1
  have e : (dat1 V c).arrAt 8 cfg1.N = (outsAt1 V c 15 (by omega)).2.2 := by
    refine (dat1 V c).arrAt_eq_of_cover 8 (outsAt1 V c 15 (by omega)).2.2 (fun t ht => ?_) (fun y => ?_)
    · have h15 : t.val = 15 := by have := (flush1_8 t).mp ht; have := point1_le t; omega
      obtain ⟨t, htn⟩ := t
      dsimp only at h15
      subst h15
      show (cfg1.win 8).cut (grid1.coords _) ((dat1 V c).after 8 _) = _
      rw [after1_8]
      funext y
      rw [View.read_apply]
      generalize (outsAt1 V c 15 htn).2.2 = G
      refine congrArg G ?_
      funext k
      apply Fin.ext
      match k with
      | ⟨0, h⟩ => show (y ⟨0, h⟩).val = win1_8.index ⟨15, htn⟩ 0 * 8 + 1 * (y ⟨0, h⟩).val; rw [(index1_8 _).1]; omega
      | ⟨1, h⟩ => show (y ⟨1, h⟩).val = win1_8.index ⟨15, htn⟩ 1 * 1024 + 1 * (y ⟨1, h⟩).val; rw [(index1_8 _).2]; omega
    · obtain ⟨t, ht⟩ : ∃ t : Fin cfg1.N, t.val = 15 := ⟨⟨15, by omega⟩, rfl⟩
      refine ⟨t, (flush1_8 t).mpr (by omega), ?_⟩
      show y ∈ ((View.whole main_v6_2).slice (win1_8.rect t)).set
      rw [View.set_slice_whole, Rect.mem_set_unit]
      intro k
      have hk := (y k).isLt
      match k with
      | ⟨0, h⟩ => show win1_8.index t 0 * 8 ≤ (y ⟨0, h⟩).val ∧ (y ⟨0, h⟩).val < win1_8.index t 0 * 8 + 8; rw [(index1_8 _).1]; have : (y ⟨0, h⟩).val < 8 := hk; omega
      | ⟨1, h⟩ => show win1_8.index t 1 * 1024 ≤ (y ⟨1, h⟩).val ∧ (y ⟨1, h⟩).val < win1_8.index t 1 * 1024 + 1024; rw [(index1_8 _).2]; have : (y ⟨1, h⟩).val < 1024 := hk; omega
  rw [e]
  exact upto_8 V c u sc W hz hp hW hs l 15 (by omega)

end Cert.KernelIdeal.Pool

end
-- ==== Proof.Run.lean ====
module

public import proofs.«01_k».proof.Proof.Gen.KernelIdeal.Frame

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

set_option backward.isDefEq.respectTransparency.types false in
/-- The program runs, and every buffer that is not scoped ends at what the two regions and the host operations around them
    leave there, `W5`. -/
theorem run_W5 : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp _))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

/-- What the program leaves in its three results: the second region's first two outputs, and row zero of its third. -/
theorem run : θ_run defs (onTc (τ := τ) (main (F := F))) ⟨m, fun _ => 0, ρ⟩ (fun r => ∀ c : Dev nD,
      r.2.mem ((c.tc : Thread nD τ).loc main_v6_0) = W5 m ρ c (Proc.devRef .tc main_v6_0)
      ∧ r.2.mem ((c.tc : Thread nD τ).loc main_v6_1) = W5 m ρ c (Proc.devRef .tc main_v6_1)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v6_0 (by decide)), h c _ (mem_uc main_v6_1 (by decide)), h c _ (mem_uc main_v8 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_W5 m ρ)

end Cert.KernelIdeal.Pool

end
-- ==== Proof.Pool.KernelValue.lean ====
module

public import proofs.«01_k».proof.Proof.Pool.BwdArr
public import proofs.«01_k».proof.Proof.Run
public import Idealize.ShloMosaic.Lib.Pointwise
public import Idealize.ShloMosaic.Lib.StableHlo.RunRead

@[expose] public section

set_option maxRecDepth 16384

noncomputable section

/-! What the kernel's three results hold, as functions of its four arguments. -/

namespace Cert.KernelIdeal.Pool

open Idealize.ShloMosaic Idealize.ShloMosaic.TcCoe Idealize.ShloMosaic.Tactic Idealize.SL.Sem Cert.KernelIdeal Cert.KernelIdeal.Gen
open _root_.Pool

variable (m : (ℓ : Loc nD τ sig) → Buf (Elt Ideal) ℓ) (ρ : Dev nD → PrngReg) (c : Dev nD)

/-- The arguments of core `c` as functions of numbers. -/
abbrev argU : ℕ → ℕ → EReal := at2 (m ((c : Thread nD τ).loc main_arg0))
abbrev argW : ℕ → ℕ → ℕ → EReal := at3 (m ((c : Thread nD τ).loc main_arg1))
abbrev argS : ℕ → EReal := at1 (m ((c : Thread nD τ).loc main_arg2))
abbrev argCt : ℕ → ℕ → EReal := at2 (m ((c : Thread nD τ).loc main_arg3))

/-- The mixing matrices packed for the two calls: rows dealt out in four parts, the parts in front. -/
def packOf (A : Vec Ideal S4x256x256 .f32) : Vec Ideal S4x4x64x256 .bf16 :=
  truncf (F := Ideal) .bf16 (transpose S4x4x64x256 [1, 0, 2, 3] (shapeCast S4x4x64x256 A shapeCasts_S4x256x256_S4x4x64x256) transposes_S4x4x64x256_S4x4x64x256_1_0_2_3) bitsLt_bf16_f32

theorem packOf_apply (A : Vec Ideal S4x256x256 .f32) (q g : Fin 4) (r : Fin 64) (d : Fin 256) :
    packOf A (ix4 q g r d) = A (ix3 g ⟨q.val * 64 + r.val, by omega⟩ d) := by
  pointwise [packOf]

theorem packed_eq : W1 m ρ c (Proc.devRef .tc main_v2) = packOf (m ((c : Thread nD τ).loc main_arg1)) := by
  unfold packOf
  after_reads_simp
  rfl

/-- The packed mixing matrices. -/
theorem packed (q g : Fin 4) (r : Fin 64) (d : Fin 256) :
    (W1 m ρ c (Proc.devRef .tc main_v2) : Vec Ideal S4x4x64x256 .bf16) (ix4 q g r d) = argW m c g.val (64 * q.val + r.val) d.val := by
  rw [packed_eq, packOf_apply, show 64 * q.val + r.val = (⟨q.val * 64 + r.val, by omega⟩ : Fin 256).val from by dsimp only; omega]
  exact (at3_apply _ g ⟨q.val * 64 + r.val, by omega⟩ d).symm

theorem packed_scale (l : Fin 1024) :
    (W3 m ρ c (Proc.devRef .tc main_v5) : Vec Ideal S1x1024 .f32) (ix2 0 l) = argS m c l.val := by
  have e : W3 m ρ c (Proc.devRef .tc main_v5) = (shapeCast S1x1024 (W2 m ρ c (Proc.devRef .tc main_arg2) : Vec Ideal S1024 .f32) shapeCasts_S1024_S1x1024 : Vec Ideal S1x1024 .f32) := by
    after_reads_simp
    rfl
  rw [e, W2_args m ρ c main_arg2 (by decide)]
  unfold argS
  rw [at1_apply]
  generalize m ((c : Thread nD τ).loc main_arg2) = A
  pointwise []

/-- What the backward call reads: the two saved arrays of the forward call. -/
theorem saved_z : (V3 m ρ c main_v4_1 : Vec Ideal S4096x1024 .bf16) = fun y => mixed (argU m c) (argW m c) (y 0).val (y 1).val := by
  show W3 m ρ c (Proc.devRef .tc main_v4_1) = _
  rw [W3_of m ρ c main_v4_1 (by decide)]
  refine (W2_arr m ρ c 5).trans ?_
  rw [final0_5 (V1 m ρ) c (argW m c) (packed m ρ c)]
  have e : V1 m ρ c main_arg0 = m ((c : Thread nD τ).loc main_arg0) := W1_args m ρ c main_arg0 (by decide)
  rw [e]; rfl

theorem saved_p : (V3 m ρ c main_v4_0 : Vec Ideal S4096x1024 .bf16) = fun y => pooled (argU m c) (y 0).val (y 1).val := by
  show W3 m ρ c (Proc.devRef .tc main_v4_0) = _
  rw [W3_of m ρ c main_v4_0 (by decide)]
  refine (W2_arr m ρ c 4).trans ?_
  rw [final0_4 (V1 m ρ) c]
  have e : V1 m ρ c main_arg0 = m ((c : Thread nD τ).loc main_arg0) := W1_args m ρ c main_arg0 (by decide)
  rw [e]; rfl

theorem packed3 (q g : Fin 4) (r : Fin 64) (d : Fin 256) :
    (V3 m ρ c main_v2 : Vec Ideal S4x4x64x256 .bf16) (ix4 q g r d) = argW m c g.val (64 * q.val + r.val) d.val := by
  have e : V3 m ρ c main_v2 = W1 m ρ c (Proc.devRef .tc main_v2) :=
    (W3_of m ρ c main_v2 (by decide)).trans (W2_of m ρ c main_v2 (by decide))
  rw [e]
  exact packed m ρ c q g r d

theorem ct3 : V3 m ρ c main_arg3 = m ((c : Thread nD τ).loc main_arg3) := W3_args m ρ c main_arg3 (by decide)

/-- The kernel's first result: the gradient of the input. -/
theorem result0 : W5 m ρ c (Proc.devRef .tc main_v6_0) = (fun y : S4096x1024.Idx => dinput (argCt m c) (argS m c) (argW m c) (y 0).val (y 1).val) := by
  rw [W5_of m ρ c main_v6_0 (by decide)]
  refine (W4_arr m ρ c 6).trans ?_
  rw [final1_6 (V3 m ρ) c (argU m c) (argS m c) (argW m c) (saved_z m ρ c) (saved_p m ρ c) (packed3 m ρ c) (packed_scale m ρ c), ct3]

/-- The kernel's second result: the gradient of the mixing matrices. -/
theorem result1 (g : Fin 4) (a d : Fin 256) : (W5 m ρ c (Proc.devRef .tc main_v6_1) : S4x256x256.Idx → EReal) (ix3 g a d)
    = ∑ b ∈ Finset.range 16, dweightBlk (argU m c) (argCt m c) (argS m c) b g.val a.val d.val := by
  rw [W5_of m ρ c main_v6_1 (by decide)]
  rw [show W4 m ρ c (Proc.devRef .tc main_v6_1) = (dat1 (V3 m ρ) c).arrAt 7 cfg1.N from W4_arr m ρ c 7]
  rw [final1_7 (V3 m ρ) c (argU m c) (argS m c) (argW m c) (saved_z m ρ c) (saved_p m ρ c) (packed3 m ρ c) (packed_scale m ρ c), ct3]

/-- The kernel's third result: the gradient of the scale. -/
theorem result2 (l : Fin 1024) : (W5 m ρ c (Proc.devRef .tc main_v8) : S1024.Idx → EReal) (ix1 l)
    = ∑ b ∈ Finset.range 16, dscaleBlk (argU m c) (argCt m c) (argW m c) b l.val := by
  have e : W5 m ρ c (Proc.devRef .tc main_v8) = (shapeCast S1024 (extractStridedSlice S1x1024 ![0, 0] (W4 m ρ c (Proc.devRef .tc main_v6_2) : Vec Ideal S8x1024 .f32) slices_S8x1024_S1x1024_0_0 : Vec Ideal S1x1024 .f32) shapeCasts_S1x1024_S1024 : Vec Ideal S1024 .f32) := by
    after_reads_simp
    rfl
  rw [e, show W4 m ρ c (Proc.devRef .tc main_v6_2) = (dat1 (V3 m ρ) c).arrAt 8 cfg1.N from W4_arr m ρ c 8]
  have h := final1_8 (V3 m ρ) c (argU m c) (argS m c) (argW m c) (saved_z m ρ c) (saved_p m ρ c) (packed3 m ρ c) (packed_scale m ρ c) l
  rw [ct3] at h
  refine Eq.trans ?_ h
  generalize (dat1 (V3 m ρ) c).arrAt 8 cfg1.N = A
  pointwise []

end Cert.KernelIdeal.Pool

end
-- ==== Proof.Pool.Cumsum.lean ====
module

public import Idealize.ShloMosaic.Lib.Pointwise

@[expose] public section

set_option maxRecDepth 16384

noncomputable section

/-!
  The running sums of the reference along the steps, forward and reversed, as sums over ranges.
-/

namespace Pool

open Idealize.ShloMosaic

/-- A left fold that adds one term after the other is the start plus the sum. -/
theorem fold_plus {n : ℕ} (f : Fin n → EReal) (z : EReal) :
    (List.finRange n).foldl (fun r k => r + f k) z = z + ∑ k, f k := by
  have h : ∀ (l : List (Fin n)) (z : EReal), l.foldl (fun r k => r + f k) z = z + (l.map f).sum := by
    intro l
    induction l with
    | nil => intro z; simp
    | cons a l ih => intro z; rw [List.foldl_cons, ih, List.map_cons, List.sum_cons, add_assoc]
  rw [h, Fin.sum_univ_def]

/-- A window sum as the start plus a sum over the window's places. -/
theorem window_plus {s t u : Shape} (window strides lo hi : Fin s.rank → ℕ) (x : FVec Ideal s .f32) (init : u.Idx → Ideal .f32)
    (h : s.ReduceWindows window strides lo hi t) (hu : 0 < u.numel) (j : t.Idx) :
    (Host.reduceWindowAdd (F := Ideal) window strides lo hi x init h hu j : EReal)
      = init (Shape.Idx.first hu) + ∑ n : Fin (⟨s.rank, window⟩ : Shape).numel,
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
            then (x (fun a => ⟨(j (a.cast h.1.symm)).val * strides a + ((⟨s.rank, window⟩ : Shape).rowMajor.symm n a).val - lo a, (hin a).2⟩) : EReal)
            else init (Shape.Idx.first hu) := by
  show Ideal.hostReduceWindowAdd window strides lo hi h x (init (Shape.Idx.first hu)) j = _
  unfold Ideal.hostReduceWindowAdd Host.reduceWindow
  dsimp only
  rw [fold_plus]
  refine congrArg _ (Finset.sum_congr rfl fun n _ => ?_)
  split <;> rfl

/-- The window of a running sum along the first of three axes. -/
abbrev Win : Shape := ⟨3, ![4096, 1, 1]⟩

/-- The `n`-th place of the window is `n` steps along the first axis. -/
theorem win_zero (n : Fin Win.numel) : (Win.rowMajor.symm n 0).val = n.val := by
  have h := Shape.rowMajor_val_three (Win.rowMajor.symm n)
  rw [Equiv.apply_symm_apply] at h
  have h1 : (Win.rowMajor.symm n 1).val < 1 := (Win.rowMajor.symm n 1).isLt
  have h2 : (Win.rowMajor.symm n 2).val < 1 := (Win.rowMajor.symm n 2).isLt
  have e : n.val = ((Win.rowMajor.symm n 0).val * 1 + (Win.rowMajor.symm n 1).val) * 1 + (Win.rowMajor.symm n 2).val := h
  omega

theorem win_one (n : Fin Win.numel) : (Win.rowMajor.symm n 1).val = 0 := by
  have h1 : (Win.rowMajor.symm n 1).val < 1 := (Win.rowMajor.symm n 1).isLt
  omega

theorem win_two (n : Fin Win.numel) : (Win.rowMajor.symm n 2).val = 0 := by
  have h1 : (Win.rowMajor.symm n 2).val < 1 := (Win.rowMajor.symm n 2).isLt
  omega

theorem win_numel : Win.numel = 4096 := by decide

/-- A sum over the window's places is a sum over a range. -/
theorem sum_win (f : ℕ → EReal) : ∑ n : Fin Win.numel, f n.val = ∑ n ∈ Finset.range 4096, f n := by
  rw [← win_numel, Finset.sum_range]

abbrev Steps : Shape := ⟨3, ![4096, 4, 256]⟩

/-- The running sum from the first step, at step `t`. -/
theorem cumsum_apply (x : FVec Ideal Steps .f32) (init : (⟨0, ![]⟩ : Shape).Idx → Ideal .f32)
    (h : Steps.ReduceWindows ![4096, 1, 1] ![1, 1, 1] ![4095, 0, 0] ![0, 0, 0] Steps)
    (hu : 0 < (⟨0, ![]⟩ : Shape).numel) (h0 : ∀ i, init i = (0 : EReal)) (X : ℕ → EReal) (t : Fin 4096) (g : Fin 4) (c : Fin 256)
    (hX : ∀ s : Fin 4096, (x (ix3 s g c) : EReal) = X s.val) :
    (Host.reduceWindowAdd (F := Ideal) (s := Steps) (t := Steps) ![4096, 1, 1] ![1, 1, 1] ![4095, 0, 0] ![0, 0, 0] x init h hu (ix3 t g c) : EReal)
      = ∑ k ∈ Finset.range (t.val + 1), X k := by
  have ht := t.isLt
  rw [window_plus]
  rw [h0, zero_add]
  have hterm : ∀ n : Fin Win.numel, (if hin : ∀ a : Fin 3, (![4095, 0, 0] : Fin 3 → ℕ) a ≤ ((ix3 t g c : Steps.Idx) a).val * (![1, 1, 1] : Fin 3 → ℕ) a + (Win.rowMajor.symm n a).val
        ∧ ((ix3 t g c : Steps.Idx) a).val * (![1, 1, 1] : Fin 3 → ℕ) a + (Win.rowMajor.symm n a).val - (![4095, 0, 0] : Fin 3 → ℕ) a < Steps.size a
      then (x (fun a => ⟨_, (hin a).2⟩) : EReal) else 0) = if 4095 ≤ t.val + n.val then X (t.val + n.val - 4095) else 0 := by
    intro n
    have hn : n.val < 4096 := lt_of_lt_of_eq n.isLt win_numel
    have z0 := win_zero n
    have z1 := win_one n
    have z2 := win_two n
    by_cases hc : 4095 ≤ t.val + n.val
    · rw [if_pos hc, dif_pos]
      · rw [← hX ⟨t.val + n.val - 4095, by omega⟩]
        refine congrArg x (funext fun a => Fin.ext ?_)
        match a with
        | ⟨0, _⟩ => show t.val * 1 + (Win.rowMajor.symm n 0).val - 4095 = t.val + n.val - 4095; omega
        | ⟨1, _⟩ => show g.val * 1 + (Win.rowMajor.symm n 1).val - 0 = g.val; omega
        | ⟨2, _⟩ => show c.val * 1 + (Win.rowMajor.symm n 2).val - 0 = c.val; omega
      · intro a
        match a with
        | ⟨0, _⟩ => show 4095 ≤ t.val * 1 + (Win.rowMajor.symm n 0).val ∧ t.val * 1 + (Win.rowMajor.symm n 0).val - 4095 < 4096; omega
        | ⟨1, _⟩ =>
          have := g.isLt
          show 0 ≤ g.val * 1 + (Win.rowMajor.symm n 1).val ∧ g.val * 1 + (Win.rowMajor.symm n 1).val - 0 < 4; omega
        | ⟨2, _⟩ =>
          have := c.isLt
          show 0 ≤ c.val * 1 + (Win.rowMajor.symm n 2).val ∧ c.val * 1 + (Win.rowMajor.symm n 2).val - 0 < 256; omega
    · rw [if_neg hc, dif_neg]
      intro hin
      have h1 : 4095 ≤ t.val * 1 + (Win.rowMajor.symm n 0).val := (hin 0).1
      omega
  refine (Finset.sum_congr rfl fun n _ => hterm n).trans ?_
  rw [sum_win (fun n => if 4095 ≤ t.val + n then X (t.val + n - 4095) else 0)]
  have hs : Finset.range 4096 = Finset.range ((4095 - t.val) + (t.val + 1)) := congrArg Finset.range (by omega)
  rw [hs, Finset.sum_range_add, Finset.sum_eq_zero, zero_add]
  · refine Finset.sum_congr rfl fun k _ => ?_
    rw [if_pos (by omega)]
    exact congrArg X (by omega)
  · intro k hk
    have := Finset.mem_range.mp hk
    rw [if_neg (by omega)]

/-- The running sum from the last step backwards, at step `t`. -/
theorem cumsumRev_apply (x : FVec Ideal Steps .f32) (init : (⟨0, ![]⟩ : Shape).Idx → Ideal .f32)
    (h : Steps.ReduceWindows ![4096, 1, 1] ![1, 1, 1] ![0, 0, 0] ![4095, 0, 0] Steps)
    (hu : 0 < (⟨0, ![]⟩ : Shape).numel) (h0 : ∀ i, init i = (0 : EReal)) (X : ℕ → EReal) (t : Fin 4096) (g : Fin 4) (c : Fin 256)
    (hX : ∀ s : Fin 4096, (x (ix3 s g c) : EReal) = X s.val) :
    (Host.reduceWindowAdd (F := Ideal) (s := Steps) (t := Steps) ![4096, 1, 1] ![1, 1, 1] ![0, 0, 0] ![4095, 0, 0] x init h hu (ix3 t g c) : EReal)
      = ∑ k ∈ Finset.range (4096 - t.val), X (t.val + k) := by
  have ht := t.isLt
  rw [window_plus]
  rw [h0, zero_add]
  have hterm : ∀ n : Fin Win.numel, (if hin : ∀ a : Fin 3, (![0, 0, 0] : Fin 3 → ℕ) a ≤ ((ix3 t g c : Steps.Idx) a).val * (![1, 1, 1] : Fin 3 → ℕ) a + (Win.rowMajor.symm n a).val
        ∧ ((ix3 t g c : Steps.Idx) a).val * (![1, 1, 1] : Fin 3 → ℕ) a + (Win.rowMajor.symm n a).val - (![0, 0, 0] : Fin 3 → ℕ) a < Steps.size a
      then (x (fun a => ⟨_, (hin a).2⟩) : EReal) else 0) = if t.val + n.val < 4096 then X (t.val + n.val) else 0 := by
    intro n
    have z0 := win_zero n
    have z1 := win_one n
    have z2 := win_two n
    by_cases hc : t.val + n.val < 4096
    · rw [if_pos hc, dif_pos]
      · rw [← hX ⟨t.val + n.val, hc⟩]
        refine congrArg x (funext fun a => Fin.ext ?_)
        match a with
        | ⟨0, _⟩ => show t.val * 1 + (Win.rowMajor.symm n 0).val - 0 = t.val + n.val; omega
        | ⟨1, _⟩ => show g.val * 1 + (Win.rowMajor.symm n 1).val - 0 = g.val; omega
        | ⟨2, _⟩ => show c.val * 1 + (Win.rowMajor.symm n 2).val - 0 = c.val; omega
      · intro a
        match a with
        | ⟨0, _⟩ => show 0 ≤ t.val * 1 + (Win.rowMajor.symm n 0).val ∧ t.val * 1 + (Win.rowMajor.symm n 0).val - 0 < 4096; omega
        | ⟨1, _⟩ =>
          have := g.isLt
          show 0 ≤ g.val * 1 + (Win.rowMajor.symm n 1).val ∧ g.val * 1 + (Win.rowMajor.symm n 1).val - 0 < 4; omega
        | ⟨2, _⟩ =>
          have := c.isLt
          show 0 ≤ c.val * 1 + (Win.rowMajor.symm n 2).val ∧ c.val * 1 + (Win.rowMajor.symm n 2).val - 0 < 256; omega
    · rw [if_neg hc, dif_neg]
      intro hin
      have h1 : t.val * 1 + (Win.rowMajor.symm n 0).val - 0 < 4096 := (hin 0).2
      omega
  refine (Finset.sum_congr rfl fun n _ => hterm n).trans ?_
  rw [sum_win (fun n => if t.val + n < 4096 then X (t.val + n) else 0)]
  have hs : Finset.range 4096 = Finset.range ((4096 - t.val) + t.val) := congrArg Finset.range (by omega)
  rw [hs, Finset.sum_range_add, add_comm, Finset.sum_eq_zero, zero_add]
  · refine Finset.sum_congr rfl fun k hk => ?_
    have := Finset.mem_range.mp hk
    rw [if_pos (by omega)]
  · intro k _
    rw [if_neg (by omega)]

end Pool

end
-- ==== Proof.Pool.RefGroup.lean ====
module

public import proofs.«01_k».proof.Proof.Gen.ReferenceIdeal.Read
public import proofs.«01_k».proof.Proof.Pool.Groups
public import proofs.«01_k».proof.Proof.Pool.Cumsum
public import proofs.«01_k».proof.Proof.Pool.Words

@[expose] public section

set_option maxRecDepth 16384

noncomputable section

/-!
  The reference's stages at an element, group by group, over the extended reals.
-/

namespace Cert.ReferenceIdeal.Pool

open Idealize.ShloMosaic Cert.ReferenceIdeal Cert.ReferenceIdeal.Gen Cert.ReferenceIdeal.Read _root_.Pool

theorem start0 (i : S_.Idx) : (val_main_call0_call0_v0 (F := Ideal) i : EReal) = 0 := by
  pointwise [val_main_call0_call0_v0, val_main_call0_call0_cst]

theorem start1 (i : S_.Idx) : (val_main_call1_call0_v0 (F := Ideal) i : EReal) = 0 := by
  pointwise [val_main_call1_call0_v0, val_main_call1_call0_cst]

/-- The input, its columns split by group. -/
theorem v0_at (x0 : FVec Ideal S4096x1024 .f32) (t : Fin 4096) (g : Fin 4) (c : Fin 256) :
    (val_main_v0 (F := Ideal) x0 (ix3 t g c) : EReal) = at2 x0 t.val (256 * g.val + c.val) := by
  have := g.isLt
  have := c.isLt
  rw [val_main_v0_apply, ← at2_mk x0 t _ (by omega)]
  refine congrArg x0 (funext fun a => Fin.ext ?_)
  match a with
  | ⟨0, _⟩ => show ((t.val * 4 + g.val) * 256 + c.val) / 1024 = t.val; omega
  | ⟨1, _⟩ => show ((t.val * 4 + g.val) * 256 + c.val) % 1024 = 256 * g.val + c.val; omega

/-- The running sum of the input. -/
theorem v1_at (x0 : FVec Ideal S4096x1024 .f32) (t : Fin 4096) (g : Fin 4) (c : Fin 256) :
    (val_main_v1 (F := Ideal) x0 (ix3 t g c) : EReal) = ∑ k ∈ Finset.range (t.val + 1), at2 x0 k (256 * g.val + c.val) := by
  unfold val_main_v1
  exact cumsum_apply _ _ _ _ start0 (fun k => at2 x0 k (256 * g.val + c.val)) t g c (fun s => v0_at x0 s g c)

/-! Group 3, windows of 16 steps. -/

theorem count3 (t : Fin 4096) : (val_main_v77 (F := Ideal) (ix2 t 0) : EReal) = cnt 16 t.val := by
  have h : (val_main_v77 (F := Ideal) (ix2 t 0) : EReal) = FloatOps.sitofp (F := Ideal) .f32 (IntOp.minsi (IntOp.addi (BitVec.ofNat 32 t.val) 1#32) 16#32) := by
    pointwise [val_main_v77, val_main_v76, val_main_v75, val_main_v73, val_main_v2, val_main_v72, val_main_c_12, val_main_v74, val_main_c_13]
  rw [h]
  have := t.isLt
  exact cnt_word t.val 16 (by omega) (by omega)

theorem pooledOps3 (x0 : FVec Ideal S4096x1024 .f32) (t : Fin 4096) (c : Fin 256) :
    (val_main_v83 (F := Ideal) x0 (ix2 t c) : EReal)
      = Ideal.div ((val_main_v1 (F := Ideal) x0 (ix3 t 3 c) : EReal)
          - if h : t.val < 16 then 0 else (val_main_v1 (F := Ideal) x0 (ix3 ⟨t.val - 16, by have := t.isLt; omega⟩ 3 c) : EReal)) (val_main_v77 (F := Ideal) (ix2 t 0))
        - x0 (ix2 t ⟨768 + c.val, by have := c.isLt; omega⟩) := by
  pointwise [val_main_v83, val_main_v80, val_main_v78, val_main_v67, val_main_v66, val_main_v71, val_main_v69, val_main_v68, val_main_cst_10, val_main_v79, val_main_v82, val_main_v81, val_main_v0]

/-- The pooled value. -/
theorem pooled3 (x0 : FVec Ideal S4096x1024 .f32) (hu : ∀ t l, Fin' (at2 x0 t l)) (t : Fin 4096) (c : Fin 256) :
    (val_main_v83 (F := Ideal) x0 (ix2 t c) : EReal) = pooled (at2 x0) t.val (256 * 3 + c.val) := by
  rw [pooledOps3, v1_at, count3, at2_mk x0, pooled_group (at2 x0) hu t.val 3 c.val 16 c.isLt rfl]
  have e : (if h : t.val < 16 then (0 : EReal) else (val_main_v1 (F := Ideal) x0 (ix3 ⟨t.val - 16, by have := t.isLt; omega⟩ 3 c) : EReal))
      = if t.val < 16 then 0 else ∑ k ∈ Finset.range (t.val - 16 + 1), at2 x0 k (256 * 3 + c.val) := by
    split
    · rfl
    · exact v1_at x0 _ 3 c
  rw [e]
  rfl

theorem mixedOps3 (x0 : FVec Ideal S4096x1024 .f32) (x1 : FVec Ideal S4x256x256 .f32) (t : Fin 4096) (l : Fin 256) :
    (val_main_v86 (F := Ideal) x0 x1 (ix2 t l) : EReal) = ∑ x : Fin 256, (val_main_v83 (F := Ideal) x0 (ix2 t x) : EReal) * x1 (ix3 3 x l) := by
  pointwise [val_main_v86, val_main_v85, val_main_v84]

/-- The pooled row times the group's matrix. -/
theorem mixed3 (x0 : FVec Ideal S4096x1024 .f32) (x1 : FVec Ideal S4x256x256 .f32) (hu : ∀ t l, Fin' (at2 x0 t l)) (t : Fin 4096) (l : Fin 256) :
    (val_main_v86 (F := Ideal) x0 x1 (ix2 t l) : EReal) = mixed (at2 x0) (at3 x1) t.val (256 * 3 + l.val) := by
  rw [mixedOps3, mixed_group _ _ _ _ _ l.isLt]
  refine Finset.sum_congr rfl fun x _ => ?_
  rw [pooled3 x0 hu, at3_mk x1]
  rfl

theorem dmixOps3 (x2 : FVec Ideal S1024 .f32) (x3 : FVec Ideal S4096x1024 .f32) (t : Fin 4096) (x : Fin 256) :
    (val_main_v100 (F := Ideal) x2 x3 (ix2 t x) : EReal) = x3 (ix2 t ⟨768 + x.val, by have := x.isLt; omega⟩) * x2 (ix1 ⟨768 + x.val, by have := x.isLt; omega⟩) := by
  pointwise [val_main_v100, val_main_v95, val_main_v94, val_main_v88]

theorem dmix3 (x2 : FVec Ideal S1024 .f32) (x3 : FVec Ideal S4096x1024 .f32) (t : Fin 4096) (x : Fin 256) :
    (val_main_v100 (F := Ideal) x2 x3 (ix2 t x) : EReal) = dmix (at2 x3) (at1 x2) t.val (256 * 3 + x.val) := by
  rw [dmixOps3, at2_mk x3, at1_mk x2]
  rfl

theorem dpoolOps3 (x1 : FVec Ideal S4x256x256 .f32) (x2 : FVec Ideal S1024 .f32) (x3 : FVec Ideal S4096x1024 .f32) (t : Fin 4096) (c : Fin 256) :
    (val_main_v103 (F := Ideal) x1 x2 x3 (ix2 t c) : EReal) = ∑ x : Fin 256, (val_main_v100 (F := Ideal) x2 x3 (ix2 t x) : EReal) * x1 (ix3 3 c x) := by
  pointwise [val_main_v103, val_main_v85, val_main_v84]

/-- The pooled value's cotangent. -/
theorem dpool3 (x1 : FVec Ideal S4x256x256 .f32) (x2 : FVec Ideal S1024 .f32) (x3 : FVec Ideal S4096x1024 .f32) (t : Fin 4096) (c : Fin 256) :
    (val_main_v103 (F := Ideal) x1 x2 x3 (ix2 t c) : EReal) = dpool (at2 x3) (at1 x2) (at3 x1) t.val (256 * 3 + c.val) := by
  rw [dpoolOps3, dpool_group _ _ _ _ _ _ c.isLt]
  refine Finset.sum_congr rfl fun x _ => ?_
  rw [dmix3, at3_mk x1]
  rfl

theorem dentryOps3 (x1 : FVec Ideal S4x256x256 .f32) (x2 : FVec Ideal S1024 .f32) (x3 : FVec Ideal S4096x1024 .f32) (t : Fin 4096) (c : Fin 256) :
    (val_main_v115 (F := Ideal) x1 x2 x3 (ix2 t c) : EReal)
      = Ideal.div (val_main_v103 (F := Ideal) x1 x2 x3 (ix2 t c)) (val_main_v77 (F := Ideal) (ix2 t 0))
        + if h : 16 + t.val < 4096 then
            -Ideal.div (val_main_v103 (F := Ideal) x1 x2 x3 (ix2 ⟨16 + t.val, h⟩ c)) (val_main_v77 (F := Ideal) (ix2 ⟨16 + t.val, h⟩ 0))
          else 0 := by
  pointwise [val_main_v115, val_main_v110, val_main_v109, val_main_v114, val_main_v112, val_main_v111, val_main_cst_18]

/-- What enters the running sum's cotangent. -/
theorem dentry3 (x1 : FVec Ideal S4x256x256 .f32) (x2 : FVec Ideal S1024 .f32) (x3 : FVec Ideal S4096x1024 .f32) (t : Fin 4096) (c : Fin 256) :
    (val_main_v115 (F := Ideal) x1 x2 x3 (ix2 t c) : EReal) = dentry (at2 x3) (at1 x2) (at3 x1) t.val (256 * 3 + c.val) := by
  unfold dentry dmean
  rw [dentryOps3, show wlen (256 * 3 + c.val) = 16 from wlen_group 3 c.val c.isLt, dpool3, count3]
  refine congrArg (fun z => Ideal.div _ _ + z) ?_
  by_cases h : 16 + t.val < 4096
  · rw [dif_pos h, if_pos h, dpool3, count3]
  · rw [dif_neg h, if_neg h]

theorem dweightOps3 (x0 : FVec Ideal S4096x1024 .f32) (x2 : FVec Ideal S1024 .f32) (x3 : FVec Ideal S4096x1024 .f32) (a c : Fin 256) :
    (val_main_v102 (F := Ideal) x0 x2 x3 (ix2 a c) : EReal)
      = ∑ x : Fin 4096, (val_main_v100 (F := Ideal) x2 x3 (ix2 x c) : EReal) * (val_main_v83 (F := Ideal) x0 (ix2 x a) : EReal) := by
  pointwise [val_main_v102, val_main_v101]

/-- The mixing matrix's cotangent. -/
theorem dweight3 (x0 : FVec Ideal S4096x1024 .f32) (x2 : FVec Ideal S1024 .f32) (x3 : FVec Ideal S4096x1024 .f32) (hu : ∀ t l, Fin' (at2 x0 t l)) (a c : Fin 256) :
    (val_main_v102 (F := Ideal) x0 x2 x3 (ix2 a c) : EReal) = ∑ b ∈ Finset.range 16, dweightBlk (at2 x0) (at2 x3) (at1 x2) b 3 a.val c.val := by
  rw [dweightOps3]
  unfold dweightBlk
  rw [← sum_steps (fun t => pooled (at2 x0) t (256 * 3 + a.val) * dmix (at2 x3) (at1 x2) t (256 * 3 + c.val))]
  refine Finset.sum_congr rfl fun x _ => ?_
  rw [dmix3, pooled3 x0 hu, mul_comm]

/-! Group 2, windows of 8 steps. -/

theorem count2 (t : Fin 4096) : (val_main_v56 (F := Ideal) (ix2 t 0) : EReal) = cnt 8 t.val := by
  have h : (val_main_v56 (F := Ideal) (ix2 t 0) : EReal) = FloatOps.sitofp (F := Ideal) .f32 (IntOp.minsi (IntOp.addi (BitVec.ofNat 32 t.val) 1#32) 8#32) := by
    pointwise [val_main_v56, val_main_v55, val_main_v54, val_main_v52, val_main_v2, val_main_v51, val_main_c_8, val_main_v53, val_main_c_9]
  rw [h]
  have := t.isLt
  exact cnt_word t.val 8 (by omega) (by omega)

theorem pooledOps2 (x0 : FVec Ideal S4096x1024 .f32) (t : Fin 4096) (c : Fin 256) :
    (val_main_v62 (F := Ideal) x0 (ix2 t c) : EReal)
      = Ideal.div ((val_main_v1 (F := Ideal) x0 (ix3 t 2 c) : EReal)
          - if h : t.val < 8 then 0 else (val_main_v1 (F := Ideal) x0 (ix3 ⟨t.val - 8, by have := t.isLt; omega⟩ 2 c) : EReal)) (val_main_v56 (F := Ideal) (ix2 t 0))
        - x0 (ix2 t ⟨512 + c.val, by have := c.isLt; omega⟩) := by
  pointwise [val_main_v62, val_main_v59, val_main_v57, val_main_v46, val_main_v45, val_main_v50, val_main_v48, val_main_v47, val_main_cst_6, val_main_v58, val_main_v61, val_main_v60, val_main_v0]

/-- The pooled value. -/
theorem pooled2 (x0 : FVec Ideal S4096x1024 .f32) (hu : ∀ t l, Fin' (at2 x0 t l)) (t : Fin 4096) (c : Fin 256) :
    (val_main_v62 (F := Ideal) x0 (ix2 t c) : EReal) = pooled (at2 x0) t.val (256 * 2 + c.val) := by
  rw [pooledOps2, v1_at, count2, at2_mk x0, pooled_group (at2 x0) hu t.val 2 c.val 8 c.isLt rfl]
  have e : (if h : t.val < 8 then (0 : EReal) else (val_main_v1 (F := Ideal) x0 (ix3 ⟨t.val - 8, by have := t.isLt; omega⟩ 2 c) : EReal))
      = if t.val < 8 then 0 else ∑ k ∈ Finset.range (t.val - 8 + 1), at2 x0 k (256 * 2 + c.val) := by
    split
    · rfl
    · exact v1_at x0 _ 2 c
  rw [e]
  rfl

theorem mixedOps2 (x0 : FVec Ideal S4096x1024 .f32) (x1 : FVec Ideal S4x256x256 .f32) (t : Fin 4096) (l : Fin 256) :
    (val_main_v65 (F := Ideal) x0 x1 (ix2 t l) : EReal) = ∑ x : Fin 256, (val_main_v62 (F := Ideal) x0 (ix2 t x) : EReal) * x1 (ix3 2 x l) := by
  pointwise [val_main_v65, val_main_v64, val_main_v63]

/-- The pooled row times the group's matrix. -/
theorem mixed2 (x0 : FVec Ideal S4096x1024 .f32) (x1 : FVec Ideal S4x256x256 .f32) (hu : ∀ t l, Fin' (at2 x0 t l)) (t : Fin 4096) (l : Fin 256) :
    (val_main_v65 (F := Ideal) x0 x1 (ix2 t l) : EReal) = mixed (at2 x0) (at3 x1) t.val (256 * 2 + l.val) := by
  rw [mixedOps2, mixed_group _ _ _ _ _ l.isLt]
  refine Finset.sum_congr rfl fun x _ => ?_
  rw [pooled2 x0 hu, at3_mk x1]
  rfl

theorem dmixOps2 (x2 : FVec Ideal S1024 .f32) (x3 : FVec Ideal S4096x1024 .f32) (t : Fin 4096) (x : Fin 256) :
    (val_main_v99 (F := Ideal) x2 x3 (ix2 t x) : EReal) = x3 (ix2 t ⟨512 + x.val, by have := x.isLt; omega⟩) * x2 (ix1 ⟨512 + x.val, by have := x.isLt; omega⟩) := by
  pointwise [val_main_v99, val_main_v95, val_main_v94, val_main_v88]

theorem dmix2 (x2 : FVec Ideal S1024 .f32) (x3 : FVec Ideal S4096x1024 .f32) (t : Fin 4096) (x : Fin 256) :
    (val_main_v99 (F := Ideal) x2 x3 (ix2 t x) : EReal) = dmix (at2 x3) (at1 x2) t.val (256 * 2 + x.val) := by
  rw [dmixOps2, at2_mk x3, at1_mk x2]
  rfl

theorem dpoolOps2 (x1 : FVec Ideal S4x256x256 .f32) (x2 : FVec Ideal S1024 .f32) (x3 : FVec Ideal S4096x1024 .f32) (t : Fin 4096) (c : Fin 256) :
    (val_main_v120 (F := Ideal) x1 x2 x3 (ix2 t c) : EReal) = ∑ x : Fin 256, (val_main_v99 (F := Ideal) x2 x3 (ix2 t x) : EReal) * x1 (ix3 2 c x) := by
  pointwise [val_main_v120, val_main_v64, val_main_v63]

/-- The pooled value's cotangent. -/
theorem dpool2 (x1 : FVec Ideal S4x256x256 .f32) (x2 : FVec Ideal S1024 .f32) (x3 : FVec Ideal S4096x1024 .f32) (t : Fin 4096) (c : Fin 256) :
    (val_main_v120 (F := Ideal) x1 x2 x3 (ix2 t c) : EReal) = dpool (at2 x3) (at1 x2) (at3 x1) t.val (256 * 2 + c.val) := by
  rw [dpoolOps2, dpool_group _ _ _ _ _ _ c.isLt]
  refine Finset.sum_congr rfl fun x _ => ?_
  rw [dmix2, at3_mk x1]
  rfl

theorem dentryOps2 (x1 : FVec Ideal S4x256x256 .f32) (x2 : FVec Ideal S1024 .f32) (x3 : FVec Ideal S4096x1024 .f32) (t : Fin 4096) (c : Fin 256) :
    (val_main_v134 (F := Ideal) x1 x2 x3 (ix2 t c) : EReal)
      = Ideal.div (val_main_v120 (F := Ideal) x1 x2 x3 (ix2 t c)) (val_main_v56 (F := Ideal) (ix2 t 0))
        + if h : 8 + t.val < 4096 then
            -Ideal.div (val_main_v120 (F := Ideal) x1 x2 x3 (ix2 ⟨8 + t.val, h⟩ c)) (val_main_v56 (F := Ideal) (ix2 ⟨8 + t.val, h⟩ 0))
          else 0 := by
  pointwise [val_main_v134, val_main_v129, val_main_v128, val_main_v133, val_main_v131, val_main_v130, val_main_cst_22]

/-- What enters the running sum's cotangent. -/
theorem dentry2 (x1 : FVec Ideal S4x256x256 .f32) (x2 : FVec Ideal S1024 .f32) (x3 : FVec Ideal S4096x1024 .f32) (t : Fin 4096) (c : Fin 256) :
    (val_main_v134 (F := Ideal) x1 x2 x3 (ix2 t c) : EReal) = dentry (at2 x3) (at1 x2) (at3 x1) t.val (256 * 2 + c.val) := by
  unfold dentry dmean
  rw [dentryOps2, show wlen (256 * 2 + c.val) = 8 from wlen_group 2 c.val c.isLt, dpool2, count2]
  refine congrArg (fun z => Ideal.div _ _ + z) ?_
  by_cases h : 8 + t.val < 4096
  · rw [dif_pos h, if_pos h, dpool2, count2]
  · rw [dif_neg h, if_neg h]

theorem dweightOps2 (x0 : FVec Ideal S4096x1024 .f32) (x2 : FVec Ideal S1024 .f32) (x3 : FVec Ideal S4096x1024 .f32) (a c : Fin 256) :
    (val_main_v119 (F := Ideal) x0 x2 x3 (ix2 a c) : EReal)
      = ∑ x : Fin 4096, (val_main_v99 (F := Ideal) x2 x3 (ix2 x c) : EReal) * (val_main_v62 (F := Ideal) x0 (ix2 x a) : EReal) := by
  pointwise [val_main_v119, val_main_v118]

/-- The mixing matrix's cotangent. -/
theorem dweight2 (x0 : FVec Ideal S4096x1024 .f32) (x2 : FVec Ideal S1024 .f32) (x3 : FVec Ideal S4096x1024 .f32) (hu : ∀ t l, Fin' (at2 x0 t l)) (a c : Fin 256) :
    (val_main_v119 (F := Ideal) x0 x2 x3 (ix2 a c) : EReal) = ∑ b ∈ Finset.range 16, dweightBlk (at2 x0) (at2 x3) (at1 x2) b 2 a.val c.val := by
  rw [dweightOps2]
  unfold dweightBlk
  rw [← sum_steps (fun t => pooled (at2 x0) t (256 * 2 + a.val) * dmix (at2 x3) (at1 x2) t (256 * 2 + c.val))]
  refine Finset.sum_congr rfl fun x _ => ?_
  rw [dmix2, pooled2 x0 hu, mul_comm]

/-! Group 1, windows of 4 steps. -/

theorem count1 (t : Fin 4096) : (val_main_v35 (F := Ideal) (ix2 t 0) : EReal) = cnt 4 t.val := by
  have h : (val_main_v35 (F := Ideal) (ix2 t 0) : EReal) = FloatOps.sitofp (F := Ideal) .f32 (IntOp.minsi (IntOp.addi (BitVec.ofNat 32 t.val) 1#32) 4#32) := by
    pointwise [val_main_v35, val_main_v34, val_main_v33, val_main_v31, val_main_v2, val_main_v30, val_main_c_4, val_main_v32, val_main_c_5]
  rw [h]
  have := t.isLt
  exact cnt_word t.val 4 (by omega) (by omega)

theorem pooledOps1 (x0 : FVec Ideal S4096x1024 .f32) (t : Fin 4096) (c : Fin 256) :
    (val_main_v41 (F := Ideal) x0 (ix2 t c) : EReal)
      = Ideal.div ((val_main_v1 (F := Ideal) x0 (ix3 t 1 c) : EReal)
          - if h : t.val < 4 then 0 else (val_main_v1 (F := Ideal) x0 (ix3 ⟨t.val - 4, by have := t.isLt; omega⟩ 1 c) : EReal)) (val_main_v35 (F := Ideal) (ix2 t 0))
        - x0 (ix2 t ⟨256 + c.val, by have := c.isLt; omega⟩) := by
  pointwise [val_main_v41, val_main_v38, val_main_v36, val_main_v25, val_main_v24, val_main_v29, val_main_v27, val_main_v26, val_main_cst_2, val_main_v37, val_main_v40, val_main_v39, val_main_v0]

/-- The pooled value. -/
theorem pooled1 (x0 : FVec Ideal S4096x1024 .f32) (hu : ∀ t l, Fin' (at2 x0 t l)) (t : Fin 4096) (c : Fin 256) :
    (val_main_v41 (F := Ideal) x0 (ix2 t c) : EReal) = pooled (at2 x0) t.val (256 * 1 + c.val) := by
  rw [pooledOps1, v1_at, count1, at2_mk x0, pooled_group (at2 x0) hu t.val 1 c.val 4 c.isLt rfl]
  have e : (if h : t.val < 4 then (0 : EReal) else (val_main_v1 (F := Ideal) x0 (ix3 ⟨t.val - 4, by have := t.isLt; omega⟩ 1 c) : EReal))
      = if t.val < 4 then 0 else ∑ k ∈ Finset.range (t.val - 4 + 1), at2 x0 k (256 * 1 + c.val) := by
    split
    · rfl
    · exact v1_at x0 _ 1 c
  rw [e]
  rfl

theorem mixedOps1 (x0 : FVec Ideal S4096x1024 .f32) (x1 : FVec Ideal S4x256x256 .f32) (t : Fin 4096) (l : Fin 256) :
    (val_main_v44 (F := Ideal) x0 x1 (ix2 t l) : EReal) = ∑ x : Fin 256, (val_main_v41 (F := Ideal) x0 (ix2 t x) : EReal) * x1 (ix3 1 x l) := by
  pointwise [val_main_v44, val_main_v43, val_main_v42]

/-- The pooled row times the group's matrix. -/
theorem mixed1 (x0 : FVec Ideal S4096x1024 .f32) (x1 : FVec Ideal S4x256x256 .f32) (hu : ∀ t l, Fin' (at2 x0 t l)) (t : Fin 4096) (l : Fin 256) :
    (val_main_v44 (F := Ideal) x0 x1 (ix2 t l) : EReal) = mixed (at2 x0) (at3 x1) t.val (256 * 1 + l.val) := by
  rw [mixedOps1, mixed_group _ _ _ _ _ l.isLt]
  refine Finset.sum_congr rfl fun x _ => ?_
  rw [pooled1 x0 hu, at3_mk x1]
  rfl

theorem dmixOps1 (x2 : FVec Ideal S1024 .f32) (x3 : FVec Ideal S4096x1024 .f32) (t : Fin 4096) (x : Fin 256) :
    (val_main_v98 (F := Ideal) x2 x3 (ix2 t x) : EReal) = x3 (ix2 t ⟨256 + x.val, by have := x.isLt; omega⟩) * x2 (ix1 ⟨256 + x.val, by have := x.isLt; omega⟩) := by
  pointwise [val_main_v98, val_main_v95, val_main_v94, val_main_v88]

theorem dmix1 (x2 : FVec Ideal S1024 .f32) (x3 : FVec Ideal S4096x1024 .f32) (t : Fin 4096) (x : Fin 256) :
    (val_main_v98 (F := Ideal) x2 x3 (ix2 t x) : EReal) = dmix (at2 x3) (at1 x2) t.val (256 * 1 + x.val) := by
  rw [dmixOps1, at2_mk x3, at1_mk x2]
  rfl

theorem dpoolOps1 (x1 : FVec Ideal S4x256x256 .f32) (x2 : FVec Ideal S1024 .f32) (x3 : FVec Ideal S4096x1024 .f32) (t : Fin 4096) (c : Fin 256) :
    (val_main_v140 (F := Ideal) x1 x2 x3 (ix2 t c) : EReal) = ∑ x : Fin 256, (val_main_v98 (F := Ideal) x2 x3 (ix2 t x) : EReal) * x1 (ix3 1 c x) := by
  pointwise [val_main_v140, val_main_v43, val_main_v42]

/-- The pooled value's cotangent. -/
theorem dpool1 (x1 : FVec Ideal S4x256x256 .f32) (x2 : FVec Ideal S1024 .f32) (x3 : FVec Ideal S4096x1024 .f32) (t : Fin 4096) (c : Fin 256) :
    (val_main_v140 (F := Ideal) x1 x2 x3 (ix2 t c) : EReal) = dpool (at2 x3) (at1 x2) (at3 x1) t.val (256 * 1 + c.val) := by
  rw [dpoolOps1, dpool_group _ _ _ _ _ _ c.isLt]
  refine Finset.sum_congr rfl fun x _ => ?_
  rw [dmix1, at3_mk x1]
  rfl

theorem dentryOps1 (x1 : FVec Ideal S4x256x256 .f32) (x2 : FVec Ideal S1024 .f32) (x3 : FVec Ideal S4096x1024 .f32) (t : Fin 4096) (c : Fin 256) :
    (val_main_v154 (F := Ideal) x1 x2 x3 (ix2 t c) : EReal)
      = Ideal.div (val_main_v140 (F := Ideal) x1 x2 x3 (ix2 t c)) (val_main_v35 (F := Ideal) (ix2 t 0))
        + if h : 4 + t.val < 4096 then
            -Ideal.div (val_main_v140 (F := Ideal) x1 x2 x3 (ix2 ⟨4 + t.val, h⟩ c)) (val_main_v35 (F := Ideal) (ix2 ⟨4 + t.val, h⟩ 0))
          else 0 := by
  pointwise [val_main_v154, val_main_v149, val_main_v148, val_main_v153, val_main_v151, val_main_v150, val_main_cst_26]

/-- What enters the running sum's cotangent. -/
theorem dentry1 (x1 : FVec Ideal S4x256x256 .f32) (x2 : FVec Ideal S1024 .f32) (x3 : FVec Ideal S4096x1024 .f32) (t : Fin 4096) (c : Fin 256) :
    (val_main_v154 (F := Ideal) x1 x2 x3 (ix2 t c) : EReal) = dentry (at2 x3) (at1 x2) (at3 x1) t.val (256 * 1 + c.val) := by
  unfold dentry dmean
  rw [dentryOps1, show wlen (256 * 1 + c.val) = 4 from wlen_group 1 c.val c.isLt, dpool1, count1]
  refine congrArg (fun z => Ideal.div _ _ + z) ?_
  by_cases h : 4 + t.val < 4096
  · rw [dif_pos h, if_pos h, dpool1, count1]
  · rw [dif_neg h, if_neg h]

theorem dweightOps1 (x0 : FVec Ideal S4096x1024 .f32) (x2 : FVec Ideal S1024 .f32) (x3 : FVec Ideal S4096x1024 .f32) (a c : Fin 256) :
    (val_main_v139 (F := Ideal) x0 x2 x3 (ix2 a c) : EReal)
      = ∑ x : Fin 4096, (val_main_v98 (F := Ideal) x2 x3 (ix2 x c) : EReal) * (val_main_v41 (F := Ideal) x0 (ix2 x a) : EReal) := by
  pointwise [val_main_v139, val_main_v138]

/-- The mixing matrix's cotangent. -/
theorem dweight1 (x0 : FVec Ideal S4096x1024 .f32) (x2 : FVec Ideal S1024 .f32) (x3 : FVec Ideal S4096x1024 .f32) (hu : ∀ t l, Fin' (at2 x0 t l)) (a c : Fin 256) :
    (val_main_v139 (F := Ideal) x0 x2 x3 (ix2 a c) : EReal) = ∑ b ∈ Finset.range 16, dweightBlk (at2 x0) (at2 x3) (at1 x2) b 1 a.val c.val := by
  rw [dweightOps1]
  unfold dweightBlk
  rw [← sum_steps (fun t => pooled (at2 x0) t (256 * 1 + a.val) * dmix (at2 x3) (at1 x2) t (256 * 1 + c.val))]
  refine Finset.sum_congr rfl fun x _ => ?_
  rw [dmix1, pooled1 x0 hu, mul_comm]

/-! Group 0, windows of 2 steps. -/

theorem count0 (t : Fin 4096) : (val_main_v14 (F := Ideal) (ix2 t 0) : EReal) = cnt 2 t.val := by
  have h : (val_main_v14 (F := Ideal) (ix2 t 0) : EReal) = FloatOps.sitofp (F := Ideal) .f32 (IntOp.minsi (IntOp.addi (BitVec.ofNat 32 t.val) 1#32) 2#32) := by
    pointwise [val_main_v14, val_main_v13, val_main_v12, val_main_v10, val_main_v2, val_main_v9, val_main_c, val_main_v11, val_main_c_1]
  rw [h]
  have := t.isLt
  exact cnt_word t.val 2 (by omega) (by omega)

theorem pooledOps0 (x0 : FVec Ideal S4096x1024 .f32) (t : Fin 4096) (c : Fin 256) :
    (val_main_v20 (F := Ideal) x0 (ix2 t c) : EReal)
      = Ideal.div ((val_main_v1 (F := Ideal) x0 (ix3 t 0 c) : EReal)
          - if h : t.val < 2 then 0 else (val_main_v1 (F := Ideal) x0 (ix3 ⟨t.val - 2, by have := t.isLt; omega⟩ 0 c) : EReal)) (val_main_v14 (F := Ideal) (ix2 t 0))
        - x0 (ix2 t ⟨c.val, by have := c.isLt; omega⟩) := by
  pointwise [val_main_v20, val_main_v17, val_main_v15, val_main_v4, val_main_v3, val_main_v8, val_main_v6, val_main_v5, val_main_cst, val_main_v16, val_main_v19, val_main_v18, val_main_v0]

/-- The pooled value. -/
theorem pooled0 (x0 : FVec Ideal S4096x1024 .f32) (hu : ∀ t l, Fin' (at2 x0 t l)) (t : Fin 4096) (c : Fin 256) :
    (val_main_v20 (F := Ideal) x0 (ix2 t c) : EReal) = pooled (at2 x0) t.val (256 * 0 + c.val) := by
  rw [pooledOps0, v1_at, count0, at2_mk x0, pooled_group (at2 x0) hu t.val 0 c.val 2 c.isLt rfl]
  have e : (if h : t.val < 2 then (0 : EReal) else (val_main_v1 (F := Ideal) x0 (ix3 ⟨t.val - 2, by have := t.isLt; omega⟩ 0 c) : EReal))
      = if t.val < 2 then 0 else ∑ k ∈ Finset.range (t.val - 2 + 1), at2 x0 k (256 * 0 + c.val) := by
    split
    · rfl
    · exact v1_at x0 _ 0 c
  rw [e]
  rw [Nat.mul_zero, Nat.zero_add]; simp only [Fin.val_zero, Nat.mul_zero, Nat.zero_add]

theorem mixedOps0 (x0 : FVec Ideal S4096x1024 .f32) (x1 : FVec Ideal S4x256x256 .f32) (t : Fin 4096) (l : Fin 256) :
    (val_main_v23 (F := Ideal) x0 x1 (ix2 t l) : EReal) = ∑ x : Fin 256, (val_main_v20 (F := Ideal) x0 (ix2 t x) : EReal) * x1 (ix3 0 x l) := by
  pointwise [val_main_v23, val_main_v22, val_main_v21]

/-- The pooled row times the group's matrix. -/
theorem mixed0 (x0 : FVec Ideal S4096x1024 .f32) (x1 : FVec Ideal S4x256x256 .f32) (hu : ∀ t l, Fin' (at2 x0 t l)) (t : Fin 4096) (l : Fin 256) :
    (val_main_v23 (F := Ideal) x0 x1 (ix2 t l) : EReal) = mixed (at2 x0) (at3 x1) t.val (256 * 0 + l.val) := by
  rw [mixedOps0, mixed_group _ _ _ _ _ l.isLt]
  refine Finset.sum_congr rfl fun x _ => ?_
  rw [pooled0 x0 hu, at3_mk x1]
  rfl

theorem dmixOps0 (x2 : FVec Ideal S1024 .f32) (x3 : FVec Ideal S4096x1024 .f32) (t : Fin 4096) (x : Fin 256) :
    (val_main_v97 (F := Ideal) x2 x3 (ix2 t x) : EReal) = x3 (ix2 t ⟨x.val, by have := x.isLt; omega⟩) * x2 (ix1 ⟨x.val, by have := x.isLt; omega⟩) := by
  pointwise [val_main_v97, val_main_v95, val_main_v94, val_main_v88]

theorem dmix0 (x2 : FVec Ideal S1024 .f32) (x3 : FVec Ideal S4096x1024 .f32) (t : Fin 4096) (x : Fin 256) :
    (val_main_v97 (F := Ideal) x2 x3 (ix2 t x) : EReal) = dmix (at2 x3) (at1 x2) t.val (256 * 0 + x.val) := by
  rw [dmixOps0, at2_mk x3, at1_mk x2]
  rw [Nat.mul_zero, Nat.zero_add]; rfl

theorem dpoolOps0 (x1 : FVec Ideal S4x256x256 .f32) (x2 : FVec Ideal S1024 .f32) (x3 : FVec Ideal S4096x1024 .f32) (t : Fin 4096) (c : Fin 256) :
    (val_main_v160 (F := Ideal) x1 x2 x3 (ix2 t c) : EReal) = ∑ x : Fin 256, (val_main_v97 (F := Ideal) x2 x3 (ix2 t x) : EReal) * x1 (ix3 0 c x) := by
  pointwise [val_main_v160, val_main_v22, val_main_v21]

/-- The pooled value's cotangent. -/
theorem dpool0 (x1 : FVec Ideal S4x256x256 .f32) (x2 : FVec Ideal S1024 .f32) (x3 : FVec Ideal S4096x1024 .f32) (t : Fin 4096) (c : Fin 256) :
    (val_main_v160 (F := Ideal) x1 x2 x3 (ix2 t c) : EReal) = dpool (at2 x3) (at1 x2) (at3 x1) t.val (256 * 0 + c.val) := by
  rw [dpoolOps0, dpool_group _ _ _ _ _ _ c.isLt]
  refine Finset.sum_congr rfl fun x _ => ?_
  rw [dmix0, at3_mk x1]
  rfl

theorem dentryOps0 (x1 : FVec Ideal S4x256x256 .f32) (x2 : FVec Ideal S1024 .f32) (x3 : FVec Ideal S4096x1024 .f32) (t : Fin 4096) (c : Fin 256) :
    (val_main_v174 (F := Ideal) x1 x2 x3 (ix2 t c) : EReal)
      = Ideal.div (val_main_v160 (F := Ideal) x1 x2 x3 (ix2 t c)) (val_main_v14 (F := Ideal) (ix2 t 0))
        + if h : 2 + t.val < 4096 then
            -Ideal.div (val_main_v160 (F := Ideal) x1 x2 x3 (ix2 ⟨2 + t.val, h⟩ c)) (val_main_v14 (F := Ideal) (ix2 ⟨2 + t.val, h⟩ 0))
          else 0 := by
  pointwise [val_main_v174, val_main_v169, val_main_v168, val_main_v173, val_main_v171, val_main_v170, val_main_cst_30]

/-- What enters the running sum's cotangent. -/
theorem dentry0 (x1 : FVec Ideal S4x256x256 .f32) (x2 : FVec Ideal S1024 .f32) (x3 : FVec Ideal S4096x1024 .f32) (t : Fin 4096) (c : Fin 256) :
    (val_main_v174 (F := Ideal) x1 x2 x3 (ix2 t c) : EReal) = dentry (at2 x3) (at1 x2) (at3 x1) t.val (256 * 0 + c.val) := by
  unfold dentry dmean
  rw [dentryOps0, show wlen (256 * 0 + c.val) = 2 from wlen_group 0 c.val c.isLt, dpool0, count0]
  refine congrArg (fun z => Ideal.div _ _ + z) ?_
  by_cases h : 2 + t.val < 4096
  · rw [dif_pos h, if_pos h, dpool0, count0]
  · rw [dif_neg h, if_neg h]

theorem dweightOps0 (x0 : FVec Ideal S4096x1024 .f32) (x2 : FVec Ideal S1024 .f32) (x3 : FVec Ideal S4096x1024 .f32) (a c : Fin 256) :
    (val_main_v159 (F := Ideal) x0 x2 x3 (ix2 a c) : EReal)
      = ∑ x : Fin 4096, (val_main_v97 (F := Ideal) x2 x3 (ix2 x c) : EReal) * (val_main_v20 (F := Ideal) x0 (ix2 x a) : EReal) := by
  pointwise [val_main_v159, val_main_v158]

/-- The mixing matrix's cotangent. -/
theorem dweight0 (x0 : FVec Ideal S4096x1024 .f32) (x2 : FVec Ideal S1024 .f32) (x3 : FVec Ideal S4096x1024 .f32) (hu : ∀ t l, Fin' (at2 x0 t l)) (a c : Fin 256) :
    (val_main_v159 (F := Ideal) x0 x2 x3 (ix2 a c) : EReal) = ∑ b ∈ Finset.range 16, dweightBlk (at2 x0) (at2 x3) (at1 x2) b 0 a.val c.val := by
  rw [dweightOps0]
  unfold dweightBlk
  rw [← sum_steps (fun t => pooled (at2 x0) t (256 * 0 + a.val) * dmix (at2 x3) (at1 x2) t (256 * 0 + c.val))]
  refine Finset.sum_congr rfl fun x _ => ?_
  rw [dmix0, pooled0 x0 hu, mul_comm]

end Cert.ReferenceIdeal.Pool

end
-- ==== Proof.Pool.RefValue.lean ====
module

public import proofs.«01_k».proof.Proof.Pool.RefGroup

@[expose] public section

set_option maxRecDepth 16384

noncomputable section

/-!
  The reference's three results at an element, where the arguments are real numbers.
-/

namespace Cert.ReferenceIdeal.Pool

open Idealize.ShloMosaic Cert.ReferenceIdeal Cert.ReferenceIdeal.Gen Cert.ReferenceIdeal.Read _root_.Pool

theorem joinOps (x0 : FVec Ideal S4096x1024 .f32) (x1 : FVec Ideal S4x256x256 .f32) (t : Fin 4096) (l : Fin 1024) :
    (val_main_v87 (F := Ideal) x0 x1 (ix2 t l) : EReal)
      = if h : l.val < 256 then val_main_v23 (F := Ideal) x0 x1 (ix2 t ⟨l.val, h⟩)
        else if h : l.val - 256 < 256 then val_main_v44 (F := Ideal) x0 x1 (ix2 t ⟨l.val - 256, h⟩)
        else if h : l.val - 256 - 256 < 256 then val_main_v65 (F := Ideal) x0 x1 (ix2 t ⟨l.val - 256 - 256, h⟩)
        else val_main_v86 (F := Ideal) x0 x1 (ix2 t ⟨l.val - 256 - 256 - 256, by have := l.isLt; omega⟩) := by
  pointwise [val_main_v87]

/-- The groups side by side. -/
theorem join (x0 : FVec Ideal S4096x1024 .f32) (x1 : FVec Ideal S4x256x256 .f32) (hu : ∀ t l, Fin' (at2 x0 t l)) (t : Fin 4096) (l : Fin 1024) :
    (val_main_v87 (F := Ideal) x0 x1 (ix2 t l) : EReal) = mixed (at2 x0) (at3 x1) t.val l.val := by
  rw [joinOps]
  by_cases h0 : l.val < 256
  · rw [dif_pos h0, mixed0 x0 x1 hu]
    exact congrArg (mixed _ _ _) (by show 256 * 0 + l.val = l.val; omega)
  · rw [dif_neg h0]
    by_cases h1 : l.val - 256 < 256
    · rw [dif_pos h1, mixed1 x0 x1 hu]
      exact congrArg (mixed _ _ _) (by show 256 * 1 + (l.val - 256) = l.val; omega)
    · rw [dif_neg h1]
      by_cases h2 : l.val - 256 - 256 < 256
      · rw [dif_pos h2, mixed2 x0 x1 hu]
        exact congrArg (mixed _ _ _) (by show 256 * 2 + (l.val - 256 - 256) = l.val; omega)
      · rw [dif_neg h2, mixed3 x0 x1 hu]
        exact congrArg (mixed _ _ _) (by show 256 * 3 + (l.val - 256 - 256 - 256) = l.val; omega)

theorem scaleOps (x0 : FVec Ideal S4096x1024 .f32) (x1 : FVec Ideal S4x256x256 .f32) (x3 : FVec Ideal S4096x1024 .f32) (l : Fin 1024) :
    (val_main_v96 (F := Ideal) x0 x1 x3 (ix1 l) : EReal)
      = ∑ _x : Fin 1, ∑ x : Fin 4096, (val_main_v87 (F := Ideal) x0 x1 (ix2 x l) : EReal) * x3 (ix2 x l) := by
  pointwise [val_main_v96, val_main_v93, val_main_v92, val_main_v91, val_main_cst_14, val_main_cst_15]

/-- The scale's cotangent. -/
theorem scaleGrad (x0 : FVec Ideal S4096x1024 .f32) (x1 : FVec Ideal S4x256x256 .f32) (x3 : FVec Ideal S4096x1024 .f32) (hu : ∀ t l, Fin' (at2 x0 t l)) (l : Fin 1024) :
    (val_main_v96 (F := Ideal) x0 x1 x3 (ix1 l) : EReal) = ∑ b ∈ Finset.range 16, dscaleBlk (at2 x0) (at2 x3) (at3 x1) b l.val := by
  rw [scaleOps, Fin.sum_univ_one]
  unfold dscaleBlk
  rw [← sum_steps (fun t => at2 x3 t l.val * mixed (at2 x0) (at3 x1) t l.val)]
  refine Finset.sum_congr rfl fun x _ => ?_
  rw [join x0 x1 hu, ← at2_apply x3, mul_comm]

theorem weightOps (x0 : FVec Ideal S4096x1024 .f32) (x2 : FVec Ideal S1024 .f32) (x3 : FVec Ideal S4096x1024 .f32) (g : Fin 4) (a d : Fin 256) :
    (val_main_v163 (F := Ideal) x0 x2 x3 (ix3 g a d) : EReal)
      = (((if _h : 3 ≤ g.val ∧ g.val - 3 < 1 then (val_main_v102 (F := Ideal) x0 x2 x3 (ix2 a d) : EReal) else 0)
        + if _h : 2 ≤ g.val ∧ g.val - 2 < 1 then (val_main_v119 (F := Ideal) x0 x2 x3 (ix2 a d) : EReal) else 0)
        + if _h : 1 ≤ g.val ∧ g.val - 1 < 1 then (val_main_v139 (F := Ideal) x0 x2 x3 (ix2 a d) : EReal) else 0)
        + if _h : g.val < 1 then (val_main_v159 (F := Ideal) x0 x2 x3 (ix2 a d) : EReal) else 0 := by
  pointwise [val_main_v163, val_main_v143, val_main_v123, val_main_v105, val_main_v104, val_main_cst_16, val_main_v122, val_main_v121, val_main_cst_20, val_main_v142, val_main_v141, val_main_cst_24, val_main_v162, val_main_v161, val_main_cst_28]

/-- The mixing matrices' cotangent. -/
theorem weightGrad (x0 : FVec Ideal S4096x1024 .f32) (x2 : FVec Ideal S1024 .f32) (x3 : FVec Ideal S4096x1024 .f32) (hu : ∀ t l, Fin' (at2 x0 t l)) (g : Fin 4) (a d : Fin 256) :
    (val_main_v163 (F := Ideal) x0 x2 x3 (ix3 g a d) : EReal)
      = ∑ b ∈ Finset.range 16, dweightBlk (at2 x0) (at2 x3) (at1 x2) b g.val a.val d.val := by
  have hg := g.isLt
  have hcase : g.val = 0 ∨ g.val = 1 ∨ g.val = 2 ∨ g.val = 3 := by omega
  rcases hcase with h | h | h | h
  · obtain rfl : g = 0 := Fin.ext h
    rw [weightOps, dif_neg (by decide), dif_neg (by decide), dif_neg (by decide), dif_pos (by decide)]
    simp only [zero_add, add_zero]
    exact dweight0 x0 x2 x3 hu a d
  · obtain rfl : g = 1 := Fin.ext h
    rw [weightOps, dif_neg (by decide), dif_neg (by decide), dif_pos (by decide), dif_neg (by decide)]
    simp only [zero_add, add_zero]
    exact dweight1 x0 x2 x3 hu a d
  · obtain rfl : g = 2 := Fin.ext h
    rw [weightOps, dif_neg (by decide), dif_pos (by decide), dif_neg (by decide), dif_neg (by decide)]
    simp only [zero_add, add_zero]
    exact dweight2 x0 x2 x3 hu a d
  · obtain rfl : g = 3 := Fin.ext h
    rw [weightOps, dif_pos (by decide), dif_neg (by decide), dif_neg (by decide), dif_neg (by decide)]
    simp only [zero_add, add_zero]
    exact dweight3 x0 x2 x3 hu a d

theorem lessOps (x1 : FVec Ideal S4x256x256 .f32) (x2 : FVec Ideal S1024 .f32) (x3 : FVec Ideal S4096x1024 .f32) (t : Fin 4096) (g : Fin 4) (c : Fin 256) :
    (val_main_v167 (F := Ideal) x1 x2 x3 (ix3 t g c) : EReal)
      = (((if _h : 3 ≤ g.val ∧ g.val - 3 < 1 then -(val_main_v103 (F := Ideal) x1 x2 x3 (ix2 t c) : EReal) else 0)
        + if _h : 2 ≤ g.val ∧ g.val - 2 < 1 then -(val_main_v120 (F := Ideal) x1 x2 x3 (ix2 t c) : EReal) else 0)
        + if _h : 1 ≤ g.val ∧ g.val - 1 < 1 then -(val_main_v140 (F := Ideal) x1 x2 x3 (ix2 t c) : EReal) else 0)
        + if _h : g.val < 1 then -(val_main_v160 (F := Ideal) x1 x2 x3 (ix2 t c) : EReal) else 0 := by
  pointwise [val_main_v167, val_main_v147, val_main_v127, val_main_v108, val_main_v107, val_main_v106, val_main_cst_17, val_main_v126, val_main_v125, val_main_v124, val_main_cst_21, val_main_v146, val_main_v145, val_main_v144, val_main_cst_25, val_main_v166, val_main_v165, val_main_v164, val_main_cst_29]

/-- What the current step contributes to the input's cotangent. -/
theorem less (x1 : FVec Ideal S4x256x256 .f32) (x2 : FVec Ideal S1024 .f32) (x3 : FVec Ideal S4096x1024 .f32) (t : Fin 4096) (g : Fin 4) (c : Fin 256) :
    (val_main_v167 (F := Ideal) x1 x2 x3 (ix3 t g c) : EReal) = -dpool (at2 x3) (at1 x2) (at3 x1) t.val (256 * g.val + c.val) := by
  have hg := g.isLt
  have hcase : g.val = 0 ∨ g.val = 1 ∨ g.val = 2 ∨ g.val = 3 := by omega
  rcases hcase with h | h | h | h
  · obtain rfl : g = 0 := Fin.ext h
    rw [lessOps, dif_neg (by decide), dif_neg (by decide), dif_neg (by decide), dif_pos (by decide)]
    simp only [zero_add, add_zero]
    exact congrArg Neg.neg (dpool0 x1 x2 x3 t c)
  · obtain rfl : g = 1 := Fin.ext h
    rw [lessOps, dif_neg (by decide), dif_neg (by decide), dif_pos (by decide), dif_neg (by decide)]
    simp only [zero_add, add_zero]
    exact congrArg Neg.neg (dpool1 x1 x2 x3 t c)
  · obtain rfl : g = 2 := Fin.ext h
    rw [lessOps, dif_neg (by decide), dif_pos (by decide), dif_neg (by decide), dif_neg (by decide)]
    simp only [zero_add, add_zero]
    exact congrArg Neg.neg (dpool2 x1 x2 x3 t c)
  · obtain rfl : g = 3 := Fin.ext h
    rw [lessOps, dif_pos (by decide), dif_neg (by decide), dif_neg (by decide), dif_neg (by decide)]
    simp only [zero_add, add_zero]
    exact congrArg Neg.neg (dpool3 x1 x2 x3 t c)

theorem entryOps (x1 : FVec Ideal S4x256x256 .f32) (x2 : FVec Ideal S1024 .f32) (x3 : FVec Ideal S4096x1024 .f32) (t : Fin 4096) (g : Fin 4) (c : Fin 256) :
    (val_main_v177 (F := Ideal) x1 x2 x3 (ix3 t g c) : EReal)
      = (((if _h : 3 ≤ g.val ∧ g.val - 3 < 1 then (val_main_v115 (F := Ideal) x1 x2 x3 (ix2 t c) : EReal) else 0)
        + if _h : 2 ≤ g.val ∧ g.val - 2 < 1 then (val_main_v134 (F := Ideal) x1 x2 x3 (ix2 t c) : EReal) else 0)
        + if _h : 1 ≤ g.val ∧ g.val - 1 < 1 then (val_main_v154 (F := Ideal) x1 x2 x3 (ix2 t c) : EReal) else 0)
        + if _h : g.val < 1 then (val_main_v174 (F := Ideal) x1 x2 x3 (ix2 t c) : EReal) else 0 := by
  pointwise [val_main_v177, val_main_v157, val_main_v137, val_main_v117, val_main_v116, val_main_cst_19, val_main_v136, val_main_v135, val_main_cst_23, val_main_v156, val_main_v155, val_main_cst_27, val_main_v176, val_main_v175, val_main_cst_31]

/-- What enters the reversed running sum. -/
theorem entry (x1 : FVec Ideal S4x256x256 .f32) (x2 : FVec Ideal S1024 .f32) (x3 : FVec Ideal S4096x1024 .f32) (t : Fin 4096) (g : Fin 4) (c : Fin 256) :
    (val_main_v177 (F := Ideal) x1 x2 x3 (ix3 t g c) : EReal) = dentry (at2 x3) (at1 x2) (at3 x1) t.val (256 * g.val + c.val) := by
  have hg := g.isLt
  have hcase : g.val = 0 ∨ g.val = 1 ∨ g.val = 2 ∨ g.val = 3 := by omega
  rcases hcase with h | h | h | h
  · obtain rfl : g = 0 := Fin.ext h
    rw [entryOps, dif_neg (by decide), dif_neg (by decide), dif_neg (by decide), dif_pos (by decide)]
    simp only [zero_add, add_zero]
    exact dentry0 x1 x2 x3 t c
  · obtain rfl : g = 1 := Fin.ext h
    rw [entryOps, dif_neg (by decide), dif_neg (by decide), dif_pos (by decide), dif_neg (by decide)]
    simp only [zero_add, add_zero]
    exact dentry1 x1 x2 x3 t c
  · obtain rfl : g = 2 := Fin.ext h
    rw [entryOps, dif_neg (by decide), dif_pos (by decide), dif_neg (by decide), dif_neg (by decide)]
    simp only [zero_add, add_zero]
    exact dentry2 x1 x2 x3 t c
  · obtain rfl : g = 3 := Fin.ext h
    rw [entryOps, dif_pos (by decide), dif_neg (by decide), dif_neg (by decide), dif_neg (by decide)]
    simp only [zero_add, add_zero]
    exact dentry3 x1 x2 x3 t c

/-- The reversed running sum. -/
theorem ahead (x1 : FVec Ideal S4x256x256 .f32) (x2 : FVec Ideal S1024 .f32) (x3 : FVec Ideal S4096x1024 .f32) (t : Fin 4096) (g : Fin 4) (c : Fin 256) :
    (val_main_v178 (F := Ideal) x1 x2 x3 (ix3 t g c) : EReal)
      = ∑ k ∈ Finset.range (4096 - t.val), dentry (at2 x3) (at1 x2) (at3 x1) (t.val + k) (256 * g.val + c.val) := by
  unfold val_main_v178
  exact cumsumRev_apply _ _ _ _ start1 (fun k => dentry (at2 x3) (at1 x2) (at3 x1) k (256 * g.val + c.val)) t g c (fun s => entry x1 x2 x3 s g c)

/-- The input's cotangent. -/
theorem inputGrad (x1 : FVec Ideal S4x256x256 .f32) (x2 : FVec Ideal S1024 .f32) (x3 : FVec Ideal S4096x1024 .f32) (hct : ∀ t l, Fin' (at2 x3 t l)) (hsc : ∀ l, Fin' (at1 x2 l)) (hW : ∀ g c d, Fin' (at3 x1 g c d))
    (t : Fin 4096) (l : Fin 1024) :
    (val_main_v181 (F := Ideal) x1 x2 x3 (ix2 t l) : EReal) = dinput (at2 x3) (at1 x2) (at3 x1) t.val l.val := by
  have hl := l.isLt
  have ht := t.isLt
  have e : (val_main_v181 (F := Ideal) x1 x2 x3 (ix2 t l) : EReal)
      = (val_main_v167 (F := Ideal) x1 x2 x3 (ix3 t ⟨l.val / 256, by omega⟩ ⟨l.val % 256, by omega⟩) : EReal)
        + val_main_v178 (F := Ideal) x1 x2 x3 (ix3 t ⟨l.val / 256, by omega⟩ ⟨l.val % 256, by omega⟩) := by
    have hi : idx_main_v180 (ix2 t l) = ix3 t ⟨l.val / 256, by omega⟩ ⟨l.val % 256, by omega⟩ := by
      funext a
      refine Fin.ext ?_
      match a with
      | ⟨0, _⟩ => show (t.val * 1024 + l.val) / 1024 = t.val; omega
      | ⟨1, _⟩ => show (t.val * 1024 + l.val) / 256 % 4 = l.val / 256; omega
      | ⟨2, _⟩ => show (t.val * 1024 + l.val) % 256 = l.val % 256; omega
    rw [← hi]
    show (val_main_v180 (F := Ideal) x1 x2 x3 (ix2 t l) : EReal) = _
    rw [val_main_v180_apply]
    rfl
  rw [e, less, ahead]
  have el : 256 * (l.val / 256) + l.val % 256 = l.val := by omega
  show -dpool (at2 x3) (at1 x2) (at3 x1) t.val (256 * (l.val / 256) + l.val % 256)
      + ∑ k ∈ Finset.range (4096 - t.val), dentry (at2 x3) (at1 x2) (at3 x1) (t.val + k) (256 * (l.val / 256) + l.val % 256) = _
  rw [el]
  exact dinput_eq _ _ _ hct hsc hW (fun t l h => at2_beyond x3 t l h) _ _ ht

end Cert.ReferenceIdeal.Pool

end
-- ==== Proof.Pool.Equation.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Pool.KernelValue
public import proofs.«01_k».proof.Proof.Pool.RefValue
public import proofs.«01_k».proof.Proof.Pool.Finite
public import Idealize.ShloMosaic.Lib.Quiescent

@[expose] public section

set_option maxRecDepth 16384

noncomputable section

/-!
  The reference's frame, and the equation of the two programs' results over the extended reals.
-/

namespace Cert.ReferenceIdeal.Pool

open Idealize.ShloMosaic Idealize.SL.Sem Idealize.ShloMosaic.StableHlo
open Cert.ReferenceIdeal Cert.ReferenceIdeal.Gen Cert.ReferenceIdeal.Read

variable (m : (ℓ : Loc nD τ sig) → Buf (Elt Ideal) ℓ) (ρ : Dev nD → PrngReg)

abbrev arg0 (c : Dev nD) : FVec Ideal S4096x1024 .f32 := m ((c.tc : Thread nD τ).loc main_arg0)
abbrev arg1 (c : Dev nD) : FVec Ideal S4x256x256 .f32 := m ((c.tc : Thread nD τ).loc main_arg1)
abbrev arg2 (c : Dev nD) : FVec Ideal S1024 .f32 := m ((c.tc : Thread nD τ).loc main_arg2)
abbrev arg3 (c : Dev nD) : FVec Ideal S4096x1024 .f32 := m ((c.tc : Thread nD τ).loc main_arg3)

/-- The reference runs; its results are its stages, its arguments are unchanged, and every counter ends at zero. -/
theorem run_main : θ_run defs (onTc (τ := τ) (main (F := Ideal))) ⟨m, fun _ => 0, ρ⟩ (fun r => (∀ c : Dev nD,
      r.2.mem ((c.tc : Thread nD τ).loc main_v181) = val_main_v181 (F := Ideal) (arg1 m c) (arg2 m c) (arg3 m c)
      ∧ r.2.mem ((c.tc : Thread nD τ).loc main_v163) = val_main_v163 (F := Ideal) (arg0 m c) (arg2 m c) (arg3 m c)
      ∧ r.2.mem ((c.tc : Thread nD τ).loc main_v96) = val_main_v96 (F := Ideal) (arg0 m c) (arg1 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c).1.trans (val_main_v181_eq (launchContents m c)),
      (h c).2.1.trans (val_main_v163_eq (launchContents m c)), (h c).2.2.1.trans (val_main_v96_eq (launchContents m c)),
      (h c).2.2.2.1, (h c).2.2.2.2.1, (h c).2.2.2.2.2.1, (h c).2.2.2.2.2.2⟩, sem_eq_zero_of_no_sems (by decide) r.2⟩)
    (Cert.ReferenceIdeal.Value.run m ρ)

end Cert.ReferenceIdeal.Pool

namespace Cert.Proof

open Idealize.ShloMosaic Idealize.SL.Sem Idealize.ShloMosaic.TcCoe

theorem preFacts : Cert.Pre_finite.Facts := ⟨by decide, by decide, by decide⟩

theorem frame_reference :
    Cert.quiescent_ReferenceIdeal (hReferenceIdeal := Cert.ReferenceIdeal.Gen.facts) := fun m ρ _ =>
  (θ_run Cert.ReferenceIdeal.defs _ _).mono (fun _ h => ⟨fun c => (h.1 c).2.2.2, h.2⟩) (Cert.ReferenceIdeal.Pool.run_main m ρ)

theorem frame_reference_finite :
    Cert.quiescent_ReferenceIdeal_pre_finite (hReferenceIdeal := Cert.ReferenceIdeal.Gen.facts) (hPre_finite := preFacts) := fun m ρ _ =>
  (θ_run Cert.ReferenceIdeal.defs _ _).mono (fun _ h => ⟨fun c => (h.1 c).2.2.2, h.2⟩) (Cert.ReferenceIdeal.Pool.run_main m ρ)

section Values

variable (m : (ℓ : Loc KernelIdeal.nD KernelIdeal.τ KernelIdeal.sig) → Buf (Elt Ideal) ℓ) (ρ : Dev KernelIdeal.nD → PrngReg) (c : Dev KernelIdeal.nD)

/-- The four arguments' elements are real numbers. -/
theorem args_fin (h : @Cert.Pre_KernelIdeal_finite preFacts m) :
    (∀ i, _root_.Pool.Fin' ((m ((c.tc : Thread KernelIdeal.nD KernelIdeal.τ).loc KernelIdeal.main_arg0) : FVec Ideal KernelIdeal.S4096x1024 .f32) i))
    ∧ (∀ i, _root_.Pool.Fin' ((m ((c.tc : Thread KernelIdeal.nD KernelIdeal.τ).loc KernelIdeal.main_arg1) : FVec Ideal KernelIdeal.S4x256x256 .f32) i))
    ∧ (∀ i, _root_.Pool.Fin' ((m ((c.tc : Thread KernelIdeal.nD KernelIdeal.τ).loc KernelIdeal.main_arg2) : FVec Ideal KernelIdeal.S1024 .f32) i))
    ∧ (∀ i, _root_.Pool.Fin' ((m ((c.tc : Thread KernelIdeal.nD KernelIdeal.τ).loc KernelIdeal.main_arg3) : FVec Ideal KernelIdeal.S4096x1024 .f32) i)) :=
  ⟨_root_.Pool.fin_of_word _ _ (h c).1, _root_.Pool.fin_of_word _ _ (h c).2.1, _root_.Pool.fin_of_word _ _ (h c).2.2.1,
    _root_.Pool.fin_of_word _ _ (h c).2.2.2⟩

variable (h : @Cert.Pre_KernelIdeal_finite preFacts m)

include h

/-- The input's cotangent: kernel and reference agree. -/
theorem equal0 : (KernelIdeal.Gen.W5 m ρ c (Proc.devRef .tc KernelIdeal.main_v6_0) : KernelIdeal.S4096x1024.Idx → EReal)
    = ReferenceIdeal.Read.val_main_v181 (F := Ideal) (m ((c.tc : Thread KernelIdeal.nD KernelIdeal.τ).loc KernelIdeal.main_arg1))
        (m ((c.tc : Thread KernelIdeal.nD KernelIdeal.τ).loc KernelIdeal.main_arg2)) (m ((c.tc : Thread KernelIdeal.nD KernelIdeal.τ).loc KernelIdeal.main_arg3)) := by
  obtain ⟨_, h1, h2, h3⟩ := args_fin m c h
  rw [KernelIdeal.Pool.result0 m ρ c]
  funext y
  obtain ⟨t, l, rfl⟩ : ∃ (t : Fin 4096) (l : Fin 1024), y = ix2 t l :=
    ⟨y 0, y 1, funext fun a => match a with | ⟨0, _⟩ => rfl | ⟨1, _⟩ => rfl⟩
  exact (ReferenceIdeal.Pool.inputGrad _ _ _ (_root_.Pool.at2_fin _ h3) (_root_.Pool.at1_fin _ h2) (_root_.Pool.at3_fin _ h1) t l).symm

/-- The mixing matrices' cotangent: kernel and reference agree. -/
theorem equal1 : (KernelIdeal.Gen.W5 m ρ c (Proc.devRef .tc KernelIdeal.main_v6_1) : KernelIdeal.S4x256x256.Idx → EReal)
    = ReferenceIdeal.Read.val_main_v163 (F := Ideal) (m ((c.tc : Thread KernelIdeal.nD KernelIdeal.τ).loc KernelIdeal.main_arg0))
        (m ((c.tc : Thread KernelIdeal.nD KernelIdeal.τ).loc KernelIdeal.main_arg2)) (m ((c.tc : Thread KernelIdeal.nD KernelIdeal.τ).loc KernelIdeal.main_arg3)) := by
  obtain ⟨h0, _, _, _⟩ := args_fin m c h
  funext y
  obtain ⟨g, a, d, rfl⟩ : ∃ (g : Fin 4) (a d : Fin 256), y = ix3 g a d :=
    ⟨y 0, y 1, y 2, funext fun a => match a with | ⟨0, _⟩ => rfl | ⟨1, _⟩ => rfl | ⟨2, _⟩ => rfl⟩
  exact (KernelIdeal.Pool.result1 m ρ c g a d).trans (ReferenceIdeal.Pool.weightGrad _ _ _ (_root_.Pool.at2_fin _ h0) g a d).symm

/-- The scale's cotangent: kernel and reference agree. -/
theorem equal2 : (KernelIdeal.Gen.W5 m ρ c (Proc.devRef .tc KernelIdeal.main_v8) : KernelIdeal.S1024.Idx → EReal)
    = ReferenceIdeal.Read.val_main_v96 (F := Ideal) (m ((c.tc : Thread KernelIdeal.nD KernelIdeal.τ).loc KernelIdeal.main_arg0))
        (m ((c.tc : Thread KernelIdeal.nD KernelIdeal.τ).loc KernelIdeal.main_arg1)) (m ((c.tc : Thread KernelIdeal.nD KernelIdeal.τ).loc KernelIdeal.main_arg3)) := by
  obtain ⟨h0, _, _, _⟩ := args_fin m c h
  funext y
  obtain ⟨l, rfl⟩ : ∃ l : Fin 1024, y = ix1 l := ⟨y 0, funext fun a => match a with | ⟨0, _⟩ => rfl⟩
  exact (KernelIdeal.Pool.result2 m ρ c l).trans (ReferenceIdeal.Pool.scaleGrad _ _ _ (_root_.Pool.at2_fin _ h0) l).symm

end Values

/-- The pooling's backward pass and the gradient of the plain pooling have equal results over the extended reals. -/
theorem algebraic : Cert.algebraic_KernelIdeal_ReferenceIdeal_pre_finite (hKernelIdeal := Cert.KernelIdeal.Gen.facts)
    (hReferenceIdeal := Cert.ReferenceIdeal.Gen.facts) (hPre_finite := preFacts) := fun m g m' g' hpre hargs =>
  ⟨fun c => KernelIdeal.Gen.W5 m g c (Proc.devRef .tc KernelIdeal.main_v6_0), fun c => KernelIdeal.Gen.W5 m g c (Proc.devRef .tc KernelIdeal.main_v6_1),
    fun c => KernelIdeal.Gen.W5 m g c (Proc.devRef .tc KernelIdeal.main_v8), KernelIdeal.Pool.run m g,
    (θ_run Cert.ReferenceIdeal.defs _ _).mono (fun r h c => by
      obtain ⟨e0, e1, e2, e3⟩ := hargs c
      obtain ⟨r0, r1, r2, rest⟩ := h.1 c
      refine ⟨r0.trans ?_, r1.trans ?_, r2.trans ?_, rest⟩
      · refine Eq.trans ?_ (equal0 m g c hpre).symm
        unfold ReferenceIdeal.Pool.arg1 ReferenceIdeal.Pool.arg2 ReferenceIdeal.Pool.arg3
        rw [e1, e2, e3]
      · refine Eq.trans ?_ (equal1 m g c hpre).symm
        unfold ReferenceIdeal.Pool.arg0 ReferenceIdeal.Pool.arg2 ReferenceIdeal.Pool.arg3
        rw [e0, e2, e3]
      · refine Eq.trans ?_ (equal2 m g c hpre).symm
        unfold ReferenceIdeal.Pool.arg0 ReferenceIdeal.Pool.arg1 ReferenceIdeal.Pool.arg3
        rw [e0, e1, e3]) (Cert.ReferenceIdeal.Pool.run_main m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.QDx
public import proofs.«01_k».proof.Proof.Gen.QDx.Frame
public import proofs.«01_k».proof.Proof.Gen.QDxIdeal
public import proofs.«01_k».proof.Proof.Gen.QDxIdeal.Frame
public import proofs.«01_k».proof.Proof.Gen.QDxIdeal.Value
public import proofs.«01_k».proof.Proof.Gen.QDxRefIdeal
public import proofs.«01_k».proof.Proof.Gen.QDxRefIdeal.Run
public import proofs.«01_k».proof.Proof.Gen.QDxRefIdeal.Read
public import proofs.«01_k».proof.Proof.Proj.QDxEquation
public import proofs.«01_k».proof.Proof.Gen.QDw
public import proofs.«01_k».proof.Proof.Gen.QDw.Frame
public import proofs.«01_k».proof.Proof.Gen.QDwIdeal
public import proofs.«01_k».proof.Proof.Gen.QDwIdeal.Frame
public import proofs.«01_k».proof.Proof.Gen.QDwIdeal.Value
public import proofs.«01_k».proof.Proof.Gen.QDwRefIdeal
public import proofs.«01_k».proof.Proof.Gen.QDwRefIdeal.Run
public import proofs.«01_k».proof.Proof.Gen.QDwRefIdeal.Read
public import proofs.«01_k».proof.Proof.Proj.QDwEquation
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Gen.KvDxIdeal.Value
public import proofs.«01_k».proof.Proof.Gen.KvDxRefIdeal
public import proofs.«01_k».proof.Proof.Gen.KvDxRefIdeal.Run
public import proofs.«01_k».proof.Proof.Gen.KvDxRefIdeal.Read
public import proofs.«01_k».proof.Proof.Proj.KvDxEquation
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.Proj.KvDwEquation
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Proj.ProjDwEquation
public import proofs.«01_k».proof.Proof.Gen.PoolDx
public import proofs.«01_k».proof.Proof.Gen.PoolDx.Frame
public import proofs.«01_k».proof.Proof.Gen.PoolDxIdeal
public import proofs.«01_k».proof.Proof.Gen.PoolDxIdeal.Frame
public import proofs.«01_k».proof.Proof.Gen.PoolDxIdeal.Value
public import proofs.«01_k».proof.Proof.Gen.PoolDxRefIdeal
public import proofs.«01_k».proof.Proof.Gen.PoolDxRefIdeal.Run
public import proofs.«01_k».proof.Proof.Gen.PoolDxRefIdeal.Read
public import proofs.«01_k».proof.Proof.Proj.PoolDxEquation
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Proj.OutDxEquation
public import proofs.«01_k».proof.Proof.Ffn.DownDwEquation
public import proofs.«01_k».proof.Proof.Ffn.UpDxEquation
public import proofs.«01_k».proof.Proof.Ffn.UpDwEquation
public import proofs.«01_k».proof.Proof.Ffn.ActEquation
public import proofs.«01_k».proof.Proof.Pool.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Act.Gen.facts, Cert.ActIdeal.Gen.facts, Cert.ActRefIdeal.Gen.facts,
    Cert.QDx.Gen.facts, Cert.QDxIdeal.Gen.facts, Cert.QDxRefIdeal.Gen.facts,
    Cert.QDw.Gen.facts, Cert.QDwIdeal.Gen.facts, Cert.QDwRefIdeal.Gen.facts,
    Cert.KvDx.Gen.facts, Cert.KvDxIdeal.Gen.facts, Cert.KvDxRefIdeal.Gen.facts,
    Cert.KvDw.Gen.facts, Cert.KvDwIdeal.Gen.facts, Cert.KvDwRefIdeal.Gen.facts,
    Cert.ProjDw.Gen.facts, Cert.ProjDwIdeal.Gen.facts, Cert.ProjDwRefIdeal.Gen.facts,
    Cert.PoolDx.Gen.facts, Cert.PoolDxIdeal.Gen.facts, Cert.PoolDxRefIdeal.Gen.facts,
    Cert.OutDx.Gen.facts, Cert.OutDxIdeal.Gen.facts, Cert.OutDxRefIdeal.Gen.facts,
    preFacts, preFacts_act,
    fun m ρ _ => Cert.Kernel.Gen.frame m ρ,
    fun m ρ _ => Cert.KernelIdeal.Gen.frame m ρ,
    fun m ρ _ => Cert.KernelIdeal.Gen.frame m ρ,
    frame_reference,
    frame_reference_finite,
    fun m ρ _ => Cert.DownDw.Gen.frame m ρ,
    fun m ρ _ => Cert.DownDwIdeal.Gen.frame m ρ,
    frame_DownDwRef,
    fun m ρ _ => Cert.UpDx.Gen.frame m ρ,
    fun m ρ _ => Cert.UpDxIdeal.Gen.frame m ρ,
    frame_UpDxRef,
    fun m ρ _ => Cert.UpDw.Gen.frame m ρ,
    fun m ρ _ => Cert.UpDwIdeal.Gen.frame m ρ,
    frame_UpDwRef,
    fun m ρ _ => Cert.Act.Gen.frame m ρ,
    fun m ρ _ => Cert.ActIdeal.Gen.frame m ρ,
    fun m ρ _ => Cert.ActIdeal.Gen.frame m ρ,
    frame_ActRef,
    frame_ActRef_finite,
    fun m ρ _ => Cert.QDx.Gen.frame m ρ,
    fun m ρ _ => Cert.QDxIdeal.Gen.frame m ρ,
    frame_QDxRef,
    fun m ρ _ => Cert.QDw.Gen.frame m ρ,
    fun m ρ _ => Cert.QDwIdeal.Gen.frame m ρ,
    frame_QDwRef,
    fun m ρ _ => Cert.KvDx.Gen.frame m ρ,
    fun m ρ _ => Cert.KvDxIdeal.Gen.frame m ρ,
    frame_KvDxRef,
    fun m ρ _ => Cert.KvDw.Gen.frame m ρ,
    fun m ρ _ => Cert.KvDwIdeal.Gen.frame m ρ,
    frame_KvDwRef,
    fun m ρ _ => Cert.ProjDw.Gen.frame m ρ,
    fun m ρ _ => Cert.ProjDwIdeal.Gen.frame m ρ,
    frame_ProjDwRef,
    fun m ρ _ => Cert.PoolDx.Gen.frame m ρ,
    fun m ρ _ => Cert.PoolDxIdeal.Gen.frame m ρ,
    frame_PoolDxRef,
    fun m ρ _ => Cert.OutDx.Gen.frame m ρ,
    fun m ρ _ => Cert.OutDxIdeal.Gen.frame m ρ,
    frame_OutDxRef,
    trivial, algebraic,
    trivial, algebraic_DownDw,
    trivial, algebraic_UpDx,
    trivial, algebraic_UpDw,
    trivial, algebraic_Act,
    trivial, algebraic_QDx,
    trivial, algebraic_QDw,
    trivial, algebraic_KvDx,
    trivial, algebraic_KvDw,
    trivial, algebraic_ProjDw,
    trivial, algebraic_PoolDx,
    trivial, algebraic_OutDx⟩

end Cert.Proof

end
